-- ==== Defs.lean ====
def Pre_Kernel [hPre_lists : Cert.Pre_lists.Facts] (m : (ℓ : Loc Cert.Kernel.nD Cert.Kernel.τ Cert.Kernel.sig) → Buf (Elt Bits) ℓ) : Prop :=
  ∀ c : Dev Cert.Kernel.nD,
    (Cert.Pre_lists.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_lists : Cert.Pre_lists.Facts] (m : (ℓ : Loc Cert.KernelIdeal.nD Cert.KernelIdeal.τ Cert.KernelIdeal.sig) → Buf (Elt Ideal) ℓ) : Prop :=
  ∀ c : Dev Cert.KernelIdeal.nD,
    (Cert.Pre_lists.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_lists : Cert.Pre_lists.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lists.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] [hPre_lists : Cert.Pre_lists.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_lists : Cert.Pre_lists.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] [hPre_lists : Cert.Pre_lists.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_lists : Cert.Pre_lists.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_v7) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v30) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v1) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v27) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v255) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_lists : Cert.Pre_lists.Facts),
    quiescent_Kernel (hKernel := hKernel) (hPre_lists := hPre_lists)
    ∧ quiescent_KernelIdeal (hKernelIdeal := hKernelIdeal) (hPre_lists := hPre_lists)
    ∧ quiescent_ReferenceIdeal (hReferenceIdeal := hReferenceIdeal) (hPre_lists := hPre_lists)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal) (hPre_lists := hPre_lists)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_lists.lean ====
abbrev S4x16384x128 : Shape := ⟨3, ![4, 16384, 128]⟩
abbrev S16384x8 : Shape := ⟨2, ![16384, 8]⟩
abbrev S16384x2048 : Shape := ⟨2, ![16384, 2048]⟩
abbrev S16384x128 : Shape := ⟨2, ![16384, 128]⟩
abbrev S4 : Shape := ⟨1, ![4]⟩
abbrev S4x1x1 : Shape := ⟨3, ![4, 1, 1]⟩
abbrev S_ : Shape := ⟨0, ![]⟩
abbrev S1x16384x128 : Shape := ⟨3, ![1, 16384, 128]⟩
abbrev S128 : Shape := ⟨1, ![128]⟩
abbrev S1x1x128 : Shape := ⟨3, ![1, 1, 128]⟩
abbrev S16384x4 : Shape := ⟨2, ![16384, 4]⟩
abbrev S4x16384 : Shape := ⟨2, ![4, 16384]⟩
abbrev S4x16384x1 : Shape := ⟨3, ![4, 16384, 1]⟩

class Facts : Prop where
  bcast_S4_S4x1x1_0 : S4.BroadcastsInDim S4x1x1 (![0] : Fin 1 → Fin S4x1x1.rank)
  bcast_S_S4x1x1 : S_.BroadcastsInDim S4x1x1 (![] : Fin 0 → Fin S4x1x1.rank)
  bcast_S16384x128_S1x16384x128_1_2 : S16384x128.BroadcastsInDim S1x16384x128 (![1, 2] : Fin 2 → Fin S1x16384x128.rank)
  bcast_S128_S1x1x128_2 : S128.BroadcastsInDim S1x1x128 (![2] : Fin 1 → Fin S1x1x128.rank)
  bcast_S4x1x1_S4x16384x128_0_1_2 : S4x1x1.BroadcastsInDim S4x16384x128 (![0, 1, 2] : Fin 3 → Fin S4x16384x128.rank)
  bcast_S1x16384x128_S4x16384x128_0_1_2 : S1x16384x128.BroadcastsInDim S4x16384x128 (![0, 1, 2] : Fin 3 → Fin S4x16384x128.rank)
  slices_S16384x8_S16384x4_0_0 : S16384x8.Slices ![0, 0] S16384x4
  transposes_S16384x4_S4x16384_1_0 : S16384x4.Transposes [1, 0] S4x16384
  bcast_S4x16384_S4x16384x1_0_1 : S4x16384.BroadcastsInDim S4x16384x1 (![0, 1] : Fin 2 → Fin S4x16384x1.rank)
  slices_S16384x8_S16384x4_0_1 : S16384x8.Slices ![0, 1] S16384x4
  bcast_S_S16384x128 : S_.BroadcastsInDim S16384x128 (![] : Fin 0 → Fin S16384x128.rank)
  reducesTo_S16384x128_S_d0_1 : S16384x128.ReducesTo [0, 1] S_
  h_S_ : 0 < S_.numel
  bcast_S_S16384x8 : S_.BroadcastsInDim S16384x8 (![] : Fin 0 → Fin S16384x8.rank)
  reducesTo_S16384x8_S_d0_1 : S16384x8.ReducesTo [0, 1] S_
  bcast_S_S4x16384x128 : S_.BroadcastsInDim S4x16384x128 (![] : Fin 0 → Fin S4x16384x128.rank)
  reducesTo_S4x16384x128_S_d0_1_2 : S4x16384x128.ReducesTo [0, 1, 2] S_
  bcast_S4x16384x1_S4x16384x128_0_1_2 : S4x16384x1.BroadcastsInDim S4x16384x128 (![0, 1, 2] : Fin 3 → Fin S4x16384x128.rank)
  bcast_S1x1x128_S4x16384x128_0_1_2 : S1x1x128.BroadcastsInDim S4x16384x128 (![0, 1, 2] : Fin 3 → Fin S4x16384x128.rank)

variable [Facts]

def fn_where {F : FTy → Type} [FloatOps F] (arg0 : IVec S4x16384x128 1) (arg1 : IVec S4x16384x128 1) (arg2 : IVec S_ 1) : IVec S4x16384x128 1 :=
  let v0 : IVec S4x16384x128 1 := broadcastInDim S4x16384x128 ![] bcast_S_S4x16384x128 arg2
  let v1 : IVec S4x16384x128 1 := select arg0 arg1 v0
  v1

def fn_part3 {F : FTy → Type} [FloatOps F] (main_v48 : IVec S_ 1) (main_v57 : IVec S_ 1) : IVec S_ 1 :=
  let main_v58 : IVec S_ 1 := andi main_v48 main_v57
  main_v58

def fn_part2 {F : FTy → Type} [FloatOps F] (main_arg0 : IVec S4x16384x128 32) (main_v3 : IVec S4x1x1 32) (main_v4 : IVec S1x16384x128 32) (main_v6 : IVec S1x1x128 32) (main_v15 : IVec S4x16384x128 1) (main_v18 : IVec S4x16384x1 32) (main_v21 : IVec S4x16384x1 32) (main_v34 : IVec S_ 1) (main_v36 : IVec S4x16384x128 1) (main_v37 : IVec S4x16384x128 32) : IVec S_ 1 :=
  let main_v38 : IVec S4x16384x128 1 := cmpi .slt main_arg0 main_v37
  let main_v39 : IVec S4x16384x128 1 := andi main_v36 main_v38
  let main_c_9 : IVec S_ 1 := constantI S_ 1 1#1
  let main_v40 : IVec S_ 1 := (fun x v => Host.reduce IntOp.andi x v reducesTo_S4x16384x128_S_d0_1_2 h_S_) main_v39 main_c_9
  let main_v41 : IVec S_ 1 := andi main_v34 main_v40
  let main_v42 : IVec S4x16384x128 32 := broadcastInDim S4x16384x128 ![0, 1, 2] bcast_S1x16384x128_S4x16384x128_0_1_2 main_v4
  let main_v43 : IVec S4x16384x128 32 := broadcastInDim S4x16384x128 ![0, 1, 2] bcast_S4x1x1_S4x16384x128_0_1_2 main_v3
  let main_v44 : IVec S4x16384x128 32 := subi main_v42 main_v43
  let main_v45 : IVec S4x16384x128 1 := cmpi .eq main_arg0 main_v44
  let main_c_10 : IVec S_ 1 := constantI S_ 1 1#1
  let main_v46 : IVec S4x16384x128 1 := fn_where (F := F) main_v15 main_v45 main_c_10
  let main_c_11 : IVec S_ 1 := constantI S_ 1 1#1
  let main_v47 : IVec S_ 1 := (fun x v => Host.reduce IntOp.andi x v reducesTo_S4x16384x128_S_d0_1_2 h_S_) main_v46 main_c_11
  let main_v48 : IVec S_ 1 := andi main_v41 main_v47
  let main_v49 : IVec S4x16384x128 32 := broadcastInDim S4x16384x128 ![0, 1, 2] bcast_S4x16384x1_S4x16384x128_0_1_2 main_v18
  let main_v50 : IVec S4x16384x128 32 := broadcastInDim S4x16384x128 ![0, 1, 2] bcast_S1x1x128_S4x16384x128_0_1_2 main_v6
  let main_v51 : IVec S4x16384x128 1 := cmpi .sle main_v49 main_v50
  let main_v52 : IVec S4x16384x128 32 := broadcastInDim S4x16384x128 ![0, 1, 2] bcast_S1x1x128_S4x16384x128_0_1_2 main_v6
  let main_v53 : IVec S4x16384x128 32 := broadcastInDim S4x16384x128 ![0, 1, 2] bcast_S4x16384x1_S4x16384x128_0_1_2 main_v21
  let main_v54 : IVec S4x16384x128 1 := cmpi .slt main_v52 main_v53
  let main_v55 : IVec S4x16384x128 1 := andi main_v51 main_v54
  let main_v56 : IVec S4x16384x128 1 := cmpi .eq main_v55 main_v15
  let main_c_12 : IVec S_ 1 := constantI S_ 1 1#1
  let main_v57 : IVec S_ 1 := (fun x v => Host.reduce IntOp.andi x v reducesTo_S4x16384x128_S_d0_1_2 h_S_) main_v56 main_c_12
  fn_part3 (F := F) main_v48 main_v57

def fn_part1 {F : FTy → Type} [FloatOps F] (main_arg0 : IVec S4x16384x128 32) (main_arg1 : IVec S16384x8 32) (main_arg4 : IVec S16384x128 32) (main_v3 : IVec S4x1x1 32) (main_v4 : IVec S1x16384x128 32) (main_v6 : IVec S1x1x128 32) (main_v15 : IVec S4x16384x128 1) (main_v18 : IVec S4x16384x1 32) (main_v21 : IVec S4x16384x1 32) : IVec S_ 1 :=
  let main_c_1 : IVec S_ 32 := constantI S_ 32 0#32
  let main_v22 : IVec S16384x128 32 := broadcastInDim S16384x128 ![] bcast_S_S16384x128 main_c_1
  let main_v23 : IVec S16384x128 1 := cmpi .sge main_arg4 main_v22
  let main_c_2 : IVec S_ 32 := constantI S_ 32 16384#32
  let main_v24 : IVec S16384x128 32 := broadcastInDim S16384x128 ![] bcast_S_S16384x128 main_c_2
  let main_v25 : IVec S16384x128 1 := cmpi .slt main_arg4 main_v24
  let main_v26 : IVec S16384x128 1 := andi main_v23 main_v25
  let main_c_3 : IVec S_ 1 := constantI S_ 1 1#1
  let main_v27 : IVec S_ 1 := (fun x v => Host.reduce IntOp.andi x v reducesTo_S16384x128_S_d0_1 h_S_) main_v26 main_c_3
  let main_c_4 : IVec S_ 32 := constantI S_ 32 0#32
  let main_v28 : IVec S16384x8 32 := broadcastInDim S16384x8 ![] bcast_S_S16384x8 main_c_4
  let main_v29 : IVec S16384x8 1 := cmpi .sge main_arg1 main_v28
  let main_c_5 : IVec S_ 32 := constantI S_ 32 128#32
  let main_v30 : IVec S16384x8 32 := broadcastInDim S16384x8 ![] bcast_S_S16384x8 main_c_5
  let main_v31 : IVec S16384x8 1 := cmpi .sle main_arg1 main_v30
  let main_v32 : IVec S16384x8 1 := andi main_v29 main_v31
  let main_c_6 : IVec S_ 1 := constantI S_ 1 1#1
  let main_v33 : IVec S_ 1 := (fun x v => Host.reduce IntOp.andi x v reducesTo_S16384x8_S_d0_1 h_S_) main_v32 main_c_6
  let main_v34 : IVec S_ 1 := andi main_v27 main_v33
  let main_c_7 : IVec S_ 32 := constantI S_ 32 0#32
  let main_v35 : IVec S4x16384x128 32 := broadcastInDim S4x16384x128 ![] bcast_S_S4x16384x128 main_c_7
  let main_v36 : IVec S4x16384x128 1 := cmpi .sge main_arg0 main_v35
  let main_c_8 : IVec S_ 32 := constantI S_ 32 4096#32
  let main_v37 : IVec S4x16384x128 32 := broadcastInDim S4x16384x128 ![] bcast_S_S4x16384x128 main_c_8
  fn_part2 (F := F) main_arg0 main_v3 main_v4 main_v6 main_v15 main_v18 main_v21 main_v34 main_v36 main_v37

def fn {F : FTy → Type} [FloatOps F] (main_arg0 : IVec S4x16384x128 32) (main_arg1 : IVec S16384x8 32) (main_arg2 : FVec F S16384x2048 .f32) (main_arg3 : FVec F S16384x2048 .f32) (main_arg4 : IVec S16384x128 32) (main_arg5 : FVec F S16384x128 .f32) : IVec S_ 1 :=
  let main_v0 : IVec S4 32 := iotaInDim S4 32 0
  let main_v1 : IVec S4x1x1 32 := broadcastInDim S4x1x1 ![0] bcast_S4_S4x1x1_0 main_v0
  let main_c : IVec S_ 32 := constantI S_ 32 4096#32
  let main_v2 : IVec S4x1x1 32 := broadcastInDim S4x1x1 ![] bcast_S_S4x1x1 main_c
  let main_v3 : IVec S4x1x1 32 := muli main_v2 main_v1
  let main_v4 : IVec S1x16384x128 32 := broadcastInDim S1x16384x128 ![1, 2] bcast_S16384x128_S1x16384x128_1_2 main_arg4
  let main_v5 : IVec S128 32 := iotaInDim S128 32 0
  let main_v6 : IVec S1x1x128 32 := broadcastInDim S1x1x128 ![2] bcast_S128_S1x1x128_2 main_v5
  let main_v7 : IVec S4x16384x128 32 := broadcastInDim S4x16384x128 ![0, 1, 2] bcast_S4x1x1_S4x16384x128_0_1_2 main_v3
  let main_v8 : IVec S4x16384x128 32 := broadcastInDim S4x16384x128 ![0, 1, 2] bcast_S1x16384x128_S4x16384x128_0_1_2 main_v4
  let main_v9 : IVec S4x16384x128 1 := cmpi .sle main_v7 main_v8
  let main_c_0 : IVec S_ 32 := constantI S_ 32 4096#32
  let main_v10 : IVec S4x1x1 32 := broadcastInDim S4x1x1 ![] bcast_S_S4x1x1 main_c_0
  let main_v11 : IVec S4x1x1 32 := addi main_v3 main_v10
  let main_v12 : IVec S4x16384x128 32 := broadcastInDim S4x16384x128 ![0, 1, 2] bcast_S1x16384x128_S4x16384x128_0_1_2 main_v4
  let main_v13 : IVec S4x16384x128 32 := broadcastInDim S4x16384x128 ![0, 1, 2] bcast_S4x1x1_S4x16384x128_0_1_2 main_v11
  let main_v14 : IVec S4x16384x128 1 := cmpi .slt main_v12 main_v13
  let main_v15 : IVec S4x16384x128 1 := andi main_v9 main_v14
  let main_v16 : IVec S16384x4 32 := (extractStridedSlice S16384x4 ![0, 0] · slices_S16384x8_S16384x4_0_0) main_arg1
  let main_v17 : IVec S4x16384 32 := (transpose S4x16384 [1, 0] · transposes_S16384x4_S4x16384_1_0) main_v16
  let main_v18 : IVec S4x16384x1 32 := broadcastInDim S4x16384x1 ![0, 1] bcast_S4x16384_S4x16384x1_0_1 main_v17
  let main_v19 : IVec S16384x4 32 := (extractStridedSlice S16384x4 ![0, 1] · slices_S16384x8_S16384x4_0_1) main_arg1
  let main_v20 : IVec S4x16384 32 := (transpose S4x16384 [1, 0] · transposes_S16384x4_S4x16384_1_0) main_v19
  let main_v21 : IVec S4x16384x1 32 := broadcastInDim S4x16384x1 ![0, 1] bcast_S4x16384_S4x16384x1_0_1 main_v20
  fn_part1 (F := F) main_arg0 main_arg1 main_arg4 main_v3 main_v4 main_v6 main_v15 main_v18 main_v21
-- ==== Kernel.lean ====
abbrev S4x16384x128 : Shape := ⟨3, ![4, 16384, 128]⟩
abbrev S16384x8 : Shape := ⟨2, ![16384, 8]⟩
abbrev S16384x2048 : Shape := ⟨2, ![16384, 2048]⟩
abbrev S16384x128 : Shape := ⟨2, ![16384, 128]⟩
abbrev S16384x16x128 : Shape := ⟨3, ![16384, 16, 128]⟩
abbrev S8388608 : Shape := ⟨1, ![8388608]⟩
abbrev S131072 : Shape := ⟨1, ![131072]⟩
abbrev S2x16384x128 : Shape := ⟨3, ![2, 16384, 128]⟩
abbrev S128x16x128 : Shape := ⟨3, ![128, 16, 128]⟩
abbrev S4096x16x128 : Shape := ⟨3, ![4096, 16, 128]⟩
abbrev S128x128 : Shape := ⟨2, ![128, 128]⟩
abbrev S2x128x128 : Shape := ⟨3, ![2, 128, 128]⟩
abbrev S32768 : Shape := ⟨1, ![32768]⟩
abbrev S2048 : Shape := ⟨1, ![2048]⟩
abbrev S128x128x128 : Shape := ⟨3, ![128, 128, 128]⟩
abbrev S2x2 : Shape := ⟨2, ![2, 2]⟩
abbrev S1x1 : Shape := ⟨2, ![1, 1]⟩
abbrev S_ : Shape := ⟨0, ![]⟩
abbrev S16384 : Shape := ⟨1, ![16384]⟩
abbrev S1024 : Shape := ⟨1, ![1024]⟩
abbrev S8x128 : Shape := ⟨2, ![8, 128]⟩
abbrev S1 : Shape := ⟨1, ![1]⟩
abbrev S1x16x128 : Shape := ⟨3, ![1, 16, 128]⟩
abbrev S16x128 : Shape := ⟨2, ![16, 128]⟩
abbrev S1x8x128 : Shape := ⟨3, ![1, 8, 128]⟩
abbrev S1x128x128 : Shape := ⟨3, ![1, 128, 128]⟩
abbrev S128 : Shape := ⟨1, ![128]⟩
abbrev S1x128 : Shape := ⟨2, ![1, 128]⟩

abbrev nBuf : Space → Nat
  | .hbm => 12
  | .vmem => 12
  | .smem => 2
  | _ => 0

abbrev bufTy : (tb : Table) → Fin (tcTables nBuf tb) → BufTy
  | .hbm, ⟨0, _⟩ => ⟨S4x16384x128, .i32⟩
  | .hbm, ⟨1, _⟩ => ⟨S16384x8, .i32⟩
  | .hbm, ⟨2, _⟩ => ⟨S16384x2048, .f32⟩
  | .hbm, ⟨3, _⟩ => ⟨S16384x2048, .f32⟩
  | .hbm, ⟨4, _⟩ => ⟨S16384x128, .i32⟩
  | .hbm, ⟨5, _⟩ => ⟨S16384x128, .f32⟩
  | .hbm, ⟨6, _⟩ => ⟨S16384x2048, .bf16⟩
  | .hbm, ⟨7, _⟩ => ⟨S16384x16x128, .bf16⟩
  | .hbm, ⟨8, _⟩ => ⟨S16384x16x128, .f32⟩
  | .hbm, ⟨9, _⟩ => ⟨S8388608, .i32⟩
  | .hbm, ⟨10, _⟩ => ⟨S131072, .i32⟩
  | .hbm, ⟨11, _⟩ => ⟨S2x16384x128, .f32⟩
  | .local _ .vmem, ⟨0, _⟩ => ⟨S128x16x128, .f32⟩
  | .local _ .vmem, ⟨1, _⟩ => ⟨S128x16x128, .f32⟩
  | .local _ .vmem, ⟨2, _⟩ => ⟨S4096x16x128, .bf16⟩
  | .local _ .vmem, ⟨3, _⟩ => ⟨S4096x16x128, .bf16⟩
  | .local _ .vmem, ⟨4, _⟩ => ⟨S128x128, .i32⟩
  | .local _ .vmem, ⟨5, _⟩ => ⟨S128x128, .i32⟩
  | .local _ .vmem, ⟨6, _⟩ => ⟨S128x128, .f32⟩
  | .local _ .vmem, ⟨7, _⟩ => ⟨S128x128, .f32⟩
  | .local _ .vmem, ⟨8, _⟩ => ⟨S2x128x128, .f32⟩
  | .local _ .vmem, ⟨9, _⟩ => ⟨S2x128x128, .f32⟩
  | .local _ .vmem, ⟨10, _⟩ => ⟨S128x128x128, .f32⟩
  | .local _ .vmem, ⟨11, _⟩ => ⟨S128x128, .f32⟩
  | .local _ .smem, ⟨0, _⟩ => ⟨S32768, .i32⟩
  | .local _ .smem, ⟨1, _⟩ => ⟨S2048, .i32⟩
  | _, _ => ⟨S4x16384x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch0 : Ref sig .tc := ⟨.smem, 0, rfl⟩
abbrev cc0_scratch1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![128, 4], ![false, false]⟩

def k0_cond1 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32 : BitVec 32 := 0#32
  let v3 : BitVec 1 := Scalar.cmpi .eq v1 c0_i32
  let v4 : BitVec 32 := Scalar.extui v3
  let c0_i32_0 : BitVec 32 := 0#32
  let v5 : BitVec 1 := Scalar.cmpi .ne v4 c0_i32_0
  v5

def k0_mult1 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_17 : BitVec 32 := 3#32
  let v40 : BitVec 32 := Scalar.andi v1 c3_i32_17
  let c16384_i32_18 : BitVec 32 := 16384#32
  let v41 : BitVec 32 := Scalar.muli v40 c16384_i32_18
  let c2_i32_16 : BitVec 32 := 2#32
  let v39 : BitVec 32 := Scalar.shrui v1 c2_i32_16
  let c128_i32_19 : BitVec 32 := 128#32
  let v42 : BitVec 32 := Scalar.muli v39 c128_i32_19
  let v43 : BitVec 32 := Scalar.addi v41 v42
  let c128_i32_20 : BitVec 32 := 128#32
  let v44 : BitVec 32 := Scalar.muli v43 c128_i32_20
  v44
def k0_mult2 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_16 : BitVec 32 := 2#32
  let v39 : BitVec 32 := Scalar.shrui v1 c2_i32_16
  let c1024_i32_21 : BitVec 32 := 1024#32
  let v46 : BitVec 32 := Scalar.muli v39 c1024_i32_21
  v46
def k0_mult3 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32 : BitVec 32 := 1#32
  let v2 : BitVec 32 := Scalar.andi v1 c1_i32
  let c16384_i32_22 : BitVec 32 := 16384#32
  let v48 : BitVec 32 := Scalar.muli v2 c16384_i32_22
  v48
def k0_mult4 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32 : BitVec 32 := 1#32
  let v2 : BitVec 32 := Scalar.andi v1 c1_i32
  let c1024_i32_23 : BitVec 32 := 1024#32
  let v50 : BitVec 32 := Scalar.muli v2 c1024_i32_23
  v50
def k0_off1 (i : grid0.Coords) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32 : BitVec 32 := 1#32
  let v2 : BitVec 32 := Scalar.andi v1 c1_i32
  let c0_i32_24 : BitVec 32 := 0#32
  ![v2.toNat, 0]
def k0_off2 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32 : BitVec 32 := 1#32
  let v2 : BitVec 32 := Scalar.andi v1 c1_i32
  let c16384_i32_22 : BitVec 32 := 16384#32
  let v48 : BitVec 32 := Scalar.muli v2 c16384_i32_22
  let v49 : BitVec 32 := v48
  ![v49.toNat]
def k0_off3 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_17 : BitVec 32 := 3#32
  let v40 : BitVec 32 := Scalar.andi v1 c3_i32_17
  let c16384_i32_18 : BitVec 32 := 16384#32
  let v41 : BitVec 32 := Scalar.muli v40 c16384_i32_18
  let c2_i32_16 : BitVec 32 := 2#32
  let v39 : BitVec 32 := Scalar.shrui v1 c2_i32_16
  let c128_i32_19 : BitVec 32 := 128#32
  let v42 : BitVec 32 := Scalar.muli v39 c128_i32_19
  let v43 : BitVec 32 := Scalar.addi v41 v42
  let c128_i32_20 : BitVec 32 := 128#32
  let v44 : BitVec 32 := Scalar.muli v43 c128_i32_20
  let v45 : BitVec 32 := v44
  ![v45.toNat]
def k0_off4 (i : grid0.Coords) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32 : BitVec 32 := 1#32
  let v2 : BitVec 32 := Scalar.andi v1 c1_i32
  let c1_i32_25 : BitVec 32 := 1#32
  ![v2.toNat, 1]
def k0_off5 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32 : BitVec 32 := 1#32
  let v2 : BitVec 32 := Scalar.andi v1 c1_i32
  let c1024_i32_23 : BitVec 32 := 1024#32
  let v50 : BitVec 32 := Scalar.muli v2 c1024_i32_23
  let v51 : BitVec 32 := v50
  ![v51.toNat]
def k0_off6 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_16 : BitVec 32 := 2#32
  let v39 : BitVec 32 := Scalar.shrui v1 c2_i32_16
  let c1024_i32_21 : BitVec 32 := 1024#32
  let v46 : BitVec 32 := Scalar.muli v39 c1024_i32_21
  let v47 : BitVec 32 := v46
  ![v47.toNat]
def k0_cond2 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_1 : BitVec 32 := 1#32
  let v6 : BitVec 32 := Scalar.addi v1 c1_i32_1
  let c512_i32 : BitVec 32 := 512#32
  let v7 : BitVec 1 := Scalar.cmpi .slt v6 c512_i32
  let v8 : BitVec 32 := Scalar.extui v7
  let c0_i32_2 : BitVec 32 := 0#32
  let v9 : BitVec 1 := Scalar.cmpi .ne v8 c0_i32_2
  v9

def k0_mult5 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_16 : BitVec 32 := 1#32
  let v39 : BitVec 32 := Scalar.addi v1 c1_i32_16
  let c3_i32_19 : BitVec 32 := 3#32
  let v42 : BitVec 32 := Scalar.andi v39 c3_i32_19
  let c16384_i32_20 : BitVec 32 := 16384#32
  let v43 : BitVec 32 := Scalar.muli v42 c16384_i32_20
  let c2_i32_18 : BitVec 32 := 2#32
  let v41 : BitVec 32 := Scalar.shrui v39 c2_i32_18
  let c128_i32_21 : BitVec 32 := 128#32
  let v44 : BitVec 32 := Scalar.muli v41 c128_i32_21
  let v45 : BitVec 32 := Scalar.addi v43 v44
  let c128_i32_22 : BitVec 32 := 128#32
  let v46 : BitVec 32 := Scalar.muli v45 c128_i32_22
  v46
def k0_mult6 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_16 : BitVec 32 := 1#32
  let v39 : BitVec 32 := Scalar.addi v1 c1_i32_16
  let c2_i32_18 : BitVec 32 := 2#32
  let v41 : BitVec 32 := Scalar.shrui v39 c2_i32_18
  let c1024_i32_23 : BitVec 32 := 1024#32
  let v48 : BitVec 32 := Scalar.muli v41 c1024_i32_23
  v48
def k0_mult7 (i : grid0.Coords) : BitVec 32 :=
  let c1_i32_17 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32 : BitVec 32 := 1#32
  let v2 : BitVec 32 := Scalar.andi v1 c1_i32
  let v40 : BitVec 32 := Scalar.subi c1_i32_17 v2
  let c16384_i32_24 : BitVec 32 := 16384#32
  let v50 : BitVec 32 := Scalar.muli v40 c16384_i32_24
  v50
def k0_mult8 (i : grid0.Coords) : BitVec 32 :=
  let c1_i32_17 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32 : BitVec 32 := 1#32
  let v2 : BitVec 32 := Scalar.andi v1 c1_i32
  let v40 : BitVec 32 := Scalar.subi c1_i32_17 v2
  let c1024_i32_25 : BitVec 32 := 1024#32
  let v52 : BitVec 32 := Scalar.muli v40 c1024_i32_25
  v52
def k0_off7 (i : grid0.Coords) : Fin 2 → Nat :=
  let c1_i32_17 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32 : BitVec 32 := 1#32
  let v2 : BitVec 32 := Scalar.andi v1 c1_i32
  let v40 : BitVec 32 := Scalar.subi c1_i32_17 v2
  let c0_i32_26 : BitVec 32 := 0#32
  ![v40.toNat, 0]
def k0_off8 (i : grid0.Coords) : Fin 1 → Nat :=
  let c1_i32_17 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32 : BitVec 32 := 1#32
  let v2 : BitVec 32 := Scalar.andi v1 c1_i32
  let v40 : BitVec 32 := Scalar.subi c1_i32_17 v2
  let c16384_i32_24 : BitVec 32 := 16384#32
  let v50 : BitVec 32 := Scalar.muli v40 c16384_i32_24
  let v51 : BitVec 32 := v50
  ![v51.toNat]
def k0_off9 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_16 : BitVec 32 := 1#32
  let v39 : BitVec 32 := Scalar.addi v1 c1_i32_16
  let c3_i32_19 : BitVec 32 := 3#32
  let v42 : BitVec 32 := Scalar.andi v39 c3_i32_19
  let c16384_i32_20 : BitVec 32 := 16384#32
  let v43 : BitVec 32 := Scalar.muli v42 c16384_i32_20
  let c2_i32_18 : BitVec 32 := 2#32
  let v41 : BitVec 32 := Scalar.shrui v39 c2_i32_18
  let c128_i32_21 : BitVec 32 := 128#32
  let v44 : BitVec 32 := Scalar.muli v41 c128_i32_21
  let v45 : BitVec 32 := Scalar.addi v43 v44
  let c128_i32_22 : BitVec 32 := 128#32
  let v46 : BitVec 32 := Scalar.muli v45 c128_i32_22
  let v47 : BitVec 32 := v46
  ![v47.toNat]
def k0_off10 (i : grid0.Coords) : Fin 2 → Nat :=
  let c1_i32_17 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32 : BitVec 32 := 1#32
  let v2 : BitVec 32 := Scalar.andi v1 c1_i32
  let v40 : BitVec 32 := Scalar.subi c1_i32_17 v2
  let c1_i32_27 : BitVec 32 := 1#32
  ![v40.toNat, 1]
def k0_off11 (i : grid0.Coords) : Fin 1 → Nat :=
  let c1_i32_17 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32 : BitVec 32 := 1#32
  let v2 : BitVec 32 := Scalar.andi v1 c1_i32
  let v40 : BitVec 32 := Scalar.subi c1_i32_17 v2
  let c1024_i32_25 : BitVec 32 := 1024#32
  let v52 : BitVec 32 := Scalar.muli v40 c1024_i32_25
  let v53 : BitVec 32 := v52
  ![v53.toNat]
def k0_off12 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_16 : BitVec 32 := 1#32
  let v39 : BitVec 32 := Scalar.addi v1 c1_i32_16
  let c2_i32_18 : BitVec 32 := 2#32
  let v41 : BitVec 32 := Scalar.shrui v39 c2_i32_18
  let c1024_i32_23 : BitVec 32 := 1024#32
  let v48 : BitVec 32 := Scalar.muli v41 c1024_i32_23
  let v49 : BitVec 32 := v48
  ![v49.toNat]
def k0_mult9 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32 : BitVec 32 := 3#32
  let v11 : BitVec 32 := Scalar.andi v1 c3_i32
  let c16384_i32 : BitVec 32 := 16384#32
  let v12 : BitVec 32 := Scalar.muli v11 c16384_i32
  let c2_i32 : BitVec 32 := 2#32
  let v10 : BitVec 32 := Scalar.shrui v1 c2_i32
  let c128_i32 : BitVec 32 := 128#32
  let v13 : BitVec 32 := Scalar.muli v10 c128_i32
  let v14 : BitVec 32 := Scalar.addi v12 v13
  let c128_i32_3 : BitVec 32 := 128#32
  let v15 : BitVec 32 := Scalar.muli v14 c128_i32_3
  v15
def k0_mult10 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v10 : BitVec 32 := Scalar.shrui v1 c2_i32
  let c1024_i32 : BitVec 32 := 1024#32
  let v17 : BitVec 32 := Scalar.muli v10 c1024_i32
  v17
def k0_mult11 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32 : BitVec 32 := 1#32
  let v2 : BitVec 32 := Scalar.andi v1 c1_i32
  let c16384_i32_4 : BitVec 32 := 16384#32
  let v19 : BitVec 32 := Scalar.muli v2 c16384_i32_4
  v19
def k0_mult12 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32 : BitVec 32 := 1#32
  let v2 : BitVec 32 := Scalar.andi v1 c1_i32
  let c1024_i32_5 : BitVec 32 := 1024#32
  let v21 : BitVec 32 := Scalar.muli v2 c1024_i32_5
  v21
def k0_off13 (i : grid0.Coords) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32 : BitVec 32 := 1#32
  let v2 : BitVec 32 := Scalar.andi v1 c1_i32
  let c0_i32_6 : BitVec 32 := 0#32
  ![v2.toNat, 0]
def k0_off14 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32 : BitVec 32 := 1#32
  let v2 : BitVec 32 := Scalar.andi v1 c1_i32
  let c16384_i32_4 : BitVec 32 := 16384#32
  let v19 : BitVec 32 := Scalar.muli v2 c16384_i32_4
  let v20 : BitVec 32 := v19
  ![v20.toNat]
def k0_off15 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32 : BitVec 32 := 3#32
  let v11 : BitVec 32 := Scalar.andi v1 c3_i32
  let c16384_i32 : BitVec 32 := 16384#32
  let v12 : BitVec 32 := Scalar.muli v11 c16384_i32
  let c2_i32 : BitVec 32 := 2#32
  let v10 : BitVec 32 := Scalar.shrui v1 c2_i32
  let c128_i32 : BitVec 32 := 128#32
  let v13 : BitVec 32 := Scalar.muli v10 c128_i32
  let v14 : BitVec 32 := Scalar.addi v12 v13
  let c128_i32_3 : BitVec 32 := 128#32
  let v15 : BitVec 32 := Scalar.muli v14 c128_i32_3
  let v16 : BitVec 32 := v15
  ![v16.toNat]
def k0_off16 (i : grid0.Coords) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32 : BitVec 32 := 1#32
  let v2 : BitVec 32 := Scalar.andi v1 c1_i32
  let c1_i32_7 : BitVec 32 := 1#32
  ![v2.toNat, 1]
def k0_off17 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32 : BitVec 32 := 1#32
  let v2 : BitVec 32 := Scalar.andi v1 c1_i32
  let c1024_i32_5 : BitVec 32 := 1024#32
  let v21 : BitVec 32 := Scalar.muli v2 c1024_i32_5
  let v22 : BitVec 32 := v21
  ![v22.toNat]
def k0_off18 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v10 : BitVec 32 := Scalar.shrui v1 c2_i32
  let c1024_i32 : BitVec 32 := 1024#32
  let v17 : BitVec 32 := Scalar.muli v10 c1024_i32
  let v18 : BitVec 32 := v17
  ![v18.toNat]
@[reducible] def k0_t1_loop : Scf.Loop 32 :=
  let c0_i32_10 : BitVec 32 := 0#32
  let c128_i32_11 : BitVec 32 := 128#32
  let v35 : BitVec 32 := Scalar.addi c0_i32_10 c128_i32_11
  let c1_i32_12 : BitVec 32 := 1#32
  ⟨c0_i32_10, v35, c1_i32_12⟩
def k0_off19 (i : grid0.Coords) (k0_t1 : Fin k0_t1_loop.trips) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32 : BitVec 32 := 1#32
  let v2 : BitVec 32 := Scalar.andi v1 c1_i32
  let c1024_i32_9 : BitVec 32 := 1024#32
  let v32 : BitVec 32 := Scalar.muli v2 c1024_i32_9
  let v33 : BitVec 32 := Scalar.addi v32 arg1
  let c0_i32_10 : BitVec 32 := 0#32
  let c1_i32_12 : BitVec 32 := 1#32
  let arg14 : BitVec 32 := Scf.iv c0_i32_10 c1_i32_12 k0_t1
  let c8_i32 : BitVec 32 := 8#32
  let v39 : BitVec 32 := Scalar.muli arg14 c8_i32
  let v40 : BitVec 32 := Scalar.addi v33 v39
  let v41 : Index := Scalar.indexCast v40
  ![v41.toNat]
def k0_off20 (i : grid0.Coords) (k0_t1 : Fin k0_t1_loop.trips) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32 : BitVec 32 := 1#32
  let v2 : BitVec 32 := Scalar.andi v1 c1_i32
  let c1024_i32_9 : BitVec 32 := 1024#32
  let v32 : BitVec 32 := Scalar.muli v2 c1024_i32_9
  let v33 : BitVec 32 := Scalar.addi v32 arg1
  let c0_i32_10 : BitVec 32 := 0#32
  let c1_i32_12 : BitVec 32 := 1#32
  let arg14 : BitVec 32 := Scf.iv c0_i32_10 c1_i32_12 k0_t1
  let c8_i32 : BitVec 32 := 8#32
  let v39 : BitVec 32 := Scalar.muli arg14 c8_i32
  let v40 : BitVec 32 := Scalar.addi v33 v39
  let c1_i32_16 : BitVec 32 := 1#32
  let v43 : BitVec 32 := Scalar.addi v40 c1_i32_16
  let v44 : Index := Scalar.indexCast v43
  ![v44.toNat]
def k0_off21 (k0_t1 : Fin k0_t1_loop.trips) : Fin 3 → Nat :=
  let c0_i32_10 : BitVec 32 := 0#32
  let c1_i32_12 : BitVec 32 := 1#32
  let arg14 : BitVec 32 := Scf.iv c0_i32_10 c1_i32_12 k0_t1
  let v51 : Index := Scalar.indexCast arg14
  let c0 : Index := 0#32
  let c0_19 : Index := 0#32
  ![v51.toNat, 0, 0]
def k0_off22 (i : grid0.Coords) (k0_t1 : Fin k0_t1_loop.trips) (v42 : BitVec 32) (c0_i32_23 : BitVec 32) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32 : BitVec 32 := 1#32
  let v2 : BitVec 32 := Scalar.andi v1 c1_i32
  let c16384_i32_8 : BitVec 32 := 16384#32
  let v31 : BitVec 32 := Scalar.muli v2 c16384_i32_8
  let c0_i32_10 : BitVec 32 := 0#32
  let c1_i32_12 : BitVec 32 := 1#32
  let arg14 : BitVec 32 := Scf.iv c0_i32_10 c1_i32_12 k0_t1
  let c128_i32_20 : BitVec 32 := 128#32
  let v54 : BitVec 32 := Scalar.muli arg14 c128_i32_20
  let v55 : BitVec 32 := Scalar.addi v31 v54
  let c3_i32_17 : BitVec 32 := 3#32
  let v46 : BitVec 32 := Scalar.shrui v42 c3_i32_17
  let c15_i32_21 : BitVec 32 := 15#32
  let v58 : BitVec 32 := Scalar.minsi v46 c15_i32_21
  let c8_i32_22 : BitVec 32 := 8#32
  let v59 : BitVec 32 := Scalar.muli v58 c8_i32_22
  let v60 : BitVec 32 := Scalar.addi v55 v59
  let v61 : BitVec 32 := Scalar.addi v60 c0_i32_23
  let v62 : Index := Scalar.indexCast v61
  ![v62.toNat]

def k0_chk1 (i : grid0.Coords) (k0_t1 : Fin k0_t1_loop.trips) (v42 : BitVec 32) : Prop :=
  (∀ (r : Fin 8), ∀ a, (k0_off22 i k0_t1 v42 (BitVec.ofNat 32 r.val)) a + S1.size a ≤ S32768.size a)
theorem k0_off22_inb : ∀ (i : grid0.Coords) (k0_t1 : Fin k0_t1_loop.trips) (v42 : BitVec 32) (k0_hw1 : k0_chk1 i k0_t1 v42), ∀ (r : Fin 8), ∀ a, (k0_off22 i k0_t1 v42 (BitVec.ofNat 32 r.val)) a + S1.size a ≤ S32768.size a := fun i k0_t1 v42 k0_hw1 r => k0_hw1 r

@[reducible] def k0_t2_loop (v42 : BitVec 32) (v45 : BitVec 32) : Scf.Loop 32 :=
  let c3_i32_17 : BitVec 32 := 3#32
  let v46 : BitVec 32 := Scalar.shrui v42 c3_i32_17
  let v47 : BitVec 1 := Scalar.cmpi .sgt v45 v42
  let c7_i32 : BitVec 32 := 7#32
  let v48 : BitVec 32 := Scalar.addi v45 c7_i32
  let c3_i32_18 : BitVec 32 := 3#32
  let v49 : BitVec 32 := Scalar.shrui v48 c3_i32_18
  let v50 : BitVec 32 := Scalar.select v47 v49 v46
  let v85 : BitVec 32 := Scalar.subi v50 v46
  let c1_i32_29 : BitVec 32 := 1#32
  let v87 : BitVec 32 := Scalar.divsi v85 c1_i32_29
  let v88 : BitVec 32 := Scalar.muli v87 c1_i32_29
  let v89 : BitVec 32 := Scalar.addi v46 v88
  let c1_i32_30 : BitVec 32 := 1#32
  ⟨v46, v89, c1_i32_30⟩

def k0_off23 (arg21 : BitVec 32) : Fin 3 → Nat :=
  let v134 : Index := Scalar.indexCast arg21
  let c0_46 : Index := 0#32
  let c0_47 : Index := 0#32
  ![v134.toNat, 0, 0]

def k0_chk3 (arg21 : BitVec 32) : Prop :=
  (∀ a, (k0_off23 arg21) a + S1x16x128.size a ≤ S4096x16x128.size a)
theorem k0_off23_inb : ∀ (arg21 : BitVec 32) (k0_hw3 : k0_chk3 arg21), ∀ a, (k0_off23 arg21) a + S1x16x128.size a ≤ S4096x16x128.size a := fun arg21 k0_hw3 => k0_hw3

def k0_off24 (arg22 : BitVec 32) : Fin 3 → Nat :=
  let v142 : Index := Scalar.indexCast arg22
  let c0_48 : Index := 0#32
  let c0_49 : Index := 0#32
  ![v142.toNat, 0, 0]

def k0_chk4 (arg22 : BitVec 32) : Prop :=
  (∀ a, (k0_off24 arg22) a + S1x16x128.size a ≤ S4096x16x128.size a)
theorem k0_off24_inb : ∀ (arg22 : BitVec 32) (k0_hw4 : k0_chk4 arg22), ∀ a, (k0_off24 arg22) a + S1x16x128.size a ≤ S4096x16x128.size a := fun arg22 k0_hw4 => k0_hw4

def k0_off25 (arg23 : BitVec 32) : Fin 3 → Nat :=
  let v150 : Index := Scalar.indexCast arg23
  let c0_50 : Index := 0#32
  let c0_51 : Index := 0#32
  ![v150.toNat, 0, 0]

def k0_chk5 (arg23 : BitVec 32) : Prop :=
  (∀ a, (k0_off25 arg23) a + S1x16x128.size a ≤ S4096x16x128.size a)
theorem k0_off25_inb : ∀ (arg23 : BitVec 32) (k0_hw5 : k0_chk5 arg23), ∀ a, (k0_off25 arg23) a + S1x16x128.size a ≤ S4096x16x128.size a := fun arg23 k0_hw5 => k0_hw5

def k0_off26 (arg24 : BitVec 32) : Fin 3 → Nat :=
  let v158 : Index := Scalar.indexCast arg24
  let c0_52 : Index := 0#32
  let c0_53 : Index := 0#32
  ![v158.toNat, 0, 0]

def k0_chk6 (arg24 : BitVec 32) : Prop :=
  (∀ a, (k0_off26 arg24) a + S1x16x128.size a ≤ S4096x16x128.size a)
theorem k0_off26_inb : ∀ (arg24 : BitVec 32) (k0_hw6 : k0_chk6 arg24), ∀ a, (k0_off26 arg24) a + S1x16x128.size a ≤ S4096x16x128.size a := fun arg24 k0_hw6 => k0_hw6

def k0_off27 (arg25 : BitVec 32) : Fin 3 → Nat :=
  let v166 : Index := Scalar.indexCast arg25
  let c0_54 : Index := 0#32
  let c0_55 : Index := 0#32
  ![v166.toNat, 0, 0]

def k0_chk7 (arg25 : BitVec 32) : Prop :=
  (∀ a, (k0_off27 arg25) a + S1x16x128.size a ≤ S4096x16x128.size a)
theorem k0_off27_inb : ∀ (arg25 : BitVec 32) (k0_hw7 : k0_chk7 arg25), ∀ a, (k0_off27 arg25) a + S1x16x128.size a ≤ S4096x16x128.size a := fun arg25 k0_hw7 => k0_hw7

def k0_off28 (arg26 : BitVec 32) : Fin 3 → Nat :=
  let v174 : Index := Scalar.indexCast arg26
  let c0_56 : Index := 0#32
  let c0_57 : Index := 0#32
  ![v174.toNat, 0, 0]

def k0_chk8 (arg26 : BitVec 32) : Prop :=
  (∀ a, (k0_off28 arg26) a + S1x16x128.size a ≤ S4096x16x128.size a)
theorem k0_off28_inb : ∀ (arg26 : BitVec 32) (k0_hw8 : k0_chk8 arg26), ∀ a, (k0_off28 arg26) a + S1x16x128.size a ≤ S4096x16x128.size a := fun arg26 k0_hw8 => k0_hw8

def k0_off29 (arg27 : BitVec 32) : Fin 3 → Nat :=
  let v182 : Index := Scalar.indexCast arg27
  let c0_58 : Index := 0#32
  let c0_59 : Index := 0#32
  ![v182.toNat, 0, 0]

def k0_chk9 (arg27 : BitVec 32) : Prop :=
  (∀ a, (k0_off29 arg27) a + S1x16x128.size a ≤ S4096x16x128.size a)
theorem k0_off29_inb : ∀ (arg27 : BitVec 32) (k0_hw9 : k0_chk9 arg27), ∀ a, (k0_off29 arg27) a + S1x16x128.size a ≤ S4096x16x128.size a := fun arg27 k0_hw9 => k0_hw9

def k0_off30 (arg28 : BitVec 32) : Fin 3 → Nat :=
  let v190 : Index := Scalar.indexCast arg28
  let c0_60 : Index := 0#32
  let c0_61 : Index := 0#32
  ![v190.toNat, 0, 0]

def k0_chk10 (arg28 : BitVec 32) : Prop :=
  (∀ a, (k0_off30 arg28) a + S1x16x128.size a ≤ S4096x16x128.size a)
theorem k0_off30_inb : ∀ (arg28 : BitVec 32) (k0_hw10 : k0_chk10 arg28), ∀ a, (k0_off30 arg28) a + S1x16x128.size a ≤ S4096x16x128.size a := fun arg28 k0_hw10 => k0_hw10

def k0_mult13 (arg16 : BitVec 32) : BitVec 32 :=
  let c8_i32_62 : BitVec 32 := 8#32
  let v198 : BitVec 32 := Scalar.muli arg16 c8_i32_62
  v198

def k0_off31 (k0_t1 : Fin k0_t1_loop.trips) (arg16 : BitVec 32) : Fin 3 → Nat :=
  let c0_i32_10 : BitVec 32 := 0#32
  let c1_i32_12 : BitVec 32 := 1#32
  let arg14 : BitVec 32 := Scf.iv c0_i32_10 c1_i32_12 k0_t1
  let v234 : Index := Scalar.indexCast arg14
  let c8_i32_62 : BitVec 32 := 8#32
  let v198 : BitVec 32 := Scalar.muli arg16 c8_i32_62
  let v199 : BitVec 32 := v198
  let v235 : Index := Scalar.indexCast v199
  let c0_75 : Index := 0#32
  ![v234.toNat, v235.toNat, 0]

def k0_chk11 (k0_t1 : Fin k0_t1_loop.trips) (arg16 : BitVec 32) : Prop :=
  (8 ∣ (k0_mult13 arg16).toNat) ∧
  (∀ a, (k0_off31 k0_t1 arg16) a + S1x8x128.size a ≤ S128x128x128.size a)
theorem k0_mult13_dvd : ∀ (k0_t1 : Fin k0_t1_loop.trips) (arg16 : BitVec 32) (k0_hw11 : k0_chk11 k0_t1 arg16), 8 ∣ (k0_mult13 arg16).toNat := fun k0_t1 arg16 k0_hw11 => k0_hw11.1
theorem k0_off31_inb : ∀ (k0_t1 : Fin k0_t1_loop.trips) (arg16 : BitVec 32) (k0_hw11 : k0_chk11 k0_t1 arg16), ∀ a, (k0_off31 k0_t1 arg16) a + S1x8x128.size a ≤ S128x128x128.size a := fun k0_t1 arg16 k0_hw11 => k0_hw11.2

def k0_off32 (i : grid0.Coords) (k0_t1 : Fin k0_t1_loop.trips) (v42 : BitVec 32) (v45 : BitVec 32) (k0_t2 : Fin (k0_t2_loop v42 v45).trips) (c0_i32_85 : BitVec 32) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32 : BitVec 32 := 1#32
  let v2 : BitVec 32 := Scalar.andi v1 c1_i32
  let c16384_i32_8 : BitVec 32 := 16384#32
  let v31 : BitVec 32 := Scalar.muli v2 c16384_i32_8
  let c0_i32_10 : BitVec 32 := 0#32
  let c1_i32_12 : BitVec 32 := 1#32
  let arg14 : BitVec 32 := Scf.iv c0_i32_10 c1_i32_12 k0_t1
  let c128_i32_20 : BitVec 32 := 128#32
  let v54 : BitVec 32 := Scalar.muli arg14 c128_i32_20
  let v55 : BitVec 32 := Scalar.addi v31 v54
  let c3_i32_17 : BitVec 32 := 3#32
  let v46 : BitVec 32 := Scalar.shrui v42 c3_i32_17
  let c1_i32_30 : BitVec 32 := 1#32
  let arg15 : BitVec 32 := Scf.iv v46 c1_i32_30 k0_t2
  let c1_i32_82 : BitVec 32 := 1#32
  let v260 : BitVec 32 := Scalar.addi arg15 c1_i32_82
  let c15_i32_83 : BitVec 32 := 15#32
  let v261 : BitVec 32 := Scalar.minsi v260 c15_i32_83
  let c8_i32_84 : BitVec 32 := 8#32
  let v262 : BitVec 32 := Scalar.muli v261 c8_i32_84
  let v263 : BitVec 32 := Scalar.addi v55 v262
  let v264 : BitVec 32 := Scalar.addi v263 c0_i32_85
  let v265 : Index := Scalar.indexCast v264
  ![v265.toNat]
@[reducible] def k0_t3_loop (v42 : BitVec 32) (v45 : BitVec 32) : Scf.Loop 32 :=
  let c3_i32_17 : BitVec 32 := 3#32
  let v46 : BitVec 32 := Scalar.shrui v42 c3_i32_17
  let v47 : BitVec 1 := Scalar.cmpi .sgt v45 v42
  let c7_i32 : BitVec 32 := 7#32
  let v48 : BitVec 32 := Scalar.addi v45 c7_i32
  let c3_i32_18 : BitVec 32 := 3#32
  let v49 : BitVec 32 := Scalar.shrui v48 c3_i32_18
  let v50 : BitVec 32 := Scalar.select v47 v49 v46
  let v85 : BitVec 32 := Scalar.subi v50 v46
  let c1_i32_29 : BitVec 32 := 1#32
  let v87 : BitVec 32 := Scalar.divsi v85 c1_i32_29
  let v88 : BitVec 32 := Scalar.muli v87 c1_i32_29
  let v89 : BitVec 32 := Scalar.addi v46 v88
  let v86 : BitVec 32 := Scalar.addi v46 v85
  let c1_i32_31 : BitVec 32 := 1#32
  ⟨v89, v86, c1_i32_31⟩
def k0_off33 (arg21 : BitVec 32) : Fin 3 → Nat :=
  let v134 : Index := Scalar.indexCast arg21
  let c0_46 : Index := 0#32
  let c0_47 : Index := 0#32
  ![v134.toNat, 0, 0]

def k0_chk12 (arg21 : BitVec 32) : Prop :=
  (∀ a, (k0_off33 arg21) a + S1x16x128.size a ≤ S4096x16x128.size a)
theorem k0_off33_inb : ∀ (arg21 : BitVec 32) (k0_hw12 : k0_chk12 arg21), ∀ a, (k0_off33 arg21) a + S1x16x128.size a ≤ S4096x16x128.size a := fun arg21 k0_hw12 => k0_hw12

def k0_off34 (arg22 : BitVec 32) : Fin 3 → Nat :=
  let v142 : Index := Scalar.indexCast arg22
  let c0_48 : Index := 0#32
  let c0_49 : Index := 0#32
  ![v142.toNat, 0, 0]

def k0_chk13 (arg22 : BitVec 32) : Prop :=
  (∀ a, (k0_off34 arg22) a + S1x16x128.size a ≤ S4096x16x128.size a)
theorem k0_off34_inb : ∀ (arg22 : BitVec 32) (k0_hw13 : k0_chk13 arg22), ∀ a, (k0_off34 arg22) a + S1x16x128.size a ≤ S4096x16x128.size a := fun arg22 k0_hw13 => k0_hw13

def k0_off35 (arg23 : BitVec 32) : Fin 3 → Nat :=
  let v150 : Index := Scalar.indexCast arg23
  let c0_50 : Index := 0#32
  let c0_51 : Index := 0#32
  ![v150.toNat, 0, 0]

def k0_chk14 (arg23 : BitVec 32) : Prop :=
  (∀ a, (k0_off35 arg23) a + S1x16x128.size a ≤ S4096x16x128.size a)
theorem k0_off35_inb : ∀ (arg23 : BitVec 32) (k0_hw14 : k0_chk14 arg23), ∀ a, (k0_off35 arg23) a + S1x16x128.size a ≤ S4096x16x128.size a := fun arg23 k0_hw14 => k0_hw14

def k0_off36 (arg24 : BitVec 32) : Fin 3 → Nat :=
  let v158 : Index := Scalar.indexCast arg24
  let c0_52 : Index := 0#32
  let c0_53 : Index := 0#32
  ![v158.toNat, 0, 0]

def k0_chk15 (arg24 : BitVec 32) : Prop :=
  (∀ a, (k0_off36 arg24) a + S1x16x128.size a ≤ S4096x16x128.size a)
theorem k0_off36_inb : ∀ (arg24 : BitVec 32) (k0_hw15 : k0_chk15 arg24), ∀ a, (k0_off36 arg24) a + S1x16x128.size a ≤ S4096x16x128.size a := fun arg24 k0_hw15 => k0_hw15

def k0_off37 (arg25 : BitVec 32) : Fin 3 → Nat :=
  let v166 : Index := Scalar.indexCast arg25
  let c0_54 : Index := 0#32
  let c0_55 : Index := 0#32
  ![v166.toNat, 0, 0]

def k0_chk16 (arg25 : BitVec 32) : Prop :=
  (∀ a, (k0_off37 arg25) a + S1x16x128.size a ≤ S4096x16x128.size a)
theorem k0_off37_inb : ∀ (arg25 : BitVec 32) (k0_hw16 : k0_chk16 arg25), ∀ a, (k0_off37 arg25) a + S1x16x128.size a ≤ S4096x16x128.size a := fun arg25 k0_hw16 => k0_hw16

def k0_off38 (arg26 : BitVec 32) : Fin 3 → Nat :=
  let v174 : Index := Scalar.indexCast arg26
  let c0_56 : Index := 0#32
  let c0_57 : Index := 0#32
  ![v174.toNat, 0, 0]

def k0_chk17 (arg26 : BitVec 32) : Prop :=
  (∀ a, (k0_off38 arg26) a + S1x16x128.size a ≤ S4096x16x128.size a)
theorem k0_off38_inb : ∀ (arg26 : BitVec 32) (k0_hw17 : k0_chk17 arg26), ∀ a, (k0_off38 arg26) a + S1x16x128.size a ≤ S4096x16x128.size a := fun arg26 k0_hw17 => k0_hw17

def k0_off39 (arg27 : BitVec 32) : Fin 3 → Nat :=
  let v182 : Index := Scalar.indexCast arg27
  let c0_58 : Index := 0#32
  let c0_59 : Index := 0#32
  ![v182.toNat, 0, 0]

def k0_chk18 (arg27 : BitVec 32) : Prop :=
  (∀ a, (k0_off39 arg27) a + S1x16x128.size a ≤ S4096x16x128.size a)
theorem k0_off39_inb : ∀ (arg27 : BitVec 32) (k0_hw18 : k0_chk18 arg27), ∀ a, (k0_off39 arg27) a + S1x16x128.size a ≤ S4096x16x128.size a := fun arg27 k0_hw18 => k0_hw18

def k0_off40 (arg28 : BitVec 32) : Fin 3 → Nat :=
  let v190 : Index := Scalar.indexCast arg28
  let c0_60 : Index := 0#32
  let c0_61 : Index := 0#32
  ![v190.toNat, 0, 0]

def k0_chk19 (arg28 : BitVec 32) : Prop :=
  (∀ a, (k0_off40 arg28) a + S1x16x128.size a ≤ S4096x16x128.size a)
theorem k0_off40_inb : ∀ (arg28 : BitVec 32) (k0_hw19 : k0_chk19 arg28), ∀ a, (k0_off40 arg28) a + S1x16x128.size a ≤ S4096x16x128.size a := fun arg28 k0_hw19 => k0_hw19

def k0_mult14 (arg16 : BitVec 32) : BitVec 32 :=
  let c8_i32_62 : BitVec 32 := 8#32
  let v198 : BitVec 32 := Scalar.muli arg16 c8_i32_62
  v198

def k0_off41 (k0_t1 : Fin k0_t1_loop.trips) (arg16 : BitVec 32) : Fin 3 → Nat :=
  let c0_i32_10 : BitVec 32 := 0#32
  let c1_i32_12 : BitVec 32 := 1#32
  let arg14 : BitVec 32 := Scf.iv c0_i32_10 c1_i32_12 k0_t1
  let v234 : Index := Scalar.indexCast arg14
  let c8_i32_62 : BitVec 32 := 8#32
  let v198 : BitVec 32 := Scalar.muli arg16 c8_i32_62
  let v199 : BitVec 32 := v198
  let v235 : Index := Scalar.indexCast v199
  let c0_75 : Index := 0#32
  ![v234.toNat, v235.toNat, 0]

def k0_chk20 (k0_t1 : Fin k0_t1_loop.trips) (arg16 : BitVec 32) : Prop :=
  (8 ∣ (k0_mult14 arg16).toNat) ∧
  (∀ a, (k0_off41 k0_t1 arg16) a + S1x8x128.size a ≤ S128x128x128.size a)
theorem k0_mult14_dvd : ∀ (k0_t1 : Fin k0_t1_loop.trips) (arg16 : BitVec 32) (k0_hw20 : k0_chk20 k0_t1 arg16), 8 ∣ (k0_mult14 arg16).toNat := fun k0_t1 arg16 k0_hw20 => k0_hw20.1
theorem k0_off41_inb : ∀ (k0_t1 : Fin k0_t1_loop.trips) (arg16 : BitVec 32) (k0_hw20 : k0_chk20 k0_t1 arg16), ∀ a, (k0_off41 k0_t1 arg16) a + S1x8x128.size a ≤ S128x128x128.size a := fun k0_t1 arg16 k0_hw20 => k0_hw20.2

def k0_off42 (i : grid0.Coords) (k0_t1 : Fin k0_t1_loop.trips) (v42 : BitVec 32) (v45 : BitVec 32) (k0_t3 : Fin (k0_t3_loop v42 v45).trips) (c0_i32_85 : BitVec 32) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32 : BitVec 32 := 1#32
  let v2 : BitVec 32 := Scalar.andi v1 c1_i32
  let c16384_i32_8 : BitVec 32 := 16384#32
  let v31 : BitVec 32 := Scalar.muli v2 c16384_i32_8
  let c0_i32_10 : BitVec 32 := 0#32
  let c1_i32_12 : BitVec 32 := 1#32
  let arg14 : BitVec 32 := Scf.iv c0_i32_10 c1_i32_12 k0_t1
  let c128_i32_20 : BitVec 32 := 128#32
  let v54 : BitVec 32 := Scalar.muli arg14 c128_i32_20
  let v55 : BitVec 32 := Scalar.addi v31 v54
  let c3_i32_17 : BitVec 32 := 3#32
  let v46 : BitVec 32 := Scalar.shrui v42 c3_i32_17
  let v47 : BitVec 1 := Scalar.cmpi .sgt v45 v42
  let c7_i32 : BitVec 32 := 7#32
  let v48 : BitVec 32 := Scalar.addi v45 c7_i32
  let c3_i32_18 : BitVec 32 := 3#32
  let v49 : BitVec 32 := Scalar.shrui v48 c3_i32_18
  let v50 : BitVec 32 := Scalar.select v47 v49 v46
  let v85 : BitVec 32 := Scalar.subi v50 v46
  let c1_i32_29 : BitVec 32 := 1#32
  let v87 : BitVec 32 := Scalar.divsi v85 c1_i32_29
  let v88 : BitVec 32 := Scalar.muli v87 c1_i32_29
  let v89 : BitVec 32 := Scalar.addi v46 v88
  let c1_i32_31 : BitVec 32 := 1#32
  let arg15 : BitVec 32 := Scf.iv v89 c1_i32_31 k0_t3
  let c1_i32_82 : BitVec 32 := 1#32
  let v260 : BitVec 32 := Scalar.addi arg15 c1_i32_82
  let c15_i32_83 : BitVec 32 := 15#32
  let v261 : BitVec 32 := Scalar.minsi v260 c15_i32_83
  let c8_i32_84 : BitVec 32 := 8#32
  let v262 : BitVec 32 := Scalar.muli v261 c8_i32_84
  let v263 : BitVec 32 := Scalar.addi v55 v262
  let v264 : BitVec 32 := Scalar.addi v263 c0_i32_85
  let v265 : Index := Scalar.indexCast v264
  ![v265.toNat]

def k0_chk2 (i : grid0.Coords) (k0_t1 : Fin k0_t1_loop.trips) (v42 : BitVec 32) (v45 : BitVec 32) : Prop :=
  ((k0_t2_loop v42 v45).OK) ∧
  (∀ k0_t2 : Fin (k0_t2_loop v42 v45).trips, ∀ (r : Fin 8), ∀ a, (k0_off32 i k0_t1 v42 v45 k0_t2 (BitVec.ofNat 32 r.val)) a + S1.size a ≤ S32768.size a) ∧
  ((k0_t3_loop v42 v45).OK) ∧
  (∀ k0_t3 : Fin (k0_t3_loop v42 v45).trips, ∀ (r : Fin 8), ∀ a, (k0_off42 i k0_t1 v42 v45 k0_t3 (BitVec.ofNat 32 r.val)) a + S1.size a ≤ S32768.size a)
theorem k0_t2_ok : ∀ (i : grid0.Coords) (k0_t1 : Fin k0_t1_loop.trips) (v42 : BitVec 32) (v45 : BitVec 32) (k0_hw2 : k0_chk2 i k0_t1 v42 v45), (k0_t2_loop v42 v45).OK := fun i k0_t1 v42 v45 k0_hw2 => k0_hw2.1
theorem k0_off32_inb : ∀ (i : grid0.Coords) (k0_t1 : Fin k0_t1_loop.trips) (v42 : BitVec 32) (v45 : BitVec 32) (k0_hw2 : k0_chk2 i k0_t1 v42 v45) (k0_t2 : Fin (k0_t2_loop v42 v45).trips), ∀ (r : Fin 8), ∀ a, (k0_off32 i k0_t1 v42 v45 k0_t2 (BitVec.ofNat 32 r.val)) a + S1.size a ≤ S32768.size a := fun i k0_t1 v42 v45 k0_hw2 k0_t2 r => k0_hw2.2.1 k0_t2 r
theorem k0_t3_ok : ∀ (i : grid0.Coords) (k0_t1 : Fin k0_t1_loop.trips) (v42 : BitVec 32) (v45 : BitVec 32) (k0_hw2 : k0_chk2 i k0_t1 v42 v45), (k0_t3_loop v42 v45).OK := fun i k0_t1 v42 v45 k0_hw2 => k0_hw2.2.2.1
theorem k0_off42_inb : ∀ (i : grid0.Coords) (k0_t1 : Fin k0_t1_loop.trips) (v42 : BitVec 32) (v45 : BitVec 32) (k0_hw2 : k0_chk2 i k0_t1 v42 v45) (k0_t3 : Fin (k0_t3_loop v42 v45).trips), ∀ (r : Fin 8), ∀ a, (k0_off42 i k0_t1 v42 v45 k0_t3 (BitVec.ofNat 32 r.val)) a + S1.size a ≤ S32768.size a := fun i k0_t1 v42 v45 k0_hw2 k0_t3 r => k0_hw2.2.2.2 k0_t3 r

def k0_mult15 (v91_0 : BitVec 32) : BitVec 32 :=
  let c8_i32_32 : BitVec 32 := 8#32
  let v92 : BitVec 32 := Scalar.muli v91_0 c8_i32_32
  v92

def k0_off43 (k0_t1 : Fin k0_t1_loop.trips) (v91_0 : BitVec 32) : Fin 3 → Nat :=
  let c0_i32_10 : BitVec 32 := 0#32
  let c1_i32_12 : BitVec 32 := 1#32
  let arg14 : BitVec 32 := Scf.iv c0_i32_10 c1_i32_12 k0_t1
  let v128 : Index := Scalar.indexCast arg14
  let c8_i32_32 : BitVec 32 := 8#32
  let v92 : BitVec 32 := Scalar.muli v91_0 c8_i32_32
  let v93 : BitVec 32 := v92
  let v129 : Index := Scalar.indexCast v93
  let c0_45 : Index := 0#32
  ![v128.toNat, v129.toNat, 0]

def k0_chk21 (k0_t1 : Fin k0_t1_loop.trips) (v91_0 : BitVec 32) : Prop :=
  (8 ∣ (k0_mult15 v91_0).toNat) ∧
  (∀ a, (k0_off43 k0_t1 v91_0) a + S1x8x128.size a ≤ S128x128x128.size a)
theorem k0_mult15_dvd : ∀ (k0_t1 : Fin k0_t1_loop.trips) (v91_0 : BitVec 32) (k0_hw21 : k0_chk21 k0_t1 v91_0), 8 ∣ (k0_mult15 v91_0).toNat := fun k0_t1 v91_0 k0_hw21 => k0_hw21.1
theorem k0_off43_inb : ∀ (k0_t1 : Fin k0_t1_loop.trips) (v91_0 : BitVec 32) (k0_hw21 : k0_chk21 k0_t1 v91_0), ∀ a, (k0_off43 k0_t1 v91_0) a + S1x8x128.size a ≤ S128x128x128.size a := fun k0_t1 v91_0 k0_hw21 => k0_hw21.2

def k0_cond3 (i : grid0.Coords) : BitVec 1 :=
  let arg1 : BitVec 32 := BitVec.ofNat 32 (i 1).val
  let c3_i32_14 : BitVec 32 := 3#32
  let v36 : BitVec 1 := Scalar.cmpi .eq arg1 c3_i32_14
  let v37 : BitVec 32 := Scalar.extui v36
  let c0_i32_15 : BitVec 32 := 0#32
  let v38 : BitVec 1 := Scalar.cmpi .ne v37 c0_i32_15
  v38

@[reducible] def k0_t4_loop : Scf.Loop 32 :=
  let c0_i32_16 : BitVec 32 := 0#32
  let c32_i32 : BitVec 32 := 32#32
  let v39 : BitVec 32 := Scalar.addi c0_i32_16 c32_i32
  let c1_i32_17 : BitVec 32 := 1#32
  ⟨c0_i32_16, v39, c1_i32_17⟩
def k0_off44 (k0_t4 : Fin k0_t4_loop.trips) (c0_i32_36 : BitVec 32) : Fin 3 → Nat :=
  let c0_i32_16 : BitVec 32 := 0#32
  let c1_i32_17 : BitVec 32 := 1#32
  let arg14 : BitVec 32 := Scf.iv c0_i32_16 c1_i32_17 k0_t4
  let c4_i32_35 : BitVec 32 := 4#32
  let v68 : BitVec 32 := Scalar.muli arg14 c4_i32_35
  let v69 : BitVec 32 := Scalar.addi v68 c0_i32_36
  let v70 : Index := Scalar.indexCast v69
  let c0_37 : Index := 0#32
  let c0_38 : Index := 0#32
  ![v70.toNat, 0, 0]
def k0_off45 (k0_t4 : Fin k0_t4_loop.trips) (c0_i32_36 : BitVec 32) : Fin 2 → Nat :=
  let c0_i32_16 : BitVec 32 := 0#32
  let c1_i32_17 : BitVec 32 := 1#32
  let arg14 : BitVec 32 := Scf.iv c0_i32_16 c1_i32_17 k0_t4
  let c4_i32_35 : BitVec 32 := 4#32
  let v68 : BitVec 32 := Scalar.muli arg14 c4_i32_35
  let v69 : BitVec 32 := Scalar.addi v68 c0_i32_36
  let v76 : Index := Scalar.indexCast v69
  let c0_40 : Index := 0#32
  ![v76.toNat, 0]
def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S128x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x16x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S4x16384x128 : Shape := ⟨3, ![4, 16384, 128]⟩
abbrev S16384x8 : Shape := ⟨2, ![16384, 8]⟩
abbrev S16384x2048 : Shape := ⟨2, ![16384, 2048]⟩
abbrev S16384x128 : Shape := ⟨2, ![16384, 128]⟩
abbrev S_ : Shape := ⟨0, ![]⟩
abbrev S16384x128x1 : Shape := ⟨3, ![16384, 128, 1]⟩
abbrev S1 : Shape := ⟨1, ![1]⟩
abbrev S1x1x1 : Shape := ⟨3, ![1, 1, 1]⟩
abbrev S16384x128x2048 : Shape := ⟨3, ![16384, 128, 2048]⟩
abbrev S2 : Shape := ⟨1, ![2]⟩
abbrev S2x1x1 : Shape := ⟨3, ![2, 1, 1]⟩
abbrev S1x16384x128 : Shape := ⟨3, ![1, 16384, 128]⟩
abbrev S2x16384x128 : Shape := ⟨3, ![2, 16384, 128]⟩

abbrev nBuf : Space → Nat
  | .hbm => 70
  | .vmem => 0
  | .smem => 0
  | _ => 0

abbrev bufTy : (tb : Table) → Fin (tcTables nBuf tb) → BufTy
  | .hbm, ⟨0, _⟩ => ⟨S4x16384x128, .i32⟩
  | .hbm, ⟨1, _⟩ => ⟨S16384x8, .i32⟩
  | .hbm, ⟨2, _⟩ => ⟨S16384x2048, .f32⟩
  | .hbm, ⟨3, _⟩ => ⟨S16384x2048, .f32⟩
  | .hbm, ⟨4, _⟩ => ⟨S16384x128, .i32⟩
  | .hbm, ⟨5, _⟩ => ⟨S16384x128, .f32⟩
  | .hbm, ⟨6, _⟩ => ⟨S_, .i32⟩
  | .hbm, ⟨7, _⟩ => ⟨S16384x128, .i32⟩
  | .hbm, ⟨8, _⟩ => ⟨S16384x128, .i1⟩
  | .hbm, ⟨9, _⟩ => ⟨S_, .i32⟩
  | .hbm, ⟨10, _⟩ => ⟨S16384x128, .i32⟩
  | .hbm, ⟨11, _⟩ => ⟨S16384x128, .i32⟩
  | .hbm, ⟨12, _⟩ => ⟨S16384x128, .i32⟩
  | .hbm, ⟨13, _⟩ => ⟨S16384x128x1, .i32⟩
  | .hbm, ⟨14, _⟩ => ⟨S1, .i32⟩
  | .hbm, ⟨15, _⟩ => ⟨S_, .i32⟩
  | .hbm, ⟨16, _⟩ => ⟨S16384x128x1, .i32⟩
  | .hbm, ⟨17, _⟩ => ⟨S16384x128x1, .i1⟩
  | .hbm, ⟨18, _⟩ => ⟨S1x1x1, .i32⟩
  | .hbm, ⟨19, _⟩ => ⟨S16384x128x1, .i32⟩
  | .hbm, ⟨20, _⟩ => ⟨S16384x128x1, .i1⟩
  | .hbm, ⟨21, _⟩ => ⟨S16384x128x1, .i1⟩
  | .hbm, ⟨22, _⟩ => ⟨S_, .i1⟩
  | .hbm, ⟨23, _⟩ => ⟨S16384x128, .i1⟩
  | .hbm, ⟨24, _⟩ => ⟨S16384x128x2048, .f32⟩
  | .hbm, ⟨25, _⟩ => ⟨S16384x128x2048, .i1⟩
  | .hbm, ⟨26, _⟩ => ⟨S_, .f32⟩
  | .hbm, ⟨27, _⟩ => ⟨S16384x128x2048, .f32⟩
  | .hbm, ⟨28, _⟩ => ⟨S16384x128x2048, .f32⟩
  | .hbm, ⟨29, _⟩ => ⟨S16384x128, .f32⟩
  | .hbm, ⟨30, _⟩ => ⟨S_, .f32⟩
  | .hbm, ⟨31, _⟩ => ⟨S16384x128, .f32⟩
  | .hbm, ⟨32, _⟩ => ⟨S16384x128, .f32⟩
  | .hbm, ⟨33, _⟩ => ⟨S16384x128, .f32⟩
  | .hbm, ⟨34, _⟩ => ⟨S_, .f32⟩
  | .hbm, ⟨35, _⟩ => ⟨S16384x128, .f32⟩
  | .hbm, ⟨36, _⟩ => ⟨S16384x128, .f32⟩
  | .hbm, ⟨37, _⟩ => ⟨S16384x128, .f32⟩
  | .hbm, ⟨38, _⟩ => ⟨S16384x128, .f32⟩
  | .hbm, ⟨39, _⟩ => ⟨S16384x128, .f32⟩
  | .hbm, ⟨40, _⟩ => ⟨S2, .i32⟩
  | .hbm, ⟨41, _⟩ => ⟨S2x1x1, .i32⟩
  | .hbm, ⟨42, _⟩ => ⟨S1x16384x128, .i32⟩
  | .hbm, ⟨43, _⟩ => ⟨S_, .i32⟩
  | .hbm, ⟨44, _⟩ => ⟨S_, .i32⟩
  | .hbm, ⟨45, _⟩ => ⟨S1x16384x128, .i32⟩
  | .hbm, ⟨46, _⟩ => ⟨S1x16384x128, .i32⟩
  | .hbm, ⟨47, _⟩ => ⟨S1x16384x128, .i32⟩
  | .hbm, ⟨48, _⟩ => ⟨S_, .i32⟩
  | .hbm, ⟨49, _⟩ => ⟨S1x16384x128, .i32⟩
  | .hbm, ⟨50, _⟩ => ⟨S1x16384x128, .i1⟩
  | .hbm, ⟨51, _⟩ => ⟨S1x16384x128, .i32⟩
  | .hbm, ⟨52, _⟩ => ⟨S1x16384x128, .i32⟩
  | .hbm, ⟨53, _⟩ => ⟨S_, .i32⟩
  | .hbm, ⟨54, _⟩ => ⟨S1x16384x128, .i32⟩
  | .hbm, ⟨55, _⟩ => ⟨S1x16384x128, .i1⟩
  | .hbm, ⟨56, _⟩ => ⟨S1x16384x128, .i1⟩
  | .hbm, ⟨57, _⟩ => ⟨S_, .i32⟩
  | .hbm, ⟨58, _⟩ => ⟨S1x16384x128, .i32⟩
  | .hbm, ⟨59, _⟩ => ⟨S1x16384x128, .i32⟩
  | .hbm, ⟨60, _⟩ => ⟨S1x16384x128, .i32⟩
  | .hbm, ⟨61, _⟩ => ⟨S2x16384x128, .i32⟩
  | .hbm, ⟨62, _⟩ => ⟨S2x16384x128, .i32⟩
  | .hbm, ⟨63, _⟩ => ⟨S2x16384x128, .i1⟩
  | .hbm, ⟨64, _⟩ => ⟨S1x16384x128, .f32⟩
  | .hbm, ⟨65, _⟩ => ⟨S_, .f32⟩
  | .hbm, ⟨66, _⟩ => ⟨S_, .f32⟩
  | .hbm, ⟨67, _⟩ => ⟨S2x16384x128, .f32⟩
  | .hbm, ⟨68, _⟩ => ⟨S2x16384x128, .f32⟩
  | .hbm, ⟨69, _⟩ => ⟨S2x16384x128, .f32⟩
  | _, _ => ⟨S4x16384x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_cst : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_cst_0 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_c : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_c : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_0 : Ref sig .tc := ⟨.hbm, 57, rfl⟩
abbrev main_call1_v12 : Ref sig .tc := ⟨.hbm, 58, rfl⟩
abbrev main_call1_v13 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_cst_1 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_v18 : Ref sig .tc := ⟨.hbm, 69, rfl⟩

abbrev nD : Nat := 1
abbrev τ : Topo := Topo.v7x

variable {F : FTy → Type} [FloatOps F]
-- ==== Kernel2.lean ====
abbrev S8x2048x2048 : Shape := ⟨3, ![8, 2048, 2048]⟩
abbrev S2048x5136 : Shape := ⟨2, ![2048, 5136]⟩
abbrev S16384x2048 : Shape := ⟨2, ![16384, 2048]⟩
abbrev S2048x3072 : Shape := ⟨2, ![2048, 3072]⟩
abbrev S2048x2048 : Shape := ⟨2, ![2048, 2048]⟩
abbrev S2048x5120 : Shape := ⟨2, ![2048, 5120]⟩
abbrev S2048x16 : Shape := ⟨2, ![2048, 16]⟩
abbrev S_ : Shape := ⟨0, ![]⟩
abbrev S2048x128 : Shape := ⟨2, ![2048, 128]⟩
abbrev S16384x5120 : Shape := ⟨2, ![16384, 5120]⟩
abbrev S16384x128 : Shape := ⟨2, ![16384, 128]⟩
abbrev S512x2048 : Shape := ⟨2, ![512, 2048]⟩
abbrev S2048x1024 : Shape := ⟨2, ![2048, 1024]⟩
abbrev S512x1024 : Shape := ⟨2, ![512, 1024]⟩
abbrev S512x128 : Shape := ⟨2, ![512, 128]⟩

abbrev nBuf : Space → Nat
  | .hbm => 14
  | .vmem => 10
  | .smem => 0
  | _ => 0

abbrev bufTy : (tb : Table) → Fin (tcTables nBuf tb) → BufTy
  | .hbm, ⟨0, _⟩ => ⟨S8x2048x2048, .f32⟩
  | .hbm, ⟨1, _⟩ => ⟨S2048x5136, .f32⟩
  | .hbm, ⟨2, _⟩ => ⟨S16384x2048, .f32⟩
  | .hbm, ⟨3, _⟩ => ⟨S2048x3072, .f32⟩
  | .hbm, ⟨4, _⟩ => ⟨S2048x2048, .f32⟩
  | .hbm, ⟨5, _⟩ => ⟨S2048x5120, .f32⟩
  | .hbm, ⟨6, _⟩ => ⟨S2048x5120, .bf16⟩
  | .hbm, ⟨7, _⟩ => ⟨S2048x16, .f32⟩
  | .hbm, ⟨8, _⟩ => ⟨S_, .i32⟩
  | .hbm, ⟨9, _⟩ => ⟨S_, .f32⟩
  | .hbm, ⟨10, _⟩ => ⟨S2048x128, .f32⟩
  | .hbm, ⟨11, _⟩ => ⟨S2048x128, .bf16⟩
  | .hbm, ⟨12, _⟩ => ⟨S16384x5120, .f32⟩
  | .hbm, ⟨13, _⟩ => ⟨S16384x128, .f32⟩
  | .local _ .vmem, ⟨0, _⟩ => ⟨S512x2048, .f32⟩
  | .local _ .vmem, ⟨1, _⟩ => ⟨S512x2048, .f32⟩
  | .local _ .vmem, ⟨2, _⟩ => ⟨S2048x1024, .bf16⟩
  | .local _ .vmem, ⟨3, _⟩ => ⟨S2048x1024, .bf16⟩
  | .local _ .vmem, ⟨4, _⟩ => ⟨S2048x128, .bf16⟩
  | .local _ .vmem, ⟨5, _⟩ => ⟨S512x1024, .f32⟩
  | .local _ .vmem, ⟨6, _⟩ => ⟨S512x1024, .f32⟩
  | .local _ .vmem, ⟨7, _⟩ => ⟨S512x128, .f32⟩
  | .local _ .vmem, ⟨8, _⟩ => ⟨S512x128, .f32⟩
  | .local _ .vmem, ⟨9, _⟩ => ⟨S512x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 5], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S8x2048x2048 : Shape := ⟨3, ![8, 2048, 2048]⟩
abbrev S2048x5136 : Shape := ⟨2, ![2048, 5136]⟩
abbrev S8x2048x5136 : Shape := ⟨3, ![8, 2048, 5136]⟩
abbrev S8x2048x3072 : Shape := ⟨3, ![8, 2048, 3072]⟩
abbrev S8x2048x16 : Shape := ⟨3, ![8, 2048, 16]⟩
abbrev S8x2048x5120 : Shape := ⟨3, ![8, 2048, 5120]⟩
abbrev S16384x5120 : Shape := ⟨2, ![16384, 5120]⟩
abbrev S_ : Shape := ⟨0, ![]⟩
abbrev S8x2048x128 : Shape := ⟨3, ![8, 2048, 128]⟩
abbrev S16384x128 : Shape := ⟨2, ![16384, 128]⟩

abbrev nBuf : Space → Nat
  | .hbm => 12
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048x5136, .f32⟩
  | .hbm, ⟨2, _⟩ => ⟨S8x2048x5136, .f32⟩
  | .hbm, ⟨3, _⟩ => ⟨S8x2048x3072, .f32⟩
  | .hbm, ⟨4, _⟩ => ⟨S8x2048x16, .f32⟩
  | .hbm, ⟨5, _⟩ => ⟨S8x2048x2048, .f32⟩
  | .hbm, ⟨6, _⟩ => ⟨S8x2048x5120, .f32⟩
  | .hbm, ⟨7, _⟩ => ⟨S16384x5120, .f32⟩
  | .hbm, ⟨8, _⟩ => ⟨S_, .i32⟩
  | .hbm, ⟨9, _⟩ => ⟨S_, .f32⟩
  | .hbm, ⟨10, _⟩ => ⟨S8x2048x128, .f32⟩
  | .hbm, ⟨11, _⟩ => ⟨S16384x128, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel3.lean ====
abbrev S8x2048x1024 : Shape := ⟨3, ![8, 2048, 1024]⟩
abbrev S8x2048x2048 : Shape := ⟨3, ![8, 2048, 2048]⟩
abbrev S2048x2048 : Shape := ⟨2, ![2048, 2048]⟩
abbrev S2048 : Shape := ⟨1, ![2048]⟩
abbrev S16384x1024 : Shape := ⟨2, ![16384, 1024]⟩
abbrev S16384x2048 : Shape := ⟨2, ![16384, 2048]⟩
abbrev S1024x2048 : Shape := ⟨2, ![1024, 2048]⟩
abbrev S1x2048 : Shape := ⟨2, ![1, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 16
  | .vmem => 12
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x1024, .bf16⟩
  | .hbm, ⟨2, _⟩ => ⟨S8x2048x2048, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S16384x1024, .bf16⟩
  | .hbm, ⟨7, _⟩ => ⟨S16384x1024, .bf16⟩
  | .hbm, ⟨8, _⟩ => ⟨S16384x2048, .f32⟩
  | .hbm, ⟨9, _⟩ => ⟨S1024x2048, .f32⟩
  | .hbm, ⟨10, _⟩ => ⟨S1024x2048, .bf16⟩
  | .hbm, ⟨11, _⟩ => ⟨S1024x2048, .f32⟩
  | .hbm, ⟨12, _⟩ => ⟨S1024x2048, .bf16⟩
  | .hbm, ⟨13, _⟩ => ⟨S1x2048, .f32⟩
  | .hbm, ⟨14, _⟩ => ⟨S1x2048, .f32⟩
  | .hbm, ⟨15, _⟩ => ⟨S16384x2048, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .f32⟩
  | .local _ .vmem, ⟨5, _⟩ => ⟨S256x2048, .f32⟩
  | .local _ .vmem, ⟨6, _⟩ => ⟨S1024x2048, .bf16⟩
  | .local _ .vmem, ⟨7, _⟩ => ⟨S1024x2048, .bf16⟩
  | .local _ .vmem, ⟨8, _⟩ => ⟨S1x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S8x2048x1024 : Shape := ⟨3, ![8, 2048, 1024]⟩
abbrev S8x2048x2048 : Shape := ⟨3, ![8, 2048, 2048]⟩
abbrev S2048x2048 : Shape := ⟨2, ![2048, 2048]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S16384x2048 : Shape := ⟨2, ![16384, 2048]⟩

abbrev nBuf : Space → Nat
  | .hbm => 43
  | .vmem => 0
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x1024, .bf16⟩
  | .hbm, ⟨2, _⟩ => ⟨S8x2048x2048, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S8x2048x2048, .bf16⟩
  | .hbm, ⟨7, _⟩ => ⟨S8x2048x2048, .f32⟩
  | .hbm, ⟨8, _⟩ => ⟨S8x2048x2048, .f32⟩
  | .hbm, ⟨9, _⟩ => ⟨S_, .f32⟩
  | .hbm, ⟨10, _⟩ => ⟨S8x2048x2048, .f32⟩
  | .hbm, ⟨11, _⟩ => ⟨S8x2048x2048, .f32⟩
  | .hbm, ⟨12, _⟩ => ⟨S8x2048x2048, .f32⟩
  | .hbm, ⟨13, _⟩ => ⟨S_, .f32⟩
  | .hbm, ⟨14, _⟩ => ⟨S8x2048, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S8x2048x2048, .f32⟩
  | .hbm, ⟨20, _⟩ => ⟨S8x2048x2048, .f32⟩
  | .hbm, ⟨21, _⟩ => ⟨S8x2048x2048, .f32⟩
  | .hbm, ⟨22, _⟩ => ⟨S_, .f32⟩
  | .hbm, ⟨23, _⟩ => ⟨S8x2048, .f32⟩
  | .hbm, ⟨24, _⟩ => ⟨S8x2048x1, .f32⟩
  | .hbm, ⟨25, _⟩ => ⟨S_, .f32⟩
  | .hbm, ⟨26, _⟩ => ⟨S8x2048x1, .f32⟩
  | .hbm, ⟨27, _⟩ => ⟨S8x2048x1, .f32⟩
  | .hbm, ⟨28, _⟩ => ⟨S8x2048x2048, .f32⟩
  | .hbm, ⟨29, _⟩ => ⟨S8x2048x2048, .f32⟩
  | .hbm, ⟨30, _⟩ => ⟨S_, .f32⟩
  | .hbm, ⟨31, _⟩ => ⟨S8x2048x1, .f32⟩
  | .hbm, ⟨32, _⟩ => ⟨S8x2048x1, .f32⟩
  | .hbm, ⟨33, _⟩ => ⟨S8x2048x1, .f32⟩
  | .hbm, ⟨34, _⟩ => ⟨S8x2048x2048, .f32⟩
  | .hbm, ⟨35, _⟩ => ⟨S8x2048x2048, .f32⟩
  | .hbm, ⟨36, _⟩ => ⟨S1x1x2048, .f32⟩
  | .hbm, ⟨37, _⟩ => ⟨S8x2048x2048, .f32⟩
  | .hbm, ⟨38, _⟩ => ⟨S8x2048x2048, .f32⟩
  | .hbm, ⟨39, _⟩ => ⟨S1x1x2048, .f32⟩
  | .hbm, ⟨40, _⟩ => ⟨S8x2048x2048, .f32⟩
  | .hbm, ⟨41, _⟩ => ⟨S8x2048x2048, .f32⟩
  | .hbm, ⟨42, _⟩ => ⟨S16384x2048, .f32⟩
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Kernel4.lean ====
abbrev S16384x2048 : Shape := ⟨2, ![16384, 2048]⟩
abbrev S2048x2048 : Shape := ⟨2, ![2048, 2048]⟩
abbrev S256x2048 : Shape := ⟨2, ![256, 2048]⟩

abbrev nBuf : Space → Nat
  | .hbm => 4
  | .vmem => 5
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S2048x2048, .bf16⟩
  | .hbm, ⟨3, _⟩ => ⟨S16384x2048, .bf16⟩
  | .local _ .vmem, ⟨0, _⟩ => ⟨S256x2048, .f32⟩
  | .local _ .vmem, ⟨1, _⟩ => ⟨S256x2048, .f32⟩
  | .local _ .vmem, ⟨2, _⟩ => ⟨S2048x2048, .bf16⟩
  | .local _ .vmem, ⟨3, _⟩ => ⟨S256x2048, .bf16⟩
  | .local _ .vmem, ⟨4, _⟩ => ⟨S256x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S16384x2048 : Shape := ⟨2, ![16384, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S16384x2048, .f32⟩
  | .hbm, ⟨3, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel5.lean ====
abbrev S16384x2048 : Shape := ⟨2, ![16384, 2048]⟩
abbrev S2x16384x2048 : Shape := ⟨3, ![2, 16384, 2048]⟩
abbrev S2048 : Shape := ⟨1, ![2048]⟩
abbrev S1x2048 : Shape := ⟨2, ![1, 2048]⟩
abbrev S512x2048 : Shape := ⟨2, ![512, 2048]⟩
abbrev S2x512x2048 : Shape := ⟨3, ![2, 512, 2048]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2x16384x2048, .f32⟩
  | .hbm, ⟨2, _⟩ => ⟨S2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S2x512x2048, .f32⟩
  | .local _ .vmem, ⟨3, _⟩ => ⟨S2x512x2048, .f32⟩
  | .local _ .vmem, ⟨4, _⟩ => ⟨S1x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S16384x2048 : Shape := ⟨2, ![16384, 2048]⟩
abbrev S2x16384x2048 : Shape := ⟨3, ![2, 16384, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 39
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2x16384x2048, .f32⟩
  | .hbm, ⟨2, _⟩ => ⟨S2048, .f32⟩
  | .hbm, ⟨3, _⟩ => ⟨S2048, .f32⟩
  | .hbm, ⟨4, _⟩ => ⟨S_, .f32⟩
  | .hbm, ⟨5, _⟩ => ⟨S16384x2048, .f32⟩
  | .hbm, ⟨6, _⟩ => ⟨S16384x2048, .f32⟩
  | .hbm, ⟨7, _⟩ => ⟨S_, .f32⟩
  | .hbm, ⟨8, _⟩ => ⟨S16384x2048, .f32⟩
  | .hbm, ⟨9, _⟩ => ⟨S16384x2048, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x2048, .f32⟩
  | .hbm, ⟨26, _⟩ => ⟨S16384x2048, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1, .f32⟩
  | .hbm, ⟨31, _⟩ => ⟨S16384x2048, .f32⟩
  | .hbm, ⟨32, _⟩ => ⟨S16384x2048, .f32⟩
  | .hbm, ⟨33, _⟩ => ⟨S1x2048, .f32⟩
  | .hbm, ⟨34, _⟩ => ⟨S16384x2048, .f32⟩
  | .hbm, ⟨35, _⟩ => ⟨S16384x2048, .f32⟩
  | .hbm, ⟨36, _⟩ => ⟨S1x2048, .f32⟩
  | .hbm, ⟨37, _⟩ => ⟨S16384x2048, .f32⟩
  | .hbm, ⟨38, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Kernel6.lean ====
abbrev S8x2048x5120 : Shape := ⟨3, ![8, 2048, 5120]⟩
abbrev S31x1024 : Shape := ⟨2, ![31, 1024]⟩
abbrev S1024 : Shape := ⟨1, ![1024]⟩
abbrev S_ : Shape := ⟨0, ![]⟩
abbrev S32x1024 : Shape := ⟨2, ![32, 1024]⟩
abbrev S1x1024 : Shape := ⟨2, ![1, 1024]⟩
abbrev S8x2048x1024 : Shape := ⟨3, ![8, 2048, 1024]⟩
abbrev S1x256x1024 : Shape := ⟨3, ![1, 256, 1024]⟩
abbrev S288x1024 : Shape := ⟨2, ![288, 1024]⟩
abbrev S256x1024 : Shape := ⟨2, ![256, 1024]⟩
abbrev S32x128 : Shape := ⟨2, ![32, 128]⟩
abbrev S1x128 : Shape := ⟨2, ![1, 128]⟩
abbrev S64x128 : Shape := ⟨2, ![64, 128]⟩
abbrev S256 : Shape := ⟨1, ![256]⟩
abbrev S256x1 : Shape := ⟨2, ![256, 1]⟩

abbrev nBuf : Space → Nat
  | .hbm => 12
  | .vmem => 12
  | .smem => 0
  | _ => 0

abbrev bufTy : (tb : Table) → Fin (tcTables nBuf tb) → BufTy
  | .hbm, ⟨0, _⟩ => ⟨S8x2048x5120, .f32⟩
  | .hbm, ⟨1, _⟩ => ⟨S31x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S_, .i32⟩
  | .hbm, ⟨6, _⟩ => ⟨S_, .f32⟩
  | .hbm, ⟨7, _⟩ => ⟨S32x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S8x2048x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S32x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x256x1024, .bf16⟩
  | .local _ .vmem, ⟨9, _⟩ => ⟨S1x256x1024, .bf16⟩
  | .local _ .vmem, ⟨10, _⟩ => ⟨S288x1024, .f32⟩
  | .local _ .vmem, ⟨11, _⟩ => ⟨S256x1024, .f32⟩
  | _, _ => ⟨S8x2048x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32_9 : BitVec 32 := 0#32
  let c8_i32 : BitVec 32 := 8#32
  let v15 : BitVec 32 := Scalar.addi c0_i32_9 c8_i32
  let c1_i32 : BitVec 32 := 1#32
  ⟨c0_i32_9, v15, c1_i32⟩
def k0_mult1 (k0_t1 : Fin k0_t1_loop.trips) : BitVec 32 :=
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  v47
def k0_off1 (k0_t1 : Fin k0_t1_loop.trips) : Fin 2 → Nat :=
  let c0_24 : Index := 0#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v49 : Index := Scalar.indexCast v48
  ![0, v49.toNat]
def k0_off2 (k0_t1 : Fin k0_t1_loop.trips) : Fin 2 → Nat :=
  let c0_25 : Index := 0#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v52 : Index := Scalar.indexCast v48
  ![0, v52.toNat]
def k0_off3 (k0_t1 : Fin k0_t1_loop.trips) : Fin 2 → Nat :=
  let c2 : Index := 2#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v58 : Index := Scalar.indexCast v48
  ![2, v58.toNat]
def k0_off4 (k0_t1 : Fin k0_t1_loop.trips) : Fin 2 → Nat :=
  let c3 : Index := 3#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v64 : Index := Scalar.indexCast v48
  ![3, v64.toNat]
def k0_off5 (k0_t1 : Fin k0_t1_loop.trips) : Fin 2 → Nat :=
  let c4 : Index := 4#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v70 : Index := Scalar.indexCast v48
  ![4, v70.toNat]
def k0_off6 (k0_t1 : Fin k0_t1_loop.trips) : Fin 2 → Nat :=
  let c5 : Index := 5#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v76 : Index := Scalar.indexCast v48
  ![5, v76.toNat]
def k0_off7 (k0_t1 : Fin k0_t1_loop.trips) : Fin 2 → Nat :=
  let c6 : Index := 6#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v82 : Index := Scalar.indexCast v48
  ![6, v82.toNat]
def k0_off8 (k0_t1 : Fin k0_t1_loop.trips) : Fin 2 → Nat :=
  let c7 : Index := 7#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v88 : Index := Scalar.indexCast v48
  ![7, v88.toNat]
def k0_off9 (k0_t1 : Fin k0_t1_loop.trips) : Fin 2 → Nat :=
  let c8 : Index := 8#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v94 : Index := Scalar.indexCast v48
  ![8, v94.toNat]
def k0_off10 (k0_t1 : Fin k0_t1_loop.trips) : Fin 2 → Nat :=
  let c9 : Index := 9#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v100 : Index := Scalar.indexCast v48
  ![9, v100.toNat]
def k0_off11 (k0_t1 : Fin k0_t1_loop.trips) : Fin 2 → Nat :=
  let c10 : Index := 10#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v106 : Index := Scalar.indexCast v48
  ![10, v106.toNat]
def k0_off12 (k0_t1 : Fin k0_t1_loop.trips) : Fin 2 → Nat :=
  let c11 : Index := 11#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v112 : Index := Scalar.indexCast v48
  ![11, v112.toNat]
def k0_off13 (k0_t1 : Fin k0_t1_loop.trips) : Fin 2 → Nat :=
  let c12 : Index := 12#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v118 : Index := Scalar.indexCast v48
  ![12, v118.toNat]
def k0_off14 (k0_t1 : Fin k0_t1_loop.trips) : Fin 2 → Nat :=
  let c13 : Index := 13#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v124 : Index := Scalar.indexCast v48
  ![13, v124.toNat]
def k0_off15 (k0_t1 : Fin k0_t1_loop.trips) : Fin 2 → Nat :=
  let c14 : Index := 14#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v130 : Index := Scalar.indexCast v48
  ![14, v130.toNat]
def k0_off16 (k0_t1 : Fin k0_t1_loop.trips) : Fin 2 → Nat :=
  let c15 : Index := 15#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v136 : Index := Scalar.indexCast v48
  ![15, v136.toNat]
def k0_off17 (k0_t1 : Fin k0_t1_loop.trips) : Fin 2 → Nat :=
  let c16 : Index := 16#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v142 : Index := Scalar.indexCast v48
  ![16, v142.toNat]
def k0_off18 (k0_t1 : Fin k0_t1_loop.trips) : Fin 2 → Nat :=
  let c17 : Index := 17#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v148 : Index := Scalar.indexCast v48
  ![17, v148.toNat]
def k0_off19 (k0_t1 : Fin k0_t1_loop.trips) : Fin 2 → Nat :=
  let c18 : Index := 18#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v154 : Index := Scalar.indexCast v48
  ![18, v154.toNat]
def k0_off20 (k0_t1 : Fin k0_t1_loop.trips) : Fin 2 → Nat :=
  let c19 : Index := 19#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v160 : Index := Scalar.indexCast v48
  ![19, v160.toNat]
def k0_off21 (k0_t1 : Fin k0_t1_loop.trips) : Fin 2 → Nat :=
  let c20 : Index := 20#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v166 : Index := Scalar.indexCast v48
  ![20, v166.toNat]
def k0_off22 (k0_t1 : Fin k0_t1_loop.trips) : Fin 2 → Nat :=
  let c21 : Index := 21#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v172 : Index := Scalar.indexCast v48
  ![21, v172.toNat]
def k0_off23 (k0_t1 : Fin k0_t1_loop.trips) : Fin 2 → Nat :=
  let c22 : Index := 22#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v178 : Index := Scalar.indexCast v48
  ![22, v178.toNat]
def k0_off24 (k0_t1 : Fin k0_t1_loop.trips) : Fin 2 → Nat :=
  let c23 : Index := 23#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v184 : Index := Scalar.indexCast v48
  ![23, v184.toNat]
def k0_off25 (k0_t1 : Fin k0_t1_loop.trips) : Fin 2 → Nat :=
  let c24 : Index := 24#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v190 : Index := Scalar.indexCast v48
  ![24, v190.toNat]
def k0_off26 (k0_t1 : Fin k0_t1_loop.trips) : Fin 2 → Nat :=
  let c25 : Index := 25#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v196 : Index := Scalar.indexCast v48
  ![25, v196.toNat]
def k0_off27 (k0_t1 : Fin k0_t1_loop.trips) : Fin 2 → Nat :=
  let c26 : Index := 26#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v202 : Index := Scalar.indexCast v48
  ![26, v202.toNat]
def k0_off28 (k0_t1 : Fin k0_t1_loop.trips) : Fin 2 → Nat :=
  let c27 : Index := 27#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v208 : Index := Scalar.indexCast v48
  ![27, v208.toNat]
def k0_off29 (k0_t1 : Fin k0_t1_loop.trips) : Fin 2 → Nat :=
  let c28 : Index := 28#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v214 : Index := Scalar.indexCast v48
  ![28, v214.toNat]
def k0_off30 (k0_t1 : Fin k0_t1_loop.trips) : Fin 2 → Nat :=
  let c29 : Index := 29#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v220 : Index := Scalar.indexCast v48
  ![29, v220.toNat]
def k0_off31 (k0_t1 : Fin k0_t1_loop.trips) : Fin 2 → Nat :=
  let c30 : Index := 30#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v226 : Index := Scalar.indexCast v48
  ![30, v226.toNat]
def k0_off32 (k0_t1 : Fin k0_t1_loop.trips) : Fin 2 → Nat :=
  let c31 : Index := 31#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v232 : Index := Scalar.indexCast v48
  ![31, v232.toNat]
def k0_off33 (k0_t1 : Fin k0_t1_loop.trips) : Fin 2 → Nat :=
  let c32_27 : Index := 32#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v238 : Index := Scalar.indexCast v48
  ![32, v238.toNat]
def k0_off34 (k0_t1 : Fin k0_t1_loop.trips) : Fin 2 → Nat :=
  let c0_28 : Index := 0#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v244 : Index := Scalar.indexCast v48
  ![0, v244.toNat]
def k0_off35 (k0_t1 : Fin k0_t1_loop.trips) : Fin 2 → Nat :=
  let c66 : Index := 66#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v251 : Index := Scalar.indexCast v48
  ![66, v251.toNat]
def k0_off36 (k0_t1 : Fin k0_t1_loop.trips) : Fin 2 → Nat :=
  let c67 : Index := 67#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v257 : Index := Scalar.indexCast v48
  ![67, v257.toNat]
def k0_off37 (k0_t1 : Fin k0_t1_loop.trips) : Fin 2 → Nat :=
  let c68 : Index := 68#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v263 : Index := Scalar.indexCast v48
  ![68, v263.toNat]
def k0_off38 (k0_t1 : Fin k0_t1_loop.trips) : Fin 2 → Nat :=
  let c69 : Index := 69#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v269 : Index := Scalar.indexCast v48
  ![69, v269.toNat]
def k0_off39 (k0_t1 : Fin k0_t1_loop.trips) : Fin 2 → Nat :=
  let c70 : Index := 70#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v275 : Index := Scalar.indexCast v48
  ![70, v275.toNat]
def k0_off40 (k0_t1 : Fin k0_t1_loop.trips) : Fin 2 → Nat :=
  let c71 : Index := 71#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v281 : Index := Scalar.indexCast v48
  ![71, v281.toNat]
def k0_off41 (k0_t1 : Fin k0_t1_loop.trips) : Fin 2 → Nat :=
  let c72 : Index := 72#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v287 : Index := Scalar.indexCast v48
  ![72, v287.toNat]
def k0_off42 (k0_t1 : Fin k0_t1_loop.trips) : Fin 2 → Nat :=
  let c73 : Index := 73#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v293 : Index := Scalar.indexCast v48
  ![73, v293.toNat]
def k0_off43 (k0_t1 : Fin k0_t1_loop.trips) : Fin 2 → Nat :=
  let c74 : Index := 74#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v299 : Index := Scalar.indexCast v48
  ![74, v299.toNat]
def k0_off44 (k0_t1 : Fin k0_t1_loop.trips) : Fin 2 → Nat :=
  let c75 : Index := 75#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v305 : Index := Scalar.indexCast v48
  ![75, v305.toNat]
def k0_off45 (k0_t1 : Fin k0_t1_loop.trips) : Fin 2 → Nat :=
  let c76 : Index := 76#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v311 : Index := Scalar.indexCast v48
  ![76, v311.toNat]
def k0_off46 (k0_t1 : Fin k0_t1_loop.trips) : Fin 2 → Nat :=
  let c77 : Index := 77#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v317 : Index := Scalar.indexCast v48
  ![77, v317.toNat]
def k0_off47 (k0_t1 : Fin k0_t1_loop.trips) : Fin 2 → Nat :=
  let c78 : Index := 78#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v323 : Index := Scalar.indexCast v48
  ![78, v323.toNat]
def k0_off48 (k0_t1 : Fin k0_t1_loop.trips) : Fin 2 → Nat :=
  let c79 : Index := 79#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v329 : Index := Scalar.indexCast v48
  ![79, v329.toNat]
def k0_off49 (k0_t1 : Fin k0_t1_loop.trips) : Fin 2 → Nat :=
  let c80 : Index := 80#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v335 : Index := Scalar.indexCast v48
  ![80, v335.toNat]
def k0_off50 (k0_t1 : Fin k0_t1_loop.trips) : Fin 2 → Nat :=
  let c81 : Index := 81#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v341 : Index := Scalar.indexCast v48
  ![81, v341.toNat]
def k0_off51 (k0_t1 : Fin k0_t1_loop.trips) : Fin 2 → Nat :=
  let c82 : Index := 82#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v347 : Index := Scalar.indexCast v48
  ![82, v347.toNat]
def k0_off52 (k0_t1 : Fin k0_t1_loop.trips) : Fin 2 → Nat :=
  let c83 : Index := 83#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v353 : Index := Scalar.indexCast v48
  ![83, v353.toNat]
def k0_off53 (k0_t1 : Fin k0_t1_loop.trips) : Fin 2 → Nat :=
  let c84 : Index := 84#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v359 : Index := Scalar.indexCast v48
  ![84, v359.toNat]
def k0_off54 (k0_t1 : Fin k0_t1_loop.trips) : Fin 2 → Nat :=
  let c85 : Index := 85#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v365 : Index := Scalar.indexCast v48
  ![85, v365.toNat]
def k0_off55 (k0_t1 : Fin k0_t1_loop.trips) : Fin 2 → Nat :=
  let c86 : Index := 86#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v371 : Index := Scalar.indexCast v48
  ![86, v371.toNat]
def k0_off56 (k0_t1 : Fin k0_t1_loop.trips) : Fin 2 → Nat :=
  let c87 : Index := 87#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v377 : Index := Scalar.indexCast v48
  ![87, v377.toNat]
def k0_off57 (k0_t1 : Fin k0_t1_loop.trips) : Fin 2 → Nat :=
  let c88 : Index := 88#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v383 : Index := Scalar.indexCast v48
  ![88, v383.toNat]
def k0_off58 (k0_t1 : Fin k0_t1_loop.trips) : Fin 2 → Nat :=
  let c89 : Index := 89#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v389 : Index := Scalar.indexCast v48
  ![89, v389.toNat]
def k0_off59 (k0_t1 : Fin k0_t1_loop.trips) : Fin 2 → Nat :=
  let c90 : Index := 90#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v395 : Index := Scalar.indexCast v48
  ![90, v395.toNat]
def k0_off60 (k0_t1 : Fin k0_t1_loop.trips) : Fin 2 → Nat :=
  let c91 : Index := 91#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v401 : Index := Scalar.indexCast v48
  ![91, v401.toNat]
def k0_off61 (k0_t1 : Fin k0_t1_loop.trips) : Fin 2 → Nat :=
  let c92 : Index := 92#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v407 : Index := Scalar.indexCast v48
  ![92, v407.toNat]
def k0_off62 (k0_t1 : Fin k0_t1_loop.trips) : Fin 2 → Nat :=
  let c93 : Index := 93#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v413 : Index := Scalar.indexCast v48
  ![93, v413.toNat]
def k0_off63 (k0_t1 : Fin k0_t1_loop.trips) : Fin 2 → Nat :=
  let c94 : Index := 94#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v419 : Index := Scalar.indexCast v48
  ![94, v419.toNat]
def k0_off64 (k0_t1 : Fin k0_t1_loop.trips) : Fin 2 → Nat :=
  let c95 : Index := 95#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v425 : Index := Scalar.indexCast v48
  ![95, v425.toNat]
def k0_off65 (k0_t1 : Fin k0_t1_loop.trips) : Fin 2 → Nat :=
  let c96 : Index := 96#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v431 : Index := Scalar.indexCast v48
  ![96, v431.toNat]
def k0_off66 (k0_t1 : Fin k0_t1_loop.trips) : Fin 2 → Nat :=
  let c64 : Index := 64#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v437 : Index := Scalar.indexCast v48
  ![64, v437.toNat]
def k0_off67 (k0_t1 : Fin k0_t1_loop.trips) : Fin 2 → Nat :=
  let c130 : Index := 130#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v444 : Index := Scalar.indexCast v48
  ![130, v444.toNat]
def k0_off68 (k0_t1 : Fin k0_t1_loop.trips) : Fin 2 → Nat :=
  let c131 : Index := 131#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v450 : Index := Scalar.indexCast v48
  ![131, v450.toNat]
def k0_off69 (k0_t1 : Fin k0_t1_loop.trips) : Fin 2 → Nat :=
  let c132 : Index := 132#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v456 : Index := Scalar.indexCast v48
  ![132, v456.toNat]
def k0_off70 (k0_t1 : Fin k0_t1_loop.trips) : Fin 2 → Nat :=
  let c133 : Index := 133#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v462 : Index := Scalar.indexCast v48
  ![133, v462.toNat]
def k0_off71 (k0_t1 : Fin k0_t1_loop.trips) : Fin 2 → Nat :=
  let c134 : Index := 134#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v468 : Index := Scalar.indexCast v48
  ![134, v468.toNat]
def k0_off72 (k0_t1 : Fin k0_t1_loop.trips) : Fin 2 → Nat :=
  let c135 : Index := 135#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v474 : Index := Scalar.indexCast v48
  ![135, v474.toNat]
def k0_off73 (k0_t1 : Fin k0_t1_loop.trips) : Fin 2 → Nat :=
  let c136 : Index := 136#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v480 : Index := Scalar.indexCast v48
  ![136, v480.toNat]
def k0_off74 (k0_t1 : Fin k0_t1_loop.trips) : Fin 2 → Nat :=
  let c137 : Index := 137#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v486 : Index := Scalar.indexCast v48
  ![137, v486.toNat]
def k0_off75 (k0_t1 : Fin k0_t1_loop.trips) : Fin 2 → Nat :=
  let c138 : Index := 138#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v492 : Index := Scalar.indexCast v48
  ![138, v492.toNat]
def k0_off76 (k0_t1 : Fin k0_t1_loop.trips) : Fin 2 → Nat :=
  let c139 : Index := 139#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v498 : Index := Scalar.indexCast v48
  ![139, v498.toNat]
def k0_off77 (k0_t1 : Fin k0_t1_loop.trips) : Fin 2 → Nat :=
  let c140 : Index := 140#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v504 : Index := Scalar.indexCast v48
  ![140, v504.toNat]
def k0_off78 (k0_t1 : Fin k0_t1_loop.trips) : Fin 2 → Nat :=
  let c141 : Index := 141#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v510 : Index := Scalar.indexCast v48
  ![141, v510.toNat]
def k0_off79 (k0_t1 : Fin k0_t1_loop.trips) : Fin 2 → Nat :=
  let c142 : Index := 142#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v516 : Index := Scalar.indexCast v48
  ![142, v516.toNat]
def k0_off80 (k0_t1 : Fin k0_t1_loop.trips) : Fin 2 → Nat :=
  let c143 : Index := 143#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v522 : Index := Scalar.indexCast v48
  ![143, v522.toNat]
def k0_off81 (k0_t1 : Fin k0_t1_loop.trips) : Fin 2 → Nat :=
  let c144 : Index := 144#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v528 : Index := Scalar.indexCast v48
  ![144, v528.toNat]
def k0_off82 (k0_t1 : Fin k0_t1_loop.trips) : Fin 2 → Nat :=
  let c145 : Index := 145#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v534 : Index := Scalar.indexCast v48
  ![145, v534.toNat]
def k0_off83 (k0_t1 : Fin k0_t1_loop.trips) : Fin 2 → Nat :=
  let c146 : Index := 146#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v540 : Index := Scalar.indexCast v48
  ![146, v540.toNat]
def k0_off84 (k0_t1 : Fin k0_t1_loop.trips) : Fin 2 → Nat :=
  let c147 : Index := 147#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v546 : Index := Scalar.indexCast v48
  ![147, v546.toNat]
def k0_off85 (k0_t1 : Fin k0_t1_loop.trips) : Fin 2 → Nat :=
  let c148 : Index := 148#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v552 : Index := Scalar.indexCast v48
  ![148, v552.toNat]
def k0_off86 (k0_t1 : Fin k0_t1_loop.trips) : Fin 2 → Nat :=
  let c149 : Index := 149#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v558 : Index := Scalar.indexCast v48
  ![149, v558.toNat]
def k0_off87 (k0_t1 : Fin k0_t1_loop.trips) : Fin 2 → Nat :=
  let c150 : Index := 150#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v564 : Index := Scalar.indexCast v48
  ![150, v564.toNat]
def k0_off88 (k0_t1 : Fin k0_t1_loop.trips) : Fin 2 → Nat :=
  let c151 : Index := 151#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v570 : Index := Scalar.indexCast v48
  ![151, v570.toNat]
def k0_off89 (k0_t1 : Fin k0_t1_loop.trips) : Fin 2 → Nat :=
  let c152 : Index := 152#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v576 : Index := Scalar.indexCast v48
  ![152, v576.toNat]
def k0_off90 (k0_t1 : Fin k0_t1_loop.trips) : Fin 2 → Nat :=
  let c153 : Index := 153#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v582 : Index := Scalar.indexCast v48
  ![153, v582.toNat]
def k0_off91 (k0_t1 : Fin k0_t1_loop.trips) : Fin 2 → Nat :=
  let c154 : Index := 154#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v588 : Index := Scalar.indexCast v48
  ![154, v588.toNat]
def k0_off92 (k0_t1 : Fin k0_t1_loop.trips) : Fin 2 → Nat :=
  let c155 : Index := 155#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v594 : Index := Scalar.indexCast v48
  ![155, v594.toNat]
def k0_off93 (k0_t1 : Fin k0_t1_loop.trips) : Fin 2 → Nat :=
  let c156 : Index := 156#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v600 : Index := Scalar.indexCast v48
  ![156, v600.toNat]
def k0_off94 (k0_t1 : Fin k0_t1_loop.trips) : Fin 2 → Nat :=
  let c157 : Index := 157#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v606 : Index := Scalar.indexCast v48
  ![157, v606.toNat]
def k0_off95 (k0_t1 : Fin k0_t1_loop.trips) : Fin 2 → Nat :=
  let c158 : Index := 158#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v612 : Index := Scalar.indexCast v48
  ![158, v612.toNat]
def k0_off96 (k0_t1 : Fin k0_t1_loop.trips) : Fin 2 → Nat :=
  let c159 : Index := 159#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v618 : Index := Scalar.indexCast v48
  ![159, v618.toNat]
def k0_off97 (k0_t1 : Fin k0_t1_loop.trips) : Fin 2 → Nat :=
  let c160 : Index := 160#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v624 : Index := Scalar.indexCast v48
  ![160, v624.toNat]
def k0_off98 (k0_t1 : Fin k0_t1_loop.trips) : Fin 2 → Nat :=
  let c128 : Index := 128#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v630 : Index := Scalar.indexCast v48
  ![128, v630.toNat]
def k0_off99 (k0_t1 : Fin k0_t1_loop.trips) : Fin 2 → Nat :=
  let c194 : Index := 194#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v637 : Index := Scalar.indexCast v48
  ![194, v637.toNat]
def k0_off100 (k0_t1 : Fin k0_t1_loop.trips) : Fin 2 → Nat :=
  let c195 : Index := 195#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v643 : Index := Scalar.indexCast v48
  ![195, v643.toNat]
def k0_off101 (k0_t1 : Fin k0_t1_loop.trips) : Fin 2 → Nat :=
  let c196 : Index := 196#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v649 : Index := Scalar.indexCast v48
  ![196, v649.toNat]
def k0_off102 (k0_t1 : Fin k0_t1_loop.trips) : Fin 2 → Nat :=
  let c197 : Index := 197#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v655 : Index := Scalar.indexCast v48
  ![197, v655.toNat]
def k0_off103 (k0_t1 : Fin k0_t1_loop.trips) : Fin 2 → Nat :=
  let c198 : Index := 198#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v661 : Index := Scalar.indexCast v48
  ![198, v661.toNat]
def k0_off104 (k0_t1 : Fin k0_t1_loop.trips) : Fin 2 → Nat :=
  let c199 : Index := 199#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v667 : Index := Scalar.indexCast v48
  ![199, v667.toNat]
def k0_off105 (k0_t1 : Fin k0_t1_loop.trips) : Fin 2 → Nat :=
  let c200 : Index := 200#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v673 : Index := Scalar.indexCast v48
  ![200, v673.toNat]
def k0_off106 (k0_t1 : Fin k0_t1_loop.trips) : Fin 2 → Nat :=
  let c201 : Index := 201#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v679 : Index := Scalar.indexCast v48
  ![201, v679.toNat]
def k0_off107 (k0_t1 : Fin k0_t1_loop.trips) : Fin 2 → Nat :=
  let c202 : Index := 202#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v685 : Index := Scalar.indexCast v48
  ![202, v685.toNat]
def k0_off108 (k0_t1 : Fin k0_t1_loop.trips) : Fin 2 → Nat :=
  let c203 : Index := 203#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v691 : Index := Scalar.indexCast v48
  ![203, v691.toNat]
def k0_off109 (k0_t1 : Fin k0_t1_loop.trips) : Fin 2 → Nat :=
  let c204 : Index := 204#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v697 : Index := Scalar.indexCast v48
  ![204, v697.toNat]
def k0_off110 (k0_t1 : Fin k0_t1_loop.trips) : Fin 2 → Nat :=
  let c205 : Index := 205#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v703 : Index := Scalar.indexCast v48
  ![205, v703.toNat]
def k0_off111 (k0_t1 : Fin k0_t1_loop.trips) : Fin 2 → Nat :=
  let c206 : Index := 206#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v709 : Index := Scalar.indexCast v48
  ![206, v709.toNat]
def k0_off112 (k0_t1 : Fin k0_t1_loop.trips) : Fin 2 → Nat :=
  let c207 : Index := 207#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v715 : Index := Scalar.indexCast v48
  ![207, v715.toNat]
def k0_off113 (k0_t1 : Fin k0_t1_loop.trips) : Fin 2 → Nat :=
  let c208 : Index := 208#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v721 : Index := Scalar.indexCast v48
  ![208, v721.toNat]
def k0_off114 (k0_t1 : Fin k0_t1_loop.trips) : Fin 2 → Nat :=
  let c209 : Index := 209#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v727 : Index := Scalar.indexCast v48
  ![209, v727.toNat]
def k0_off115 (k0_t1 : Fin k0_t1_loop.trips) : Fin 2 → Nat :=
  let c210 : Index := 210#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v733 : Index := Scalar.indexCast v48
  ![210, v733.toNat]
def k0_off116 (k0_t1 : Fin k0_t1_loop.trips) : Fin 2 → Nat :=
  let c211 : Index := 211#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v739 : Index := Scalar.indexCast v48
  ![211, v739.toNat]
def k0_off117 (k0_t1 : Fin k0_t1_loop.trips) : Fin 2 → Nat :=
  let c212 : Index := 212#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v745 : Index := Scalar.indexCast v48
  ![212, v745.toNat]
def k0_off118 (k0_t1 : Fin k0_t1_loop.trips) : Fin 2 → Nat :=
  let c213 : Index := 213#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v751 : Index := Scalar.indexCast v48
  ![213, v751.toNat]
def k0_off119 (k0_t1 : Fin k0_t1_loop.trips) : Fin 2 → Nat :=
  let c214 : Index := 214#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v757 : Index := Scalar.indexCast v48
  ![214, v757.toNat]
def k0_off120 (k0_t1 : Fin k0_t1_loop.trips) : Fin 2 → Nat :=
  let c215 : Index := 215#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v763 : Index := Scalar.indexCast v48
  ![215, v763.toNat]
def k0_off121 (k0_t1 : Fin k0_t1_loop.trips) : Fin 2 → Nat :=
  let c216 : Index := 216#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v769 : Index := Scalar.indexCast v48
  ![216, v769.toNat]
def k0_off122 (k0_t1 : Fin k0_t1_loop.trips) : Fin 2 → Nat :=
  let c217 : Index := 217#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v775 : Index := Scalar.indexCast v48
  ![217, v775.toNat]
def k0_off123 (k0_t1 : Fin k0_t1_loop.trips) : Fin 2 → Nat :=
  let c218 : Index := 218#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v781 : Index := Scalar.indexCast v48
  ![218, v781.toNat]
def k0_off124 (k0_t1 : Fin k0_t1_loop.trips) : Fin 2 → Nat :=
  let c219 : Index := 219#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v787 : Index := Scalar.indexCast v48
  ![219, v787.toNat]
def k0_off125 (k0_t1 : Fin k0_t1_loop.trips) : Fin 2 → Nat :=
  let c220 : Index := 220#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v793 : Index := Scalar.indexCast v48
  ![220, v793.toNat]
def k0_off126 (k0_t1 : Fin k0_t1_loop.trips) : Fin 2 → Nat :=
  let c221 : Index := 221#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v799 : Index := Scalar.indexCast v48
  ![221, v799.toNat]
def k0_off127 (k0_t1 : Fin k0_t1_loop.trips) : Fin 2 → Nat :=
  let c222 : Index := 222#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v805 : Index := Scalar.indexCast v48
  ![222, v805.toNat]
def k0_off128 (k0_t1 : Fin k0_t1_loop.trips) : Fin 2 → Nat :=
  let c223 : Index := 223#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v811 : Index := Scalar.indexCast v48
  ![223, v811.toNat]
def k0_off129 (k0_t1 : Fin k0_t1_loop.trips) : Fin 2 → Nat :=
  let c224 : Index := 224#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v817 : Index := Scalar.indexCast v48
  ![224, v817.toNat]
def k0_off130 (k0_t1 : Fin k0_t1_loop.trips) : Fin 2 → Nat :=
  let c192 : Index := 192#32
  let c0_i32_9 : BitVec 32 := 0#32
  let c1_i32 : BitVec 32 := 1#32
  let arg11 : BitVec 32 := Scf.iv c0_i32_9 c1_i32 k0_t1
  let c128_i32 : BitVec 32 := 128#32
  let v47 : BitVec 32 := Scalar.muli arg11 c128_i32
  let v48 : BitVec 32 := v47
  let v823 : Index := Scalar.indexCast v48
  ![192, v823.toNat]
def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference6Ideal.lean ====
abbrev S8x2048x5120 : Shape := ⟨3, ![8, 2048, 5120]⟩
abbrev S31x1024 : Shape := ⟨2, ![31, 1024]⟩
abbrev S1024 : Shape := ⟨1, ![1024]⟩
abbrev S8x2048x2048 : Shape := ⟨3, ![8, 2048, 2048]⟩
abbrev S8x2048x1024 : Shape := ⟨3, ![8, 2048, 1024]⟩
abbrev S_ : Shape := ⟨0, ![]⟩
abbrev S8x2078x1024 : Shape := ⟨3, ![8, 2078, 1024]⟩
abbrev S1x1024 : Shape := ⟨2, ![1, 1024]⟩
abbrev S1x1x1024 : Shape := ⟨3, ![1, 1, 1024]⟩
abbrev S8x2048 : Shape := ⟨2, ![8, 2048]⟩
abbrev S8x2048x1 : Shape := ⟨3, ![8, 2048, 1]⟩

abbrev nBuf : Space → Nat
  | .hbm => 278
  | .vmem => 0
  | .smem => 0
  | _ => 0

abbrev hbmTy0_0 (i : Nat) : BufTy := match i % 128 with
  | 0 => ⟨S8x2048x5120, .f32⟩
  | 1 => ⟨S31x1024, .f32⟩
  | 2 => ⟨S1024, .f32⟩
  | 3 => ⟨S1024, .f32⟩
  | 4 => ⟨S1024, .f32⟩
  | 5 => ⟨S8x2048x2048, .f32⟩
  | 6 => ⟨S8x2048x1024, .f32⟩
  | 7 => ⟨S8x2048x1024, .f32⟩
  | 8 => ⟨S8x2048x1024, .f32⟩
  | 9 => ⟨S8x2048x1024, .f32⟩
  | 10 => ⟨S_, .f32⟩
  | 11 => ⟨S8x2048x1024, .f32⟩
  | 12 => ⟨S8x2048x1024, .f32⟩
  | 13 => ⟨S_, .f32⟩
  | 14 => ⟨S8x2048x1024, .f32⟩
  | 15 => ⟨S8x2048x1024, .f32⟩
  | 16 => ⟨S8x2048x1024, .f32⟩
  | 17 => ⟨S_, .i32⟩
  | 18 => ⟨S_, .f32⟩
  | 19 => ⟨S8x2078x1024, .f32⟩
  | 20 => ⟨S8x2048x1024, .f32⟩
  | 21 => ⟨S1x1024, .f32⟩
  | 22 => ⟨S1024, .f32⟩
  | 23 => ⟨S1x1x1024, .f32⟩
  | 24 => ⟨S8x2048x1024, .f32⟩
  | 25 => ⟨S8x2048x1024, .f32⟩
  | 26 => ⟨S8x2048x1024, .f32⟩
  | 27 => ⟨S1x1024, .f32⟩
  | 28 => ⟨S1024, .f32⟩
  | 29 => ⟨S1x1x1024, .f32⟩
  | 30 => ⟨S8x2048x1024, .f32⟩
  | 31 => ⟨S8x2048x1024, .f32⟩
  | 32 => ⟨S8x2048x1024, .f32⟩
  | 33 => ⟨S8x2048x1024, .f32⟩
  | 34 => ⟨S1x1024, .f32⟩
  | 35 => ⟨S1024, .f32⟩
  | 36 => ⟨S1x1x1024, .f32⟩
  | 37 => ⟨S8x2048x1024, .f32⟩
  | 38 => ⟨S8x2048x1024, .f32⟩
  | 39 => ⟨S8x2048x1024, .f32⟩
  | 40 => ⟨S8x2048x1024, .f32⟩
  | 41 => ⟨S1x1024, .f32⟩
  | 42 => ⟨S1024, .f32⟩
  | 43 => ⟨S1x1x1024, .f32⟩
  | 44 => ⟨S8x2048x1024, .f32⟩
  | 45 => ⟨S8x2048x1024, .f32⟩
  | 46 => ⟨S8x2048x1024, .f32⟩
  | 47 => ⟨S8x2048x1024, .f32⟩
  | 48 => ⟨S1x1024, .f32⟩
  | 49 => ⟨S1024, .f32⟩
  | 50 => ⟨S1x1x1024, .f32⟩
  | 51 => ⟨S8x2048x1024, .f32⟩
  | 52 => ⟨S8x2048x1024, .f32⟩
  | 53 => ⟨S8x2048x1024, .f32⟩
  | 54 => ⟨S8x2048x1024, .f32⟩
  | 55 => ⟨S1x1024, .f32⟩
  | 56 => ⟨S1024, .f32⟩
  | 57 => ⟨S1x1x1024, .f32⟩
  | 58 => ⟨S8x2048x1024, .f32⟩
  | 59 => ⟨S8x2048x1024, .f32⟩
  | 60 => ⟨S8x2048x1024, .f32⟩
  | 61 => ⟨S8x2048x1024, .f32⟩
  | 62 => ⟨S1x1024, .f32⟩
  | 63 => ⟨S1024, .f32⟩
  | 64 => ⟨S1x1x1024, .f32⟩
  | 65 => ⟨S8x2048x1024, .f32⟩
  | 66 => ⟨S8x2048x1024, .f32⟩
  | 67 => ⟨S8x2048x1024, .f32⟩
  | 68 => ⟨S8x2048x1024, .f32⟩
  | 69 => ⟨S1x1024, .f32⟩
  | 70 => ⟨S1024, .f32⟩
  | 71 => ⟨S1x1x1024, .f32⟩
  | 72 => ⟨S8x2048x1024, .f32⟩
  | 73 => ⟨S8x2048x1024, .f32⟩
  | 74 => ⟨S8x2048x1024, .f32⟩
  | 75 => ⟨S8x2048x1024, .f32⟩
  | 76 => ⟨S1x1024, .f32⟩
  | 77 => ⟨S1024, .f32⟩
  | 78 => ⟨S1x1x1024, .f32⟩
  | 79 => ⟨S8x2048x1024, .f32⟩
  | 80 => ⟨S8x2048x1024, .f32⟩
  | 81 => ⟨S8x2048x1024, .f32⟩
  | 82 => ⟨S8x2048x1024, .f32⟩
  | 83 => ⟨S1x1024, .f32⟩
  | 84 => ⟨S1024, .f32⟩
  | 85 => ⟨S1x1x1024, .f32⟩
  | 86 => ⟨S8x2048x1024, .f32⟩
  | 87 => ⟨S8x2048x1024, .f32⟩
  | 88 => ⟨S8x2048x1024, .f32⟩
  | 89 => ⟨S8x2048x1024, .f32⟩
  | 90 => ⟨S1x1024, .f32⟩
  | 91 => ⟨S1024, .f32⟩
  | 92 => ⟨S1x1x1024, .f32⟩
  | 93 => ⟨S8x2048x1024, .f32⟩
  | 94 => ⟨S8x2048x1024, .f32⟩
  | 95 => ⟨S8x2048x1024, .f32⟩
  | 96 => ⟨S8x2048x1024, .f32⟩
  | 97 => ⟨S1x1024, .f32⟩
  | 98 => ⟨S1024, .f32⟩
  | 99 => ⟨S1x1x1024, .f32⟩
  | 100 => ⟨S8x2048x1024, .f32⟩
  | 101 => ⟨S8x2048x1024, .f32⟩
  | 102 => ⟨S8x2048x1024, .f32⟩
  | 103 => ⟨S8x2048x1024, .f32⟩
  | 104 => ⟨S1x1024, .f32⟩
  | 105 => ⟨S1024, .f32⟩
  | 106 => ⟨S1x1x1024, .f32⟩
  | 107 => ⟨S8x2048x1024, .f32⟩
  | 108 => ⟨S8x2048x1024, .f32⟩
  | 109 => ⟨S8x2048x1024, .f32⟩
  | 110 => ⟨S8x2048x1024, .f32⟩
  | 111 => ⟨S1x1024, .f32⟩
  | 112 => ⟨S1024, .f32⟩
  | 113 => ⟨S1x1x1024, .f32⟩
  | 114 => ⟨S8x2048x1024, .f32⟩
  | 115 => ⟨S8x2048x1024, .f32⟩
  | 116 => ⟨S8x2048x1024, .f32⟩
  | 117 => ⟨S8x2048x1024, .f32⟩
  | 118 => ⟨S1x1024, .f32⟩
  | 119 => ⟨S1024, .f32⟩
  | 120 => ⟨S1x1x1024, .f32⟩
  | 121 => ⟨S8x2048x1024, .f32⟩
  | 122 => ⟨S8x2048x1024, .f32⟩
  | 123 => ⟨S8x2048x1024, .f32⟩
  | 124 => ⟨S8x2048x1024, .f32⟩
  | 125 => ⟨S1x1024, .f32⟩
  | 126 => ⟨S1024, .f32⟩
  | 127 => ⟨S1x1x1024, .f32⟩
  | _ => ⟨S8x2048x5120, .f32⟩

abbrev hbmTy0_1 (i : Nat) : BufTy := match i % 128 with
  | 0 => ⟨S8x2048x1024, .f32⟩
  | 1 => ⟨S8x2048x1024, .f32⟩
  | 2 => ⟨S8x2048x1024, .f32⟩
  | 3 => ⟨S8x2048x1024, .f32⟩
  | 4 => ⟨S1x1024, .f32⟩
  | 5 => ⟨S1024, .f32⟩
  | 6 => ⟨S1x1x1024, .f32⟩
  | 7 => ⟨S8x2048x1024, .f32⟩
  | 8 => ⟨S8x2048x1024, .f32⟩
  | 9 => ⟨S8x2048x1024, .f32⟩
  | 10 => ⟨S8x2048x1024, .f32⟩
  | 11 => ⟨S1x1024, .f32⟩
  | 12 => ⟨S1024, .f32⟩
  | 13 => ⟨S1x1x1024, .f32⟩
  | 14 => ⟨S8x2048x1024, .f32⟩
  | 15 => ⟨S8x2048x1024, .f32⟩
  | 16 => ⟨S8x2048x1024, .f32⟩
  | 17 => ⟨S8x2048x1024, .f32⟩
  | 18 => ⟨S1x1024, .f32⟩
  | 19 => ⟨S1024, .f32⟩
  | 20 => ⟨S1x1x1024, .f32⟩
  | 21 => ⟨S8x2048x1024, .f32⟩
  | 22 => ⟨S8x2048x1024, .f32⟩
  | 23 => ⟨S8x2048x1024, .f32⟩
  | 24 => ⟨S8x2048x1024, .f32⟩
  | 25 => ⟨S1x1024, .f32⟩
  | 26 => ⟨S1024, .f32⟩
  | 27 => ⟨S1x1x1024, .f32⟩
  | 28 => ⟨S8x2048x1024, .f32⟩
  | 29 => ⟨S8x2048x1024, .f32⟩
  | 30 => ⟨S8x2048x1024, .f32⟩
  | 31 => ⟨S8x2048x1024, .f32⟩
  | 32 => ⟨S1x1024, .f32⟩
  | 33 => ⟨S1024, .f32⟩
  | 34 => ⟨S1x1x1024, .f32⟩
  | 35 => ⟨S8x2048x1024, .f32⟩
  | 36 => ⟨S8x2048x1024, .f32⟩
  | 37 => ⟨S8x2048x1024, .f32⟩
  | 38 => ⟨S8x2048x1024, .f32⟩
  | 39 => ⟨S1x1024, .f32⟩
  | 40 => ⟨S1024, .f32⟩
  | 41 => ⟨S1x1x1024, .f32⟩
  | 42 => ⟨S8x2048x1024, .f32⟩
  | 43 => ⟨S8x2048x1024, .f32⟩
  | 44 => ⟨S8x2048x1024, .f32⟩
  | 45 => ⟨S8x2048x1024, .f32⟩
  | 46 => ⟨S1x1024, .f32⟩
  | 47 => ⟨S1024, .f32⟩
  | 48 => ⟨S1x1x1024, .f32⟩
  | 49 => ⟨S8x2048x1024, .f32⟩
  | 50 => ⟨S8x2048x1024, .f32⟩
  | 51 => ⟨S8x2048x1024, .f32⟩
  | 52 => ⟨S8x2048x1024, .f32⟩
  | 53 => ⟨S1x1024, .f32⟩
  | 54 => ⟨S1024, .f32⟩
  | 55 => ⟨S1x1x1024, .f32⟩
  | 56 => ⟨S8x2048x1024, .f32⟩
  | 57 => ⟨S8x2048x1024, .f32⟩
  | 58 => ⟨S8x2048x1024, .f32⟩
  | 59 => ⟨S8x2048x1024, .f32⟩
  | 60 => ⟨S1x1024, .f32⟩
  | 61 => ⟨S1024, .f32⟩
  | 62 => ⟨S1x1x1024, .f32⟩
  | 63 => ⟨S8x2048x1024, .f32⟩
  | 64 => ⟨S8x2048x1024, .f32⟩
  | 65 => ⟨S8x2048x1024, .f32⟩
  | 66 => ⟨S8x2048x1024, .f32⟩
  | 67 => ⟨S1x1024, .f32⟩
  | 68 => ⟨S1024, .f32⟩
  | 69 => ⟨S1x1x1024, .f32⟩
  | 70 => ⟨S8x2048x1024, .f32⟩
  | 71 => ⟨S8x2048x1024, .f32⟩
  | 72 => ⟨S8x2048x1024, .f32⟩
  | 73 => ⟨S8x2048x1024, .f32⟩
  | 74 => ⟨S1x1024, .f32⟩
  | 75 => ⟨S1024, .f32⟩
  | 76 => ⟨S1x1x1024, .f32⟩
  | 77 => ⟨S8x2048x1024, .f32⟩
  | 78 => ⟨S8x2048x1024, .f32⟩
  | 79 => ⟨S8x2048x1024, .f32⟩
  | 80 => ⟨S8x2048x1024, .f32⟩
  | 81 => ⟨S1x1024, .f32⟩
  | 82 => ⟨S1024, .f32⟩
  | 83 => ⟨S1x1x1024, .f32⟩
  | 84 => ⟨S8x2048x1024, .f32⟩
  | 85 => ⟨S8x2048x1024, .f32⟩
  | 86 => ⟨S8x2048x1024, .f32⟩
  | 87 => ⟨S8x2048x1024, .f32⟩
  | 88 => ⟨S1x1024, .f32⟩
  | 89 => ⟨S1024, .f32⟩
  | 90 => ⟨S1x1x1024, .f32⟩
  | 91 => ⟨S8x2048x1024, .f32⟩
  | 92 => ⟨S8x2048x1024, .f32⟩
  | 93 => ⟨S8x2048x1024, .f32⟩
  | 94 => ⟨S8x2048x1024, .f32⟩
  | 95 => ⟨S1x1024, .f32⟩
  | 96 => ⟨S1024, .f32⟩
  | 97 => ⟨S1x1x1024, .f32⟩
  | 98 => ⟨S8x2048x1024, .f32⟩
  | 99 => ⟨S8x2048x1024, .f32⟩
  | 100 => ⟨S8x2048x1024, .f32⟩
  | 101 => ⟨S8x2048x1024, .f32⟩
  | 102 => ⟨S1x1024, .f32⟩
  | 103 => ⟨S1024, .f32⟩
  | 104 => ⟨S1x1x1024, .f32⟩
  | 105 => ⟨S8x2048x1024, .f32⟩
  | 106 => ⟨S8x2048x1024, .f32⟩
  | 107 => ⟨S8x2048x1024, .f32⟩
  | 108 => ⟨S1x1x1024, .f32⟩
  | 109 => ⟨S8x2048x1024, .f32⟩
  | 110 => ⟨S8x2048x1024, .f32⟩
  | 111 => ⟨S_, .f32⟩
  | 112 => ⟨S8x2048, .f32⟩
  | 113 => ⟨S8x2048x1, .f32⟩
  | 114 => ⟨S_, .f32⟩
  | 115 => ⟨S8x2048x1, .f32⟩
  | 116 => ⟨S8x2048x1, .f32⟩
  | 117 => ⟨S8x2048x1024, .f32⟩
  | 118 => ⟨S8x2048x1024, .f32⟩
  | 119 => ⟨S8x2048x1024, .f32⟩
  | 120 => ⟨S_, .f32⟩
  | 121 => ⟨S8x2048, .f32⟩
  | 122 => ⟨S8x2048x1, .f32⟩
  | 123 => ⟨S_, .f32⟩
  | 124 => ⟨S8x2048x1, .f32⟩
  | 125 => ⟨S8x2048x1, .f32⟩
  | 126 => ⟨S8x2048x1024, .f32⟩
  | 127 => ⟨S8x2048x1024, .f32⟩
  | _ => ⟨S8x2048x5120, .f32⟩

abbrev hbmTy0_2 (i : Nat) : BufTy := match i % 128 with
  | 0 => ⟨S_, .f32⟩
  | 1 => ⟨S8x2048x1, .f32⟩
  | 2 => ⟨S8x2048x1, .f32⟩
  | 3 => ⟨S8x2048x1, .f32⟩
  | 4 => ⟨S8x2048x1024, .f32⟩
  | 5 => ⟨S8x2048x1024, .f32⟩
  | 6 => ⟨S1x1x1024, .f32⟩
  | 7 => ⟨S8x2048x1024, .f32⟩
  | 8 => ⟨S8x2048x1024, .f32⟩
  | 9 => ⟨S1x1x1024, .f32⟩
  | 10 => ⟨S8x2048x1024, .f32⟩
  | 11 => ⟨S8x2048x1024, .f32⟩
  | 12 => ⟨S8x2048x1024, .f32⟩
  | 13 => ⟨S8x2048x1024, .f32⟩
  | 14 => ⟨S_, .f32⟩
  | 15 => ⟨S8x2048x1024, .f32⟩
  | 16 => ⟨S8x2048x1024, .f32⟩
  | 17 => ⟨S_, .f32⟩
  | 18 => ⟨S8x2048x1024, .f32⟩
  | 19 => ⟨S8x2048x1024, .f32⟩
  | 20 => ⟨S8x2048x1024, .f32⟩
  | 21 => ⟨S8x2048x1024, .bf16⟩
  | _ => ⟨S8x2048x5120, .f32⟩

abbrev hbmTy (i : Nat) : BufTy := match i / 128 with
  | 0 => hbmTy0_0 i
  | 1 => hbmTy0_1 i
  | 2 => hbmTy0_2 i
  | _ => ⟨S8x2048x5120, .f32⟩

abbrev bufTy : (tb : Table) → Fin (tcTables nBuf tb) → BufTy
  | .hbm, ⟨i, _⟩ => hbmTy i
  | _, _ => ⟨S8x2048x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_call0_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_cst_1 : Ref sig .tc := ⟨.hbm, 239, rfl⟩
abbrev main_v230 : Ref sig .tc := ⟨.hbm, 240, rfl⟩
abbrev main_v231 : Ref sig .tc := ⟨.hbm, 241, rfl⟩
abbrev main_cst_2 : Ref sig .tc := ⟨.hbm, 242, rfl⟩
abbrev main_v232 : Ref sig .tc := ⟨.hbm, 243, rfl⟩
abbrev main_v233 : Ref sig .tc := ⟨.hbm, 244, rfl⟩
abbrev main_v234 : Ref sig .tc := ⟨.hbm, 245, rfl⟩
abbrev main_v235 : Ref sig .tc := ⟨.hbm, 246, rfl⟩
abbrev main_v236 : Ref sig .tc := ⟨.hbm, 247, rfl⟩
abbrev main_cst_3 : Ref sig .tc := ⟨.hbm, 248, rfl⟩
abbrev main_v237 : Ref sig .tc := ⟨.hbm, 249, rfl⟩
abbrev main_v238 : Ref sig .tc := ⟨.hbm, 250, rfl⟩
abbrev main_cst_4 : Ref sig .tc := ⟨.hbm, 251, rfl⟩
abbrev main_v239 : Ref sig .tc := ⟨.hbm, 252, rfl⟩
abbrev main_v240 : Ref sig .tc := ⟨.hbm, 253, rfl⟩
abbrev main_v241 : Ref sig .tc := ⟨.hbm, 254, rfl⟩
abbrev main_v242 : Ref sig .tc := ⟨.hbm, 255, rfl⟩
abbrev main_cst_5 : Ref sig .tc := ⟨.hbm, 256, rfl⟩
abbrev main_v243 : Ref sig .tc := ⟨.hbm, 257, rfl⟩
abbrev main_v244 : Ref sig .tc := ⟨.hbm, 258, rfl⟩
abbrev main_v245 : Ref sig .tc := ⟨.hbm, 259, rfl⟩
abbrev main_v246 : Ref sig .tc := ⟨.hbm, 260, rfl⟩
abbrev main_v247 : Ref sig .tc := ⟨.hbm, 261, rfl⟩
abbrev main_v248 : Ref sig .tc := ⟨.hbm, 262, rfl⟩
abbrev main_v249 : Ref sig .tc := ⟨.hbm, 263, rfl⟩
abbrev main_v250 : Ref sig .tc := ⟨.hbm, 264, rfl⟩
abbrev main_v251 : Ref sig .tc := ⟨.hbm, 265, rfl⟩
abbrev main_v252 : Ref sig .tc := ⟨.hbm, 266, rfl⟩
abbrev main_v253 : Ref sig .tc := ⟨.hbm, 267, rfl⟩
abbrev main_call1_v0 : Ref sig .tc := ⟨.hbm, 268, rfl⟩
abbrev main_call1_v1 : Ref sig .tc := ⟨.hbm, 269, rfl⟩
abbrev main_call1_cst : Ref sig .tc := ⟨.hbm, 270, rfl⟩
abbrev main_call1_v2 : Ref sig .tc := ⟨.hbm, 271, rfl⟩
abbrev main_call1_v3 : Ref sig .tc := ⟨.hbm, 272, rfl⟩
abbrev main_call1_cst_0 : Ref sig .tc := ⟨.hbm, 273, rfl⟩
abbrev main_call1_v4 : Ref sig .tc := ⟨.hbm, 274, rfl⟩
abbrev main_call1_v5 : Ref sig .tc := ⟨.hbm, 275, rfl⟩
abbrev main_v254 : Ref sig .tc := ⟨.hbm, 276, rfl⟩
abbrev main_v255 : Ref sig .tc := ⟨.hbm, 277, rfl⟩

abbrev nD : Nat := 1
abbrev τ : Topo := Topo.v7x

variable {F : FTy → Type} [FloatOps F]
-- ==== Proof.Words.lean ====
/- Words of the launch as natural numbers: the sums, products, shifts and choices that the kernel's offsets are made of,
   at the sizes that occur. -/
module

public import proofs.«01_k».proof.Defs
public import Idealize.ShloMosaic.Lib.Affine
public import Idealize.ShloMosaic.Lib.NatWords

@[expose] public section

namespace Cert.KernelIdeal.W

open Idealize.ShloMosaic

theorem addi_toNat (a b : BitVec 32) (h : a.toNat + b.toNat < 2 ^ 32) : (Scalar.addi a b).toNat = a.toNat + b.toNat := by
  show (a + b).toNat = _
  rw [BitVec.toNat_add, Nat.mod_eq_of_lt h]

theorem muli_toNat (a b : BitVec 32) (h : a.toNat * b.toNat < 2 ^ 32) : (Scalar.muli a b).toNat = a.toNat * b.toNat := by
  show (a * b).toNat = _
  rw [BitVec.toNat_mul, Nat.mod_eq_of_lt h]

theorem subi_toNat (a b : BitVec 32) (h : b.toNat ≤ a.toNat) : (Scalar.subi a b).toNat = a.toNat - b.toNat := by
  show (a - b).toNat = _
  rw [BitVec.toNat_sub]; have := a.isLt; have := b.isLt; omega

theorem andi1_toNat (a : BitVec 32) : (Scalar.andi a 1#32).toNat = a.toNat % 2 := by
  show (a &&& 1#32).toNat = _
  rw [BitVec.toNat_and]; exact Nat.and_one_is_mod _

theorem andi3_toNat (a : BitVec 32) : (Scalar.andi a 3#32).toNat = a.toNat % 4 := by
  show (a &&& 3#32).toNat = _
  rw [BitVec.toNat_and]; exact Nat.and_two_pow_sub_one_eq_mod a.toNat 2

theorem shr3_toNat (a : BitVec 32) : (Scalar.shrui a 3#32).toNat = a.toNat / 8 := by
  show (if _ then _ else _ : BitVec 32).toNat = _
  simp [Nat.shiftRight_eq_div_pow]

theorem shr2_toNat (a : BitVec 32) : (Scalar.shrui a 2#32).toNat = a.toNat / 4 := by
  show (if _ then _ else _ : BitVec 32).toNat = _
  simp [Nat.shiftRight_eq_div_pow]

theorem toInt_small (a : BitVec 32) (h : a.toNat < 2 ^ 31) : a.toInt = a.toNat := by
  rw [BitVec.toInt_eq_toNat_cond]; split <;> omega

theorem min15_toNat (a : BitVec 32) (h : a.toNat < 2 ^ 31) : (Scalar.minsi a 15#32).toNat = min a.toNat 15 := by
  show (if _ then _ else _ : BitVec 32).toNat = _
  have e := toInt_small a h
  have e' : (15#32 : BitVec 32).toInt = 15 := by decide
  split
  · rename_i hc
    simp only [BitVec.sle, BitVec.slt, decide_eq_true_eq, e, e'] at hc
    omega
  · rename_i hc
    simp only [BitVec.sle, BitVec.slt, decide_eq_true_eq, e, e'] at hc
    show 15 = _
    omega

theorem div1_toNat (a : BitVec 32) : (Scalar.divsi a 1#32) = a := by
  have h : ¬ IntOp.SDivCorner a 1#32 := by
    unfold IntOp.SDivCorner; simp
  show (if _ then _ else _ : BitVec 32) = a
  rw [if_neg h]; simp

theorem ofNat_toNat (n : ℕ) (h : n < 2 ^ 32) : (BitVec.ofNat 32 n).toNat = n := by
  rw [BitVec.toNat_ofNat, Nat.mod_eq_of_lt h]

theorem iv01_toNat (k : ℕ) (h : k < 2 ^ 32) : (Scf.iv 0#32 1#32 k : BitVec 32).toNat = k := by
  simp only [Scf.iv]
  simp [Nat.mod_eq_of_lt h]
  omega

theorem iv1_toNat (a : BitVec 32) (k : ℕ) (h : a.toNat + k < 2 ^ 32) : (Scf.iv a 1#32 k : BitVec 32).toNat = a.toNat + k := by
  simp only [Scf.iv]
  have hk : k < 2 ^ 32 := by omega
  simp [BitVec.toNat_add, Nat.mod_eq_of_lt hk]
  omega

theorem cast_toNat (a : BitVec 32) : (Scalar.indexCast a : Index).toNat = a.toNat := rfl

/-! ## The grid's step -/

/-- The number of a grid point: four table blocks to a block of tokens. -/
def stepN (i : grid0.Coords) : ℕ := 4 * (i 0).val + (i 1).val

theorem i0_lt (i : grid0.Coords) : (i 0).val < 128 := (i 0).isLt
theorem i1_lt (i : grid0.Coords) : (i 1).val < 4 := (i 1).isLt

theorem step_toNat (i : grid0.Coords) :
    (Scalar.addi (Scalar.muli (BitVec.ofNat 32 (i 0).val) 4#32) (BitVec.ofNat 32 (i 1).val)).toNat = stepN i := by
  have h0 := i0_lt i; have h1 := i1_lt i
  have e0 : (BitVec.ofNat 32 (i 0).val).toNat = (i 0).val := ofNat_toNat _ (by omega)
  have e1 : (BitVec.ofNat 32 (i 1).val).toNat = (i 1).val := ofNat_toNat _ (by omega)
  have e4 : (4#32 : BitVec 32).toNat = 4 := by decide
  rw [addi_toNat, muli_toNat, e0, e1, e4]; unfold stepN; omega
  · rw [e0, e4]; omega
  · rw [muli_toNat, e0, e1, e4]; omega
    rw [e0, e4]; omega

theorem stepN_lt (i : grid0.Coords) : stepN i < 512 := by
  have := i0_lt i; have := i1_lt i; unfold stepN; omega

theorem trips1 : k0_t1_loop.trips = 128 := by decide
theorem trips4 : k0_t4_loop.trips = 32 := by decide
theorem t1_lt (k : Fin k0_t1_loop.trips) : k.val < 128 := Nat.lt_of_lt_of_eq k.isLt trips1

theorem vec1_congr {a b : ℕ} (h : a = b) : (![a] : Fin 1 → ℕ) = ![b] := by rw [h]
theorem vec2_congr {a b : ℕ} (h : a = b) : (![a, 0] : Fin 2 → ℕ) = ![b, 0] := by rw [h]
theorem vec3_congr {a b c d : ℕ} (h : a = b) (h' : c = d) : (![a, c, 0] : Fin 3 → ℕ) = ![b, d, 0] := by rw [h, h']

section Forms
variable (i : grid0.Coords)

/-- The group of list words that step `s` reads: its table block's lists, its block of tokens. -/
def grpE (s : ℕ) : ℕ := ((s % 4) * 16384 + (s / 4) * 128) * 128
/-- The group of start words that step `s` reads. -/
def grpS (s : ℕ) : ℕ := (s / 4) * 1024

theorem off1 : k0_off1 i = ![stepN i % 2, 0] := by
  unfold k0_off1; refine vec2_congr ?_; rw [andi1_toNat, step_toNat]
theorem off2 : k0_off2 i = ![stepN i % 2 * 16384] := by
  unfold k0_off2; refine vec1_congr ?_
  have e : (16384#32 : BitVec 32).toNat = 16384 := by decide
  have := stepN_lt i
  rw [muli_toNat, andi1_toNat, step_toNat, e]; rw [andi1_toNat, step_toNat, e]; omega
theorem off3 : k0_off3 i = ![grpE (stepN i)] := by
  unfold k0_off3; refine vec1_congr ?_
  have e : (16384#32 : BitVec 32).toNat = 16384 := by decide
  have e' : (128#32 : BitVec 32).toNat = 128 := by decide
  have hs := stepN_lt i
  have hv := step_toNat i
  generalize Scalar.addi (Scalar.muli (BitVec.ofNat 32 (i 0).val) 4#32) (BitVec.ofNat 32 (i 1).val) = v at hv
  have a1 : (Scalar.muli (Scalar.andi v 3#32) 16384#32).toNat = stepN i % 4 * 16384 := by
    rw [muli_toNat, andi3_toNat, hv, e]; rw [andi3_toNat, hv, e]; omega
  have a2 : (Scalar.muli (Scalar.shrui v 2#32) 128#32).toNat = stepN i / 4 * 128 := by
    rw [muli_toNat, shr2_toNat, hv, e']; rw [shr2_toNat, hv, e']; omega
  have a3 := addi_toNat _ _ (show (Scalar.muli (Scalar.andi v 3#32) 16384#32).toNat + (Scalar.muli (Scalar.shrui v 2#32) 128#32).toNat < 2 ^ 32 by omega)
  rw [muli_toNat, a3, a1, a2, e']; rfl
  rw [a3, a1, a2, e']; omega
theorem off4 : k0_off4 i = ![stepN i % 2, 1] := by
  unfold k0_off4; show (![_, 1] : Fin 2 → ℕ) = _
  rw [andi1_toNat, step_toNat]
theorem off5 : k0_off5 i = ![stepN i % 2 * 1024] := by
  unfold k0_off5; refine vec1_congr ?_
  have e : (1024#32 : BitVec 32).toNat = 1024 := by decide
  have := stepN_lt i
  rw [muli_toNat, andi1_toNat, step_toNat, e]; rw [andi1_toNat, step_toNat, e]; omega
theorem off6 : k0_off6 i = ![grpS (stepN i)] := by
  unfold k0_off6; refine vec1_congr ?_
  have e : (1024#32 : BitVec 32).toNat = 1024 := by decide
  have := stepN_lt i
  rw [muli_toNat, shr2_toNat, step_toNat, e]; rfl
  rw [shr2_toNat, step_toNat, e]; omega

theorem succ_toNat : (Scalar.addi (Scalar.addi (Scalar.muli (BitVec.ofNat 32 (i 0).val) 4#32) (BitVec.ofNat 32 (i 1).val)) 1#32).toNat = stepN i + 1 := by
  have e : (1#32 : BitVec 32).toNat = 1 := by decide
  have := stepN_lt i
  rw [addi_toNat, step_toNat, e]; rw [step_toNat, e]; omega
theorem other_toNat : (Scalar.subi 1#32 (Scalar.andi (Scalar.addi (Scalar.muli (BitVec.ofNat 32 (i 0).val) 4#32) (BitVec.ofNat 32 (i 1).val)) 1#32)).toNat = (stepN i + 1) % 2 := by
  have e : (1#32 : BitVec 32).toNat = 1 := by decide
  rw [subi_toNat, andi1_toNat, step_toNat, e]; omega
  rw [andi1_toNat, step_toNat, e]; omega

theorem off7 : k0_off7 i = ![(stepN i + 1) % 2, 0] := by
  unfold k0_off7; refine vec2_congr ?_; rw [other_toNat]
theorem off8 : k0_off8 i = ![(stepN i + 1) % 2 * 16384] := by
  unfold k0_off8; refine vec1_congr ?_
  have e : (16384#32 : BitVec 32).toNat = 16384 := by decide
  rw [muli_toNat, other_toNat, e]; rw [other_toNat, e]; omega
theorem off9 : k0_off9 i = ![grpE (stepN i + 1)] := by
  unfold k0_off9; refine vec1_congr ?_
  have e : (16384#32 : BitVec 32).toNat = 16384 := by decide
  have e' : (128#32 : BitVec 32).toNat = 128 := by decide
  have hs := stepN_lt i
  have hv := succ_toNat i
  generalize Scalar.addi (Scalar.addi (Scalar.muli (BitVec.ofNat 32 (i 0).val) 4#32) (BitVec.ofNat 32 (i 1).val)) 1#32 = v at hv
  have a1 : (Scalar.muli (Scalar.andi v 3#32) 16384#32).toNat = (stepN i + 1) % 4 * 16384 := by
    rw [muli_toNat, andi3_toNat, hv, e]; rw [andi3_toNat, hv, e]; omega
  have a2 : (Scalar.muli (Scalar.shrui v 2#32) 128#32).toNat = (stepN i + 1) / 4 * 128 := by
    rw [muli_toNat, shr2_toNat, hv, e']; rw [shr2_toNat, hv, e']; omega
  have a3 := addi_toNat _ _ (show (Scalar.muli (Scalar.andi v 3#32) 16384#32).toNat + (Scalar.muli (Scalar.shrui v 2#32) 128#32).toNat < 2 ^ 32 by omega)
  rw [muli_toNat, a3, a1, a2, e']; rfl
  rw [a3, a1, a2, e']; omega
theorem off10 : k0_off10 i = ![(stepN i + 1) % 2, 1] := by
  unfold k0_off10; show (![_, 1] : Fin 2 → ℕ) = _
  rw [other_toNat]
theorem off11 : k0_off11 i = ![(stepN i + 1) % 2 * 1024] := by
  unfold k0_off11; refine vec1_congr ?_
  have e : (1024#32 : BitVec 32).toNat = 1024 := by decide
  rw [muli_toNat, other_toNat, e]; rw [other_toNat, e]; omega
theorem off12 : k0_off12 i = ![grpS (stepN i + 1)] := by
  unfold k0_off12; refine vec1_congr ?_
  have e : (1024#32 : BitVec 32).toNat = 1024 := by decide
  have := stepN_lt i
  rw [muli_toNat, shr2_toNat, succ_toNat, e]; rfl
  rw [shr2_toNat, succ_toNat, e]; omega
theorem off13 : k0_off13 i = ![stepN i % 2, 0] := off1 i
theorem off14 : k0_off14 i = ![stepN i % 2 * 16384] := off2 i
theorem off15 : k0_off15 i = ![grpE (stepN i)] := off3 i
theorem off16 : k0_off16 i = ![stepN i % 2, 1] := off4 i
theorem off17 : k0_off17 i = ![stepN i % 2 * 1024] := off5 i
theorem off18 : k0_off18 i = ![grpS (stepN i)] := off6 i

variable (k : Fin k0_t1_loop.trips)

theorem row_toNat : (Scf.iv 0#32 1#32 k.val : BitVec 32).toNat = k.val := iv01_toNat _ (by have := t1_lt k; omega)

theorem startWord_toNat :
    (Scalar.addi (Scalar.addi (Scalar.muli (Scalar.andi (Scalar.addi (Scalar.muli (BitVec.ofNat 32 (i 0).val) 4#32) (BitVec.ofNat 32 (i 1).val)) 1#32) 1024#32) (BitVec.ofNat 32 (i 1).val))
      (Scalar.muli (Scf.iv 0#32 1#32 k.val) 8#32)).toNat = stepN i % 2 * 1024 + (i 1).val + 8 * k.val := by
  have e : (1024#32 : BitVec 32).toNat = 1024 := by decide
  have e8 : (8#32 : BitVec 32).toNat = 8 := by decide
  have h1 := i1_lt i; have hk := t1_lt k
  have e1 : (BitVec.ofNat 32 (i 1).val).toNat = (i 1).val := ofNat_toNat _ (by omega)
  have a1 := muli_toNat (Scalar.andi (Scalar.addi (Scalar.muli (BitVec.ofNat 32 (i 0).val) 4#32) (BitVec.ofNat 32 (i 1).val)) 1#32) 1024#32
    (by rw [andi1_toNat, step_toNat, e]; omega)
  rw [andi1_toNat, step_toNat, e] at a1
  have a2 := addi_toNat _ (BitVec.ofNat 32 (i 1).val) (by rw [a1, e1]; omega)
  rw [a1, e1] at a2
  have a3 := muli_toNat (Scf.iv 0#32 1#32 k.val) 8#32 (by rw [row_toNat, e8]; omega)
  rw [row_toNat, e8] at a3
  rw [addi_toNat, a2, a3]; omega
  rw [a2, a3]; omega

theorem off19 : k0_off19 i k = ![stepN i % 2 * 1024 + (i 1).val + 8 * k.val] := by
  unfold k0_off19; refine vec1_congr ?_; rw [cast_toNat, startWord_toNat]
theorem off20 : k0_off20 i k = ![stepN i % 2 * 1024 + (i 1).val + 8 * k.val + 1] := by
  unfold k0_off20; refine vec1_congr ?_
  have e : (1#32 : BitVec 32).toNat = 1 := by decide
  have h1 := i1_lt i; have hk := t1_lt k
  rw [cast_toNat, addi_toNat, startWord_toNat, e]; rw [startWord_toNat, e]; omega
theorem off21 : k0_off21 k = ![k.val, 0, 0] := by
  unfold k0_off21; exact vec3_congr (by rw [cast_toNat, row_toNat]) rfl

theorem rowBase_toNat :
    (Scalar.addi (Scalar.muli (Scalar.andi (Scalar.addi (Scalar.muli (BitVec.ofNat 32 (i 0).val) 4#32) (BitVec.ofNat 32 (i 1).val)) 1#32) 16384#32)
      (Scalar.muli (Scf.iv 0#32 1#32 k.val) 128#32)).toNat = stepN i % 2 * 16384 + 128 * k.val := by
  have e : (16384#32 : BitVec 32).toNat = 16384 := by decide
  have e8 : (128#32 : BitVec 32).toNat = 128 := by decide
  have hk := t1_lt k
  have a1 := muli_toNat (Scalar.andi (Scalar.addi (Scalar.muli (BitVec.ofNat 32 (i 0).val) 4#32) (BitVec.ofNat 32 (i 1).val)) 1#32) 16384#32
    (by rw [andi1_toNat, step_toNat, e]; omega)
  rw [andi1_toNat, step_toNat, e] at a1
  have a3 := muli_toNat (Scf.iv 0#32 1#32 k.val) 128#32 (by rw [row_toNat, e8]; omega)
  rw [row_toNat, e8] at a3
  rw [addi_toNat, a1, a3]; omega
  rw [a1, a3]; omega

/-- A list word of token `k`, chunk `q` (a word at most 15), place `r`. -/
theorem listWord_toNat (q : BitVec 32) (n : ℕ) (hq : q.toNat = n) (hn : n ≤ 15) (r : ℕ) (hr : r < 8) :
    (Scalar.addi (Scalar.addi (Scalar.addi (Scalar.muli (Scalar.andi (Scalar.addi (Scalar.muli (BitVec.ofNat 32 (i 0).val) 4#32) (BitVec.ofNat 32 (i 1).val)) 1#32) 16384#32)
      (Scalar.muli (Scf.iv 0#32 1#32 k.val) 128#32)) (Scalar.muli q 8#32)) (BitVec.ofNat 32 r)).toNat = stepN i % 2 * 16384 + 128 * k.val + 8 * n + r := by
  have e8 : (8#32 : BitVec 32).toNat = 8 := by decide
  have hk := t1_lt k
  have a0 := rowBase_toNat i k
  have a1 := muli_toNat q 8#32 (by rw [hq, e8]; omega)
  rw [hq, e8] at a1
  have er : (BitVec.ofNat 32 r).toNat = r := ofNat_toNat _ (by omega)
  have a2 := addi_toNat _ (Scalar.muli q 8#32) (by rw [a0, a1]; omega)
  rw [a0, a1] at a2
  rw [addi_toNat, a2, er]; omega
  rw [a2, er]; omega

theorem off22 (v42 : BitVec 32) (h : v42.toNat ≤ 128) (r : ℕ) (hr : r < 8) :
    k0_off22 i k v42 (BitVec.ofNat 32 r) = ![stepN i % 2 * 16384 + 128 * k.val + 8 * min (v42.toNat / 8) 15 + r] := by
  unfold k0_off22; refine vec1_congr ?_; rw [cast_toNat]
  exact listWord_toNat i k _ _ (by rw [min15_toNat, shr3_toNat]; rw [shr3_toNat]; omega) (by omega) r hr

/-- The number of chunks that hold places between the two starts. -/
def nch (s0 s1 : ℕ) : ℕ := if s0 < s1 then (s1 + 7) / 8 - s0 / 8 else 0

theorem mul1 (a : BitVec 32) : Scalar.muli a 1#32 = a := by show a * 1#32 = a; simp

section T2
variable (v42 v45 : BitVec 32) (h0 : v42.toNat ≤ 128) (h1 : v45.toNat ≤ 128)
include h0 h1

theorem end_toNat : (Scalar.select (Scalar.cmpi .sgt v45 v42) (Scalar.shrui (Scalar.addi v45 7#32) 3#32) (Scalar.shrui v42 3#32)).toNat
    = v42.toNat / 8 + nch v42.toNat v45.toNat := by
  have e7 : (7#32 : BitVec 32).toNat = 7 := by decide
  have a := addi_toNat v45 7#32 (by rw [e7]; omega)
  rw [e7] at a
  have i0 := toInt_small v42 (by omega)
  have i1 := toInt_small v45 (by omega)
  unfold nch
  by_cases h : v42.toNat < v45.toNat
  · have hc : Scalar.cmpi .sgt v45 v42 = 1#1 := by
      show BitVec.ofBool (BitVec.slt v42 v45) = 1#1
      have : BitVec.slt v42 v45 = true := by simp only [BitVec.slt, i0, i1, decide_eq_true_eq]; omega
      rw [this]; rfl
    rw [hc, if_pos h]
    show (Scalar.shrui (Scalar.addi v45 7#32) 3#32).toNat = _
    rw [shr3_toNat, a]; omega
  · have hc : Scalar.cmpi .sgt v45 v42 = 0#1 := by
      show BitVec.ofBool (BitVec.slt v42 v45) = 0#1
      have : BitVec.slt v42 v45 = false := by simp only [BitVec.slt, i0, i1, decide_eq_false_iff_not]; omega
      rw [this]; rfl
    rw [hc, if_neg h]
    show (Scalar.shrui v42 3#32).toNat = _
    rw [shr3_toNat]; omega

theorem count_toNat : (Scalar.subi (Scalar.select (Scalar.cmpi .sgt v45 v42) (Scalar.shrui (Scalar.addi v45 7#32) 3#32) (Scalar.shrui v42 3#32)) (Scalar.shrui v42 3#32)).toNat
    = nch v42.toNat v45.toNat := by
  rw [subi_toNat, end_toNat v42 v45 h0 h1, shr3_toNat]; omega
  rw [end_toNat v42 v45 h0 h1, shr3_toNat]; omega

theorem nch_le : v42.toNat / 8 + nch v42.toNat v45.toNat ≤ 16 := by
  unfold nch; split <;> omega

theorem lb2_toNat : (k0_t2_loop v42 v45).lb.toNat = v42.toNat / 8 := shr3_toNat v42
theorem ub2_toNat : (k0_t2_loop v42 v45).ub.toNat = v42.toNat / 8 + nch v42.toNat v45.toNat := by
  have c := count_toNat v42 v45 h0 h1
  have := nch_le v42 v45 h0 h1
  show (Scalar.addi (Scalar.shrui v42 3#32) (Scalar.muli (Scalar.divsi _ 1#32) 1#32)).toNat = _
  rw [mul1, div1_toNat, addi_toNat, shr3_toNat, c]
  rw [shr3_toNat, c]; omega
theorem lb3_toNat : (k0_t3_loop v42 v45).lb.toNat = v42.toNat / 8 + nch v42.toNat v45.toNat := ub2_toNat v42 v45 h0 h1
theorem ub3_toNat : (k0_t3_loop v42 v45).ub.toNat = v42.toNat / 8 + nch v42.toNat v45.toNat := by
  have c := count_toNat v42 v45 h0 h1
  have := nch_le v42 v45 h0 h1
  show (Scalar.addi (Scalar.shrui v42 3#32) _).toNat = _
  rw [addi_toNat, shr3_toNat, c]
  rw [shr3_toNat, c]; omega

theorem trips2 : (k0_t2_loop v42 v45).trips = nch v42.toNat v45.toNat := by
  have a := lb2_toNat v42 v45 h0 h1
  have b := ub2_toNat v42 v45 h0 h1
  have d := nch_le v42 v45 h0 h1
  show Scf.trips (k0_t2_loop v42 v45).lb (k0_t2_loop v42 v45).ub 1#32 = _
  unfold Scf.trips
  rw [toInt_small (Scf.Loop.lb _) (by omega), toInt_small (Scf.Loop.ub _) (by omega), a, b, show (1#32 : BitVec 32).toInt = 1 by decide]
  omega
theorem trips3 : (k0_t3_loop v42 v45).trips = 0 := by
  have a := lb3_toNat v42 v45 h0 h1
  have b := ub3_toNat v42 v45 h0 h1
  have d := nch_le v42 v45 h0 h1
  show Scf.trips (k0_t3_loop v42 v45).lb (k0_t3_loop v42 v45).ub 1#32 = _
  unfold Scf.trips
  rw [toInt_small (Scf.Loop.lb _) (by omega), toInt_small (Scf.Loop.ub _) (by omega), a, b, show (1#32 : BitVec 32).toInt = 1 by decide]
  omega
theorem ok2 : (k0_t2_loop v42 v45).OK := by
  have a := lb2_toNat v42 v45 h0 h1
  have d := nch_le v42 v45 h0 h1
  have t := trips2 v42 v45 h0 h1
  refine ⟨by show 0 < (1#32 : BitVec 32).toInt; decide, ?_⟩
  show (k0_t2_loop v42 v45).lb.toInt + (k0_t2_loop v42 v45).trips * (1#32 : BitVec 32).toInt < _
  rw [t, toInt_small _ (by rw [a]; omega), a, show (1#32 : BitVec 32).toInt = 1 by decide]
  omega
theorem ok3 : (k0_t3_loop v42 v45).OK := by
  have a := lb3_toNat v42 v45 h0 h1
  have d := nch_le v42 v45 h0 h1
  have t := trips3 v42 v45 h0 h1
  refine ⟨by show 0 < (1#32 : BitVec 32).toInt; decide, ?_⟩
  show (k0_t3_loop v42 v45).lb.toInt + (k0_t3_loop v42 v45).trips * (1#32 : BitVec 32).toInt < _
  rw [t, toInt_small _ (by rw [a]; omega), a, show (1#32 : BitVec 32).toInt = 1 by decide]
  omega

/-- The chunk number of trip `j`, as a word. -/
theorem iv2_toNat (j : ℕ) (hj : j ≤ nch v42.toNat v45.toNat) : (Scf.iv (Scalar.shrui v42 3#32) 1#32 j : BitVec 32).toNat = v42.toNat / 8 + j := by
  have d := nch_le v42 v45 h0 h1
  rw [iv1_toNat, shr3_toNat]; rw [shr3_toNat]; omega

theorem off32 (j : Fin (k0_t2_loop v42 v45).trips) (r : ℕ) (hr : r < 8) :
    k0_off32 i k v42 v45 j (BitVec.ofNat 32 r) = ![stepN i % 2 * 16384 + 128 * k.val + 8 * min (v42.toNat / 8 + j.val + 1) 15 + r] := by
  have e1 : (1#32 : BitVec 32).toNat = 1 := by decide
  have d := nch_le v42 v45 h0 h1
  have hj : j.val < nch v42.toNat v45.toNat := Nat.lt_of_lt_of_eq j.isLt (trips2 v42 v45 h0 h1)
  have a := iv2_toNat v42 v45 h0 h1 j.val (by omega)
  have b := addi_toNat _ 1#32 (by rw [a, e1]; omega)
  rw [a, e1] at b
  unfold k0_off32; refine vec1_congr ?_; rw [cast_toNat]
  exact listWord_toNat i k _ _ (by rw [min15_toNat, b]; rw [b]; omega) (by omega) r hr

theorem chk2 : k0_chk2 i k v42 v45 := by
  refine ⟨ok2 v42 v45 h0 h1, ?_, ok3 v42 v45 h0 h1, ?_⟩
  · intro j r a
    have ha : a = 0 := Subsingleton.elim _ _
    subst ha
    have e := congrFun (off32 i k v42 v45 h0 h1 j r.val r.isLt) 0
    have hk := t1_lt k; have hr := r.isLt
    rw [e]
    show stepN i % 2 * 16384 + 128 * k.val + 8 * min (v42.toNat / 8 + j.val + 1) 15 + r.val + 1 ≤ 32768
    omega
  · intro j
    exact absurd (Nat.lt_of_lt_of_eq j.isLt (trips3 v42 v45 h0 h1)) (by omega)

end T2

theorem chk1 (v42 : BitVec 32) (h0 : v42.toNat ≤ 128) : k0_chk1 i k v42 := by
  intro r a
  have ha : a = 0 := Subsingleton.elim _ _
  subst ha
  have e := congrFun (off22 i k v42 h0 r.val r.isLt) 0
  have hk := t1_lt k; have hr := r.isLt
  rw [e]
  show stepN i % 2 * 16384 + 128 * k.val + 8 * min (v42.toNat / 8) 15 + r.val + 1 ≤ 32768
  omega

/-- The row of the stage that chunk `q` starts at. -/
theorem off31 (q : BitVec 32) (hq : q.toNat ≤ 15) : k0_off31 k q = ![k.val, q.toNat * 8, 0] := by
  have e8 : (8#32 : BitVec 32).toNat = 8 := by decide
  unfold k0_off31
  exact vec3_congr (by rw [cast_toNat, row_toNat]) (by rw [cast_toNat, muli_toNat, e8]; rw [e8]; omega)
theorem off43 (q : BitVec 32) (hq : q.toNat ≤ 15) : k0_off43 k q = ![k.val, q.toNat * 8, 0] := off31 k q hq

theorem mul8_toNat (q : BitVec 32) (hq : q.toNat ≤ 15) : (Scalar.muli q 8#32).toNat = q.toNat * 8 := by
  have e8 : (8#32 : BitVec 32).toNat = 8 := by decide
  rw [muli_toNat, e8]; rw [e8]; omega

theorem chk11 (q : BitVec 32) (hq : q.toNat ≤ 15) : k0_chk11 k q := by
  refine ⟨?_, fun a => ?_⟩
  · show 8 ∣ (Scalar.muli q 8#32).toNat
    rw [mul8_toNat q hq]; exact ⟨q.toNat, by omega⟩
  · rw [off31 k q hq]
    have hk := t1_lt k
    match a with
    | ⟨0, _⟩ => show k.val + 1 ≤ 128; omega
    | ⟨1, _⟩ => show q.toNat * 8 + 8 ≤ 128; omega
    | ⟨2, _⟩ => show 0 + 128 ≤ 128; omega
theorem chk21 (q : BitVec 32) (hq : q.toNat ≤ 15) : k0_chk21 k q := chk11 k q hq

/-- A table row's offsets. -/
theorem row23 (q : BitVec 32) : k0_off23 q = ![q.toNat, 0, 0] := rfl

theorem rowChk (q : BitVec 32) (hq : q.toNat < 4096) : k0_chk3 q := by
  intro a
  match a with
  | ⟨0, _⟩ => show q.toNat + 1 ≤ 4096; omega
  | ⟨1, _⟩ => show 0 + 16 ≤ 16; omega
  | ⟨2, _⟩ => show 0 + 128 ≤ 128; omega

theorem off44 (k : Fin k0_t4_loop.trips) (r : ℕ) (hr : r < 4) : k0_off44 k (BitVec.ofNat 32 r) = ![4 * k.val + r, 0, 0] := by
  have e4 : (4#32 : BitVec 32).toNat = 4 := by decide
  have hk : k.val < 32 := Nat.lt_of_lt_of_eq k.isLt trips4
  have er : (BitVec.ofNat 32 r).toNat = r := ofNat_toNat _ (by omega)
  have a := iv01_toNat k.val (by omega)
  have b := muli_toNat (Scf.iv 0#32 1#32 k.val) 4#32 (by rw [a, e4]; omega)
  rw [a, e4] at b
  unfold k0_off44
  exact vec3_congr (by rw [cast_toNat, addi_toNat, b, er]; omega; rw [b, er]; omega) rfl
theorem off45 (k : Fin k0_t4_loop.trips) (r : ℕ) (hr : r < 4) : k0_off45 k (BitVec.ofNat 32 r) = ![4 * k.val + r, 0] := by
  have e := congrFun (off44 k r hr) 0
  unfold k0_off45; exact vec2_congr e

/-! ## The guards -/

theorem ne0_ofBool (b : Bool) : (Scalar.cmpi .ne (Scalar.extui (BitVec.ofBool b) : BitVec 32) 0#32 = 1#1) ↔ b = true := by
  cases b <;> decide

theorem cond1 : (k0_cond1 i = 1#1) ↔ stepN i = 0 := by
  have hs := step_toNat i
  unfold k0_cond1
  refine (ne0_ofBool _).trans ?_
  rw [beq_iff_eq]
  constructor
  · intro h
    have : (Scalar.addi (Scalar.muli (BitVec.ofNat 32 (i 0).val) 4#32) (BitVec.ofNat 32 (i 1).val)).toNat = 0 := by rw [h]; rfl
    omega
  · intro h
    exact BitVec.eq_of_toNat_eq (by rw [hs, h]; rfl)
theorem cond2 : (k0_cond2 i = 1#1) ↔ stepN i + 1 < 512 := by
  have hs := succ_toNat i
  have hl := stepN_lt i
  unfold k0_cond2
  refine (ne0_ofBool _).trans ?_
  rw [BitVec.slt, toInt_small _ (by rw [hs]; omega), hs, show (512#32 : BitVec 32).toInt = 512 by decide, decide_eq_true_eq]
  omega
theorem cond3 : (k0_cond3 i = 1#1) ↔ (i 1).val = 3 := by
  have h1 := i1_lt i
  have e1 : (BitVec.ofNat 32 (i 1).val).toNat = (i 1).val := ofNat_toNat _ (by omega)
  unfold k0_cond3
  refine (ne0_ofBool _).trans ?_
  rw [beq_iff_eq]
  constructor
  · intro h
    have : (BitVec.ofNat 32 (i 1).val).toNat = 3 := by rw [h]; rfl
    omega
  · intro h
    rw [h]

end Forms

end Cert.KernelIdeal.W
-- ==== Proof.Data.lean ====
/- The kernel's working data as plain functions: list words by number, a row of the table, a row of the block of
   tokens, and what one chunk of eight rows leaves in the stage. -/
module

public import proofs.«01_k».proof.Proof.Words
public import proofs.«01_k».proof.Proof.Gen.KernelIdeal.Skeleton
public import Idealize.ShloMosaic.Lib.VecWindow
public import Idealize.ShloMosaic.Lib.WordCmp
public import Idealize.ShloMosaic.Lib.Pipeline.Value
public import Idealize.ShloMosaic.Lib.TopK.GroupedStream

@[expose] public section

namespace Cert.KernelIdeal.D

open Idealize.ShloMosaic Cert.KernelIdeal.Gen Cert.KernelIdeal.W

variable {F : FTy → Type} [FloatOps F]

/-- Word `n` of the list memory. -/
def rdE (E : S32768.Idx → BitVec 32) (n : ℕ) : BitVec 32 := E (fun a => match a with | ⟨0, _⟩ => (Fin.ofNat 32768 n : Fin 32768))
/-- Word `n` of the memory of starts. -/
def rdS (E : S2048.Idx → BitVec 32) (n : ℕ) : BitVec 32 := E (fun a => match a with | ⟨0, _⟩ => (Fin.ofNat 2048 n : Fin 2048))

/-- Row `n` of the table block, as the kernel loads it. -/
def urow (U : S4096x16x128.Idx → F .bf16) (n : ℕ) : S1x16x128.Idx → F .bf16 := fun y =>
  U (fun a => match a with
    | ⟨0, _⟩ => (Fin.ofNat 4096 n : Fin 4096)
    | ⟨1, _⟩ => (y 1 : Fin 16)
    | ⟨2, _⟩ => (y 2 : Fin 128))
/-- Row `t` of the block of tokens. -/
def hrow (H : S128x16x128.Idx → F .f32) (t : ℕ) : S1x16x128.Idx → F .f32 := fun y =>
  H (fun a => match a with
    | ⟨0, _⟩ => (Fin.ofNat 128 t : Fin 128)
    | ⟨1, _⟩ => (y 1 : Fin 16)
    | ⟨2, _⟩ => (y 2 : Fin 128))

/-- The row numbers within eight. -/
def iota8 : IVec S8x128 32 := iota .tc S8x128 32 [0] iota_S8x128_d0_w32

/-- The four partial vectors that one chunk's eight rows make. -/
noncomputable def parts (h : S16x128.Idx → F .f32) (u : ℕ → S1x16x128.Idx → F .bf16) : ℕ → S8x128.Idx → F .f32
  | 0 => k0_pay21 iota8 (k0_pay8 h (u 0)) (k0_pay8 h (u 4))
  | 1 => k0_pay22 iota8 (k0_pay8 h (u 1)) (k0_pay8 h (u 5))
  | 2 => k0_pay23 iota8 (k0_pay8 h (u 2)) (k0_pay8 h (u 6))
  | _ => k0_pay24 iota8 (k0_pay8 h (u 3)) (k0_pay8 h (u 7))

/-- What is stored of four partial vectors. -/
noncomputable def flush (p : ℕ → S8x128.Idx → F .f32) : S1x8x128.Idx → F .f32 :=
  k0_pay18 iota8 (k0_pay16 iota8 (p 1) (p 3)) (k0_pay17 iota8 (p 0) (p 2)) 1#32

/-- The list words of token `t`, chunk `q`, in the slot of step `n`. -/
def idw (E : S32768.Idx → BitVec 32) (n t q r : ℕ) : BitVec 32 := rdE E (n % 2 * 16384 + 128 * t + 8 * q + r)

/-- What chunk `q` of token `t` leaves in the stage at step `n`. -/
noncomputable def cval (n : ℕ) (E : S32768.Idx → BitVec 32) (H : S128x16x128.Idx → F .f32) (U : S4096x16x128.Idx → F .bf16) (t q : ℕ) : S1x8x128.Idx → F .f32 :=
  flush (parts (k0_pay42 (hrow H t)) fun r => urow U (idw E n t q r).toNat)

/-- What step `n` leaves at a place of the stage. -/
noncomputable def sval (n : ℕ) (E : S32768.Idx → BitVec 32) (H : S128x16x128.Idx → F .f32) (U : S4096x16x128.Idx → F .bf16) (y : S128x128x128.Idx) : F .f32 :=
  cval n E H U (y 0).val ((y 1).val / 8) (fun a => match a with
    | ⟨0, _⟩ => (0 : Fin 1)
    | ⟨1, _⟩ => (Fin.ofNat 8 (y 1).val : Fin 8)
    | ⟨2, _⟩ => (y 2 : Fin 128))

/-- The first place of token `t` at step `n`, of table block `b`, and the first place of the next block. -/
def st0 (S : S2048.Idx → BitVec 32) (n b t : ℕ) : ℕ := (rdS S (n % 2 * 1024 + b + 8 * t)).toNat
def st1 (S : S2048.Idx → BitVec 32) (n b t : ℕ) : ℕ := (rdS S (n % 2 * 1024 + b + 8 * t + 1)).toNat

/-! ## Loads as these functions -/

section Loads
variable {sig : RefSig} {κ : Kind} {sp : Space}

theorem load_word (v : View sig κ sp S32768 .i32) (f : v.ty.Contents (Elt F)) {off : Fin 1 → ℕ} {n : ℕ} (h : off = ![n])
    (inb : ∀ a, off a + S1.size a ≤ S32768.size a) (x) :
    v.readAt (Elt F) (Rect.unit (s := S32768) off S1.size inb).toLoadRect f x = rdE (v.read (Elt F) f) n := by
  subst h
  have hn : n + 1 ≤ 32768 := inb 0
  rw [View.readAt_unit v f inb rfl inb]
  show v.read (Elt F) f _ = v.read (Elt F) f _
  congr 1
  funext a
  have ha : a = 0 := Subsingleton.elim _ _
  subst ha
  refine Fin.ext ?_
  have hx : (x 0).val < 1 := (x 0).isLt
  show n + 1 * (x 0).val = n % 32768
  omega

theorem load_start (v : View sig κ sp S2048 .i32) (f : v.ty.Contents (Elt F)) {off : Fin 1 → ℕ} {n : ℕ} (h : off = ![n])
    (inb : ∀ a, off a + S1.size a ≤ S2048.size a) (x) :
    v.readAt (Elt F) (Rect.unit (s := S2048) off S1.size inb).toLoadRect f x = rdS (v.read (Elt F) f) n := by
  subst h
  have hn : n + 1 ≤ 2048 := inb 0
  rw [View.readAt_unit v f inb rfl inb]
  show v.read (Elt F) f _ = v.read (Elt F) f _
  congr 1
  funext a
  have ha : a = 0 := Subsingleton.elim _ _
  subst ha
  refine Fin.ext ?_
  have hx : (x 0).val < 1 := (x 0).isLt
  show n + 1 * (x 0).val = n % 2048
  omega

theorem load_urow (v : View sig κ sp S4096x16x128 .bf16) (f : v.ty.Contents (Elt F)) {off : Fin 3 → ℕ} {n : ℕ} (h : off = ![n, 0, 0])
    (inb : ∀ a, off a + S1x16x128.size a ≤ S4096x16x128.size a) :
    v.readAt (Elt F) (Rect.unit (s := S4096x16x128) off S1x16x128.size inb).toLoadRect f = urow (v.read (Elt F) f) n := by
  subst h
  have hn : n + 1 ≤ 4096 := inb 0
  rw [View.readAt_unit v f inb rfl inb]
  funext y
  show v.read (Elt F) f _ = v.read (Elt F) f _
  congr 1
  funext a
  refine Fin.ext ?_
  match a with
  | ⟨0, _⟩ =>
    have hy : (y 0).val < 1 := (y 0).isLt
    show n + 1 * (y 0).val = n % 4096; omega
  | ⟨1, _⟩ => show 0 + 1 * (y 1).val = (y 1).val; omega
  | ⟨2, _⟩ => show 0 + 1 * (y 2).val = (y 2).val; omega

theorem load_hrow (v : View sig κ sp S128x16x128 .f32) (f : v.ty.Contents (Elt F)) {off : Fin 3 → ℕ} {n : ℕ} (h : off = ![n, 0, 0])
    (inb : ∀ a, off a + S1x16x128.size a ≤ S128x16x128.size a) :
    v.readAt (Elt F) (Rect.unit (s := S128x16x128) off S1x16x128.size inb).toLoadRect f = hrow (v.read (Elt F) f) n := by
  subst h
  have hn : n + 1 ≤ 128 := inb 0
  rw [View.readAt_unit v f inb rfl inb]
  funext y
  show v.read (Elt F) f _ = v.read (Elt F) f _
  congr 1
  funext a
  refine Fin.ext ?_
  match a with
  | ⟨0, _⟩ =>
    have hy : (y 0).val < 1 := (y 0).isLt
    show n + 1 * (y 0).val = n % 128; omega
  | ⟨1, _⟩ => show 0 + 1 * (y 1).val = (y 1).val; omega
  | ⟨2, _⟩ => show 0 + 1 * (y 2).val = (y 2).val; omega

/-- The mask of a store of chunk `q`: the places from `s0` up to `s1`. -/
theorem mask_on (v42 v45 q : BitVec 32) (h0 : v42.toNat ≤ 128) (h1 : v45.toNat ≤ 128) (hq : q.toNat ≤ 15) (y : S1x8x128.Idx) :
    y ∈ IVec.on (k0_pay19 (F := F) iota8 v42 v45 (Scalar.muli q 8#32)) ↔ v42.toNat ≤ 8 * q.toNat + (y 1).val ∧ 8 * q.toNat + (y 1).val < v45.toNat := by
  have hy : (y 1).val < 8 := (y 1).isLt
  have e : k0_pay19 (F := F) iota8 v42 v45 (Scalar.muli q 8#32) y
      = IntOp.andi (IntOp.cmpi .sge (IntOp.addi (BitVec.ofNat 32 (y 1).val) (Scalar.muli q 8#32)) v42)
          (IntOp.cmpi .slt (IntOp.addi (BitVec.ofNat 32 (y 1).val) (Scalar.muli q 8#32)) v45) := by
    unfold k0_pay19
    refine (shapeCast_addUnit_apply _ _ _ y).trans ?_
    have ei : iota8 (fun a => y a.succ) = BitVec.ofNat 32 (y 1).val := iota_single_apply _ _ _ _ _ _
    show IntOp.andi (IntOp.cmpi .sge (IntOp.addi (iota8 (fun a => y a.succ)) _) _) (IntOp.cmpi .slt (IntOp.addi (iota8 (fun a => y a.succ)) _) _) = _
    rw [ei]; rfl
  have a1 : (Scalar.muli q 8#32).toNat = q.toNat * 8 := muli_toNat _ _ (by simp; omega)
  have a2 : (BitVec.ofNat 32 (y 1).val).toNat = (y 1).val := by simp; omega
  have a3 : (IntOp.addi (BitVec.ofNat 32 (y 1).val) (Scalar.muli q 8#32)).toNat = (y 1).val + q.toNat * 8 := by
    refine (addi_toNat _ _ (by rw [a1, a2]; omega)).trans ?_; rw [a1, a2]
  rw [IVec.mem_on_iff, e, WordCmp.cmpi_sge_of_lt (by rw [a3]; omega) (by omega), WordCmp.cmpi_slt_of_lt (by rw [a3]; omega) (by omega), a3]
  by_cases c1 : v42.toNat ≤ (y 1).val + q.toNat * 8 <;> by_cases c2 : (y 1).val + q.toNat * 8 < v45.toNat <;>
    simp only [c1, c2, decide_true, decide_false]
  · exact ⟨fun _ => by omega, fun _ => by decide⟩
  · exact ⟨fun h => absurd h (by decide), fun h => by omega⟩
  · exact ⟨fun h => absurd h (by decide), fun h => by omega⟩
  · exact ⟨fun h => absurd h (by decide), fun h => by omega⟩

/-- A masked store of chunk `q` of token `t`, read at a place. -/
theorem store_read (v : View sig κ sp S128x128x128 .f32) (f : v.ty.Contents (Elt F)) {off : Fin 3 → ℕ} {t n : ℕ} (h : off = ![t, n, 0])
    (inb : ∀ a, off a + S1x8x128.size a ≤ S128x128x128.size a) (w : S1x8x128.Idx → F .f32) (M : Finset S1x8x128.Idx) (p : ℕ → Prop)
    (hM : ∀ y, y ∈ M ↔ p (n + (y 1).val)) (y : S128x128x128.Idx) (z : S1x8x128.Idx)
    (hz : (y 0).val = t → n ≤ (y 1).val → (y 1).val < n + 8 → (z 1).val = (y 1).val - n ∧ (z 2).val = (y 2).val) :
    (((y 0).val = t ∧ n ≤ (y 1).val ∧ (y 1).val < n + 8 ∧ p (y 1).val) →
      v.read (Elt F) (View.write (Elt F) (v.slice (Rect.unit (s := S128x128x128) off S1x8x128.size inb)) f w M) y = w z)
    ∧ (¬ ((y 0).val = t ∧ n ≤ (y 1).val ∧ (y 1).val < n + 8 ∧ p (y 1).val) →
      v.read (Elt F) (View.write (Elt F) (v.slice (Rect.unit (s := S128x128x128) off S1x8x128.size inb)) f w M) y = v.read (Elt F) f y) := by
  subst h
  constructor
  · rintro ⟨h0, h1, h2, hp⟩
    obtain ⟨z1, z2⟩ := hz h0 h1 h2
    have hz0 : (z 0).val < 1 := (z 0).isLt
    have hx : (Rect.unit (s := S128x128x128) ![t, n, 0] S1x8x128.size inb).emb z = y := by
      funext a; refine Fin.ext ?_
      match a with
      | ⟨0, _⟩ => show t + 1 * (z 0).val = (y 0).val; omega
      | ⟨1, _⟩ => show n + 1 * (z 1).val = (y 1).val; omega
      | ⟨2, _⟩ => show 0 + 1 * (z 2).val = (y 2).val; omega
    conv_lhs => rw [← hx]
    exact View.read_slice_write_emb _ _ _ ((hM z).mpr (by rwa [show n + (z 1).val = (y 1).val by omega]))
  · intro hg
    rw [View.read_slice_write_of_not_mem]
    intro hmem
    obtain ⟨x, hxM, hx⟩ := Finset.mem_map.mp hmem
    have c0 : t + 1 * (x 0).val = (y 0).val := congrArg Fin.val (congrFun hx 0)
    have c1 : n + 1 * (x 1).val = (y 1).val := congrArg Fin.val (congrFun hx 1)
    have hx0 : (x 0).val < 1 := (x 0).isLt
    have hx1 : (x 1).val < 8 := (x 1).isLt
    have := (hM x).mp hxM
    exact hg ⟨by omega, by omega, by omega, by rwa [show n + (x 1).val = (y 1).val by omega] at this⟩

end Loads

end Cert.KernelIdeal.D
-- ==== Proof.Slots.lean ====
/- The two slots of the list memories, and what the loop over chunks keeps. -/
module

public import proofs.«01_k».proof.Proof.Data
public import proofs.«01_k».proof.Proof.Gen.KernelIdeal.Launch
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.KernelIdeal.Run

open Cert.KernelIdeal Cert.KernelIdeal.Gen Cert.KernelIdeal.W Cert.KernelIdeal.D
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources: the pipeline's beside the counters of the kernel's own transfers. -/
abbrev UU (nD : Nat) (τ : Topo) : Type := UR sig nD τ × Counters
local notation "𝕄" => MT nD τ sig Unit (Elt F) ℕ (UU nD τ) ℕ
abbrev 𝒱₀ : Variants := Variants.none

/-- Where slot `s` of the list memory starts, and of the memory of starts. -/
abbrev eOff (s : ℕ) : Fin 1 → ℕ := ![s % 2 * 16384]
theorem eOff_inb (s : ℕ) : ∀ a, eOff s a + S16384.size a ≤ S32768.size a := by
  intro a; fin_cases a; show s % 2 * 16384 + 16384 ≤ 32768; omega
abbrev sOff (s : ℕ) : Fin 1 → ℕ := ![s % 2 * 1024]
theorem sOff_inb (s : ℕ) : ∀ a, sOff s a + S1024.size a ≤ S2048.size a := by
  intro a; fin_cases a; show s % 2 * 1024 + 1024 ≤ 2048; omega

/-- Slot `s % 2` of the list memory. -/
def eslot (m9 : Memref sig .tc .smem S32768 .i32) (s : ℕ) : Memref sig .tc .smem S16384 .i32 :=
  m9.slice (Rect.unit (s := S32768) (eOff s) S16384.size (eOff_inb s)) (fun _ => rfl)
/-- Slot `s % 2` of the memory of starts. -/
def sslot (m10 : Memref sig .tc .smem S2048 .i32) (s : ℕ) : Memref sig .tc .smem S1024 .i32 :=
  m10.slice (Rect.unit (s := S2048) (sOff s) S1024.size (sOff_inb s)) (fun _ => rfl)

instance (s : ℕ) : ClosedOff (eOff s) := ⟨eOff s, rfl⟩
instance (s : ℕ) : ClosedOff (sOff s) := ⟨sOff s, rfl⟩

theorem eslot_load (m9 : Memref sig .tc .smem S32768 .i32) (s : ℕ) {off : Fin 1 → ℕ} {n : ℕ} (h : off = ![n]) (h0 : s % 2 * 16384 ≤ n)
    (h1 : n < s % 2 * 16384 + 16384) (inb) : m9.view.setOn (Rect.unit (s := S32768) off S1.size inb).toLoadRect.set ⊆ (eslot m9 s).view.set := by
  subst h
  refine Finset.Subset.trans ?_ (View.set_slice m9.view (Rect.unit (s := S32768) (eOff s) S16384.size (eOff_inb s))).symm.subset
  refine Finset.map_subset_map.mpr fun y hy => ?_
  have hy' : y ∈ (Rect.unit (s := S32768) ![n] S1.size inb).set := hy
  rw [Rect.mem_set_unit] at hy' ⊢
  intro a
  have := hy' a
  fin_cases a
  have h2 : n ≤ (y 0).val ∧ (y 0).val < n + 1 := this
  show s % 2 * 16384 ≤ (y 0).val ∧ (y 0).val < s % 2 * 16384 + 16384
  omega
theorem sslot_load (m10 : Memref sig .tc .smem S2048 .i32) (s : ℕ) {off : Fin 1 → ℕ} {n : ℕ} (h : off = ![n]) (h0 : s % 2 * 1024 ≤ n)
    (h1 : n < s % 2 * 1024 + 1024) (inb) : m10.view.setOn (Rect.unit (s := S2048) off S1.size inb).toLoadRect.set ⊆ (sslot m10 s).view.set := by
  subst h
  refine Finset.Subset.trans ?_ (View.set_slice m10.view (Rect.unit (s := S2048) (sOff s) S1024.size (sOff_inb s))).symm.subset
  refine Finset.map_subset_map.mpr fun y hy => ?_
  have hy' : y ∈ (Rect.unit (s := S2048) ![n] S1.size inb).set := hy
  rw [Rect.mem_set_unit] at hy' ⊢
  intro a
  have := hy' a
  fin_cases a
  have h2 : n ≤ (y 0).val ∧ (y 0).val < n + 1 := this
  show s % 2 * 1024 ≤ (y 0).val ∧ (y 0).val < s % 2 * 1024 + 1024
  omega

/-- What the loop over chunks carries: the chunk to be stored, its four partial vectors, the eight list words read ahead. -/
abbrev Acc (F : FTy → Type) [FloatOps F] := BitVec 32 × FVec F S8x128 .f32 × FVec F S8x128 .f32 × FVec F S8x128 .f32 × FVec F S8x128 .f32 × Elt F .i32 × Elt F .i32 × Elt F .i32 × Elt F .i32 × Elt F .i32 × Elt F .i32 × Elt F .i32 × Elt F .i32

/-- What holds of the carried values and the stage before pass `k`. -/
structure I2 (n t s0 s1 : ℕ) (E : S32768.Idx → BitVec 32) (H : S128x16x128.Idx → F .f32) (U : S4096x16x128.Idx → F .bf16)
    (G0 : S128x128x128.Idx → F .f32) (k : ℕ) (a : Acc F) (G : S128x128x128.Idx → F .f32) : Prop where
  chunk : a.1.toNat = if k = 0 then min (s0 / 8) 15 else s0 / 8 + k - 1
  p0 : 1 ≤ k → a.2.1 = parts (k0_pay42 (hrow H t)) (fun r => urow U (idw E n t (s0 / 8 + k - 1) r).toNat) 0
  p1 : 1 ≤ k → a.2.2.1 = parts (k0_pay42 (hrow H t)) (fun r => urow U (idw E n t (s0 / 8 + k - 1) r).toNat) 1
  p2 : 1 ≤ k → a.2.2.2.1 = parts (k0_pay42 (hrow H t)) (fun r => urow U (idw E n t (s0 / 8 + k - 1) r).toNat) 2
  p3 : 1 ≤ k → a.2.2.2.2.1 = parts (k0_pay42 (hrow H t)) (fun r => urow U (idw E n t (s0 / 8 + k - 1) r).toNat) 3
  w0 : a.2.2.2.2.2.1 = idw E n t (min (s0 / 8 + k) 15) 0
  w1 : a.2.2.2.2.2.2.1 = idw E n t (min (s0 / 8 + k) 15) 1
  w2 : a.2.2.2.2.2.2.2.1 = idw E n t (min (s0 / 8 + k) 15) 2
  w3 : a.2.2.2.2.2.2.2.2.1 = idw E n t (min (s0 / 8 + k) 15) 3
  w4 : a.2.2.2.2.2.2.2.2.2.1 = idw E n t (min (s0 / 8 + k) 15) 4
  w5 : a.2.2.2.2.2.2.2.2.2.2.1 = idw E n t (min (s0 / 8 + k) 15) 5
  w6 : a.2.2.2.2.2.2.2.2.2.2.2.1 = idw E n t (min (s0 / 8 + k) 15) 6
  w7 : a.2.2.2.2.2.2.2.2.2.2.2.2 = idw E n t (min (s0 / 8 + k) 15) 7
  done : ∀ y : S128x128x128.Idx, (y 0).val = t → s0 ≤ (y 1).val → (y 1).val < s1 → (y 1).val / 8 + 1 < s0 / 8 + k → G y = sval n E H U y
  rest : ∀ y : S128x128x128.Idx, ¬ ((y 0).val = t ∧ s0 ≤ (y 1).val ∧ (y 1).val < s1) → G y = G0 y

/-- The place inside the stored chunk of a place of the stage. -/
def inChunk (y : S128x128x128.Idx) : S1x8x128.Idx := fun a => match a with
    | ⟨0, _⟩ => (0 : Fin 1)
    | ⟨1, _⟩ => (Fin.ofNat 8 (y 1).val : Fin 8)
    | ⟨2, _⟩ => (y 2 : Fin 128)

/-- One masked store, on the two facts about the stage. -/
theorem stage_step {n t s0 s1 : ℕ} {E : S32768.Idx → BitVec 32} {H : S128x16x128.Idx → F .f32} {U : S4096x16x128.Idx → F .bf16}
    {G0 : S128x128x128.Idx → F .f32} {k : ℕ} {a : Acc F} {κ : Kind} {sp : Space} (v : View sig κ sp S128x128x128 .f32) (f : v.ty.Contents (Elt F))
    (h : I2 n t s0 s1 E H U G0 k a (v.read (Elt F) f)) {off : Fin 3 → ℕ} (ho : off = ![t, a.1.toNat * 8, 0])
    (inb : ∀ b, off b + S1x8x128.size b ≤ S128x128x128.size b) (w : S1x8x128.Idx → F .f32) (M : Finset S1x8x128.Idx)
    (hw : 1 ≤ k → w = cval n E H U t (s0 / 8 + k - 1))
    (hM : ∀ y : S1x8x128.Idx, y ∈ M ↔ s0 ≤ 8 * a.1.toNat + (y 1).val ∧ 8 * a.1.toNat + (y 1).val < s1) :
    (∀ y : S128x128x128.Idx, (y 0).val = t → s0 ≤ (y 1).val → (y 1).val < s1 → (y 1).val / 8 + 1 < s0 / 8 + (k + 1) →
      v.read (Elt F) (View.write (Elt F) (v.slice (Rect.unit (s := S128x128x128) off S1x8x128.size inb)) f w M) y = sval n E H U y)
    ∧ (∀ y : S128x128x128.Idx, ¬ ((y 0).val = t ∧ s0 ≤ (y 1).val ∧ (y 1).val < s1) →
      v.read (Elt F) (View.write (Elt F) (v.slice (Rect.unit (s := S128x128x128) off S1x8x128.size inb)) f w M) y = G0 y) := by
  have hc := h.chunk
  have key := fun y : S128x128x128.Idx => store_read v f ho inb w M (fun q => s0 ≤ q ∧ q < s1) (fun z => by
    rw [hM z, show a.1.toNat * 8 + (z 1).val = 8 * a.1.toNat + (z 1).val by omega]) y (inChunk y) (fun _ h1 h2 => ⟨by
      show (y 1).val % 8 = _; omega, rfl⟩)
  constructor
  · intro y y0 y1 y2 y3
    by_cases hq : a.1.toNat * 8 ≤ (y 1).val ∧ (y 1).val < a.1.toNat * 8 + 8
    · rw [(key y).1 ⟨y0, hq.1, hq.2, y1, y2⟩]
      by_cases hk : k = 0
      · exfalso; subst hk; rw [if_pos rfl] at hc; omega
      · rw [if_neg hk] at hc
        rw [hw (by omega)]
        unfold sval
        rw [y0, show (y 1).val / 8 = s0 / 8 + k - 1 by omega]
        rfl
    · rw [(key y).2 (fun hh => hq ⟨hh.2.1, hh.2.2.1⟩)]
      refine h.done y y0 y1 y2 ?_
      by_cases hk : k = 0
      · exfalso; subst hk; omega
      · rw [if_neg hk] at hc; omega
  · intro y hy
    rw [(key y).2 (fun hh => hy ⟨hh.1, hh.2.2.2⟩)]
    exact h.rest y hy

end Cert.KernelIdeal.Run
-- ==== Proof.Trip.lean ====
/- One pass of the loop over chunks. -/
module

public import proofs.«01_k».proof.Proof.Slots
public import proofs.«01_k».proof.Proof.Gen.KernelIdeal.Launch
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.KernelIdeal.Run

open Cert.KernelIdeal Cert.KernelIdeal.Gen Cert.KernelIdeal.W Cert.KernelIdeal.D
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section Trip
variable (c : Dev nD)
variable (i : grid0.Coords) (arg2 : Memref sig .tc .hbm S8388608 .i32) (harg2 : arg2.IsWhole) (arg3 : Memref sig .tc .hbm S131072 .i32) (harg3 : arg3.IsWhole) (arg4 : Memref sig .tc .vmem S128x16x128 .f32) (harg4 : arg4.IsWhole) (arg5 : Memref sig .tc .vmem S4096x16x128 .bf16) (harg5 : arg5.IsWhole) (arg6 : Memref sig .tc .vmem S128x128 .i32) (harg6 : arg6.IsWhole) (arg7 : Memref sig .tc .vmem S128x128 .f32) (harg7 : arg7.IsWhole) (arg8 : Memref sig .tc .vmem S2x128x128 .f32) (harg8 : arg8.IsWhole) (arg9 : Memref sig .tc .smem S32768 .i32) (harg9 : arg9.IsWhole) (arg10 : Memref sig .tc .smem S2048 .i32) (harg10 : arg10.IsWhole) (arg11 : Memref sig .tc .vmem S128x128x128 .f32) (harg11 : arg11.IsWhole) (arg12 : Memref sig .tc .vmem S128x128 .f32) (harg12 : arg12.IsWhole) (arg13 : DmaSems sig S2x2) (v34 : IVec S8x128 32) (k0_t1 : Fin k0_t1_loop.trips) (arg14 : BitVec 32) (v42 : Elt F .i32)
  (k0_hw1 : k0_chk1 i k0_t1 v42) (v45 : Elt F .i32) (k0_hw2 : k0_chk2 i k0_t1 v42 v45) (v46 : BitVec 32) (v50 : BitVec 32) (v53 : FVec F S16x128 .f32) (v55 : BitVec 32) (v56 : FVec F S8x128 .f32) (v57 : BitVec 32) (v60 : BitVec 32) (v63 : Elt F .i32) (v66 : Elt F .i32) (v69 : Elt F .i32) (v72 : Elt F .i32) (v75 : Elt F .i32)

set_option maxHeartbeats 4000000 in
set_option backward.isDefEq.respectTransparency.types false in
theorem trip2 (k0_t2 : Fin (k0_t2_loop v42 v45).trips) (E : Set ℕ)
    (a16 : BitVec 32) (a17 a18 a19 a20 : FVec F S8x128 .f32) (a21 a22 a23 a24 a25 a26 a27 a28 : Elt F .i32)
    (f4 : arg4.view.ty.Contents (Elt F)) (f5 : Buf (Elt F) (arg5.view.loc (c : Thread nD τ))) (f9 : Buf (Elt F) ((eslot arg9 (stepN i)).view.loc (c : Thread nD τ))) (f11 : Buf (Elt F) (arg11.view.loc (c : Thread nD τ)))
    (G0 : S128x128x128.Idx → F .f32)
    (b0 : v42.toNat ≤ 128) (b1 : v45.toNat ≤ 128) (e34 : v34 = iota8) (e46 : v46 = Scalar.shrui v42 3#32) (e53 : v53 = k0_pay42 (hrow (arg4.view.read (Elt F) f4) k0_t1.val))
    (hE : ∀ q r, q ≤ 15 → r < 8 → (idw (arg9.view.read (Elt F) f9) (stepN i) k0_t1.val q r).toNat < 4096)
    (hI : I2 (stepN i) k0_t1.val v42.toNat v45.toNat (arg9.view.read (Elt F) f9) (arg4.view.read (Elt F) f4) (arg5.view.read (Elt F) f5) G0 k0_t2.val
      (a16, a17, a18, a19, a20, a21, a22, a23, a24, a25, a26, a27, a28) (arg11.view.read (Elt F) f11)) :
    iprop((arg5.view.loc (c : Thread nD τ) ↦[arg5.view.set]{fullShare} f5) ∗ ((eslot arg9 (stepN i)).view.loc (c : Thread nD τ) ↦[(eslot arg9 (stepN i)).view.set]{fullShare} f9)
       ∗ (arg11.view.loc (c : Thread nD τ) ↦[arg11.view.set]{fullShare} f11) : sProp 𝕄)
      ⊢ wp frame (wpE (defs₀ (F := F)) 𝒱₀ (c : Thread nD τ) none) E
          (k0_t2_body (F := F) i arg2 harg2 arg3 harg3 arg4 harg4 arg5 harg5 arg6 harg6 arg7 harg7 arg8 harg8 arg9 harg9 arg10 harg10 arg11 harg11 arg12 harg12 arg13 v34 k0_t1 arg14 v42 k0_hw1 v45 k0_hw2 v46 v50 v53 v55 v56 v57 v60 v63 v66 v69 v72 v75 k0_t2 (a16, a17, a18, a19, a20, a21, a22, a23, a24, a25, a26, a27, a28))
          (fun a => iprop((arg5.view.loc (c : Thread nD τ) ↦[arg5.view.set]{fullShare} f5) ∗ ((eslot arg9 (stepN i)).view.loc (c : Thread nD τ) ↦[(eslot arg9 (stepN i)).view.set]{fullShare} f9)
            ∗ (∃ f, (arg11.view.loc (c : Thread nD τ) ↦[arg11.view.set]{fullShare} f)
              ∗ ⌜I2 (stepN i) k0_t1.val v42.toNat v45.toNat (arg9.view.read (Elt F) f9) (arg4.view.read (Elt F) f4) (arg5.view.read (Elt F) f5) G0 (k0_t2.val + 1) a (arg11.view.read (Elt F) f)⌝))) := by
  have hk : k0_t2.val < nch v42.toNat v45.toNat := Nat.lt_of_lt_of_eq k0_t2.isLt (trips2 v42 v45 b0 b1)
  have hn := nch_le v42 v45 b0 b1
  have htt := t1_lt k0_t1
  have hq : a16.toNat ≤ 15 := by
    have := hI.chunk
    dsimp only at this
    split at this <;> omega
  have c11 := chk11 k0_t1 a16 hq
  have c3 : k0_chk3 a21 := rowChk a21 (by have := hI.w0; dsimp only at this; rw [this]; exact hE _ _ (by omega) (by decide))
  have c4 : k0_chk4 a22 := rowChk a22 (by have := hI.w1; dsimp only at this; rw [this]; exact hE _ _ (by omega) (by decide))
  have c5 : k0_chk5 a23 := rowChk a23 (by have := hI.w2; dsimp only at this; rw [this]; exact hE _ _ (by omega) (by decide))
  have c6 : k0_chk6 a24 := rowChk a24 (by have := hI.w3; dsimp only at this; rw [this]; exact hE _ _ (by omega) (by decide))
  have c7 : k0_chk7 a25 := rowChk a25 (by have := hI.w4; dsimp only at this; rw [this]; exact hE _ _ (by omega) (by decide))
  have c8 : k0_chk8 a26 := rowChk a26 (by have := hI.w5; dsimp only at this; rw [this]; exact hE _ _ (by omega) (by decide))
  have c9 : k0_chk9 a27 := rowChk a27 (by have := hI.w6; dsimp only at this; rw [this]; exact hE _ _ (by omega) (by decide))
  have c10 : k0_chk10 a28 := rowChk a28 (by have := hI.w7; dsimp only at this; rw [this]; exact hE _ _ (by omega) (by decide))

  have hw : ∀ r, r < 8 → ∀ inb, arg9.view.setOn (Rect.unit (s := S32768) (k0_off32 i k0_t1 v42 v45 k0_t2 (BitVec.ofNat 32 r)) S1.size inb).toLoadRect.set ⊆ (eslot arg9 (stepN i)).view.set := fun r hr inb =>
    eslot_load arg9 (stepN i) (off32 i k0_t1 v42 v45 b0 b1 k0_t2 r hr) (by omega) (by omega) inb
  have h0 := hw 0 (by decide) (k0_off32_inb i k0_t1 v42 v45 k0_hw2 k0_t2 0)
  have h1 := hw 1 (by decide) (k0_off32_inb i k0_t1 v42 v45 k0_hw2 k0_t2 1)
  have h2 := hw 2 (by decide) (k0_off32_inb i k0_t1 v42 v45 k0_hw2 k0_t2 2)
  have h3 := hw 3 (by decide) (k0_off32_inb i k0_t1 v42 v45 k0_hw2 k0_t2 3)
  have h4 := hw 4 (by decide) (k0_off32_inb i k0_t1 v42 v45 k0_hw2 k0_t2 4)
  have h5 := hw 5 (by decide) (k0_off32_inb i k0_t1 v42 v45 k0_hw2 k0_t2 5)
  have h6 := hw 6 (by decide) (k0_off32_inb i k0_t1 v42 v45 k0_hw2 k0_t2 6)
  have h7 := hw 7 (by decide) (k0_off32_inb i k0_t1 v42 v45 k0_hw2 k0_t2 7)

  unfold k0_t2_body
  iintro ⟨H5, H9, H11⟩
  sl_exec
  sl_step
  isplitl [H5]; · iexact H5
  isplitl [H9]; · iexact H9
  iexists _
  isplitl [H11]; · iexact H11
  ipureintro
  obtain ⟨g1, g2⟩ := stage_step arg11.view f11 hI (off31 k0_t1 a16 hq) (k0_off31_inb k0_t1 a16 c11) (k0_pay18 v34 (k0_pay16 v34 a18 a20) (k0_pay17 v34 a17 a19) 1#32)
    (IVec.on (k0_pay19 (F := F) v34 v42 v45 (Scalar.muli a16 8#32))) (fun h1 => by
      rw [e34]; unfold cval flush
      rw [← hI.p0 h1, ← hI.p1 h1, ← hI.p2 h1, ← hI.p3 h1]) (fun y => by rw [e34]; exact mask_on v42 v45 a16 b0 b1 hq y)
  have hmin : min (v42.toNat / 8 + k0_t2.val) 15 = v42.toNat / 8 + k0_t2.val := by omega
  have d0 : a21 = idw (arg9.view.read (Elt F) f9) (stepN i) k0_t1.val (v42.toNat / 8 + (k0_t2.val + 1) - 1) 0 := by
    rw [show v42.toNat / 8 + (k0_t2.val + 1) - 1 = min (v42.toNat / 8 + k0_t2.val) 15 by omega]; exact hI.w0
  have d1 : a22 = idw (arg9.view.read (Elt F) f9) (stepN i) k0_t1.val (v42.toNat / 8 + (k0_t2.val + 1) - 1) 1 := by
    rw [show v42.toNat / 8 + (k0_t2.val + 1) - 1 = min (v42.toNat / 8 + k0_t2.val) 15 by omega]; exact hI.w1
  have d2 : a23 = idw (arg9.view.read (Elt F) f9) (stepN i) k0_t1.val (v42.toNat / 8 + (k0_t2.val + 1) - 1) 2 := by
    rw [show v42.toNat / 8 + (k0_t2.val + 1) - 1 = min (v42.toNat / 8 + k0_t2.val) 15 by omega]; exact hI.w2
  have d3 : a24 = idw (arg9.view.read (Elt F) f9) (stepN i) k0_t1.val (v42.toNat / 8 + (k0_t2.val + 1) - 1) 3 := by
    rw [show v42.toNat / 8 + (k0_t2.val + 1) - 1 = min (v42.toNat / 8 + k0_t2.val) 15 by omega]; exact hI.w3
  have d4 : a25 = idw (arg9.view.read (Elt F) f9) (stepN i) k0_t1.val (v42.toNat / 8 + (k0_t2.val + 1) - 1) 4 := by
    rw [show v42.toNat / 8 + (k0_t2.val + 1) - 1 = min (v42.toNat / 8 + k0_t2.val) 15 by omega]; exact hI.w4
  have d5 : a26 = idw (arg9.view.read (Elt F) f9) (stepN i) k0_t1.val (v42.toNat / 8 + (k0_t2.val + 1) - 1) 5 := by
    rw [show v42.toNat / 8 + (k0_t2.val + 1) - 1 = min (v42.toNat / 8 + k0_t2.val) 15 by omega]; exact hI.w5
  have d6 : a27 = idw (arg9.view.read (Elt F) f9) (stepN i) k0_t1.val (v42.toNat / 8 + (k0_t2.val + 1) - 1) 6 := by
    rw [show v42.toNat / 8 + (k0_t2.val + 1) - 1 = min (v42.toNat / 8 + k0_t2.val) 15 by omega]; exact hI.w6
  have d7 : a28 = idw (arg9.view.read (Elt F) f9) (stepN i) k0_t1.val (v42.toNat / 8 + (k0_t2.val + 1) - 1) 7 := by
    rw [show v42.toNat / 8 + (k0_t2.val + 1) - 1 = min (v42.toNat / 8 + k0_t2.val) 15 by omega]; exact hI.w7
  refine ⟨?_, fun _ => ?_, fun _ => ?_, fun _ => ?_, fun _ => ?_, ?_, ?_, ?_, ?_, ?_, ?_, ?_, ?_, g1, g2⟩
  · rw [if_neg (by omega)]
    refine (congrArg (fun x => (Scf.iv x 1#32 k0_t2.val : BitVec 32).toNat) e46).trans ?_
    rw [iv2_toNat v42 v45 b0 b1 _ (by omega)]; omega
  · have e0 := load_urow arg5.view f5 (n := a21.toNat) (off := k0_off23 a21) rfl (k0_off23_inb a21 c3)
    have e1 := load_urow arg5.view f5 (n := a25.toNat) (off := k0_off27 a25) rfl (k0_off27_inb a25 c7)
    show k0_pay21 v34 (k0_pay8 v53 (arg5.view.readAt (Elt F) (Rect.unit (s := S4096x16x128) (k0_off23 a21) S1x16x128.size (k0_off23_inb a21 c3)).toLoadRect f5))
      (k0_pay12 v53 (arg5.view.readAt (Elt F) (Rect.unit (s := S4096x16x128) (k0_off27 a25) S1x16x128.size (k0_off27_inb a25 c7)).toLoadRect f5)) = _
    rw [e0, e1, e34, e53, d0, d4]
    rfl
  · have e0 := load_urow arg5.view f5 (n := a22.toNat) (off := k0_off24 a22) rfl (k0_off24_inb a22 c4)
    have e1 := load_urow arg5.view f5 (n := a26.toNat) (off := k0_off28 a26) rfl (k0_off28_inb a26 c8)
    show k0_pay22 v34 (k0_pay9 v53 (arg5.view.readAt (Elt F) (Rect.unit (s := S4096x16x128) (k0_off24 a22) S1x16x128.size (k0_off24_inb a22 c4)).toLoadRect f5))
      (k0_pay13 v53 (arg5.view.readAt (Elt F) (Rect.unit (s := S4096x16x128) (k0_off28 a26) S1x16x128.size (k0_off28_inb a26 c8)).toLoadRect f5)) = _
    rw [e0, e1, e34, e53, d1, d5]
    rfl
  · have e0 := load_urow arg5.view f5 (n := a23.toNat) (off := k0_off25 a23) rfl (k0_off25_inb a23 c5)
    have e1 := load_urow arg5.view f5 (n := a27.toNat) (off := k0_off29 a27) rfl (k0_off29_inb a27 c9)
    show k0_pay23 v34 (k0_pay10 v53 (arg5.view.readAt (Elt F) (Rect.unit (s := S4096x16x128) (k0_off25 a23) S1x16x128.size (k0_off25_inb a23 c5)).toLoadRect f5))
      (k0_pay14 v53 (arg5.view.readAt (Elt F) (Rect.unit (s := S4096x16x128) (k0_off29 a27) S1x16x128.size (k0_off29_inb a27 c9)).toLoadRect f5)) = _
    rw [e0, e1, e34, e53, d2, d6]
    rfl
  · have e0 := load_urow arg5.view f5 (n := a24.toNat) (off := k0_off26 a24) rfl (k0_off26_inb a24 c6)
    have e1 := load_urow arg5.view f5 (n := a28.toNat) (off := k0_off30 a28) rfl (k0_off30_inb a28 c10)
    show k0_pay24 v34 (k0_pay11 v53 (arg5.view.readAt (Elt F) (Rect.unit (s := S4096x16x128) (k0_off26 a24) S1x16x128.size (k0_off26_inb a24 c6)).toLoadRect f5))
      (k0_pay15 v53 (arg5.view.readAt (Elt F) (Rect.unit (s := S4096x16x128) (k0_off30 a28) S1x16x128.size (k0_off30_inb a28 c10)).toLoadRect f5)) = _
    rw [e0, e1, e34, e53, d3, d7]
    rfl
  · exact (load_word arg9.view f9 (off32 i k0_t1 v42 v45 b0 b1 k0_t2 0 (by decide)) (k0_off32_inb i k0_t1 v42 v45 k0_hw2 k0_t2 0) _)
  · exact (load_word arg9.view f9 (off32 i k0_t1 v42 v45 b0 b1 k0_t2 1 (by decide)) (k0_off32_inb i k0_t1 v42 v45 k0_hw2 k0_t2 1) _)
  · exact (load_word arg9.view f9 (off32 i k0_t1 v42 v45 b0 b1 k0_t2 2 (by decide)) (k0_off32_inb i k0_t1 v42 v45 k0_hw2 k0_t2 2) _)
  · exact (load_word arg9.view f9 (off32 i k0_t1 v42 v45 b0 b1 k0_t2 3 (by decide)) (k0_off32_inb i k0_t1 v42 v45 k0_hw2 k0_t2 3) _)
  · exact (load_word arg9.view f9 (off32 i k0_t1 v42 v45 b0 b1 k0_t2 4 (by decide)) (k0_off32_inb i k0_t1 v42 v45 k0_hw2 k0_t2 4) _)
  · exact (load_word arg9.view f9 (off32 i k0_t1 v42 v45 b0 b1 k0_t2 5 (by decide)) (k0_off32_inb i k0_t1 v42 v45 k0_hw2 k0_t2 5) _)
  · exact (load_word arg9.view f9 (off32 i k0_t1 v42 v45 b0 b1 k0_t2 6 (by decide)) (k0_off32_inb i k0_t1 v42 v45 k0_hw2 k0_t2 6) _)
  · exact (load_word arg9.view f9 (off32 i k0_t1 v42 v45 b0 b1 k0_t2 7 (by decide)) (k0_off32_inb i k0_t1 v42 v45 k0_hw2 k0_t2 7) _)

set_option warn.classDefReducibility false in
/-- The loop over chunks. -/
@[sl_loop] def loopInv2 (f4 : arg4.view.ty.Contents (Elt F)) (f5 : Buf (Elt F) (arg5.view.loc (c : Thread nD τ))) (f9 : Buf (Elt F) ((eslot arg9 (stepN i)).view.loc (c : Thread nD τ)))
    (G0 : S128x128x128.Idx → F .f32) (init : Acc F)
    (b0 : v42.toNat ≤ 128) (b1 : v45.toNat ≤ 128) (e34 : v34 = iota8) (e46 : v46 = Scalar.shrui v42 3#32) (e53 : v53 = k0_pay42 (hrow (arg4.view.read (Elt F) f4) k0_t1.val))
    (hE : ∀ q r, q ≤ 15 → r < 8 → (idw (arg9.view.read (Elt F) f9) (stepN i) k0_t1.val q r).toNat < 4096) :
    LoopInvTy_k0_t2 (F := F) Unit ℕ (UU nD τ) ℕ 𝒱₀ c none Set.univ i arg2 harg2 arg3 harg3 arg4 harg4 arg5 harg5 arg6 harg6 arg7 harg7 arg8 harg8 arg9 harg9 arg10 harg10 arg11 harg11 arg12 harg12 arg13 v34 k0_t1 arg14 v42 k0_hw1 v45 k0_hw2 v46 v50 v53 v55 v56 v57 v60 v63 v66 v69 v72 v75 init where
  inv k a := iprop((arg5.view.loc (c : Thread nD τ) ↦[arg5.view.set]{fullShare} f5) ∗ ((eslot arg9 (stepN i)).view.loc (c : Thread nD τ) ↦[(eslot arg9 (stepN i)).view.set]{fullShare} f9)
            ∗ (∃ f, (arg11.view.loc (c : Thread nD τ) ↦[arg11.view.set]{fullShare} f)
              ∗ ⌜I2 (stepN i) k0_t1.val v42.toNat v45.toNat (arg9.view.read (Elt F) f9) (arg4.view.read (Elt F) f4) (arg5.view.read (Elt F) f5) G0 k a (arg11.view.read (Elt F) f)⌝))
  step k a := by
    obtain ⟨a16, a17, a18, a19, a20, a21, a22, a23, a24, a25, a26, a27, a28⟩ := a
    iintro ⟨H5, H9, ⟨%f, H11, %hI⟩⟩
    iapply (trip2 c i arg2 harg2 arg3 harg3 arg4 harg4 arg5 harg5 arg6 harg6 arg7 harg7 arg8 harg8 arg9 harg9 arg10 harg10 arg11 harg11 arg12 harg12 arg13 v34 k0_t1 arg14 v42 k0_hw1 v45 k0_hw2 v46 v50 v53 v55 v56 v57 v60 v63 v66 v69 v72 v75 k _ a16 a17 a18 a19 a20 a21 a22 a23 a24 a25 a26 a27 a28 f4 f5 f9 f G0 b0 b1 e34 e46 e53 hE hI)
    isplitl [H5]; · iexact H5
    isplitl [H9]; · iexact H9
    iexact H11

end Trip
end Cert.KernelIdeal.Run
-- ==== Proof.Row.lean ====
/- One pass of the loop over tokens. -/
module

public import proofs.«01_k».proof.Proof.Trip
public import proofs.«01_k».proof.Proof.Gen.KernelIdeal.Launch
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.KernelIdeal.Run

open Cert.KernelIdeal Cert.KernelIdeal.Gen Cert.KernelIdeal.W Cert.KernelIdeal.D
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section Row
variable (c : Dev nD)
variable (i : grid0.Coords) (arg2 : Memref sig .tc .hbm S8388608 .i32) (harg2 : arg2.IsWhole) (arg3 : Memref sig .tc .hbm S131072 .i32) (harg3 : arg3.IsWhole) (arg4 : Memref sig .tc .vmem S128x16x128 .f32) (harg4 : arg4.IsWhole) (arg5 : Memref sig .tc .vmem S4096x16x128 .bf16) (harg5 : arg5.IsWhole) (arg6 : Memref sig .tc .vmem S128x128 .i32) (harg6 : arg6.IsWhole) (arg7 : Memref sig .tc .vmem S128x128 .f32) (harg7 : arg7.IsWhole) (arg8 : Memref sig .tc .vmem S2x128x128 .f32) (harg8 : arg8.IsWhole) (arg9 : Memref sig .tc .smem S32768 .i32) (harg9 : arg9.IsWhole) (arg10 : Memref sig .tc .smem S2048 .i32) (harg10 : arg10.IsWhole) (arg11 : Memref sig .tc .vmem S128x128x128 .f32) (harg11 : arg11.IsWhole) (arg12 : Memref sig .tc .vmem S128x128 .f32) (harg12 : arg12.IsWhole) (arg13 : DmaSems sig S2x2) (v31 : BitVec 32) (v33 : BitVec 32) (v34 : IVec S8x128 32)

/-- What a pass reads: the token block, the table block, the two slots. -/
abbrev readP (f4 : Buf (Elt F) (arg4.view.loc (c : Thread nD τ))) (f5 : Buf (Elt F) (arg5.view.loc (c : Thread nD τ)))
    (f9 : Buf (Elt F) ((eslot arg9 (stepN i)).view.loc (c : Thread nD τ))) (f10 : Buf (Elt F) ((sslot arg10 (stepN i)).view.loc (c : Thread nD τ))) : sProp 𝕄 :=
  iprop((arg4.view.loc (c : Thread nD τ) ↦[arg4.view.set]{fullShare} f4) ∗ (arg5.view.loc (c : Thread nD τ) ↦[arg5.view.set]{fullShare} f5)
    ∗ ((eslot arg9 (stepN i)).view.loc (c : Thread nD τ) ↦[(eslot arg9 (stepN i)).view.set]{fullShare} f9)
    ∗ ((sslot arg10 (stepN i)).view.loc (c : Thread nD τ) ↦[(sslot arg10 (stepN i)).view.set]{fullShare} f10))

set_option maxHeartbeats 4000000 in
set_option backward.isDefEq.respectTransparency.types false in
theorem trip1 (k0_t1 : Fin k0_t1_loop.trips)
    (f4 : Buf (Elt F) (arg4.view.loc (c : Thread nD τ))) (f5 : Buf (Elt F) (arg5.view.loc (c : Thread nD τ)))
    (f9 : Buf (Elt F) ((eslot arg9 (stepN i)).view.loc (c : Thread nD τ))) (f10 : Buf (Elt F) ((sslot arg10 (stepN i)).view.loc (c : Thread nD τ)))
    (f11 : Buf (Elt F) (arg11.view.loc (c : Thread nD τ))) (e34 : v34 = iota8)
    (hE : ∀ q, stepN i % 2 * 16384 ≤ q → q < stepN i % 2 * 16384 + 16384 → (rdE (arg9.view.read (Elt F) f9) q).toNat < 4096)
    (hs : ∀ q, stepN i % 2 * 1024 ≤ q → q < stepN i % 2 * 1024 + 1024 → (rdS (arg10.view.read (Elt F) f10) q).toNat ≤ 128) :
    iprop(readP c i arg4 arg5 arg9 arg10 f4 f5 f9 f10 ∗ (arg11.view.loc (c : Thread nD τ) ↦[arg11.view.set]{fullShare} f11) : sProp 𝕄)
      ⊢ wp frame (wpE (defs₀ (F := F)) 𝒱₀ (c : Thread nD τ) none) Set.univ
          (k0_t1_body (F := F) i arg2 harg2 arg3 harg3 arg4 harg4 arg5 harg5 arg6 harg6 arg7 harg7 arg8 harg8 arg9 harg9 arg10 harg10 arg11 harg11 arg12 harg12 arg13 v31 v33 v34 k0_t1 ())
          (fun _ => iprop(readP c i arg4 arg5 arg9 arg10 f4 f5 f9 f10
            ∗ (∃ f, (arg11.view.loc (c : Thread nD τ) ↦[arg11.view.set]{fullShare} f)
              ∗ ⌜(∀ y : S128x128x128.Idx, (y 0).val = k0_t1.val → st0 (arg10.view.read (Elt F) f10) (stepN i) (i 1).val k0_t1.val ≤ (y 1).val → (y 1).val < st1 (arg10.view.read (Elt F) f10) (stepN i) (i 1).val k0_t1.val →
                    arg11.view.read (Elt F) f y = sval (stepN i) (arg9.view.read (Elt F) f9) (arg4.view.read (Elt F) f4) (arg5.view.read (Elt F) f5) y)
                  ∧ (∀ y : S128x128x128.Idx, ¬ ((y 0).val = k0_t1.val ∧ st0 (arg10.view.read (Elt F) f10) (stepN i) (i 1).val k0_t1.val ≤ (y 1).val ∧ (y 1).val < st1 (arg10.view.read (Elt F) f10) (stepN i) (i 1).val k0_t1.val) →
                    arg11.view.read (Elt F) f y = arg11.view.read (Elt F) f11 y)⌝))) := by
  have htt := t1_lt k0_t1
  have hi1 := i1_lt i
  have l0 := sslot_load arg10 (stepN i) (off19 i k0_t1) (by omega) (by omega) (k0_off19_inb i k0_t1)
  have l1 := sslot_load arg10 (stepN i) (off20 i k0_t1) (by omega) (by omega) (k0_off20_inb i k0_t1)
  have q0 := fun x => load_start arg10.view f10 (off19 i k0_t1) (k0_off19_inb i k0_t1) x
  have q1 := fun x => load_start arg10.view f10 (off20 i k0_t1) (k0_off20_inb i k0_t1) x
  have b0 := hs (stepN i % 2 * 1024 + (i 1).val + 8 * k0_t1.val) (by omega) (by omega)
  have b1 := hs (stepN i % 2 * 1024 + (i 1).val + 8 * k0_t1.val + 1) (by omega) (by omega)
  unfold k0_t1_body
  iintro ⟨⟨H4, H5, H9, H10⟩, H11⟩
  sl_exec
  have e42 : trip1.sl.r c i arg10 k0_t1 f10 = rdS (arg10.view.read (Elt F) f10) (stepN i % 2 * 1024 + (i 1).val + 8 * k0_t1.val) := q0 _
  have b0' : (trip1.sl.r c i arg10 k0_t1 f10).toNat ≤ 128 := by rw [e42]; exact b0
  have c1 := chk1 i k0_t1 (trip1.sl.r c i arg10 k0_t1 f10) b0'
  have ll := fun (r : ℕ) (hr : r < 8) => eslot_load arg9 (stepN i) (off22 i k0_t1 (trip1.sl.r c i arg10 k0_t1 f10) b0' r hr) (by omega) (by omega)
  have m0 := ll 0 (by decide) (k0_off22_inb i k0_t1 (trip1.sl.r c i arg10 k0_t1 f10) c1 0)
  have m1 := ll 1 (by decide) (k0_off22_inb i k0_t1 (trip1.sl.r c i arg10 k0_t1 f10) c1 1)
  have m2 := ll 2 (by decide) (k0_off22_inb i k0_t1 (trip1.sl.r c i arg10 k0_t1 f10) c1 2)
  have m3 := ll 3 (by decide) (k0_off22_inb i k0_t1 (trip1.sl.r c i arg10 k0_t1 f10) c1 3)
  have m4 := ll 4 (by decide) (k0_off22_inb i k0_t1 (trip1.sl.r c i arg10 k0_t1 f10) c1 4)
  have m5 := ll 5 (by decide) (k0_off22_inb i k0_t1 (trip1.sl.r c i arg10 k0_t1 f10) c1 5)
  have m6 := ll 6 (by decide) (k0_off22_inb i k0_t1 (trip1.sl.r c i arg10 k0_t1 f10) c1 6)
  have m7 := ll 7 (by decide) (k0_off22_inb i k0_t1 (trip1.sl.r c i arg10 k0_t1 f10) c1 7)
  sl_exec
  have e45 : trip1.sl.r_1 c i arg10 k0_t1 f10 = rdS (arg10.view.read (Elt F) f10) (stepN i % 2 * 1024 + (i 1).val + 8 * k0_t1.val + 1) := q1 _
  have b1' : (trip1.sl.r_1 c i arg10 k0_t1 f10).toNat ≤ 128 := by rw [e45]; exact b1
  have c2 := chk2 i k0_t1 (trip1.sl.r c i arg10 k0_t1 f10) (trip1.sl.r_1 c i arg10 k0_t1 f10) b0' b1'
  sl_exec
  have e46 : trip1.sl.v46 c i arg10 k0_t1 f10 = Scalar.shrui (trip1.sl.r c i arg10 k0_t1 f10) 3#32 := rfl
  have e57 : trip1.sl.v57 c i arg10 k0_t1 f10 = Scalar.minsi (Scalar.shrui (trip1.sl.r c i arg10 k0_t1 f10) 3#32) 15#32 := rfl
  have n57 : (trip1.sl.v57 c i arg10 k0_t1 f10).toNat = min ((trip1.sl.r c i arg10 k0_t1 f10).toNat / 8) 15 := by
    rw [e57, min15_toNat _ (by rw [shr3_toNat]; omega), shr3_toNat]
  have e53 : trip1.sl.r_7 c arg4 k0_t1 f4 = k0_pay42 (hrow (arg4.view.read (Elt F) f4) k0_t1.val) :=
    congrArg k0_pay42 (load_hrow arg4.view f4 (off21 k0_t1) (k0_off21_inb k0_t1))
  have hE' : ∀ q r, q ≤ 15 → r < 8 → (idw (arg9.view.read (Elt F) f9) (stepN i) k0_t1.val q r).toNat < 4096 :=
    fun q r hq hr => hE (stepN i % 2 * 16384 + 128 * k0_t1.val + 8 * q + r) (by omega) (by omega)
  have W := fun (r : ℕ) (hr : r < 8) inb x => load_word arg9.view f9 (off22 i k0_t1 (trip1.sl.r c i arg10 k0_t1 f10) b0' r hr) inb x
  have w0 : trip1.sl.r_2 c i arg9 arg10 k0_t1 f9 f10 c1 = idw (arg9.view.read (Elt F) f9) (stepN i) k0_t1.val (min ((trip1.sl.r c i arg10 k0_t1 f10).toNat / 8) 15) 0 :=
    W 0 (by decide) (k0_off22_inb i k0_t1 (trip1.sl.r c i arg10 k0_t1 f10) c1 0) _
  have w1 : trip1.sl.r_3 c i arg9 arg10 k0_t1 f9 f10 c1 = idw (arg9.view.read (Elt F) f9) (stepN i) k0_t1.val (min ((trip1.sl.r c i arg10 k0_t1 f10).toNat / 8) 15) 1 :=
    W 1 (by decide) (k0_off22_inb i k0_t1 (trip1.sl.r c i arg10 k0_t1 f10) c1 1) _
  have w2 : trip1.sl.r_4 c i arg9 arg10 k0_t1 f9 f10 c1 = idw (arg9.view.read (Elt F) f9) (stepN i) k0_t1.val (min ((trip1.sl.r c i arg10 k0_t1 f10).toNat / 8) 15) 2 :=
    W 2 (by decide) (k0_off22_inb i k0_t1 (trip1.sl.r c i arg10 k0_t1 f10) c1 2) _
  have w3 : trip1.sl.r_5 c i arg9 arg10 k0_t1 f9 f10 c1 = idw (arg9.view.read (Elt F) f9) (stepN i) k0_t1.val (min ((trip1.sl.r c i arg10 k0_t1 f10).toNat / 8) 15) 3 :=
    W 3 (by decide) (k0_off22_inb i k0_t1 (trip1.sl.r c i arg10 k0_t1 f10) c1 3) _
  have w4 : trip1.sl.r_6 c i arg9 arg10 k0_t1 f9 f10 c1 = idw (arg9.view.read (Elt F) f9) (stepN i) k0_t1.val (min ((trip1.sl.r c i arg10 k0_t1 f10).toNat / 8) 15) 4 :=
    W 4 (by decide) (k0_off22_inb i k0_t1 (trip1.sl.r c i arg10 k0_t1 f10) c1 4) _
  have w5 : trip1.sl.r_8 c i arg9 arg10 k0_t1 f9 f10 c1 = idw (arg9.view.read (Elt F) f9) (stepN i) k0_t1.val (min ((trip1.sl.r c i arg10 k0_t1 f10).toNat / 8) 15) 5 :=
    W 5 (by decide) (k0_off22_inb i k0_t1 (trip1.sl.r c i arg10 k0_t1 f10) c1 5) _
  have w6 : trip1.sl.r_9 c i arg9 arg10 k0_t1 f9 f10 c1 = idw (arg9.view.read (Elt F) f9) (stepN i) k0_t1.val (min ((trip1.sl.r c i arg10 k0_t1 f10).toNat / 8) 15) 6 :=
    W 6 (by decide) (k0_off22_inb i k0_t1 (trip1.sl.r c i arg10 k0_t1 f10) c1 6) _
  have w7 : trip1.sl.r_10 c i arg9 arg10 k0_t1 f9 f10 c1 = idw (arg9.view.read (Elt F) f9) (stepN i) k0_t1.val (min ((trip1.sl.r c i arg10 k0_t1 f10).toNat / 8) 15) 7 :=
    W 7 (by decide) (k0_off22_inb i k0_t1 (trip1.sl.r c i arg10 k0_t1 f10) c1 7) _
  sl_for (fun k (a : Acc F) => iprop((arg5.view.loc (c : Thread nD τ) ↦[arg5.view.set]{fullShare} f5) ∗ ((eslot arg9 (stepN i)).view.loc (c : Thread nD τ) ↦[(eslot arg9 (stepN i)).view.set]{fullShare} f9)
            ∗ (∃ f, (arg11.view.loc (c : Thread nD τ) ↦[arg11.view.set]{fullShare} f)
              ∗ ⌜I2 (stepN i) k0_t1.val ((trip1.sl.r c i arg10 k0_t1 f10)).toNat (trip1.sl.r_1 c i arg10 k0_t1 f10).toNat (arg9.view.read (Elt F) f9) (arg4.view.read (Elt F) f4) (arg5.view.read (Elt F) f5) (arg11.view.read (Elt F) f11) k a (arg11.view.read (Elt F) f)⌝))) $$ [H5 H9 H11]
  case region => intro k a; exact (loopInv2 c i arg2 harg2 arg3 harg3 arg4 harg4 arg5 harg5 arg6 harg6 arg7 harg7 arg8 harg8 arg9 harg9 arg10 harg10 arg11 harg11 arg12 harg12 arg13 v34 k0_t1 _ (trip1.sl.r c i arg10 k0_t1 f10) c1 (trip1.sl.r_1 c i arg10 k0_t1 f10) c2 _ _ _ _ _ _ _ _ _ _ _ _  f4 f5 f9 (arg11.view.read (Elt F) f11) (trip1.sl.v57 c i arg10 k0_t1 f10, k0_pay43, k0_pay43, k0_pay43, k0_pay43, trip1.sl.r_2 c i arg9 arg10 k0_t1 f9 f10 c1, trip1.sl.r_3 c i arg9 arg10 k0_t1 f9 f10 c1, trip1.sl.r_4 c i arg9 arg10 k0_t1 f9 f10 c1, trip1.sl.r_5 c i arg9 arg10 k0_t1 f9 f10 c1, trip1.sl.r_6 c i arg9 arg10 k0_t1 f9 f10 c1, trip1.sl.r_8 c i arg9 arg10 k0_t1 f9 f10 c1, trip1.sl.r_9 c i arg9 arg10 k0_t1 f9 f10 c1, trip1.sl.r_10 c i arg9 arg10 k0_t1 f9 f10 c1) b0' b1' e34 e46 e53 hE').step k a
  · isplitl [H5]; · iexact H5
    isplitl [H9]; · iexact H9
    iexists f11
    isplitl [H11]; · iexact H11
    ipureintro
    refine ⟨by rw [if_pos rfl]; exact n57, fun h => absurd h (by decide), fun h => absurd h (by decide), fun h => absurd h (by decide), fun h => absurd h (by decide), w0, w1, w2, w3, w4, w5, w6, w7, fun y _ h1 _ h3 => absurd h3 (by omega), fun _ _ => rfl⟩
  iintro %a HI
  obtain ⟨a16, a17, a18, a19, a20, a21, a22, a23, a24, a25, a26, a27, a28⟩ := a
  icases HI with ⟨H5, H9, ⟨%f, H11, %hI⟩⟩
  have eT : Scf.trips (k0_t2_loop (trip1.sl.r c i arg10 k0_t1 f10) (trip1.sl.r_1 c i arg10 k0_t1 f10)).lb (k0_t2_loop (trip1.sl.r c i arg10 k0_t1 f10) (trip1.sl.r_1 c i arg10 k0_t1 f10)).ub (k0_t2_loop (trip1.sl.r c i arg10 k0_t1 f10) (trip1.sl.r_1 c i arg10 k0_t1 f10)).st = nch (trip1.sl.r c i arg10 k0_t1 f10).toNat (trip1.sl.r_1 c i arg10 k0_t1 f10).toNat := trips2 _ _ b0' b1'
  rw [eT] at hI
  have hz : (k0_t3_loop (trip1.sl.r c i arg10 k0_t1 f10) (trip1.sl.r_1 c i arg10 k0_t1 f10)).trips = 0 := trips3 _ _ b0' b1'
  have hn := nch_le (trip1.sl.r c i arg10 k0_t1 f10) (trip1.sl.r_1 c i arg10 k0_t1 f10) b0' b1'
  have hq : a16.toNat ≤ 15 := by
    have hc := hI.chunk
    dsimp only at hc
    split at hc <;> omega
  have c21 := chk21 k0_t1 a16 hq
  sl_exec
  sl_step
  isplitl [H4 H5 H9 H10]
  · isplitl [H4]; · iexact H4
    isplitl [H5]; · iexact H5
    isplitl [H9]; · iexact H9
    iexact H10
  iexists _
  isplitl [H11]; · iexact H11
  ipureintro
  obtain ⟨g1, g2⟩ := stage_step arg11.view f hI (off43 k0_t1 a16 hq) (k0_off43_inb k0_t1 a16 c21) (k0_pay18 v34 (k0_pay16 v34 a18 a20) (k0_pay17 v34 a17 a19) 1#32)
    (IVec.on (k0_pay19 (F := F) v34 (trip1.sl.r c i arg10 k0_t1 f10) (trip1.sl.r_1 c i arg10 k0_t1 f10) (Scalar.muli a16 8#32))) (fun h1 => by
      rw [e34]; unfold cval flush
      rw [← hI.p0 h1, ← hI.p1 h1, ← hI.p2 h1, ← hI.p3 h1]) (fun y => by rw [e34]; exact mask_on (trip1.sl.r c i arg10 k0_t1 f10) (trip1.sl.r_1 c i arg10 k0_t1 f10) a16 b0' b1' hq y)
  have s0 : st0 (arg10.view.read (Elt F) f10) (stepN i) (i 1).val k0_t1.val = (trip1.sl.r c i arg10 k0_t1 f10).toNat := congrArg BitVec.toNat e42.symm
  have s1 : st1 (arg10.view.read (Elt F) f10) (stepN i) (i 1).val k0_t1.val = (trip1.sl.r_1 c i arg10 k0_t1 f10).toNat := congrArg BitVec.toNat e45.symm
  rw [s0, s1]
  refine ⟨fun y h0 h1 h2 => g1 y h0 h1 h2 ?_, fun y h => g2 y h⟩
  unfold nch
  rw [if_pos (by omega)]
  omega

/-- What holds of the stage before pass `k`: the rows passed have their values between the two
    boundaries, everything else is as it was. -/
def I1 (n b k : ℕ) (S : S2048.Idx → BitVec 32) (E : S32768.Idx → BitVec 32) (H : S128x16x128.Idx → F .f32) (U : S4096x16x128.Idx → F .bf16)
    (G0 G : S128x128x128.Idx → F .f32) : Prop :=
  (∀ y : S128x128x128.Idx, (y 0).val < k → st0 S n b (y 0).val ≤ (y 1).val → (y 1).val < st1 S n b (y 0).val → G y = sval n E H U y)
  ∧ ∀ y : S128x128x128.Idx, ¬ ((y 0).val < k ∧ st0 S n b (y 0).val ≤ (y 1).val ∧ (y 1).val < st1 S n b (y 0).val) → G y = G0 y

theorem I1.next {n b k : ℕ} {S : S2048.Idx → BitVec 32} {E : S32768.Idx → BitVec 32} {H : S128x16x128.Idx → F .f32} {U : S4096x16x128.Idx → F .bf16}
    {G0 G G' : S128x128x128.Idx → F .f32} (h : I1 n b k S E H U G0 G)
    (h1 : ∀ y : S128x128x128.Idx, (y 0).val = k → st0 S n b k ≤ (y 1).val → (y 1).val < st1 S n b k → G' y = sval n E H U y)
    (h2 : ∀ y : S128x128x128.Idx, ¬ ((y 0).val = k ∧ st0 S n b k ≤ (y 1).val ∧ (y 1).val < st1 S n b k) → G' y = G y) :
    I1 n b (k + 1) S E H U G0 G' := by
  constructor
  · intro y a0 a1 a2
    by_cases hk : (y 0).val = k
    · rw [hk] at a1 a2; exact h1 y hk a1 a2
    · rw [h2 y fun hh => hk hh.1]; exact h.1 y (by omega) a1 a2
  · intro y hy
    by_cases hk : (y 0).val = k
    · rw [h2 y fun hh => hy ⟨by omega, by rw [hk]; exact hh.2.1, by rw [hk]; exact hh.2.2⟩]
      exact h.2 y fun hh => absurd hh.1 (by omega)
    · rw [h2 y fun hh => hk hh.1]
      exact h.2 y fun hh => hy ⟨by omega, hh.2⟩

/-- The loop over tokens. -/
@[reducible] def loopInv1 (f4 : Buf (Elt F) (arg4.view.loc (c : Thread nD τ))) (f5 : Buf (Elt F) (arg5.view.loc (c : Thread nD τ)))
    (f9 : Buf (Elt F) ((eslot arg9 (stepN i)).view.loc (c : Thread nD τ))) (f10 : Buf (Elt F) ((sslot arg10 (stepN i)).view.loc (c : Thread nD τ)))
    (G0 : S128x128x128.Idx → F .f32) (e34 : v34 = iota8)
    (hE : ∀ q, stepN i % 2 * 16384 ≤ q → q < stepN i % 2 * 16384 + 16384 → (rdE (arg9.view.read (Elt F) f9) q).toNat < 4096)
    (hs : ∀ q, stepN i % 2 * 1024 ≤ q → q < stepN i % 2 * 1024 + 1024 → (rdS (arg10.view.read (Elt F) f10) q).toNat ≤ 128) :
    LoopInvTy_k0_t1 (F := F) Unit ℕ (UU nD τ) ℕ 𝒱₀ c none Set.univ i arg2 harg2 arg3 harg3 arg4 harg4 arg5 harg5 arg6 harg6 arg7 harg7 arg8 harg8 arg9 harg9 arg10 harg10 arg11 harg11 arg12 harg12 arg13 v31 v33 v34 where
  inv k _ := iprop(readP c i arg4 arg5 arg9 arg10 f4 f5 f9 f10
            ∗ (∃ f, (arg11.view.loc (c : Thread nD τ) ↦[arg11.view.set]{fullShare} f)
              ∗ ⌜I1 (stepN i) (i 1).val k (arg10.view.read (Elt F) f10) (arg9.view.read (Elt F) f9) (arg4.view.read (Elt F) f4) (arg5.view.read (Elt F) f5) G0 (arg11.view.read (Elt F) f)⌝))
  step k a := by
    iintro ⟨HR, ⟨%f, H11, %hI⟩⟩
    iapply ((trip1 c i arg2 harg2 arg3 harg3 arg4 harg4 arg5 harg5 arg6 harg6 arg7 harg7 arg8 harg8 arg9 harg9 arg10 harg10 arg11 harg11 arg12 harg12 arg13 v31 v33 v34 k f4 f5 f9 f10 f e34 hE hs).trans (wp_mono frame _ _ (Q' := fun _ => iprop(readP c i arg4 arg5 arg9 arg10 f4 f5 f9 f10
            ∗ (∃ f, (arg11.view.loc (c : Thread nD τ) ↦[arg11.view.set]{fullShare} f)
              ∗ ⌜I1 (stepN i) (i 1).val (k.val + 1) (arg10.view.read (Elt F) f10) (arg9.view.read (Elt F) f9) (arg4.view.read (Elt F) f4) (arg5.view.read (Elt F) f5) G0 (arg11.view.read (Elt F) f)⌝))) fun _ => by
        iintro ⟨HR, ⟨%g, H11, %hg⟩⟩
        isplitl [HR]; · iexact HR
        iexists g
        isplitl [H11]; · iexact H11
        ipureintro
        exact hI.next hg.1 hg.2))
    isplitl [HR]; · iexact HR
    iexact H11

end Row
end Cert.KernelIdeal.Run
-- ==== Proof.Prologue.lean ====
/- The transfers that open a step: the lists of one step started while the last step's are read. -/
module

public import proofs.«01_k».proof.Proof.Row
public import proofs.«01_k».proof.Proof.Gen.KernelIdeal.Launch
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.KernelIdeal.Run

open Cert.KernelIdeal Cert.KernelIdeal.Gen Cert.KernelIdeal.W Cert.KernelIdeal.D
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## Canonical names: the groups, the slots, the cells -/

abbrev aE : Memref sig .tc .hbm S8388608 .i32 := Memref.whole main_v3
abbrev aS : Memref sig .tc .hbm S131072 .i32 := Memref.whole main_v4
abbrev mE : Memref sig .tc .smem S32768 .i32 := Memref.whole cc0_scratch0
abbrev mS : Memref sig .tc .smem S2048 .i32 := Memref.whole cc0_scratch1

/-- Where step `s` finds its lists, and its starts. -/
abbrev gEOff (s : ℕ) : Fin 1 → ℕ := ![grpE (s % 512)]
theorem gEOff_inb (s : ℕ) : ∀ a, gEOff s a + S16384.size a ≤ S8388608.size a := by
  intro a; fin_cases a; show grpE (s % 512) + 16384 ≤ 8388608; unfold grpE; omega
abbrev gSOff (s : ℕ) : Fin 1 → ℕ := ![grpS (s % 512)]
theorem gSOff_inb (s : ℕ) : ∀ a, gSOff s a + S1024.size a ≤ S131072.size a := by
  intro a; fin_cases a; show grpS (s % 512) + 1024 ≤ 131072; unfold grpS; omega
abbrev cOff (s q : ℕ) : Fin 2 → ℕ := ![s % 2, q % 2]
theorem cOff_inb (s q : ℕ) : ∀ a, cOff s q a + S1x1.size a ≤ S2x2.size a := by
  intro a; fin_cases a
  · show s % 2 + 1 ≤ 2; omega
  · show q % 2 + 1 ≤ 2; omega

/-- The lists of step `s`, and its starts. -/
def gE (s : ℕ) : Memref sig .tc .hbm S16384 .i32 := aE.slice (Rect.unit (s := S8388608) (gEOff s) S16384.size (gEOff_inb s)) (fun _ => rfl)
def gS (s : ℕ) : Memref sig .tc .hbm S1024 .i32 := aS.slice (Rect.unit (s := S131072) (gSOff s) S1024.size (gSOff_inb s)) (fun _ => rfl)
/-- The cell of slot `s % 2`: 0 for the lists, 1 for the starts. -/
def cell (s q : ℕ) : DmaSems sig S_ := (cc0_scratch4.slice (Rect.unit (s := S2x2) (cOff s q) S1x1.size (cOff_inb s q))).squeeze S_ squeezes_S1x1_S_

instance (s : ℕ) : ClosedOff (gEOff s) := ⟨gEOff s, rfl⟩
instance (s : ℕ) : ClosedOff (gSOff s) := ⟨gSOff s, rfl⟩

theorem cell_congr {off : Fin 2 → ℕ} {s q : ℕ} (e : off = cOff s q) (hh) :
    (cc0_scratch4.slice (Rect.unit (s := S2x2) off S1x1.size hh)).squeeze S_ squeezes_S1x1_S_ = cell s q :=
  congrArg (fun A : DmaSems sig S1x1 => A.squeeze S_ squeezes_S1x1_S_) (SemArray.slice_unit_congr _ e _ _)

@[sl_canon] theorem can1 (i : grid0.Coords) (hh) : (cc0_scratch4.slice (Rect.unit (s := S2x2) (k0_off1 i) S1x1.size hh)).squeeze S_ squeezes_S1x1_S_ = cell (stepN i) 0 := cell_congr (off1 i) _
@[sl_canon] theorem can4 (i : grid0.Coords) (hh) : (cc0_scratch4.slice (Rect.unit (s := S2x2) (k0_off4 i) S1x1.size hh)).squeeze S_ squeezes_S1x1_S_ = cell (stepN i) 1 := cell_congr (off4 i) _
@[sl_canon] theorem can7 (i : grid0.Coords) (hh) : (cc0_scratch4.slice (Rect.unit (s := S2x2) (k0_off7 i) S1x1.size hh)).squeeze S_ squeezes_S1x1_S_ = cell (stepN i + 1) 0 := cell_congr (off7 i) _
@[sl_canon] theorem can10 (i : grid0.Coords) (hh) : (cc0_scratch4.slice (Rect.unit (s := S2x2) (k0_off10 i) S1x1.size hh)).squeeze S_ squeezes_S1x1_S_ = cell (stepN i + 1) 1 := cell_congr (off10 i) _
@[sl_canon] theorem can13 (i : grid0.Coords) (hh) : (cc0_scratch4.slice (Rect.unit (s := S2x2) (k0_off13 i) S1x1.size hh)).squeeze S_ squeezes_S1x1_S_ = cell (stepN i) 0 := cell_congr (off13 i) _
@[sl_canon] theorem can16 (i : grid0.Coords) (hh) : (cc0_scratch4.slice (Rect.unit (s := S2x2) (k0_off16 i) S1x1.size hh)).squeeze S_ squeezes_S1x1_S_ = cell (stepN i) 1 := cell_congr (off16 i) _
@[sl_canon] theorem can2 (i : grid0.Coords) (hh hs) : mE.slice (Rect.unit (s := S32768) (k0_off2 i) S16384.size hh) hs = eslot mE (stepN i) := Memref.slice_unit_congr _ (off2 i) _ _ _ (fun _ => rfl)
@[sl_canon] theorem can8 (i : grid0.Coords) (hh hs) : mE.slice (Rect.unit (s := S32768) (k0_off8 i) S16384.size hh) hs = eslot mE (stepN i + 1) := Memref.slice_unit_congr _ (off8 i) _ _ _ (fun _ => rfl)
@[sl_canon] theorem can14 (i : grid0.Coords) (hh hs) : mE.slice (Rect.unit (s := S32768) (k0_off14 i) S16384.size hh) hs = eslot mE (stepN i) := Memref.slice_unit_congr _ (off14 i) _ _ _ (fun _ => rfl)
@[sl_canon] theorem can5 (i : grid0.Coords) (hh hs) : mS.slice (Rect.unit (s := S2048) (k0_off5 i) S1024.size hh) hs = sslot mS (stepN i) := Memref.slice_unit_congr _ (off5 i) _ _ _ (fun _ => rfl)
@[sl_canon] theorem can11 (i : grid0.Coords) (hh hs) : mS.slice (Rect.unit (s := S2048) (k0_off11 i) S1024.size hh) hs = sslot mS (stepN i + 1) := Memref.slice_unit_congr _ (off11 i) _ _ _ (fun _ => rfl)
@[sl_canon] theorem can17 (i : grid0.Coords) (hh hs) : mS.slice (Rect.unit (s := S2048) (k0_off17 i) S1024.size hh) hs = sslot mS (stepN i) := Memref.slice_unit_congr _ (off17 i) _ _ _ (fun _ => rfl)
@[sl_canon] theorem can3 (i : grid0.Coords) (hh hs) : aE.slice (Rect.unit (s := S8388608) (k0_off3 i) S16384.size hh) hs = gE (stepN i) :=
  Memref.slice_unit_congr _ ((off3 i).trans (by unfold gEOff; rw [Nat.mod_eq_of_lt (stepN_lt i)])) _ _ _ (fun _ => rfl)
@[sl_canon] theorem can9 (i : grid0.Coords) (h : stepN i + 1 < 512) (hh hs) : aE.slice (Rect.unit (s := S8388608) (k0_off9 i) S16384.size hh) hs = gE (stepN i + 1) :=
  Memref.slice_unit_congr _ ((off9 i).trans (by unfold gEOff; rw [Nat.mod_eq_of_lt h])) _ _ _ (fun _ => rfl)
@[sl_canon] theorem can15 (i : grid0.Coords) (hh hs) : aE.slice (Rect.unit (s := S8388608) (k0_off15 i) S16384.size hh) hs = gE (stepN i) :=
  Memref.slice_unit_congr _ ((off15 i).trans (by unfold gEOff; rw [Nat.mod_eq_of_lt (stepN_lt i)])) _ _ _ (fun _ => rfl)
@[sl_canon] theorem can6 (i : grid0.Coords) (hh hs) : aS.slice (Rect.unit (s := S131072) (k0_off6 i) S1024.size hh) hs = gS (stepN i) :=
  Memref.slice_unit_congr _ ((off6 i).trans (by unfold gSOff; rw [Nat.mod_eq_of_lt (stepN_lt i)])) _ _ _ (fun _ => rfl)
@[sl_canon] theorem can12 (i : grid0.Coords) (h : stepN i + 1 < 512) (hh hs) : aS.slice (Rect.unit (s := S131072) (k0_off12 i) S1024.size hh) hs = gS (stepN i + 1) :=
  Memref.slice_unit_congr _ ((off12 i).trans (by unfold gSOff; rw [Nat.mod_eq_of_lt h])) _ _ _ (fun _ => rfl)
@[sl_canon] theorem can18 (i : grid0.Coords) (hh hs) : aS.slice (Rect.unit (s := S131072) (k0_off18 i) S1024.size hh) hs = gS (stepN i) :=
  Memref.slice_unit_congr _ ((off18 i).trans (by unfold gSOff; rw [Nat.mod_eq_of_lt (stepN_lt i)])) _ _ _ (fun _ => rfl)

/-! ## A slot free, in flight, landed -/

section Pieces
variable (c : Dev nD) (XE : Buf (Elt F) (aE.view.loc (c : Thread nD τ))) (XS : Buf (Elt F) (aS.view.loc (c : Thread nD τ)))

/-- The share of the two arrays that slot `s % 2` reads by. -/
def shr (s : ℕ) : PosShare TreeShare := if s % 2 = 0 then fullShare.left else fullShare.right

abbrev cellP (s q : ℕ) : sProp 𝕄 := semVal ((c : Thread nD τ), SemLoc.dma (cell s q).sem) 0
abbrev eP (s : ℕ) (f : Buf (Elt F) ((eslot mE s).view.loc (c : Thread nD τ))) : sProp 𝕄 := (eslot mE s).view.loc (c : Thread nD τ) ↦[(eslot mE s).view.set]{fullShare} f
abbrev sP (s : ℕ) (f : Buf (Elt F) ((sslot mS s).view.loc (c : Thread nD τ))) : sProp 𝕄 := (sslot mS s).view.loc (c : Thread nD τ) ↦[(sslot mS s).view.set]{fullShare} f
abbrev gEP (s : ℕ) : sProp 𝕄 := (gE s).view.loc (c : Thread nD τ) ↦[(gE s).view.set]{shr s} XE
abbrev gSP (s : ℕ) : sProp 𝕄 := (gS s).view.loc (c : Thread nD τ) ↦[(gS s).view.set]{shr s} XS
abbrev oEP (s : ℕ) : sProp 𝕄 := aE.view.loc (c : Thread nD τ) ↦[aE.view.set \ (gE s).view.set]{shr s} XE
abbrev oSP (s : ℕ) : sProp 𝕄 := aS.view.loc (c : Thread nD τ) ↦[aS.view.set \ (gS s).view.set]{shr s} XS
abbrev wEP (s : ℕ) : sProp 𝕄 := aE.view.loc (c : Thread nD τ) ↦[aE.view.set]{shr s} XE
abbrev wSP (s : ℕ) : sProp 𝕄 := aS.view.loc (c : Thread nD τ) ↦[aS.view.set]{shr s} XS

/-- What the transfer of step `s` leaves in its slot. -/
abbrev landE (s : ℕ) (f : Buf (Elt F) ((eslot mE s).view.loc (c : Thread nD τ))) : Buf (Elt F) ((eslot mE s).view.loc (c : Thread nD τ)) :=
  (eslot mE s).view.writes (Elt F) f [⟨Rect.whole S16384, ReadAs.same.apply ((gE s).view.read (Elt F) XE)⟩]
abbrev landS (s : ℕ) (f : Buf (Elt F) ((sslot mS s).view.loc (c : Thread nD τ))) : Buf (Elt F) ((sslot mS s).view.loc (c : Thread nD τ)) :=
  (sslot mS s).view.writes (Elt F) f [⟨Rect.whole S1024, ReadAs.same.apply ((gS s).view.read (Elt F) XS)⟩]
abbrev flyE (s : ℕ) (f : Buf (Elt F) ((eslot mE s).view.loc (c : Thread nD τ))) : sProp 𝕄 := Transfers.Flight countersEmb (c : Thread nD τ) (SemLoc.dma (cell s 0).sem) () 2048 iprop(eP c s (landE c XE s f) ∗ gEP c XE s)
abbrev flyS (s : ℕ) (f : Buf (Elt F) ((sslot mS s).view.loc (c : Thread nD τ))) : sProp 𝕄 := Transfers.Flight countersEmb (c : Thread nD τ) (SemLoc.dma (cell s 1).sem) () 128 iprop(sP c s (landS c XS s f) ∗ gSP c XS s)

/-- Slot `s % 2` free, with its share of the two arrays. -/
def R0 (s : ℕ) : sProp 𝕄 := iprop((∃ f, eP c s f) ∗ (∃ f, sP c s f) ∗ cellP c s 0 ∗ cellP c s 1 ∗ wEP c XE s ∗ wSP c XS s)
/-- The transfers of step `s` in flight. -/
def R1 (s : ℕ) : sProp 𝕄 := iprop((∃ f, flyE c XE s f) ∗ (∃ f, flyS c XS s f) ∗ oEP c XE s ∗ oSP c XS s)
/-- The lists of step `s` landed. -/
def R2 (s : ℕ) : sProp 𝕄 := iprop((∃ f, eP c s (landE c XE s f)) ∗ (∃ f, sP c s (landS c XS s f)) ∗ cellP c s 0 ∗ cellP c s 1 ∗ wEP c XE s ∗ wSP c XS s)

theorem gE_sub (s : ℕ) : (gE s).view.set ⊆ aE.view.set := by
  refine (View.set_slice aE.view (Rect.unit (s := S8388608) (gEOff s) S16384.size (gEOff_inb s))).subset.trans ?_
  exact Finset.map_subset_map.mpr (Finset.subset_univ _)
theorem gS_sub (s : ℕ) : (gS s).view.set ⊆ aS.view.set := by
  refine (View.set_slice aS.view (Rect.unit (s := S131072) (gSOff s) S1024.size (gSOff_inb s))).subset.trans ?_
  exact Finset.map_subset_map.mpr (Finset.subset_univ _)
theorem wE_split (s : ℕ) : wEP c XE s ⊣⊢ iprop(gEP c XE s ∗ oEP c XE s) := pointsTo_split_subset (gE_sub s)
theorem wS_split (s : ℕ) : wSP c XS s ⊣⊢ iprop(gSP c XS s ∗ oSP c XS s) := pointsTo_split_subset (gS_sub s)

set_option maxHeartbeats 4000000 in
set_option backward.isDefEq.respectTransparency.types false in
theorem prologueB (i : grid0.Coords) (arg4 : Memref sig .tc .vmem S128x16x128 .f32) (harg4 : arg4.IsWhole) (arg5 : Memref sig .tc .vmem S4096x16x128 .bf16) (harg5 : arg5.IsWhole) (arg6 : Memref sig .tc .vmem S128x128 .i32) (harg6 : arg6.IsWhole) (arg7 : Memref sig .tc .vmem S128x128 .f32) (harg7 : arg7.IsWhole) (arg8 : Memref sig .tc .vmem S2x128x128 .f32) (harg8 : arg8.IsWhole) (h1 : ¬ k0_cond1 i = 1#1) (h2 : k0_cond2 i = 1#1) (h : stepN i + 1 < 512) (W) :
    iprop(R1 c XE XS (stepN i) ∗ R0 c XE XS (stepN i + 1) ∗ owes (c : Thread nD τ) 0 W)
      ⊢ wp frame (wpE (defs₀ (F := F)) 𝒱₀ (c : Thread nD τ) none) Set.univ (k0_part10 (F := F) i aE (Memref.isWhole_whole _) aS (Memref.isWhole_whole _) arg4 harg4 arg5 harg5 arg6 harg6 arg7 harg7 arg8 harg8 mE (Memref.isWhole_whole _) mS (Memref.isWhole_whole _) (Memref.whole cc0_scratch2) (Memref.isWhole_whole _) (Memref.whole cc0_scratch3) (Memref.isWhole_whole _) cc0_scratch4)
        (fun r => iprop(⌜r.2.2.2 = iota8⌝ ∗ R2 c XE XS (stepN i) ∗ R1 c XE XS (stepN i + 1) ∗ (∃ W, owes (c : Thread nD τ) 0 W))) := by
  unfold R0 R1 R2
  iintro ⟨⟨⟨%f0, H0⟩, ⟨%f1, H1⟩, Ho0, Ho1⟩, ⟨⟨%fE, Hn0⟩, ⟨%fS, Hn1⟩, Hc0, Hc1, HE, HS⟩, HW⟩
  ihave HEs := (wE_split c XE (stepN i + 1)).1 $$ HE
  icases HEs with ⟨HgE, HoE⟩
  ihave HSs := (wS_split c XS (stepN i + 1)).1 $$ HS
  icases HSs with ⟨HgS, HoS⟩
  unfold k0_part10
  sl_exec
  sl_step
  isplitr; · ipureintro; rfl
  isplitl [H0_dst H1_dst H0 H1 H0_src H1_src Ho0 Ho1]
  · isplitl [H0_dst]; · iexists _; iexact H0_dst
    isplitl [H1_dst]; · iexists _; iexact H1_dst
    isplitl [H0]; · iexact H0
    isplitl [H1]; · iexact H1
    isplitl [H0_src Ho0]
    · iapply (wE_split c XE (stepN i)).2
      isplitl [H0_src]; · iexact H0_src
      iexact Ho0
    iapply (wS_split c XS (stepN i)).2
    isplitl [H1_src]; · iexact H1_src
    iexact Ho1
  isplitl [Hc0 Hc1 HoE HoS]
  · isplitl [Hc0]; · iexists fE; iexact Hc0
    isplitl [Hc1]; · iexists fS; iexact Hc1
    isplitl [HoE]; · iexact HoE
    iexact HoS
  iexists _; iexact HW

set_option maxHeartbeats 4000000 in
set_option backward.isDefEq.respectTransparency.types false in
theorem prologueC (i : grid0.Coords) (arg4 : Memref sig .tc .vmem S128x16x128 .f32) (harg4 : arg4.IsWhole) (arg5 : Memref sig .tc .vmem S4096x16x128 .bf16) (harg5 : arg5.IsWhole) (arg6 : Memref sig .tc .vmem S128x128 .i32) (harg6 : arg6.IsWhole) (arg7 : Memref sig .tc .vmem S128x128 .f32) (harg7 : arg7.IsWhole) (arg8 : Memref sig .tc .vmem S2x128x128 .f32) (harg8 : arg8.IsWhole) (h1 : ¬ k0_cond1 i = 1#1) (h2 : ¬ k0_cond2 i = 1#1) (W) :
    iprop(R1 c XE XS (stepN i) ∗ R0 c XE XS (stepN i + 1) ∗ owes (c : Thread nD τ) 0 W)
      ⊢ wp frame (wpE (defs₀ (F := F)) 𝒱₀ (c : Thread nD τ) none) Set.univ (k0_part10 (F := F) i aE (Memref.isWhole_whole _) aS (Memref.isWhole_whole _) arg4 harg4 arg5 harg5 arg6 harg6 arg7 harg7 arg8 harg8 mE (Memref.isWhole_whole _) mS (Memref.isWhole_whole _) (Memref.whole cc0_scratch2) (Memref.isWhole_whole _) (Memref.whole cc0_scratch3) (Memref.isWhole_whole _) cc0_scratch4)
        (fun r => iprop(⌜r.2.2.2 = iota8⌝ ∗ R2 c XE XS (stepN i) ∗ R0 c XE XS (stepN i + 1) ∗ (∃ W, owes (c : Thread nD τ) 0 W))) := by
  unfold R1 R2
  iintro ⟨⟨⟨%f0, H0⟩, ⟨%f1, H1⟩, Ho0, Ho1⟩, HR, HW⟩
  unfold k0_part10
  sl_exec
  sl_step
  isplitr; · ipureintro; rfl
  isplitl [H0_dst H1_dst H0 H1 H0_src H1_src Ho0 Ho1]
  · isplitl [H0_dst]; · iexists _; iexact H0_dst
    isplitl [H1_dst]; · iexists _; iexact H1_dst
    isplitl [H0]; · iexact H0
    isplitl [H1]; · iexact H1
    isplitl [H0_src Ho0]
    · iapply (wE_split c XE (stepN i)).2
      isplitl [H0_src]; · iexact H0_src
      iexact Ho0
    iapply (wS_split c XS (stepN i)).2
    isplitl [H1_src]; · iexact H1_src
    iexact Ho1
  isplitl [HR]; · iexact HR
  iexists _; iexact HW

set_option maxHeartbeats 4000000 in
set_option backward.isDefEq.respectTransparency.types false in
theorem prologueA (i : grid0.Coords) (arg4 : Memref sig .tc .vmem S128x16x128 .f32) (harg4 : arg4.IsWhole) (arg5 : Memref sig .tc .vmem S4096x16x128 .bf16) (harg5 : arg5.IsWhole) (arg6 : Memref sig .tc .vmem S128x128 .i32) (harg6 : arg6.IsWhole) (arg7 : Memref sig .tc .vmem S128x128 .f32) (harg7 : arg7.IsWhole) (arg8 : Memref sig .tc .vmem S2x128x128 .f32) (harg8 : arg8.IsWhole) (h1 : k0_cond1 i = 1#1) (h2 : k0_cond2 i = 1#1) (h : stepN i + 1 < 512) (W) :
    iprop(R0 c XE XS (stepN i) ∗ R0 c XE XS (stepN i + 1) ∗ owes (c : Thread nD τ) 0 W)
      ⊢ wp frame (wpE (defs₀ (F := F)) 𝒱₀ (c : Thread nD τ) none) Set.univ (k0_part10 (F := F) i aE (Memref.isWhole_whole _) aS (Memref.isWhole_whole _) arg4 harg4 arg5 harg5 arg6 harg6 arg7 harg7 arg8 harg8 mE (Memref.isWhole_whole _) mS (Memref.isWhole_whole _) (Memref.whole cc0_scratch2) (Memref.isWhole_whole _) (Memref.whole cc0_scratch3) (Memref.isWhole_whole _) cc0_scratch4)
        (fun r => iprop(⌜r.2.2.2 = iota8⌝ ∗ R2 c XE XS (stepN i) ∗ R1 c XE XS (stepN i + 1) ∗ (∃ W, owes (c : Thread nD τ) 0 W))) := by
  unfold R0 R1 R2
  iintro ⟨⟨⟨%f0, H0⟩, ⟨%f1, H1⟩, Hm0, Hm1, HE', HS'⟩, ⟨⟨%fE, Hn0⟩, ⟨%fS, Hn1⟩, Hc0, Hc1, HE, HS⟩, HW⟩
  ihave HEs := (wE_split c XE (stepN i + 1)).1 $$ HE
  icases HEs with ⟨HgE, HoE⟩
  ihave HSs := (wS_split c XS (stepN i + 1)).1 $$ HS
  icases HSs with ⟨HgS, HoS⟩
  ihave HEt := (wE_split c XE (stepN i)).1 $$ HE'
  icases HEt with ⟨HqE, HpE⟩
  ihave HSt := (wS_split c XS (stepN i)).1 $$ HS'
  icases HSt with ⟨HqS, HpS⟩
  unfold k0_part10
  sl_exec
  sl_step
  isplitr; · ipureintro; rfl
  isplitl [H0 H1 Hm0 Hm1 HqE HqS HpE HpS]
  · isplitl [H0]; · iexists _; iexact H0
    isplitl [H1]; · iexists _; iexact H1
    isplitl [Hm0]; · iexact Hm0
    isplitl [Hm1]; · iexact Hm1
    isplitl [HqE HpE]
    · iapply (wE_split c XE (stepN i)).2
      isplitl [HqE]; · iexact HqE
      iexact HpE
    iapply (wS_split c XS (stepN i)).2
    isplitl [HqS]; · iexact HqS
    iexact HpS
  isplitl [Hc0 Hc1 HoE HoS]
  · isplitl [Hc0]; · iexists fE; iexact Hc0
    isplitl [Hc1]; · iexists fS; iexact Hc1
    isplitl [HoE]; · iexact HoE
    iexact HoS
  iexists _; iexact HW

end Pieces
end Cert.KernelIdeal.Run
-- ==== Proof.Reduce.lean ====
/- The sum over lanes, four tokens a pass. -/
module

public import proofs.«01_k».proof.Proof.Prologue
public import proofs.«01_k».proof.Proof.Gen.KernelIdeal.Launch
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.KernelIdeal.Run

open Cert.KernelIdeal Cert.KernelIdeal.Gen Cert.KernelIdeal.W Cert.KernelIdeal.D
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-- Token `t` of the stage, and the sum over lanes of the stage. -/
def srow (G : S128x128x128.Idx → F .f32) (t : ℕ) : S1x128x128.Idx → F .f32 := fun z => G (fun a => match a with
  | ⟨0, _⟩ => (Fin.ofNat 128 t : Fin 128)
  | ⟨1, _⟩ => (z 1 : Fin 128)
  | ⟨2, _⟩ => (z 2 : Fin 128))
def sums (G : S128x128x128.Idx → F .f32) (y : S128x128.Idx) : F .f32 := k0_pay3 (srow G (y 0).val) (fun a => match a with
  | ⟨0, _⟩ => (0 : Fin 1)
  | ⟨1, _⟩ => (y 1 : Fin 128))

theorem load_srow {κ : Kind} {sp : Space} (v : View sig κ sp S128x128x128 .f32) (f : v.ty.Contents (Elt F)) {off : Fin 3 → ℕ} {n : ℕ} (h : off = ![n, 0, 0])
    (inb : ∀ a, off a + S1x128x128.size a ≤ S128x128x128.size a) :
    v.readAt (Elt F) (Rect.unit (s := S128x128x128) off S1x128x128.size inb).toLoadRect f = srow (v.read (Elt F) f) n := by
  subst h
  have hn : n + 1 ≤ 128 := inb 0
  rw [View.readAt_unit v f inb rfl inb]
  funext y
  show v.read (Elt F) f _ = v.read (Elt F) f _
  congr 1
  funext a
  refine Fin.ext ?_
  match a with
  | ⟨0, _⟩ =>
    have hy : (y 0).val < 1 := (y 0).isLt
    show n + 1 * (y 0).val = n % 128; omega
  | ⟨1, _⟩ => show 0 + 1 * (y 1).val = (y 1).val; omega
  | ⟨2, _⟩ => show 0 + 1 * (y 2).val = (y 2).val; omega

theorem store_row {κ : Kind} {sp : Space} (v : View sig κ sp S128x128 .f32) (f : v.ty.Contents (Elt F)) {off : Fin 2 → ℕ} {n : ℕ} (h : off = ![n, 0])
    (inb : ∀ a, off a + S1x128.size a ≤ S128x128.size a) (G : S128x128x128.Idx → F .f32) (w : S1x128.Idx → F .f32) (hw : w = k0_pay3 (srow G n)) (p : ℕ → Prop)
    (hp : ∀ y, p (y 0).val → v.read (Elt F) f y = sums G y) (y : S128x128.Idx) (hy : p (y 0).val ∨ (y 0).val = n) :
    v.read (Elt F) (View.write (Elt F) (v.slice (Rect.unit (s := S128x128) off S1x128.size inb)) f w Finset.univ) y = sums G y := by
  subst h
  by_cases e : (y 0).val = n
  · have hm : (Rect.unit (s := S128x128) ![n, 0] S1x128.size inb).emb (fun a => match a with
        | ⟨0, _⟩ => (0 : Fin 1)
        | ⟨1, _⟩ => (y 1 : Fin 128)) = y := by
      funext a
      fin_cases a
      · exact Fin.ext (by show n + 1 * 0 = (y 0).val; omega)
      · exact Fin.ext (by show 0 + 1 * (y 1).val = (y 1).val; omega)
    rw [← hm, View.read_slice_write_emb _ _ _ (Finset.mem_univ _), hw]
    unfold sums
    rw [hm, e]
    rfl
  · rw [View.read_slice_write_of_not_mem]
    · exact hp y (hy.resolve_right e)
    · intro hmem
      obtain ⟨z, -, hz⟩ := Finset.mem_map.mp hmem
      have h0 := congrArg (fun q : S128x128.Idx => (q 0).val) hz
      have h1 : (z 0).val < 1 := (z 0).isLt
      have h2 : n + 1 * (z 0).val = (y 0).val := h0
      omega

theorem store_rows {κ : Kind} {sp : Space} (v : View sig κ sp S128x128 .f32) (f : v.ty.Contents (Elt F)) (G : S128x128x128.Idx → F .f32) (k : ℕ)
    {off0 off1 off2 off3 : Fin 2 → ℕ} (h0 : off0 = ![4 * k, 0]) (h1 : off1 = ![4 * k + 1, 0]) (h2 : off2 = ![4 * k + 2, 0]) (h3 : off3 = ![4 * k + 3, 0])
    (inb0 : ∀ a, off0 a + S1x128.size a ≤ S128x128.size a) (inb1 : ∀ a, off1 a + S1x128.size a ≤ S128x128.size a)
    (inb2 : ∀ a, off2 a + S1x128.size a ≤ S128x128.size a) (inb3 : ∀ a, off3 a + S1x128.size a ≤ S128x128.size a)
    (w0 w1 w2 w3 : S1x128.Idx → F .f32) (e0 : w0 = k0_pay3 (srow G (4 * k))) (e1 : w1 = k0_pay3 (srow G (4 * k + 1)))
    (e2 : w2 = k0_pay3 (srow G (4 * k + 2))) (e3 : w3 = k0_pay3 (srow G (4 * k + 3)))
    (hI : ∀ y : S128x128.Idx, (y 0).val < 4 * k → v.read (Elt F) f y = sums G y) (y : S128x128.Idx) (hy : (y 0).val < 4 * (k + 1)) :
    v.read (Elt F) (v.writes (Elt F) f [⟨Rect.unit (s := S128x128) off3 S1x128.size inb3, w3⟩, ⟨Rect.unit (s := S128x128) off2 S1x128.size inb2, w2⟩,
      ⟨Rect.unit (s := S128x128) off1 S1x128.size inb1, w1⟩, ⟨Rect.unit (s := S128x128) off0 S1x128.size inb0, w0⟩]) y = sums G y := by
  refine store_row v _ h3 inb3 G w3 e3 (fun a => a < 4 * k + 3) (fun y hy => ?_) y (by omega)
  refine store_row v _ h2 inb2 G w2 e2 (fun a => a < 4 * k + 2) (fun y hy => ?_) y (by omega)
  refine store_row v _ h1 inb1 G w1 e1 (fun a => a < 4 * k + 1) (fun y hy => ?_) y (by omega)
  exact store_row v f h0 inb0 G w0 e0 (fun a => a < 4 * k) hI y (by omega)

section Reduce
variable (c : Dev nD)
variable (i : grid0.Coords) (arg2 : Memref sig .tc .hbm S8388608 .i32) (harg2 : arg2.IsWhole) (arg3 : Memref sig .tc .hbm S131072 .i32) (harg3 : arg3.IsWhole) (arg4 : Memref sig .tc .vmem S128x16x128 .f32) (harg4 : arg4.IsWhole) (arg5 : Memref sig .tc .vmem S4096x16x128 .bf16) (harg5 : arg5.IsWhole) (arg6 : Memref sig .tc .vmem S128x128 .i32) (harg6 : arg6.IsWhole) (arg7 : Memref sig .tc .vmem S128x128 .f32) (harg7 : arg7.IsWhole) (arg8 : Memref sig .tc .vmem S2x128x128 .f32) (harg8 : arg8.IsWhole) (arg9 : Memref sig .tc .smem S32768 .i32) (harg9 : arg9.IsWhole) (arg10 : Memref sig .tc .smem S2048 .i32) (harg10 : arg10.IsWhole) (arg11 : Memref sig .tc .vmem S128x128x128 .f32) (harg11 : arg11.IsWhole) (arg12 : Memref sig .tc .vmem S128x128 .f32) (harg12 : arg12.IsWhole) (arg13 : DmaSems sig S2x2) (k0_h3 : k0_cond3 i = 1#1)

set_option maxHeartbeats 4000000 in
set_option backward.isDefEq.respectTransparency.types false in
theorem trip4 (k : Fin k0_t4_loop.trips) (f11 : Buf (Elt F) (arg11.view.loc (c : Thread nD τ))) (f12 : Buf (Elt F) (arg12.view.loc (c : Thread nD τ)))
    (hI : ∀ y : S128x128.Idx, (y 0).val < 4 * k.val → arg12.view.read (Elt F) f12 y = sums (arg11.view.read (Elt F) f11) y) :
    iprop((arg11.view.loc (c : Thread nD τ) ↦[arg11.view.set]{fullShare} f11) ∗ (arg12.view.loc (c : Thread nD τ) ↦[arg12.view.set]{fullShare} f12) : sProp 𝕄)
      ⊢ wp frame (wpE (defs₀ (F := F)) 𝒱₀ (c : Thread nD τ) none) Set.univ
          (k0_t4_body (F := F) i arg2 harg2 arg3 harg3 arg4 harg4 arg5 harg5 arg6 harg6 arg7 harg7 arg8 harg8 arg9 harg9 arg10 harg10 arg11 harg11 arg12 harg12 arg13 k0_h3 k ())
          (fun _ => iprop((arg11.view.loc (c : Thread nD τ) ↦[arg11.view.set]{fullShare} f11)
            ∗ (∃ f, (arg12.view.loc (c : Thread nD τ) ↦[arg12.view.set]{fullShare} f)
              ∗ ⌜∀ y : S128x128.Idx, (y 0).val < 4 * (k.val + 1) → arg12.view.read (Elt F) f y = sums (arg11.view.read (Elt F) f11) y⌝))) := by
  have hk : k.val < 32 := Nat.lt_of_lt_of_le k.isLt k0_t4_abs.2.1
  unfold k0_t4_body
  iintro ⟨H11, H12⟩
  sl_exec
  sl_step
  isplitl [H11]; · iexact H11
  iexists _
  isplitl [H12]; · iexact H12
  ipureintro
  intro y hy
  exact store_rows arg12.view f12 (arg11.view.read (Elt F) f11) k.val (off45 k 0 (by omega)) (off45 k 1 (by omega)) (off45 k 2 (by omega)) (off45 k 3 (by omega)) _ _ _ _
    _ _ _ _ (congrArg k0_pay3 (load_srow arg11.view f11 (off44 k 0 (by omega)) _)) (congrArg k0_pay3 (load_srow arg11.view f11 (off44 k 1 (by omega)) _))
    (congrArg k0_pay3 (load_srow arg11.view f11 (off44 k 2 (by omega)) _)) (congrArg k0_pay3 (load_srow arg11.view f11 (off44 k 3 (by omega)) _)) hI y hy

@[reducible] def loopInv4 (f11 : Buf (Elt F) (arg11.view.loc (c : Thread nD τ))) :
    LoopInvTy_k0_t4 (F := F) (Unit) (ℕ) (UU nD τ) (ℕ) 𝒱₀ c none Set.univ i arg2 harg2 arg3 harg3 arg4 harg4 arg5 harg5 arg6 harg6 arg7 harg7 arg8 harg8 arg9 harg9 arg10 harg10 arg11 harg11 arg12 harg12 arg13 k0_h3 where
  inv k _ := iprop((arg11.view.loc (c : Thread nD τ) ↦[arg11.view.set]{fullShare} f11)
      ∗ (∃ f, (arg12.view.loc (c : Thread nD τ) ↦[arg12.view.set]{fullShare} f)
        ∗ ⌜∀ y : S128x128.Idx, (y 0).val < 4 * k → arg12.view.read (Elt F) f y = sums (arg11.view.read (Elt F) f11) y⌝))
  step k a := by
    iintro ⟨H11, ⟨%f12, H12, %hI⟩⟩
    iapply (trip4 c i arg2 harg2 arg3 harg3 arg4 harg4 arg5 harg5 arg6 harg6 arg7 harg7 arg8 harg8 arg9 harg9 arg10 harg10 arg11 harg11 arg12 harg12 arg13 k0_h3 k f11 f12 hI) $$ [H11 H12]
    iframe

end Reduce
end Cert.KernelIdeal.Run
-- ==== Proof.Lists.lean ====
/- What the landed lists hold, in words of the two arrays they come from. -/
module

public import proofs.«01_k».proof.Proof.Prologue
public import proofs.«01_k».proof.Proof.Gen.KernelIdeal.Launch
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.KernelIdeal.Run

open Cert.KernelIdeal Cert.KernelIdeal.Gen Cert.KernelIdeal.W Cert.KernelIdeal.D
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-- Word `q` of the lists, and of the starts. -/
def wE (X : S8388608.Idx → BitVec 32) (q : ℕ) : BitVec 32 := X (fun a => match a with | ⟨0, _⟩ => (Fin.ofNat 8388608 q : Fin 8388608))
def wS (X : S131072.Idx → BitVec 32) (q : ℕ) : BitVec 32 := X (fun a => match a with | ⟨0, _⟩ => (Fin.ofNat 131072 q : Fin 131072))
/-- The lists of step `n` in either slot, and its starts. -/
def EL (X : S8388608.Idx → BitVec 32) (n : ℕ) : S32768.Idx → BitVec 32 := fun y => wE X (grpE (n % 512) + (y 0).val % 16384)
def SL (X : S131072.Idx → BitVec 32) (n : ℕ) : S2048.Idx → BitVec 32 := fun y => wS X (grpS (n % 512) + (y 0).val % 1024)

section Landed
variable (c : Dev nD) (XE : Buf (Elt F) (aE.view.loc (c : Thread nD τ))) (XS : Buf (Elt F) (aS.view.loc (c : Thread nD τ)))

theorem landE_read (n : ℕ) (f : Buf (Elt F) ((eslot mE n).view.loc (c : Thread nD τ))) (q : ℕ) (h0 : n % 2 * 16384 ≤ q) (h1 : q < n % 2 * 16384 + 16384) :
    rdE (mE.view.read (Elt F) (landE c XE n f)) q = rdE (EL (aE.view.read (Elt F) XE) n) q := by
  let z : S16384.Idx := fun a => match a with | ⟨0, _⟩ => (Fin.ofNat 16384 q : Fin 16384)
  have e1 : (eslot mE n).view.read (Elt F) (landE c XE n f) z = (gE n).view.read (Elt F) XE z :=
    View.read_slice_write_emb (v := (eslot mE n).view) (Rect.whole S16384) f _ (Finset.mem_univ z) |> fun h => by
      have hz : (Rect.whole S16384).emb z = z := funext fun a => Fin.ext (show 0 + 1 * (z a).val = (z a).val by omega)
      rw [hz] at h
      exact h
  have e2 : (eslot mE n).view.read (Elt F) (landE c XE n f) z
      = mE.view.read (Elt F) (landE c XE n f) ((Rect.unit (s := S32768) (eOff n) S16384.size (eOff_inb n)).emb z) := rfl
  have e3 : (gE n).view.read (Elt F) XE z = aE.view.read (Elt F) XE ((Rect.unit (s := S8388608) (gEOff n) S16384.size (gEOff_inb n)).emb z) := rfl
  have i1 : (Rect.unit (s := S32768) (eOff n) S16384.size (eOff_inb n)).emb z = (fun a => match a with | ⟨0, _⟩ => (Fin.ofNat 32768 q : Fin 32768)) := by
    funext a; refine Fin.ext ?_
    match a with
    | ⟨0, _⟩ => show n % 2 * 16384 + 1 * (q % 16384) = q % 32768; omega
  refine (congrArg (mE.view.read (Elt F) (landE c XE n f)) i1.symm).trans (e2.symm.trans (e1.trans (e3.trans (congrArg (aE.view.read (Elt F) XE) ?_))))
  funext a; refine Fin.ext ?_
  match a with
  | ⟨0, _⟩ =>
    show grpE (n % 512) + 1 * (q % 16384) = (grpE (n % 512) + q % 32768 % 16384) % 8388608
    have : grpE (n % 512) + 16384 ≤ 8388608 := gEOff_inb n 0
    omega

theorem landS_read (n : ℕ) (f : Buf (Elt F) ((sslot mS n).view.loc (c : Thread nD τ))) (q : ℕ) (h0 : n % 2 * 1024 ≤ q) (h1 : q < n % 2 * 1024 + 1024) :
    rdS (mS.view.read (Elt F) (landS c XS n f)) q = rdS (SL (aS.view.read (Elt F) XS) n) q := by
  let z : S1024.Idx := fun a => match a with | ⟨0, _⟩ => (Fin.ofNat 1024 q : Fin 1024)
  have e1 : (sslot mS n).view.read (Elt F) (landS c XS n f) z = (gS n).view.read (Elt F) XS z :=
    View.read_slice_write_emb (v := (sslot mS n).view) (Rect.whole S1024) f _ (Finset.mem_univ z) |> fun h => by
      have hz : (Rect.whole S1024).emb z = z := funext fun a => Fin.ext (show 0 + 1 * (z a).val = (z a).val by omega)
      rw [hz] at h
      exact h
  have e2 : (sslot mS n).view.read (Elt F) (landS c XS n f) z
      = mS.view.read (Elt F) (landS c XS n f) ((Rect.unit (s := S2048) (sOff n) S1024.size (sOff_inb n)).emb z) := rfl
  have e3 : (gS n).view.read (Elt F) XS z = aS.view.read (Elt F) XS ((Rect.unit (s := S131072) (gSOff n) S1024.size (gSOff_inb n)).emb z) := rfl
  have i1 : (Rect.unit (s := S2048) (sOff n) S1024.size (sOff_inb n)).emb z = (fun a => match a with | ⟨0, _⟩ => (Fin.ofNat 2048 q : Fin 2048)) := by
    funext a; refine Fin.ext ?_
    match a with
    | ⟨0, _⟩ => show n % 2 * 1024 + 1 * (q % 1024) = q % 2048; omega
  refine (congrArg (mS.view.read (Elt F) (landS c XS n f)) i1.symm).trans (e2.symm.trans (e1.trans (e3.trans (congrArg (aS.view.read (Elt F) XS) ?_))))
  funext a; refine Fin.ext ?_
  match a with
  | ⟨0, _⟩ =>
    show grpS (n % 512) + 1 * (q % 1024) = (grpS (n % 512) + q % 2048 % 1024) % 131072
    have : grpS (n % 512) + 1024 ≤ 131072 := gSOff_inb n 0
    omega

end Landed

theorem parts_congr (h : S16x128.Idx → F .f32) (u u' : ℕ → S1x16x128.Idx → F .bf16) (hu : ∀ r, r < 8 → u r = u' r) : parts h u = parts h u' := by
  funext p
  match p with
  | 0 => simp only [parts, hu 0 (by decide), hu 4 (by decide)]
  | 1 => simp only [parts, hu 1 (by decide), hu 5 (by decide)]
  | 2 => simp only [parts, hu 2 (by decide), hu 6 (by decide)]
  | p + 3 => simp only [parts, hu 3 (by decide), hu 7 (by decide)]

/-- The step's fact, of lists that agree on the step's slot. -/
theorem I1.congr {n b : ℕ} {S S' : S2048.Idx → BitVec 32} {E E' : S32768.Idx → BitVec 32} {H : S128x16x128.Idx → F .f32} {U : S4096x16x128.Idx → F .bf16}
    {G0 G : S128x128x128.Idx → F .f32} (hb : b < 4)
    (hS : ∀ q, n % 2 * 1024 ≤ q → q < n % 2 * 1024 + 1024 → rdS S q = rdS S' q)
    (hE : ∀ q, n % 2 * 16384 ≤ q → q < n % 2 * 16384 + 16384 → rdE E q = rdE E' q)
    (h : I1 n b 128 S E H U G0 G) : I1 n b 128 S' E' H U G0 G := by
  have e0 : ∀ t, t < 128 → st0 S n b t = st0 S' n b t := fun t ht => congrArg BitVec.toNat (hS _ (by omega) (by omega))
  have e1 : ∀ t, t < 128 → st1 S n b t = st1 S' n b t := fun t ht => congrArg BitVec.toNat (hS _ (by omega) (by omega))
  have ev : ∀ y, sval n E H U y = sval n E' H U y := by
    intro y
    have y0 : (y 0).val < 128 := (y 0).isLt
    have y1 : (y 1).val < 128 := (y 1).isLt
    unfold sval cval idw
    have hr : ∀ r, r < 8 → rdE E (n % 2 * 16384 + 128 * (y 0).val + 8 * ((y 1).val / 8) + r) = rdE E' (n % 2 * 16384 + 128 * (y 0).val + 8 * ((y 1).val / 8) + r) :=
      fun r hr => hE _ (by omega) (by omega)
    rw [parts_congr _ _ _ fun r hr' => congrArg (fun w : BitVec 32 => urow U w.toNat) (hr r hr')]
  constructor
  · intro y a0 a1 a2
    rw [← e0 _ a0] at a1
    rw [← e1 _ a0] at a2
    exact (h.1 y a0 a1 a2).trans (ev y)
  · intro y hy
    refine h.2 y fun ⟨a0, a1, a2⟩ => hy ⟨a0, ?_, ?_⟩
    · rw [← e0 _ a0]; exact a1
    · rw [← e1 _ a0]; exact a2

end Cert.KernelIdeal.Run
-- ==== Proof.Body.lean ====
/- A step after its lists have landed: the tokens, then at the last block the sums and what is stored. -/
module

public import proofs.«01_k».proof.Proof.Reduce
public import proofs.«01_k».proof.Proof.Lists
public import proofs.«01_k».proof.Proof.Gen.KernelIdeal.Launch
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.KernelIdeal.Run

open Cert.KernelIdeal Cert.KernelIdeal.Gen Cert.KernelIdeal.W Cert.KernelIdeal.D
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

abbrev mG : Memref sig .tc .vmem S128x128x128 .f32 := Memref.whole cc0_scratch2
abbrev mA : Memref sig .tc .vmem S128x128 .f32 := Memref.whole cc0_scratch3

/-- What the last block stores, of the gate, the sums and the expert numbers. -/
def outv (g a : S128x128.Idx → F .f32) (e : S128x128.Idx → BitVec 32) (y : S2x128x128.Idx) : F .f32 :=
  if (y 0).val = 0 then k0_pay6 g a e (fun q => match q with | ⟨0, _⟩ => (0 : Fin 1) | ⟨1, _⟩ => (y 1 : Fin 128) | ⟨2, _⟩ => (y 2 : Fin 128))
  else k0_pay7 g a e (fun q => match q with | ⟨0, _⟩ => (0 : Fin 1) | ⟨1, _⟩ => (y 1 : Fin 128) | ⟨2, _⟩ => (y 2 : Fin 128))

theorem load2 {e : EltTy} {sp : Space} (v : View sig .tc sp S128x128 e) (f : v.ty.Contents (Elt F)) (inb : ∀ a, (![0, 0] : Fin 2 → ℕ) a + S128x128.size a ≤ S128x128.size a) :
    v.readAt (Elt F) (Rect.unit (s := S128x128) ![0, 0] S128x128.size inb).toLoadRect f = v.read (Elt F) f := by
  rw [View.readAt_unit v f inb rfl inb]
  funext y
  show v.read (Elt F) f _ = v.read (Elt F) f _
  congr 1
  funext a
  refine Fin.ext ?_
  match a with
  | ⟨0, _⟩ => show 0 + 1 * (y 0).val = (y 0).val; omega
  | ⟨1, _⟩ => show 0 + 1 * (y 1).val = (y 1).val; omega

theorem out_read {sp : Space} (v : View sig .tc sp S2x128x128 .f32) (f : v.ty.Contents (Elt F)) (g a : S128x128.Idx → F .f32) (e : S128x128.Idx → BitVec 32)
    (inb0 : ∀ a, (![0, 0, 0] : Fin 3 → ℕ) a + S1x128x128.size a ≤ S2x128x128.size a) (inb1 : ∀ a, (![1, 0, 0] : Fin 3 → ℕ) a + S1x128x128.size a ≤ S2x128x128.size a)
    (g' a' : S128x128.Idx → F .f32) (e' : S128x128.Idx → BitVec 32) (hg : g' = g) (ha : a' = a) (he : e' = e) :
    v.read (Elt F) (v.writes (Elt F) f [⟨Rect.unit (s := S2x128x128) ![1, 0, 0] S1x128x128.size inb1, k0_pay7 g' a' e'⟩,
      ⟨Rect.unit (s := S2x128x128) ![0, 0, 0] S1x128x128.size inb0, k0_pay6 g' a' e'⟩]) = outv g a e := by
  subst hg ha he
  funext y
  have h0 : (y 0).val < 2 := (y 0).isLt
  let z : S1x128x128.Idx := fun q => match q with | ⟨0, _⟩ => (0 : Fin 1) | ⟨1, _⟩ => (y 1 : Fin 128) | ⟨2, _⟩ => (y 2 : Fin 128)
  by_cases e : (y 0).val = 0
  · have hz : (Rect.unit (s := S2x128x128) ![0, 0, 0] S1x128x128.size inb0).emb z = y := by
      funext a; refine Fin.ext ?_
      match a with
      | ⟨0, _⟩ => show 0 + 1 * 0 = (y 0).val; omega
      | ⟨1, _⟩ => show 0 + 1 * (y 1).val = (y 1).val; omega
      | ⟨2, _⟩ => show 0 + 1 * (y 2).val = (y 2).val; omega
    have hn : y ∉ Finset.map (Rect.unit (s := S2x128x128) ![1, 0, 0] S1x128x128.size inb1).emb Finset.univ := by
      intro hmem
      obtain ⟨x, -, hx⟩ := Finset.mem_map.mp hmem
      have c0 : 1 + 1 * (x 0).val = (y 0).val := congrArg Fin.val (congrFun hx 0)
      omega
    refine (View.read_slice_write_of_not_mem (v := v) _ _ _ _ hn).trans ?_
    · refine (congrArg (v.read (Elt F) _) hz.symm).trans ((View.read_slice_write_emb (v := v) _ _ _ (Finset.mem_univ z)).trans ?_)
      unfold outv
      rw [if_pos e]
  · have hz : (Rect.unit (s := S2x128x128) ![1, 0, 0] S1x128x128.size inb1).emb z = y := by
      funext a; refine Fin.ext ?_
      match a with
      | ⟨0, _⟩ => show 1 + 1 * 0 = (y 0).val; omega
      | ⟨1, _⟩ => show 0 + 1 * (y 1).val = (y 1).val; omega
      | ⟨2, _⟩ => show 0 + 1 * (y 2).val = (y 2).val; omega
    refine (congrArg (v.read (Elt F) _) hz.symm).trans ((View.read_slice_write_emb (v := v) _ _ _ (Finset.mem_univ z)).trans ?_)
    unfold outv
    rw [if_neg e]

section Tail
variable (c : Dev nD)

/-- A step's body after its lists have landed. -/
noncomputable def tailProg (i : grid0.Coords) (arg4 : Memref sig .tc .vmem S128x16x128 .f32) (harg4 : arg4.IsWhole) (arg5 : Memref sig .tc .vmem S4096x16x128 .bf16) (harg5 : arg5.IsWhole) (arg6 : Memref sig .tc .vmem S128x128 .i32) (harg6 : arg6.IsWhole) (arg7 : Memref sig .tc .vmem S128x128 .f32) (harg7 : arg7.IsWhole) (arg8 : Memref sig .tc .vmem S2x128x128 .f32) (harg8 : arg8.IsWhole) (v31 v33 : BitVec 32) (v34 : IVec S8x128 32) : Prog (TpuEff nD τ sig (Elt F) Λ₀ .tc) PUnit := do
  Scf.Loop.for k0_t1_loop k0_t1_ok ⟨⟩ (k0_t1_body i aE (Memref.isWhole_whole _) aS (Memref.isWhole_whole _) arg4 harg4 arg5 harg5 arg6 harg6 arg7 harg7 arg8 harg8 mE (Memref.isWhole_whole _) mS (Memref.isWhole_whole _) mG (Memref.isWhole_whole _) mA (Memref.isWhole_whole _) cc0_scratch4 v31 v33 v34)

  if k0_h3 : k0_cond3 i = 1#1 then do

    Scf.Loop.for k0_t4_loop (k0_t4_ok i k0_h3) ⟨⟩ (k0_t4_body i aE (Memref.isWhole_whole _) aS (Memref.isWhole_whole _) arg4 harg4 arg5 harg5 arg6 harg6 arg7 harg7 arg8 harg8 mE (Memref.isWhole_whole _) mS (Memref.isWhole_whole _) mG (Memref.isWhole_whole _) mA (Memref.isWhole_whole _) cc0_scratch4 k0_h3)
    let v40 : Vec F S128x128 .f32 ← Prog.lift (.load arg7 (Rect.unit (s := S128x128) ![0, 0] S128x128.size inb_S128x128_S128x128_0_0).toLoadRect (View.loadsAt_vmem h_S128x128))
    let v41 : Vec F S128x128 .f32 ← Prog.lift (.load mA (Rect.unit (s := S128x128) ![0, 0] S128x128.size inb_S128x128_S128x128_0_0).toLoadRect (View.loadsAt_vmem h_S128x128))
    let v51 : Vec F S128x128 .i32 ← Prog.lift (.load arg6 (Rect.unit (s := S128x128) ![0, 0] S128x128.size inb_S128x128_S128x128_0_0).toLoadRect (View.loadsAt_vmem h_S128x128))
    let v58 : Vec F S1x128x128 .f32 ← Prog.lift (.load arg8 (Rect.unit (s := S2x128x128) ![0, 0, 0] S1x128x128.size inb_S2x128x128_S1x128x128_0_0_0).toLoadRect (View.loadsAt_vmem h_S1x128x128))

    Prog.lift (.store arg8 (Rect.unit (s := S2x128x128) ![0, 0, 0] S1x128x128.size inb_S2x128x128_S1x128x128_0_0_0) (k0_pay6 v40 v41 v51) Finset.univ (View.stores_vmem_bits_univ h_S1x128x128 rfl) (.inl rfl))
    let v65 : Vec F S1x128x128 .f32 ← Prog.lift (.load arg8 (Rect.unit (s := S2x128x128) ![1, 0, 0] S1x128x128.size inb_S2x128x128_S1x128x128_1_0_0).toLoadRect (View.loadsAt_vmem h_S1x128x128))

    Prog.lift (.store arg8 (Rect.unit (s := S2x128x128) ![1, 0, 0] S1x128x128.size inb_S2x128x128_S1x128x128_1_0_0) (k0_pay7 v40 v41 v51) Finset.univ (View.stores_vmem_bits_univ h_S1x128x128 rfl) (.inl rfl))
    pure ⟨⟩
  else do
    pure ⟨⟩
  pure ⟨⟩

set_option maxRecDepth 65536 in
theorem skel_tail (i : grid0.Coords) (arg4 : Memref sig .tc .vmem S128x16x128 .f32) (harg4 : arg4.IsWhole) (arg5 : Memref sig .tc .vmem S4096x16x128 .bf16) (harg5 : arg5.IsWhole) (arg6 : Memref sig .tc .vmem S128x128 .i32) (harg6 : arg6.IsWhole) (arg7 : Memref sig .tc .vmem S128x128 .f32) (harg7 : arg7.IsWhole) (arg8 : Memref sig .tc .vmem S2x128x128 .f32) (harg8 : arg8.IsWhole) : cc0__act_kernel (F := F) i aE (Memref.isWhole_whole _) aS (Memref.isWhole_whole _) arg4 harg4 arg5 harg5 arg6 harg6 arg7 harg7 arg8 harg8 mE (Memref.isWhole_whole _) mS (Memref.isWhole_whole _) mG (Memref.isWhole_whole _) mA (Memref.isWhole_whole _) cc0_scratch4 = (k0_part10 (F := F) i aE (Memref.isWhole_whole _) aS (Memref.isWhole_whole _) arg4 harg4 arg5 harg5 arg6 harg6 arg7 harg7 arg8 harg8 mE (Memref.isWhole_whole _) mS (Memref.isWhole_whole _) mG (Memref.isWhole_whole _) mA (Memref.isWhole_whole _) cc0_scratch4 >>= fun r => tailProg i arg4 harg4 arg5 harg5 arg6 harg6 arg7 harg7 arg8 harg8 r.2.1 r.2.2.1 r.2.2.2) := rfl

set_option maxHeartbeats 4000000 in
set_option backward.isDefEq.respectTransparency.types false in
theorem tail_run (i : grid0.Coords) (arg4 : Memref sig .tc .vmem S128x16x128 .f32) (harg4 : arg4.IsWhole) (arg5 : Memref sig .tc .vmem S4096x16x128 .bf16) (harg5 : arg5.IsWhole) (arg6 : Memref sig .tc .vmem S128x128 .i32) (harg6 : arg6.IsWhole) (arg7 : Memref sig .tc .vmem S128x128 .f32) (harg7 : arg7.IsWhole) (arg8 : Memref sig .tc .vmem S2x128x128 .f32) (harg8 : arg8.IsWhole) (v31 v33 : BitVec 32) (v34 : IVec S8x128 32) (e34 : v34 = iota8) (h3 : k0_cond3 i = 1#1)
    (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ)))
    (f9 : Buf (Elt F) (mE.view.loc (c : Thread nD τ))) (f10 : Buf (Elt F) (mS.view.loc (c : Thread nD τ))) (f11 : Buf (Elt F) (mG.view.loc (c : Thread nD τ))) (f12 : Buf (Elt F) (mA.view.loc (c : Thread nD τ)))
    (hE : ∀ q, stepN i % 2 * 16384 ≤ q → q < stepN i % 2 * 16384 + 16384 → (rdE (mE.view.read (Elt F) f9) q).toNat < 4096)
    (hs : ∀ q, stepN i % 2 * 1024 ≤ q → q < stepN i % 2 * 1024 + 1024 → (rdS (mS.view.read (Elt F) f10) q).toNat ≤ 128) :
    iprop(readP c i arg4 arg5 mE mS f4 f5 f9 f10 ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (mG.view.loc (c : Thread nD τ) ↦[mG.view.set]{fullShare} f11) ∗ (mA.view.loc (c : Thread nD τ) ↦[mA.view.set]{fullShare} f12))
      ⊢ wp frame (wpE (defs₀ (F := F)) 𝒱₀ (c : Thread nD τ) none) Set.univ (tailProg (F := F) i arg4 harg4 arg5 harg5 arg6 harg6 arg7 harg7 arg8 harg8 v31 v33 v34)
        (fun _ => iprop(readP c i arg4 arg5 mE mS f4 f5 f9 f10 ∗ (arg6.view.loc (c : Thread nD τ) ↦[arg6.view.set]{fullShare} f6) ∗ (arg7.view.loc (c : Thread nD τ) ↦[arg7.view.set]{fullShare} f7)
          ∗ (∃ g8 g11 g12, (arg8.view.loc (c : Thread nD τ) ↦[arg8.view.set]{fullShare} g8) ∗ (mG.view.loc (c : Thread nD τ) ↦[mG.view.set]{fullShare} g11) ∗ (mA.view.loc (c : Thread nD τ) ↦[mA.view.set]{fullShare} g12)
            ∗ ⌜I1 (stepN i) (i 1).val 128 (mS.view.read (Elt F) f10) (mE.view.read (Elt F) f9) (arg4.view.read (Elt F) f4) (arg5.view.read (Elt F) f5) (mG.view.read (Elt F) f11) (mG.view.read (Elt F) g11)
              ∧ arg8.view.read (Elt F) g8 = outv (arg7.view.read (Elt F) f7) (sums (mG.view.read (Elt F) g11)) (arg6.view.read (Elt F) f6)⌝))) := by
  unfold tailProg
  iintro ⟨HR, H6, H7, H8, H11, H12⟩
  sl_for (fun k (_ : PUnit) => iprop(readP c i arg4 arg5 mE mS f4 f5 f9 f10
            ∗ (∃ f, (mG.view.loc (c : Thread nD τ) ↦[mG.view.set]{fullShare} f)
              ∗ ⌜I1 (stepN i) (i 1).val k (mS.view.read (Elt F) f10) (mE.view.read (Elt F) f9) (arg4.view.read (Elt F) f4) (arg5.view.read (Elt F) f5) (mG.view.read (Elt F) f11) (mG.view.read (Elt F) f)⌝))) $$ [HR H11]
  case region => intro k a; exact (loopInv1 c i aE (Memref.isWhole_whole _) aS (Memref.isWhole_whole _) arg4 harg4 arg5 harg5 arg6 harg6 arg7 harg7 arg8 harg8 mE (Memref.isWhole_whole _) mS (Memref.isWhole_whole _) mG (Memref.isWhole_whole _) mA (Memref.isWhole_whole _) cc0_scratch4 v31 v33 v34 f4 f5 f9 f10 (mG.view.read (Elt F) f11) e34 hE hs).step k a
  · isplitl [HR]; · iexact HR
    iexists f11
    isplitl [H11]; · iexact H11
    ipureintro
    exact ⟨fun y h => absurd h (Nat.not_lt_zero _), fun y _ => rfl⟩
  iintro %a ⟨HR, ⟨%g11, H11, %h1⟩⟩
  sl_exec
  sl_for (fun k (_ : PUnit) => iprop((mG.view.loc (c : Thread nD τ) ↦[mG.view.set]{fullShare} g11)
      ∗ (∃ f, (mA.view.loc (c : Thread nD τ) ↦[mA.view.set]{fullShare} f)
        ∗ ⌜∀ y : S128x128.Idx, (y 0).val < 4 * k → mA.view.read (Elt F) f y = sums (mG.view.read (Elt F) g11) y⌝))) $$ [H11 H12]
  case region => intro k a; exact (loopInv4 c i aE (Memref.isWhole_whole _) aS (Memref.isWhole_whole _) arg4 harg4 arg5 harg5 arg6 harg6 arg7 harg7 arg8 harg8 mE (Memref.isWhole_whole _) mS (Memref.isWhole_whole _) mG (Memref.isWhole_whole _) mA (Memref.isWhole_whole _) cc0_scratch4 h3 g11).step k a
  · isplitl [H11]; · iexact H11
    iexists f12
    isplitl [H12]; · iexact H12
    ipureintro
    exact fun y h => absurd h (Nat.not_lt_zero _)
  iintro %a ⟨H11, ⟨%g12, H12, %h4⟩⟩
  sl_exec
  sl_step
  isplitl [HR]; · iexact HR
  isplitl [H6]; · iexact H6
  isplitl [H7]; · iexact H7
  iexists _, g11, g12
  isplitl [H8]; · iexact H8
  isplitl [H11]; · iexact H11
  isplitl [H12]; · iexact H12
  ipureintro
  have h1' : I1 (stepN i) (i 1).val k0_t1_loop.trips (mS.view.read (Elt F) f10) (mE.view.read (Elt F) f9) (arg4.view.read (Elt F) f4) (arg5.view.read (Elt F) f5) (mG.view.read (Elt F) f11) (mG.view.read (Elt F) g11) := h1
  rw [trips1] at h1'
  have h4' : ∀ y : S128x128.Idx, (y 0).val < 4 * k0_t4_loop.trips → mA.view.read (Elt F) g12 y = sums (mG.view.read (Elt F) g11) y := h4
  rw [trips4] at h4'
  exact ⟨h1', out_read arg8.view f8 _ _ _ _ _ _ _ _ (load2 arg7.view f7 _) ((load2 mA.view g12 _).trans (funext fun y => h4' y (y 0).isLt)) (load2 arg6.view f6 _)⟩

set_option maxHeartbeats 4000000 in
set_option backward.isDefEq.respectTransparency.types false in
theorem tail_idle (i : grid0.Coords) (arg4 : Memref sig .tc .vmem S128x16x128 .f32) (harg4 : arg4.IsWhole) (arg5 : Memref sig .tc .vmem S4096x16x128 .bf16) (harg5 : arg5.IsWhole) (arg6 : Memref sig .tc .vmem S128x128 .i32) (harg6 : arg6.IsWhole) (arg7 : Memref sig .tc .vmem S128x128 .f32) (harg7 : arg7.IsWhole) (arg8 : Memref sig .tc .vmem S2x128x128 .f32) (harg8 : arg8.IsWhole) (v31 v33 : BitVec 32) (v34 : IVec S8x128 32) (e34 : v34 = iota8) (h3 : ¬ k0_cond3 i = 1#1)
    (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ)))
    (f9 : Buf (Elt F) (mE.view.loc (c : Thread nD τ))) (f10 : Buf (Elt F) (mS.view.loc (c : Thread nD τ))) (f11 : Buf (Elt F) (mG.view.loc (c : Thread nD τ))) (f12 : Buf (Elt F) (mA.view.loc (c : Thread nD τ)))
    (hE : ∀ q, stepN i % 2 * 16384 ≤ q → q < stepN i % 2 * 16384 + 16384 → (rdE (mE.view.read (Elt F) f9) q).toNat < 4096)
    (hs : ∀ q, stepN i % 2 * 1024 ≤ q → q < stepN i % 2 * 1024 + 1024 → (rdS (mS.view.read (Elt F) f10) q).toNat ≤ 128) :
    iprop(readP c i arg4 arg5 mE mS f4 f5 f9 f10 ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (mG.view.loc (c : Thread nD τ) ↦[mG.view.set]{fullShare} f11) ∗ (mA.view.loc (c : Thread nD τ) ↦[mA.view.set]{fullShare} f12))
      ⊢ wp frame (wpE (defs₀ (F := F)) 𝒱₀ (c : Thread nD τ) none) Set.univ (tailProg (F := F) i arg4 harg4 arg5 harg5 arg6 harg6 arg7 harg7 arg8 harg8 v31 v33 v34)
        (fun _ => iprop(readP c i arg4 arg5 mE mS f4 f5 f9 f10 ∗ (arg6.view.loc (c : Thread nD τ) ↦[arg6.view.set]{fullShare} f6) ∗ (arg7.view.loc (c : Thread nD τ) ↦[arg7.view.set]{fullShare} f7)
          ∗ (∃ g8 g11 g12, (arg8.view.loc (c : Thread nD τ) ↦[arg8.view.set]{fullShare} g8) ∗ (mG.view.loc (c : Thread nD τ) ↦[mG.view.set]{fullShare} g11) ∗ (mA.view.loc (c : Thread nD τ) ↦[mA.view.set]{fullShare} g12)
            ∗ ⌜I1 (stepN i) (i 1).val 128 (mS.view.read (Elt F) f10) (mE.view.read (Elt F) f9) (arg4.view.read (Elt F) f4) (arg5.view.read (Elt F) f5) (mG.view.read (Elt F) f11) (mG.view.read (Elt F) g11)
              ∧ g8 = f8⌝))) := by
  unfold tailProg
  iintro ⟨HR, H6, H7, H8, H11, H12⟩
  sl_for (fun k (_ : PUnit) => iprop(readP c i arg4 arg5 mE mS f4 f5 f9 f10
            ∗ (∃ f, (mG.view.loc (c : Thread nD τ) ↦[mG.view.set]{fullShare} f)
              ∗ ⌜I1 (stepN i) (i 1).val k (mS.view.read (Elt F) f10) (mE.view.read (Elt F) f9) (arg4.view.read (Elt F) f4) (arg5.view.read (Elt F) f5) (mG.view.read (Elt F) f11) (mG.view.read (Elt F) f)⌝))) $$ [HR H11]
  case region => intro k a; exact (loopInv1 c i aE (Memref.isWhole_whole _) aS (Memref.isWhole_whole _) arg4 harg4 arg5 harg5 arg6 harg6 arg7 harg7 arg8 harg8 mE (Memref.isWhole_whole _) mS (Memref.isWhole_whole _) mG (Memref.isWhole_whole _) mA (Memref.isWhole_whole _) cc0_scratch4 v31 v33 v34 f4 f5 f9 f10 (mG.view.read (Elt F) f11) e34 hE hs).step k a
  · isplitl [HR]; · iexact HR
    iexists f11
    isplitl [H11]; · iexact H11
    ipureintro
    exact ⟨fun y h => absurd h (Nat.not_lt_zero _), fun y _ => rfl⟩
  iintro %a ⟨HR, ⟨%g11, H11, %h1⟩⟩
  sl_exec
  sl_step
  isplitl [HR]; · iexact HR
  isplitl [H6]; · iexact H6
  isplitl [H7]; · iexact H7
  iexists f8, g11, f12
  isplitl [H8]; · iexact H8
  isplitl [H11]; · iexact H11
  isplitl [H12]; · iexact H12
  ipureintro
  have h1' : I1 (stepN i) (i 1).val k0_t1_loop.trips (mS.view.read (Elt F) f10) (mE.view.read (Elt F) f9) (arg4.view.read (Elt F) f4) (arg5.view.read (Elt F) f5) (mG.view.read (Elt F) f11) (mG.view.read (Elt F) g11) := h1
  rw [trips1] at h1'
  exact ⟨h1', rfl⟩

end Tail
end Cert.KernelIdeal.Run
-- ==== Proof.Step.lean ====
/- One step whole: its lists, its tokens, and at the last block what it stores. -/
module

public import proofs.«01_k».proof.Proof.Body
public import proofs.«01_k».proof.Proof.Gen.KernelIdeal.Launch
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.KernelIdeal.Run

open Cert.KernelIdeal Cert.KernelIdeal.Gen Cert.KernelIdeal.W Cert.KernelIdeal.D
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

theorem eslot_add2 (s : ℕ) : eslot mE (s + 2) = eslot mE s :=
  Memref.slice_unit_congr _ (show eOff (s + 2) = eOff s by unfold eOff; rw [Nat.add_mod_right]) _ _ (fun _ => rfl) (fun _ => rfl)
theorem sslot_add2 (s : ℕ) : sslot mS (s + 2) = sslot mS s :=
  Memref.slice_unit_congr _ (show sOff (s + 2) = sOff s by unfold sOff; rw [Nat.add_mod_right]) _ _ (fun _ => rfl) (fun _ => rfl)
theorem cell_add2 (s q : ℕ) : cell (s + 2) q = cell s q :=
  cell_congr (show cOff (s + 2) q = cOff s q by unfold cOff; rw [Nat.add_mod_right]) _
theorem shr_add2 (s : ℕ) : shr (s + 2) = shr s := by unfold shr; rw [Nat.add_mod_right]

section Step
variable (c : Dev nD) (XE : Buf (Elt F) (aE.view.loc (c : Thread nD τ))) (XS : Buf (Elt F) (aS.view.loc (c : Thread nD τ)))

theorem R0_add2 (s : ℕ) : R0 c XE XS (s + 2) = R0 c XE XS s := by
  unfold R0
  have e1 : (iprop(∃ f, eP (F := F) c (s + 2) f) : sProp 𝕄) = iprop(∃ f, eP (F := F) c s f) := by unfold eP; rw [eslot_add2]
  have e2 : (iprop(∃ f, sP (F := F) c (s + 2) f) : sProp 𝕄) = iprop(∃ f, sP (F := F) c s f) := by unfold sP; rw [sslot_add2]
  rw [e1, e2]
  unfold cellP wEP wSP
  rw [cell_add2, cell_add2, shr_add2]

theorem R2_R0 (s : ℕ) : R2 c XE XS s ⊢ R0 c XE XS s := by
  unfold R2 R0
  iintro ⟨⟨%f, H0⟩, ⟨%g, H1⟩, HR⟩
  isplitl [H0]; · iexists _; iexact H0
  isplitl [H1]; · iexists _; iexact H1
  iexact HR

/-- The slot of step `s` before that step: its transfers in flight, but before the first step and after the last. -/
def Rn (s : ℕ) : sProp 𝕄 := if 1 ≤ s ∧ s < 512 then R1 c XE XS s else R0 c XE XS s
/-- Both slots before step `s`. -/
def Sin (s : ℕ) : sProp 𝕄 := iprop(Rn c XE XS s ∗ R0 c XE XS (s + 1))

theorem Sin_next (s : ℕ) : iprop(R0 c XE XS s ∗ Rn c XE XS (s + 1)) ⊢ Sin c XE XS (s + 1) := by
  unfold Sin
  rw [R0_add2]
  iintro ⟨H0, H1⟩
  isplitl [H1]; · iexact H1
  iexact H0

theorem prologue (i : grid0.Coords) (arg4 : Memref sig .tc .vmem S128x16x128 .f32) (harg4 : arg4.IsWhole) (arg5 : Memref sig .tc .vmem S4096x16x128 .bf16) (harg5 : arg5.IsWhole) (arg6 : Memref sig .tc .vmem S128x128 .i32) (harg6 : arg6.IsWhole) (arg7 : Memref sig .tc .vmem S128x128 .f32) (harg7 : arg7.IsWhole) (arg8 : Memref sig .tc .vmem S2x128x128 .f32) (harg8 : arg8.IsWhole) (W) :
    iprop(Sin c XE XS (stepN i) ∗ owes (c : Thread nD τ) 0 W)
      ⊢ wp frame (wpE (defs₀ (F := F)) 𝒱₀ (c : Thread nD τ) none) Set.univ (k0_part10 (F := F) i aE (Memref.isWhole_whole _) aS (Memref.isWhole_whole _) arg4 harg4 arg5 harg5 arg6 harg6 arg7 harg7 arg8 harg8 mE (Memref.isWhole_whole _) mS (Memref.isWhole_whole _) mG (Memref.isWhole_whole _) mA (Memref.isWhole_whole _) cc0_scratch4)
        (fun r => iprop(⌜r.2.2.2 = iota8⌝ ∗ R2 c XE XS (stepN i) ∗ Rn c XE XS (stepN i + 1) ∗ (∃ W, owes (c : Thread nD τ) 0 W))) := by
  have hn := stepN_lt i
  unfold Sin
  by_cases h1 : k0_cond1 i = 1#1
  · have e0 : stepN i = 0 := (cond1 i).mp h1
    have h : stepN i + 1 < 512 := by omega
    rw [show Rn c XE XS (stepN i) = R0 c XE XS (stepN i) from if_neg (by omega), show Rn c XE XS (stepN i + 1) = R1 c XE XS (stepN i + 1) from if_pos (by omega)]
    refine BIBase.Entails.trans ?_ (prologueA c XE XS i arg4 harg4 arg5 harg5 arg6 harg6 arg7 harg7 arg8 harg8 h1 ((cond2 i).mpr h) h W)
    iintro ⟨⟨H0, H1⟩, HW⟩
    iframe
  · have e0 : stepN i ≠ 0 := fun e => h1 ((cond1 i).mpr e)
    rw [show Rn c XE XS (stepN i) = R1 c XE XS (stepN i) from if_pos (by omega)]
    by_cases h2 : k0_cond2 i = 1#1
    · have h : stepN i + 1 < 512 := (cond2 i).mp h2
      rw [show Rn c XE XS (stepN i + 1) = R1 c XE XS (stepN i + 1) from if_pos (by omega)]
      refine BIBase.Entails.trans ?_ (prologueB c XE XS i arg4 harg4 arg5 harg5 arg6 harg6 arg7 harg7 arg8 harg8 h1 h2 h W)
      iintro ⟨⟨H0, H1⟩, HW⟩
      iframe
    · have h : ¬ stepN i + 1 < 512 := fun e => h2 ((cond2 i).mpr e)
      rw [show Rn c XE XS (stepN i + 1) = R0 c XE XS (stepN i + 1) from if_neg (by omega)]
      refine BIBase.Entails.trans ?_ (prologueC c XE XS i arg4 harg4 arg5 harg5 arg6 harg6 arg7 harg7 arg8 harg8 h1 h2 W)
      iintro ⟨⟨H0, H1⟩, HW⟩
      iframe

/-- What a step leaves: the stage `g`, and what it stores, of what it finds. -/
def StepOut (i : grid0.Coords) (XE : S8388608.Idx → BitVec 32) (XS : S131072.Idx → BitVec 32) (H : S128x16x128.Idx → F .f32) (U : S4096x16x128.Idx → F .bf16)
    (e : S128x128.Idx → BitVec 32) (w : S128x128.Idx → F .f32) (O O' : S2x128x128.Idx → F .f32) (G0 G : S128x128x128.Idx → F .f32) : Prop :=
  I1 (stepN i) (i 1).val 128 (SL XS (stepN i)) (EL XE (stepN i)) H U G0 G
  ∧ (k0_cond3 i = 1#1 → O' = outv w (sums G) e)
  ∧ (¬ k0_cond3 i = 1#1 → O' = O)

/-- The lists name rows of a block, and the starts places of a token's list. -/
def ListsOk (XE : S8388608.Idx → BitVec 32) (XS : S131072.Idx → BitVec 32) : Prop :=
  (∀ q, (XE q).toNat < 4096) ∧ ∀ q, (XS q).toNat ≤ 128

set_option maxHeartbeats 4000000 in
set_option backward.isDefEq.respectTransparency.types false in
theorem step_run (i : grid0.Coords) (arg4 : Memref sig .tc .vmem S128x16x128 .f32) (harg4 : arg4.IsWhole) (arg5 : Memref sig .tc .vmem S4096x16x128 .bf16) (harg5 : arg5.IsWhole) (arg6 : Memref sig .tc .vmem S128x128 .i32) (harg6 : arg6.IsWhole) (arg7 : Memref sig .tc .vmem S128x128 .f32) (harg7 : arg7.IsWhole) (arg8 : Memref sig .tc .vmem S2x128x128 .f32) (harg8 : arg8.IsWhole) (hL : ListsOk (aE.view.read (Elt F) XE) (aS.view.read (Elt F) XS))
    (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ)))
    (f11 : Buf (Elt F) (mG.view.loc (c : Thread nD τ))) (f12 : Buf (Elt F) (mA.view.loc (c : Thread nD τ))) (W) :
    iprop(Sin c XE XS (stepN i) ∗ owes (c : Thread nD τ) 0 W ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (mG.view.loc (c : Thread nD τ) ↦[mG.view.set]{fullShare} f11) ∗ (mA.view.loc (c : Thread nD τ) ↦[mA.view.set]{fullShare} f12))
      ⊢ wp frame (wpE (defs₀ (F := F)) 𝒱₀ (c : Thread nD τ) none) Set.univ (cc0__act_kernel (F := F) i aE (Memref.isWhole_whole _) aS (Memref.isWhole_whole _) arg4 harg4 arg5 harg5 arg6 harg6 arg7 harg7 arg8 harg8 mE (Memref.isWhole_whole _) mS (Memref.isWhole_whole _) mG (Memref.isWhole_whole _) mA (Memref.isWhole_whole _) cc0_scratch4)
        (fun _ => iprop(Sin c XE XS (stepN i + 1) ∗ (∃ W, owes (c : Thread nD τ) 0 W) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7)
          ∗ (∃ g8 g11 g12, (arg8.view.loc (c : Thread nD τ) ↦[arg8.view.set]{fullShare} g8) ∗ (mG.view.loc (c : Thread nD τ) ↦[mG.view.set]{fullShare} g11) ∗ (mA.view.loc (c : Thread nD τ) ↦[mA.view.set]{fullShare} g12)
            ∗ ⌜StepOut i (aE.view.read (Elt F) XE) (aS.view.read (Elt F) XS) (arg4.view.read (Elt F) f4) (arg5.view.read (Elt F) f5) (arg6.view.read (Elt F) f6) (arg7.view.read (Elt F) f7)
                (arg8.view.read (Elt F) f8) (arg8.view.read (Elt F) g8) (mG.view.read (Elt F) f11) (mG.view.read (Elt F) g11)⌝))) := by
  have hn := stepN_lt i
  have hb : (i 1).val < 4 := i1_lt i
  rw [skel_tail, wp_bind_eq]
  iintro ⟨HS, HW, H4, H5, H6, H7, H8, H11, H12⟩
  iapply (wp_wand_r frame _ _) $$ [HS HW H4 H5 H6 H7 H8 H11 H12]
  isplitl [HS HW]
  · iapply (prologue c XE XS i arg4 harg4 arg5 harg5 arg6 harg6 arg7 harg7 arg8 harg8 W) $$ [HS HW]
    iframe
  iintro %r ⟨%hr, H2, HN, HW⟩
  unfold R2
  icases H2 with ⟨⟨%f9, H9⟩, ⟨%f10, H10⟩, HR⟩
  have hE : ∀ q, stepN i % 2 * 16384 ≤ q → q < stepN i % 2 * 16384 + 16384 → (rdE (mE.view.read (Elt F) (landE c XE (stepN i) f9)) q).toNat < 4096 := fun q h0 h1 => by
    rw [landE_read c XE _ f9 q h0 h1]; exact hL.1 _
  have hs : ∀ q, stepN i % 2 * 1024 ≤ q → q < stepN i % 2 * 1024 + 1024 → (rdS (mS.view.read (Elt F) (landS c XS (stepN i) f10)) q).toNat ≤ 128 := fun q h0 h1 => by
    rw [landS_read c XS _ f10 q h0 h1]; exact hL.2 _
  have hc : ∀ g, I1 (stepN i) (i 1).val 128 (mS.view.read (Elt F) (landS c XS (stepN i) f10)) (mE.view.read (Elt F) (landE c XE (stepN i) f9)) (arg4.view.read (Elt F) f4) (arg5.view.read (Elt F) f5) (mG.view.read (Elt F) f11) g
      → I1 (stepN i) (i 1).val 128 (SL (aS.view.read (Elt F) XS) (stepN i)) (EL (aE.view.read (Elt F) XE) (stepN i)) (arg4.view.read (Elt F) f4) (arg5.view.read (Elt F) f5) (mG.view.read (Elt F) f11) g :=
    fun g h => h.congr hb (landS_read c XS _ f10) (landE_read c XE _ f9)
  by_cases h3 : k0_cond3 i = 1#1
  · iapply (wp_wand_r frame _ _) $$ [H9 H10 HR HN HW H4 H5 H6 H7 H8 H11 H12]
    isplitl [H9 H10 H4 H5 H6 H7 H8 H11 H12]
    · iapply (tail_run c i arg4 harg4 arg5 harg5 arg6 harg6 arg7 harg7 arg8 harg8 r.2.1 r.2.2.1 r.2.2.2 hr h3 f4 f5 f6 f7 f8 (landE c XE (stepN i) f9) (landS c XS (stepN i) f10) f11 f12 hE hs) $$ [H9 H10 H4 H5 H6 H7 H8 H11 H12]
      isplitl [H4 H5 H9 H10]
      · isplitl [H4]; · iexact H4
        isplitl [H5]; · iexact H5
        isplitl [H9]; · iexact H9
        iexact H10
      isplitl [H6]; · iexact H6
      isplitl [H7]; · iexact H7
      isplitl [H8]; · iexact H8
      isplitl [H11]; · iexact H11
      iexact H12
    iintro %_ ⟨⟨H4, H5, H9, H10⟩, H6, H7, ⟨%g8, %g11, %g12, H8, H11, H12, %hg⟩⟩
    isplitl [H9 H10 HR HN]
    · iapply (Sin_next c XE XS (stepN i)) $$ [H9 H10 HR HN]
      isplitr [HN]
      · unfold R0
        isplitl [H9]; · iexists _; iexact H9
        isplitl [H10]; · iexists _; iexact H10
        iexact HR
      iexact HN
    isplitl [HW]; · iexact HW
    isplitl [H4]; · iexact H4
    isplitl [H5]; · iexact H5
    isplitl [H6]; · iexact H6
    isplitl [H7]; · iexact H7
    iexists g8, g11, g12
    isplitl [H8]; · iexact H8
    isplitl [H11]; · iexact H11
    isplitl [H12]; · iexact H12
    ipureintro
    exact ⟨hc _ hg.1, fun _ => hg.2, fun h => absurd h3 h⟩
  · iapply (wp_wand_r frame _ _) $$ [H9 H10 HR HN HW H4 H5 H6 H7 H8 H11 H12]
    isplitl [H9 H10 H4 H5 H6 H7 H8 H11 H12]
    · iapply (tail_idle c i arg4 harg4 arg5 harg5 arg6 harg6 arg7 harg7 arg8 harg8 r.2.1 r.2.2.1 r.2.2.2 hr h3 f4 f5 f6 f7 f8 (landE c XE (stepN i) f9) (landS c XS (stepN i) f10) f11 f12 hE hs) $$ [H9 H10 H4 H5 H6 H7 H8 H11 H12]
      isplitl [H4 H5 H9 H10]
      · isplitl [H4]; · iexact H4
        isplitl [H5]; · iexact H5
        isplitl [H9]; · iexact H9
        iexact H10
      isplitl [H6]; · iexact H6
      isplitl [H7]; · iexact H7
      isplitl [H8]; · iexact H8
      isplitl [H11]; · iexact H11
      iexact H12
    iintro %_ ⟨⟨H4, H5, H9, H10⟩, H6, H7, ⟨%g8, %g11, %g12, H8, H11, H12, %hg⟩⟩
    isplitl [H9 H10 HR HN]
    · iapply (Sin_next c XE XS (stepN i)) $$ [H9 H10 HR HN]
      isplitr [HN]
      · unfold R0
        isplitl [H9]; · iexists _; iexact H9
        isplitl [H10]; · iexists _; iexact H10
        iexact HR
      iexact HN
    isplitl [HW]; · iexact HW
    isplitl [H4]; · iexact H4
    isplitl [H5]; · iexact H5
    isplitl [H6]; · iexact H6
    isplitl [H7]; · iexact H7
    iexists g8, g11, g12
    isplitl [H8]; · iexact H8
    isplitl [H11]; · iexact H11
    isplitl [H12]; · iexact H12
    ipureintro
    exact ⟨hc _ hg.1, fun h => absurd h h3, fun _ => congrArg _ hg.2⟩

end Step
end Cert.KernelIdeal.Run
-- ==== Proof.Resources.lean ====
/- The launch's resources as the two slots. -/
module

public import proofs.«01_k».proof.Proof.Step
public import proofs.«01_k».proof.Proof.Gen.KernelIdeal.Launch
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.KernelIdeal.Run

open Cert.KernelIdeal Cert.KernelIdeal.Gen Cert.KernelIdeal.W Cert.KernelIdeal.D
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

abbrev EP : Emb (UR sig nD τ) (MT nD τ sig Unit (Elt F) ℕ (UU nD τ) ℕ) := embL

omit [FloatOps F] in
theorem of_eq {P Q : sProp 𝕄} (e : P = Q) : P ⊢ Q := e ▸ .rfl

/-! ## The kernel's own semaphores: the slots' cells -/

abbrev osem : Fin 4 → SemLoc sig := fun k => .dma (cell (k.val / 2) k.val).sem
theorem ownSemFacts : Pipeline.OwnSemFacts spec0 osem := by decide

omit [FloatOps F] in
theorem ownSems0_eq (c : Dev nD) : (Pipeline.ownSems0 (Ix := Unit) (Name := ℕ) (U := UU nD τ) (Lvl := ℕ) (Val := Elt F) (τ := τ) osem c : sProp 𝕄)
    = iprop(cellP c 0 0 ∗ cellP c 0 1 ∗ cellP c 1 0 ∗ cellP c 1 1) := by
  unfold Pipeline.ownSems0
  rw [bigSep_univ_eq_bigSepL [(0 : Fin 4), (1 : Fin 4), (2 : Fin 4), (3 : Fin 4)] (by decide) (by decide)]
  rfl

/-! ## The two memories as their slots -/

abbrev B2 (s : Fin 2) : Finset S32768.Idx := (Rect.unit (s := S32768) (eOff s.val) S16384.size (eOff_inb s.val)).set
abbrev C2 (s : Fin 2) : Finset S2048.Idx := (Rect.unit (s := S2048) (sOff s.val) S1024.size (sOff_inb s.val)).set

omit [FloatOps F] in
theorem eslot_set (s : Fin 2) : (eslot mE s.val).view.set = B2 s := View.set_slice_whole _ _
omit [FloatOps F] in
theorem sslot_set (s : Fin 2) : (sslot mS s.val).view.set = C2 s := View.set_slice_whole _ _

theorem mem_B2 (s : Fin 2) (y : S32768.Idx) : y ∈ B2 s ↔ (y 0).val / 16384 = s.val := by
  rw [Rect.mem_set_unit]
  have h1 : (y 0).val < 32768 := (y 0).isLt
  have h2 := s.isLt
  constructor
  · intro H; have a0 : s.val % 2 * 16384 ≤ (y 0).val ∧ (y 0).val < s.val % 2 * 16384 + 16384 := H 0; omega
  · intro H i; fin_cases i
    show s.val % 2 * 16384 ≤ (y 0).val ∧ (y 0).val < s.val % 2 * 16384 + 16384; omega
theorem mem_C2 (s : Fin 2) (y : S2048.Idx) : y ∈ C2 s ↔ (y 0).val / 1024 = s.val := by
  rw [Rect.mem_set_unit]
  have h1 : (y 0).val < 2048 := (y 0).isLt
  have h2 := s.isLt
  constructor
  · intro H; have a0 : s.val % 2 * 1024 ≤ (y 0).val ∧ (y 0).val < s.val % 2 * 1024 + 1024 := H 0; omega
  · intro H i; fin_cases i
    show s.val % 2 * 1024 ≤ (y 0).val ∧ (y 0).val < s.val % 2 * 1024 + 1024; omega
theorem B2_disjoint : ∀ s s' : Fin 2, s ≠ s' → Disjoint (B2 s) (B2 s') := by
  intro s s' hne; rw [Finset.disjoint_left]; intro y hy hy'; rw [mem_B2] at hy hy'; exact hne (Fin.ext (hy.symm.trans hy'))
theorem C2_disjoint : ∀ s s' : Fin 2, s ≠ s' → Disjoint (C2 s) (C2 s') := by
  intro s s' hne; rw [Finset.disjoint_left]; intro y hy hy'; rw [mem_C2] at hy hy'; exact hne (Fin.ext (hy.symm.trans hy'))
theorem B2_cover : (Finset.univ : Finset (Fin 2)).biUnion B2 = Finset.univ := by
  ext y
  simp only [Finset.mem_biUnion, Finset.mem_univ, true_and, iff_true]
  have h1 : (y 0).val < 32768 := (y 0).isLt
  exact ⟨⟨(y 0).val / 16384, by omega⟩, by rw [mem_B2]⟩
theorem C2_cover : (Finset.univ : Finset (Fin 2)).biUnion C2 = Finset.univ := by
  ext y
  simp only [Finset.mem_biUnion, Finset.mem_univ, true_and, iff_true]
  have h1 : (y 0).val < 2048 := (y 0).isLt
  exact ⟨⟨(y 0).val / 1024, by omega⟩, by rw [mem_C2]⟩

omit [FloatOps F] in
theorem fin2 (Φ : Fin 2 → sProp 𝕄) : bigSep Finset.univ Φ = iprop(Φ 0 ∗ Φ 1) :=
  bigSep_univ_eq_bigSepL [(0 : Fin 2), (1 : Fin 2)] (by decide) (by decide) Φ

omit [FloatOps F] in
theorem eP_eq (c : Dev nD) (s : Fin 2) (f) : eP c s.val f = (((c : Thread nD τ).loc cc0_scratch0) ↦[B2 s]{fullShare} f : sProp 𝕄) :=
  congrArg (fun S => (_ ↦[S]{fullShare} f : sProp 𝕄)) (eslot_set s)
omit [FloatOps F] in
theorem sP_eq (c : Dev nD) (s : Fin 2) (f) : sP c s.val f = (((c : Thread nD τ).loc cc0_scratch1) ↦[C2 s]{fullShare} f : sProp 𝕄) :=
  congrArg (fun S => (_ ↦[S]{fullShare} f : sProp 𝕄)) (sslot_set s)

theorem e_split (c : Dev nD) :
    iprop(∃ f : Buf (Elt F) ((c : Thread nD τ).loc cc0_scratch0), ((c : Thread nD τ).loc cc0_scratch0) ↦{fullShare} f)
      ⊢ (iprop((∃ f, eP c 0 f) ∗ ∃ f, eP c 1 f) : sProp 𝕄) := by
  iintro ⟨%f, H⟩
  ihave H2 := (of_eq ((Ring.pointsTo_blocks (Ix := Unit) (Name := ℕ) (U := UU nD τ) (Lvl := ℕ) (q := fullShare) (ℓ := (c : Thread nD τ).loc cc0_scratch0) B2 B2_disjoint B2_cover f).trans (fin2 _))) $$ H
  icases H2 with ⟨H0, H1⟩
  isplitl [H0]
  · iexists f; iapply (of_eq (eP_eq c 0 f).symm); iexact H0
  · iexists f; iapply (of_eq (eP_eq c 1 f).symm); iexact H1
theorem e_join (c : Dev nD) :
    iprop((∃ f, eP c 0 f) ∗ ∃ f, eP c 1 f)
      ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩⟩
  iapply (Ring.pointsTo_blocks_join_exists (ℓ := (c : Thread nD τ).loc cc0_scratch0) B2 B2_disjoint B2_cover f0)
  irw [fin2]
  isplitl [H0]
  · iexists f0; iapply (of_eq (eP_eq c 0 f0)); iexact H0
  · iexists f1; iapply (of_eq (eP_eq c 1 f1)); iexact H1
theorem s_split (c : Dev nD) :
    iprop(∃ f : Buf (Elt F) ((c : Thread nD τ).loc cc0_scratch1), ((c : Thread nD τ).loc cc0_scratch1) ↦{fullShare} f)
      ⊢ (iprop((∃ f, sP c 0 f) ∗ ∃ f, sP c 1 f) : sProp 𝕄) := by
  iintro ⟨%f, H⟩
  ihave H2 := (of_eq ((Ring.pointsTo_blocks (Ix := Unit) (Name := ℕ) (U := UU nD τ) (Lvl := ℕ) (q := fullShare) (ℓ := (c : Thread nD τ).loc cc0_scratch1) C2 C2_disjoint C2_cover f).trans (fin2 _))) $$ H
  icases H2 with ⟨H0, H1⟩
  isplitl [H0]
  · iexists f; iapply (of_eq (sP_eq c 0 f).symm); iexact H0
  · iexists f; iapply (of_eq (sP_eq c 1 f).symm); iexact H1
theorem s_join (c : Dev nD) :
    iprop((∃ f, sP c 0 f) ∗ ∃ f, sP c 1 f)
      ⊢ (iprop(∃ f : Buf (Elt F) ((c : Thread nD τ).loc cc0_scratch1), ((c : Thread nD τ).loc cc0_scratch1) ↦{fullShare} f) : sProp 𝕄) := by
  iintro ⟨⟨%f0, H0⟩, ⟨%f1, H1⟩⟩
  iapply (Ring.pointsTo_blocks_join_exists (ℓ := (c : Thread nD τ).loc cc0_scratch1) C2 C2_disjoint C2_cover f0)
  irw [fin2]
  isplitl [H0]
  · iexists f0; iapply (of_eq (sP_eq c 0 f0)); iexact H0
  · iexists f1; iapply (of_eq (sP_eq c 1 f1)); iexact H1

/-! ## The two arrays by halves -/

section Halves
variable (c : Dev nD) (XE : Buf (Elt F) (aE.view.loc (c : Thread nD τ))) (XS : Buf (Elt F) (aS.view.loc (c : Thread nD τ)))

theorem aE_halves : (((c : Thread nD τ).loc main_v3) ↦{fullShare} XE : sProp 𝕄) ⊣⊢ iprop(wEP c XE 0 ∗ wEP c XE 1) := by
  unfold wEP
  rw [show aE.view.set = Finset.univ from View.set_whole _, show shr 0 = fullShare.left from rfl, show shr 1 = fullShare.right from rfl]
  exact pointsTo_share (PosShare.mem_left_op_right fullShare)
theorem aS_halves : (((c : Thread nD τ).loc main_v4) ↦{fullShare} XS : sProp 𝕄) ⊣⊢ iprop(wSP c XS 0 ∗ wSP c XS 1) := by
  unfold wSP
  rw [show aS.view.set = Finset.univ from View.set_whole _, show shr 0 = fullShare.left from rfl, show shr 1 = fullShare.right from rfl]
  exact pointsTo_share (PosShare.mem_left_op_right fullShare)

theorem R0_par (s k : ℕ) : R0 c XE XS (s + 2 * k) = R0 c XE XS s := by
  induction k with
  | zero => rfl
  | succ k ih => rw [show s + 2 * (k + 1) = (s + 2 * k) + 2 by omega, R0_add2, ih]

theorem Sin_start :
    iprop((((c : Thread nD τ).loc main_v3) ↦{fullShare} XE) ∗ (((c : Thread nD τ).loc main_v4) ↦{fullShare} XS) ∗ Pipeline.ownSems0 osem c
      ∗ (∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f))
      ⊢ Sin c XE XS 0 := by
  unfold Sin Rn
  rw [if_neg (by omega), ownSems0_eq]
  unfold R0
  iintro ⟨HE, HS, ⟨Hc0, Hc1, Hd0, Hd1⟩, Hm, Hn⟩
  ihave HE2 := (aE_halves c XE).1 $$ HE
  icases HE2 with ⟨HE0, HE1⟩
  ihave HS2 := (aS_halves c XS).1 $$ HS
  icases HS2 with ⟨HS0, HS1⟩
  ihave Hm2 := (e_split c) $$ Hm
  icases Hm2 with ⟨Hm0, Hm1⟩
  ihave Hn2 := (s_split c) $$ Hn
  icases Hn2 with ⟨Hn0, Hn1⟩
  isplitl [Hm0 Hn0 Hc0 Hc1 HE0 HS0]
  · isplitl [Hm0]; · iexact Hm0
    isplitl [Hn0]; · iexact Hn0
    isplitl [Hc0]; · iexact Hc0
    isplitl [Hc1]; · iexact Hc1
    isplitl [HE0]; · iexact HE0
    iexact HS0
  isplitl [Hm1]; · iexact Hm1
  isplitl [Hn1]; · iexact Hn1
  isplitl [Hd0]; · iexact Hd0
  isplitl [Hd1]; · iexact Hd1
  isplitl [HE1]; · iexact HE1
  iexact HS1

theorem Sin_end :
    Sin c XE XS 512 ⊢ iprop((((c : Thread nD τ).loc main_v3) ↦{fullShare} XE) ∗ (((c : Thread nD τ).loc main_v4) ↦{fullShare} XS) ∗ Pipeline.ownSems0 osem c
      ∗ (∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)) := by
  unfold Sin Rn
  rw [if_neg (by omega), ownSems0_eq, show (512 : ℕ) = 0 + 2 * 256 from rfl, show 0 + 2 * 256 + 1 = 1 + 2 * 256 from rfl, R0_par, R0_par]
  unfold R0
  iintro ⟨⟨Hm0, Hn0, Hc0, Hc1, HE0, HS0⟩, Hm1, Hn1, Hd0, Hd1, HE1, HS1⟩
  isplitl [HE0 HE1]
  · iapply (aE_halves c XE).2
    isplitl [HE0]; · iexact HE0
    iexact HE1
  isplitl [HS0 HS1]
  · iapply (aS_halves c XS).2
    isplitl [HS0]; · iexact HS0
    iexact HS1
  isplitl [Hc0 Hc1 Hd0 Hd1]
  · isplitl [Hc0]; · iexact Hc0
    isplitl [Hc1]; · iexact Hc1
    isplitl [Hd0]; · iexact Hd0
    iexact Hd1
  isplitl [Hm0 Hm1]
  · iapply (e_join c)
    isplitl [Hm0]; · iexact Hm0
    iexact Hm1
  iapply (s_join c)
  isplitl [Hn0]; · iexact Hn0
  iexact Hn1

end Halves
end Cert.KernelIdeal.Run
-- ==== Proof.Launched.lean ====
/- The launch: every point's step, and what the arrays hold at the end. -/
module

public import proofs.«01_k».proof.Proof.Resources
public import proofs.«01_k».proof.Proof.Gen.KernelIdeal.Frame
public import Idealize.ShloMosaic.Lib.Pipeline.FrameBody
public import proofs.«01_k».proof.Proof.Gen.KernelIdeal.Launch
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.KernelIdeal.Run

open Cert.KernelIdeal Cert.KernelIdeal.Gen Cert.KernelIdeal.W Cert.KernelIdeal.D
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section Launch
variable (m : (ℓ : Loc nD τ sig) → Buf (Elt F) ℓ) (ρ : Dev nD → PrngReg)

/-- The lists and the starts as the region finds them. -/
abbrev XEm (c : Dev nD) : Buf (Elt F) (aE.view.loc (c : Thread nD τ)) := V m c main_v3
abbrev XSm (c : Dev nD) : Buf (Elt F) (aS.view.loc (c : Thread nD τ)) := V m c main_v4
abbrev xe (c : Dev nD) : S8388608.Idx → BitVec 32 := aE.view.read (Elt F) (XEm m c)
abbrev xs (c : Dev nD) : S131072.Idx → BitVec 32 := aS.view.read (Elt F) (XSm m c)

/-- Point `n`. -/
def pt (n : ℕ) : Fin cfg0.N := ⟨n % 512, by rw [show cfg0.N = 512 from N_0]; exact Nat.mod_lt _ (by decide)⟩
theorem pt_val (t : Fin cfg0.N) : pt t.val = t := Fin.ext (Nat.mod_eq_of_lt (Nat.lt_of_lt_of_eq t.isLt N_0))
def hb (c : Dev nD) (t : Fin cfg0.N) : S128x16x128.Idx → F .f32 := iblk m c 0 t
def ub (c : Dev nD) (t : Fin cfg0.N) : S4096x16x128.Idx → F .bf16 := iblk m c 1 t
def eb (c : Dev nD) (t : Fin cfg0.N) : S128x128.Idx → BitVec 32 := iblk m c 2 t
def gb (c : Dev nD) (t : Fin cfg0.N) : S128x128.Idx → F .f32 := iblk m c 3 t

/-- Place `y` belongs to step `n`; what step `n` leaves there. -/
def inR (c : Dev nD) (n : ℕ) (y : S128x128x128.Idx) : Prop :=
  st0 (SL (xs m c) n) n (n % 4) (y 0).val ≤ (y 1).val ∧ (y 1).val < st1 (SL (xs m c) n) n (n % 4) (y 0).val
instance (c : Dev nD) (n : ℕ) (y : S128x128x128.Idx) : Decidable (inR m c n y) := by unfold inR; infer_instance
def val (c : Dev nD) (n : ℕ) (y : S128x128x128.Idx) : F .f32 := sval n (EL (xe m c) n) (hb m c (pt n)) (ub m c (pt n)) y

/-- The lists name rows of a block, and each place belongs to exactly one of the four blocks. -/
structure PreOK : Prop where
  lists : ∀ c, ListsOk (xe m c) (xs m c)
  sep : ∀ c k b b', k < 128 → b < b' → b' < 4 → ∀ y, inR m c (4 * k + b) y → ¬ inR m c (4 * k + b') y
  cov : ∀ c k, k < 128 → ∀ y, ∃ b, b < 4 ∧ inR m c (4 * k + b) y

/-- What the stage holds before step `n`: the token block's earlier steps, each at its own places. -/
def Known (c : Dev nD) (n : ℕ) (G : S128x128x128.Idx → F .f32) : Prop := ∀ b, b < n % 4 → ∀ y, inR m c (4 * (n / 4) + b) y → G y = val m c (4 * (n / 4) + b) y
/-- What it holds after the block's four steps. -/
def tot (c : Dev nD) (k : ℕ) (y : S128x128x128.Idx) : F .f32 :=
  if inR m c (4 * k) y then val m c (4 * k) y else if inR m c (4 * k + 1) y then val m c (4 * k + 1) y
  else if inR m c (4 * k + 2) y then val m c (4 * k + 2) y else val m c (4 * k + 3) y

theorem known_step (h : PreOK m) (c : Dev nD) (n : ℕ) (hn : n < 512) (G0 G : S128x128x128.Idx → F .f32) (hK : Known m c n G0)
    (hI : I1 n (n % 4) 128 (SL (xs m c) n) (EL (xe m c) n) (hb m c (pt n)) (ub m c (pt n)) G0 G) :
    ∀ b, b < n % 4 + 1 → ∀ y, inR m c (4 * (n / 4) + b) y → G y = val m c (4 * (n / 4) + b) y := by
  intro b hb y hy
  have y0 : (y 0).val < 128 := (y 0).isLt
  have en : 4 * (n / 4) + n % 4 = n := by omega
  by_cases e : b = n % 4
  · subst e
    rw [en] at hy ⊢
    exact hI.1 y y0 hy.1 hy.2
  · rw [← hK b (by omega) y hy]
    refine hI.2 y fun h' => h.sep c (n / 4) b (n % 4) (by omega) (by omega) (by omega) y hy ?_
    rw [en]
    exact h'.2

theorem known_next (h : PreOK m) (c : Dev nD) (n : ℕ) (hn : n < 512) (G0 G : S128x128x128.Idx → F .f32) (hK : Known m c n G0)
    (hI : I1 n (n % 4) 128 (SL (xs m c) n) (EL (xe m c) n) (hb m c (pt n)) (ub m c (pt n)) G0 G) : Known m c (n + 1) G := by
  intro b hb
  have e : (n + 1) / 4 = n / 4 := by omega
  rw [e]
  exact known_step m h c n hn G0 G hK hI b (by omega)

theorem known_last (h : PreOK m) (c : Dev nD) (n : ℕ) (hn : n < 512) (h3 : n % 4 = 3) (G0 G : S128x128x128.Idx → F .f32) (hK : Known m c n G0)
    (hI : I1 n (n % 4) 128 (SL (xs m c) n) (EL (xe m c) n) (hb m c (pt n)) (ub m c (pt n)) G0 G) : G = tot m c (n / 4) := by
  have H := known_step m h c n hn G0 G hK hI
  funext y
  unfold tot
  split
  next a => exact H 0 (by omega) y a
  next a => split
            next a' => exact H 1 (by omega) y a'
            next a' => split
                       next a'' => exact H 2 (by omega) y a''
                       next a'' =>
                         obtain ⟨b, hb, hy⟩ := h.cov c (n / 4) (by omega) y
                         have : b = 3 := by
                           rcases b with _ | _ | _ | b
                           · exact absurd hy a
                           · exact absurd hy a'
                           · exact absurd hy a''
                           · omega
                         subst this
                         exact H 3 (by omega) y hy

/-- What the last step of a token block stores. -/
def out (c : Dev nD) (t : Fin cfg0.N) : S2x128x128.Idx → F .f32 := outv (gb m c t) (sums (tot m c (t.val / 4))) (eb m c t)

/-! ## The pipeline's proof data -/

/-- The region invariant before point `t`. -/
def Φ (c : Dev nD) (t : ℕ) : sProp 𝕄 :=
  iprop(Sin c (XEm m c) (XSm m c) t
    ∗ (∃ G, (mG.view.loc (c : Thread nD τ) ↦[mG.view.set]{fullShare} G) ∗ ⌜Known m c t (mG.view.read (Elt F) G)⌝)
    ∗ (∃ f, mA.view.loc (c : Thread nD τ) ↦[mA.view.set]{fullShare} f))

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out m c t
  Φ t := Φ m c t.val
  q _ := fullShare
  owed _ := 0

theorem before_w0 (c : Dev nD) (t : Fin cfg0.N) (d) : (dats m 0 c).before 0 t d = iblk m c 0 t :=
  ((dats m 0 c).before_in_eq_fetched 0 rfl (fun _ => rfl) (fun _ _ _ => rfl) (fun t => by dsimp only [dats]; unfold Dat.blockOf iblk; rfl) t d).trans (by unfold Dat.fetched Dat.blockOf iblk; rfl)
theorem before_w1 (c : Dev nD) (t : Fin cfg0.N) (d) : (dats m 0 c).before 1 t d = iblk m c 1 t :=
  ((dats m 0 c).before_in_eq_fetched 1 rfl (fun _ => rfl) (fun _ _ _ => rfl) (fun t => by dsimp only [dats]; unfold Dat.blockOf iblk; rfl) t d).trans (by unfold Dat.fetched Dat.blockOf iblk; rfl)
theorem before_w2 (c : Dev nD) (t : Fin cfg0.N) (d) : (dats m 0 c).before 2 t d = iblk m c 2 t :=
  ((dats m 0 c).before_in_eq_fetched 2 rfl (fun _ => rfl) (fun _ _ _ => rfl) (fun t => by dsimp only [dats]; unfold Dat.blockOf iblk; rfl) t d).trans (by unfold Dat.fetched Dat.blockOf iblk; rfl)
theorem before_w3 (c : Dev nD) (t : Fin cfg0.N) (d) : (dats m 0 c).before 3 t d = iblk m c 3 t :=
  ((dats m 0 c).before_in_eq_fetched 3 rfl (fun _ => rfl) (fun _ _ _ => rfl) (fun t => by dsimp only [dats]; unfold Dat.blockOf iblk; rfl) t d).trans (by unfold Dat.fetched Dat.blockOf iblk; rfl)
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = iblk m c 3 t := by dsimp only [dats]
theorem after_w4 (c : Dev nD) (t : Fin cfg0.N) : (dats m 0 c).after 4 t = out m c t := by dsimp only [dats]

/-! ## The body obligation -/

theorem coords0 (t : Fin cfg0.N) : (grid0.coords t 0).val = t.val / 4 := by
  have h : t.val < 512 := Nat.lt_of_lt_of_eq t.isLt N_0
  refine (Pipeline.Grid.coords_val (G := grid0) t 0 (S := 4) (B := 128) (by decide) rfl).trans (by omega)
theorem coords1 (t : Fin cfg0.N) : (grid0.coords t 1).val = t.val % 4 :=
  (Pipeline.Grid.coords_val (G := grid0) t 1 (S := 1) (B := 4) (by decide) rfl).trans (by omega)
theorem stepN_coords (t : Fin cfg0.N) : stepN (grid0.coords t) = t.val := by unfold stepN; rw [coords0, coords1]; omega

theorem prog_eq (t : Fin cfg0.N) : (defs₀ (F := F)) .tc cfg0.body (cfg0.bodyArgs t (cfg0.slots t)) = bodyAt0 t := by unfold defs₀; rw [Defs.onTc_tc]

theorem idle4 (t : Fin cfg0.N) (h : t.val % 4 ≠ 3) : cfg0.idle 4 (cfg0.grid.coords t) = true := by
  show (!(k0_cond3 (grid0.coords t) == 1#1)) = true
  have : ¬ k0_cond3 (grid0.coords t) = 1#1 := fun e => h (by rw [← coords1]; exact (cond3 _).mp e)
  simp [this]
theorem busy4 (t : Fin cfg0.N) (h : t.val % 4 = 3) : cfg0.idle 4 (cfg0.grid.coords t) = false := by
  show (!(k0_cond3 (grid0.coords t) == 1#1)) = false
  have : k0_cond3 (grid0.coords t) = 1#1 := (cond3 _).mpr (by rw [coords1]; exact h)
  simp [this]
theorem flush4 (t : Fin cfg0.N) (h : t.val % 4 ≠ 3) : (cfg0.win 4).flush t = false := by
  rw [Bool.eq_false_iff]; exact fun e => h ((flush0_4 t).mp e)

set_option maxHeartbeats 4000000 in
set_option backward.isDefEq.respectTransparency.types false in
theorem body_obligation (h : PreOK m) (c : Dev nD) : BodyObligation (dats (F := F) m 0 c) (defs₀ (F := F)) 𝒱₀ () Set.univ := fun t => by
  have ht : t.val < 512 := Nat.lt_of_lt_of_eq t.isLt N_0
  rw [bigSep_W0, bigSep_W0]
  dsimp only
  simp only [before_w0, before_w1, before_w2, before_w3, after_w0, after_w1, after_w2, after_w3, after_w4]
  rw [show (dats m 0 c).Φ t.castSucc = Φ m c t.val from rfl, show (dats m 0 c).Φ t.succ = Φ m c (t.val + 1) from rfl]
  unfold Dat.owesAt Pipeline.owesWithin
  rw [show (dats m 0 c).owed t.castSucc = 0 from rfl, show (dats m 0 c).owed t.succ = 0 from rfl]
  unfold owns Φ
  iintro ⟨⟨HS, ⟨%G0, HG, %hK⟩, ⟨%f12, HA⟩⟩, ⟨%W, -, HW⟩, ⟨%d0, %f4, %h4, H4⟩, ⟨%d1, %f5, %h5, H5⟩, ⟨%d2, %f6, %h6, H6⟩, ⟨%d3, %f7, %h7, H7⟩, ⟨%d4, %f8, %h8, H8⟩⟩
  sl_rw [prog_eq t]
  have run := step_run c (XEm m c) (XSm m c) (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (st0_4 t) (hstage0_4 ((cfg0.slots t 4).cast nbuf0_4))
    (h.lists c) f4 f5 f6 f7 f8 G0 f12 W
  rw [stepN_coords] at run
  iapply (wp_wand_r frame _ _) $$ [HS HG HA HW H4 H5 H6 H7 H8]
  isplitl [HS HG HA HW H4 H5 H6 H7 H8]
  · iapply run
    isplitl [HS]; · iexact HS
    isplitl [HW]; · iexact HW
    isplitl [H4]; · iexact H4
    isplitl [H5]; · iexact H5
    isplitl [H6]; · iexact H6
    isplitl [H7]; · iexact H7
    isplitl [H8]; · iexact H8
    isplitl [HG]; · iexact HG
    iexact HA
  iintro %_ ⟨HS, ⟨%W', HW⟩, H4, H5, H6, H7, ⟨%g8, %g11, %g12, H8, HG, HA, %hO⟩⟩
  have hI : I1 t.val (t.val % 4) 128 (SL (xs m c) t.val) (EL (xe m c) t.val) (hb m c (pt t.val)) (ub m c (pt t.val)) (mG.view.read (Elt F) G0) (mG.view.read (Elt F) g11) := by
    have e := hO.1
    rw [stepN_coords, coords1, h4, h5] at e
    rw [pt_val]
    exact e
  isplitl [HS HG HA]
  · isplitl [HS]; · iexact HS
    isplitl [HG]
    · iexists g11
      isplitl [HG]; · iexact HG
      ipureintro
      exact known_next m h c t.val ht _ _ hK hI
    iexists g12; iexact HA
  isplitl [HW]
  · iexists W'; isplitr; · ipureintro; exact fun _ _ => Or.inl trivial
    iexact HW
  isplitl [H4]
  · iexists f4; isplitr; · ipureintro; exact h4
    iexact H4
  isplitl [H5]
  · iexists f5; isplitr; · ipureintro; exact h5
    iexact H5
  isplitl [H6]
  · iexists f6; isplitr; · ipureintro; exact h6
    iexact H6
  isplitl [H7]
  · iexists f7; isplitr; · ipureintro; exact h7
    iexact H7
  by_cases h3 : t.val % 4 = 3
  · have c3 : k0_cond3 (grid0.coords t) = 1#1 := (cond3 _).mpr (by rw [coords1]; exact h3)
    rw [show idle0 4 (grid0.coords t) = false from busy4 t h3]
    dsimp only
    iexists g8; isplitr
    · ipureintro
      refine (hO.2.1 c3).trans ?_
      rw [known_last m h c t.val ht h3 _ _ hK hI, h6, h7]
      rfl
    iexact H8
  · have c3 : ¬ k0_cond3 (grid0.coords t) = 1#1 := fun e => h3 (by rw [← coords1]; exact (cond3 _).mp e)
    rw [show idle0 4 (grid0.coords t) = true from idle4 t h3, show (win0 4).flush t = false from flush4 t h3]
    dsimp only
    iexists d4, g8; isplitr
    · ipureintro
      exact (hO.2.2 c3).trans h8
    iexact H8

/-! ## The run -/

/-- What the region leaves aside: the arrays it does not touch. -/
def argsP (c : Dev nD) : sProp 𝕄 :=
  iprop((((c : Thread nD τ).loc main_arg0) ↦{fullShare} V m c main_arg0) ∗ (((c : Thread nD τ).loc main_arg1) ↦{fullShare} V m c main_arg1)
    ∗ (((c : Thread nD τ).loc main_arg2) ↦{fullShare} V m c main_arg2) ∗ (((c : Thread nD τ).loc main_arg3) ↦{fullShare} V m c main_arg3))
def intoΦ (c : Dev nD) : sProp 𝕄 :=
  iprop((((c : Thread nD τ).loc main_v3) ↦{fullShare} XEm m c) ∗ (((c : Thread nD τ).loc main_v4) ↦{fullShare} XSm m c) ∗ Pipeline.ownSems0 osem c)
def u₀ : UU nD τ := (initOf (Pipeline.cells cfgs cellOf_inj) (Pipeline.launchToks cfgs cellOf_inj), 1)
def finalA (c : Dev nD) (w : Fin cfg0.W) : Buf (Elt F) ((cfg0.win w).arr.view.loc (c : Thread nD τ)) := (dats m 0 c).arrAt w cfg0.N
def QY (c : Dev nD) (s : MemSt nD τ sig (Elt F)) : Prop :=
  s.mem ((c : Thread nD τ).loc main_arg0) = m ((c : Thread nD τ).loc main_arg0) ∧ s.mem ((c : Thread nD τ).loc main_arg1) = m ((c : Thread nD τ).loc main_arg1)
  ∧ s.mem ((c : Thread nD τ).loc main_arg2) = m ((c : Thread nD τ).loc main_arg2) ∧ s.mem ((c : Thread nD τ).loc main_arg3) = m ((c : Thread nD τ).loc main_arg3)
def QC : PUnit × MemSt nD τ sig (Elt F) → Prop := fun r =>
  ∀ c : Dev nD, (∀ w : Fin cfg0.W, r.2.mem ((cfg0.win w).arr.view.loc (c : Thread nD τ)) = finalA m c w) ∧ QY m c r.2

theorem hmain' : Pipeline.HMain (Ix := Unit) (Name := ℕ) (U := UU nD τ) (Lvl := ℕ) cfgs 0 defs₀ 𝒱₀ m (main (F := F)) (V m) :=
  Pipeline.hmain_prefix cfgs 0 defs₀ 𝒱₀ m main hostOps0 hostOps0_sub hostOps0_fresh main_chain

omit [FloatOps F] in
theorem mG_univ : mG.view.set = Finset.univ := View.set_whole _
omit [FloatOps F] in
theorem mA_univ : mA.view.set = Finset.univ := View.set_whole _

set_option maxHeartbeats 4000000 in
set_option backward.isDefEq.respectTransparency.types false in
/-- From any memory whose lists are as `PreOK` says, every weakly fair execution of the call ends, with its output array at
    the named contents, its arguments as launched and every semaphore at zero. -/
theorem run_main (h : PreOK m) : θ_run defs (onTc (τ := τ) (main (F := F))) (⟨m, fun _ => 0, ρ⟩) (fun r => QC m r ∧ r.2.sem = fun _ => 0) :=
  Pipeline.θ_run_region_kit_quiescent cfgs (dats m) () (0 : Fin 1) launch0 ownSemFacts EP defs₀ 𝒱₀ m ρ main
    (hbody := fun c => (body_obligation m h c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := hmain' m)
    (hA := fun _ _ => rfl)
    (X := intoΦ m) (Y := fun _ => iprop(emp)) (Z := argsP m)
    (hX := fun c => by
      rw [unscopedRest0_eq]
      unfold intoΦ argsP
      iintro ⟨⟨H0, H1, H2, H3, -, HE, HS⟩, HC, -, -, -⟩; imodintro
      isplitl [HE HS HC]
      · isplitl [HE]; · iexact HE
        isplitl [HS]; · iexact HS
        iexact HC
      isplitl [H0]; · iexact H0
      isplitl [H1]; · iexact H1
      isplitl [H2]; · iexact H2
      iexact H3)
    (hin := fun c => by
      rw [scopedRest0_eq, show (dats m 0 c).Φ 0 = Φ m c 0 from rfl]
      unfold intoΦ Φ
      rw [mG_univ, mA_univ]
      iintro ⟨⟨HE, HS, HC⟩, ⟨%fG, HG⟩, HA, Hm, Hn⟩
      isplitl [HE HS HC Hm Hn]
      · iapply (Sin_start c (XEm m c) (XSm m c))
        isplitl [HE]; · iexact HE
        isplitl [HS]; · iexact HS
        isplitl [HC]; · iexact HC
        isplitl [Hm]; · iexact Hm
        iexact Hn
      isplitl [HG]
      · iexists fG
        isplitl [HG]; · iexact HG
        ipureintro
        exact fun b hb => absurd hb (Nat.not_lt_zero _)
      iexact HA)
    (hout := fun c => by
      rw [scopedRest0_eq, show (dats m 0 c).Φ (Fin.last cfg0.N) = Φ m c 512 from congrArg (Φ m c) N_0]
      unfold Φ
      rw [mG_univ, mA_univ]
      iintro ⟨HS, ⟨%fG, HG, -⟩, HA⟩
      ihave HS2 := (Sin_end c (XEm m c) (XSm m c)) $$ HS
      icases HS2 with ⟨-, -, HC, Hm, Hn⟩
      isplitr
      · iempintro
      isplitl [HC]; · iexact HC
      isplitl [HG]; · iexists fG; iexact HG
      isplitl [HA]; · iexact HA
      isplitl [Hm]; · iexact Hm
      iexact Hn)
    (QY := QY m)
    (hY := fun c s' => by
      unfold argsP
      iintro ⟨-, ⟨H0, H1, H2, H3⟩, HSI⟩
      icombine HSI H0 gives %h0
      icombine HSI H1 gives %h1
      icombine HSI H2 gives %h2
      icombine HSI H3 gives %h3
      imodintro
      isplitr
      · ipureintro
        exact ⟨(Buf.eq_of_forall_mem_univ h0).trans (V_main_arg0 m c), (Buf.eq_of_forall_mem_univ h1).trans (V_main_arg1 m c),
          (Buf.eq_of_forall_mem_univ h2).trans (V_main_arg2 m c), (Buf.eq_of_forall_mem_univ h3).trans (V_main_arg3 m c)⟩
      iexact HSI)
    (hQ := fun _ hh hz => ⟨hh, hz⟩)

theorem finalA_in (c : Dev nD) (w : Fin cfg0.W) (hw : (cfg0.win w).isOut = false) : finalA m c w = V m c (Pipeline.arrRef spec0 w) :=
  (dats (F := F) m 0 c).arrAt_in w hw _

/-- The frame's facts. -/
theorem args_of (c : Dev nD) (r : PUnit × MemSt nD τ sig (Elt F)) (hr : QC m r) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(hr c).2.1, (hr c).2.2.1, (hr c).2.2.2.1, (hr c).2.2.2.2, ((hr c).1 2).trans ((finalA_in m c 2 rfl).trans (V_main_arg4 m c)),
    ((hr c).1 3).trans ((finalA_in m c 3 rfl).trans (V_main_arg5 m c))⟩

end Launch
end Cert.KernelIdeal.Run
-- ==== Proof.Pre.lean ====
/- What the precondition says of the lists, in numbers. -/
module

public import proofs.«01_k».proof.Defs
public import proofs.«01_k».proof.Proof.Gen.Pre_lists
public import Idealize.ShloMosaic.Lib.ReduceAll
public import Idealize.ShloMosaic.Lib.WordCmp

@[expose] public section

noncomputable section

namespace Cert.Pre_lists.Read

open Cert.Pre_lists
open Idealize.ShloMosaic

variable {F : FTy → Type} [FloatOps F]

def at2 (t : Fin 16384) (k : Fin 128) : S16384x128.Idx := fun a => match a with | ⟨0, _⟩ => t | ⟨1, _⟩ => k
def at8 (t : Fin 16384) (k : Fin 8) : S16384x8.Idx := fun a => match a with | ⟨0, _⟩ => t | ⟨1, _⟩ => k
def at3 (b : Fin 4) (t : Fin 16384) (k : Fin 128) : S4x16384x128.Idx := fun a => match a with | ⟨0, _⟩ => b | ⟨1, _⟩ => t | ⟨2, _⟩ => k

theorem at8_eta (i : S16384x8.Idx) : i = at8 (i 0) (i 1) := funext fun a => match a with | ⟨0, _⟩ => rfl | ⟨1, _⟩ => rfl
theorem at3_eta (i : S4x16384x128.Idx) : i = at3 (i 0) (i 1) (i 2) := funext fun a => match a with | ⟨0, _⟩ => rfl | ⟨1, _⟩ => rfl | ⟨2, _⟩ => rfl

/-- The lists' own facts: experts are rows of the table, starts are places of a list, local rows are rows of a block; the
    places of block `b` are those whose expert lies in it, and there the local row is the expert's within the block. -/
structure Known (a0 : IVec S4x16384x128 32) (a1 : IVec S16384x8 32) (a4 : IVec S16384x128 32) : Prop where
  e_lt : ∀ t k, (a4 (at2 t k)).toNat < 16384
  s_le : ∀ i, (a1 i).toNat ≤ 128
  l_lt : ∀ i, (a0 i).toNat < 4096
  l_eq : ∀ (b : Fin 4) t k, (a4 (at2 t k)).toNat / 4096 = b.val → (a0 (at3 b t k)).toNat = (a4 (at2 t k)).toNat % 4096
  mem : ∀ (b : Fin 4) t k, ((a1 (at8 t ⟨b.val, by omega⟩)).toNat ≤ k.val ∧ k.val < (a1 (at8 t ⟨b.val + 1, by omega⟩)).toNat) ↔ (a4 (at2 t k)).toNat / 4096 = b.val

instance : Subsingleton S_.Idx := ⟨fun a b => funext fun i => i.elim0⟩

theorem nat_of_int {w : BitVec 32} (N : ℕ) (hN : N ≤ 2147483648) (h0 : 0 ≤ w.toInt) (h1 : w.toInt < N) : w.toNat < N := by
  rw [BitVec.toInt_eq_toNat_cond] at h0 h1
  have := w.isLt
  split at h0 <;> simp_all <;> omega
theorem int_eq {w : BitVec 32} (h : w.toNat < 2147483648) : w.toInt = w.toNat := by
  rw [BitVec.toInt_eq_toNat_cond, if_pos (by omega)]

/-- The block test on a word, in numbers. -/
theorem inside_iff (b : Fin 4) (e : BitVec 32) (he : e.toNat < 16384) :
    IntOp.andi (IntOp.cmpi .sle (IntOp.muli 4096#32 (BitVec.ofNat 32 b.val)) e)
      (IntOp.cmpi .slt e (IntOp.addi (IntOp.muli 4096#32 (BitVec.ofNat 32 b.val)) 4096#32)) = 1#1 ↔ e.toNat / 4096 = b.val := by
  rw [IntOp.andi_eq_one, IntOp.cmpi_sle, IntOp.cmpi_slt, int_eq (w := e) (by omega)]
  have h1 : (IntOp.muli 4096#32 (BitVec.ofNat 32 b.val)).toInt = 4096 * b.val := by revert b; decide
  have h2 : (IntOp.addi (IntOp.muli 4096#32 (BitVec.ofNat 32 b.val)) 4096#32).toInt = 4096 * b.val + 4096 := by revert b; decide
  rw [h1, h2]
  omega

theorem sub_nat (b : Fin 4) (e : BitVec 32) (h : e.toNat / 4096 = b.val) :
    (IntOp.subi e (IntOp.muli 4096#32 (BitVec.ofNat 32 b.val))).toNat = e.toNat % 4096 := by
  have h1 : (IntOp.muli 4096#32 (BitVec.ofNat 32 b.val)).toNat = 4096 * b.val := by clear h; revert b; decide
  unfold IntOp.subi
  rw [BitVec.toNat_sub, h1]
  have := e.isLt
  omega

set_option maxRecDepth 20000 in
theorem of_fn (a0 : IVec S4x16384x128 32) (a1 : IVec S16384x8 32) (a2 a3 : FVec F S16384x2048 .f32) (a4 : IVec S16384x128 32)
    (a5 : FVec F S16384x128 .f32) (h : fn (F := F) a0 a1 a2 a3 a4 a5 = fun _ => 1#1) : Known a0 a1 a4 := by
  have h0 := congrFun h (fun a => a.elim0)
  unfold fn fn_part1 fn_part2 fn_part3 at h0
  dsimp only at h0
  obtain ⟨h0, hR5⟩ := IntOp.andi_eq_one.1 h0
  obtain ⟨h0, hR4⟩ := IntOp.andi_eq_one.1 h0
  obtain ⟨h0, hR3⟩ := IntOp.andi_eq_one.1 h0
  obtain ⟨hR1, hR2⟩ := IntOp.andi_eq_one.1 h0
  have g1 := Host.reduce_andi_all _ _ _ _ _ hR1
  have g2 := Host.reduce_andi_all _ _ _ _ _ hR2
  have g3 := Host.reduce_andi_all _ _ _ _ _ hR3
  have g4 := Host.reduce_andi_all _ _ _ _ _ hR4
  have g5 := Host.reduce_andi_all _ _ _ _ _ hR5
  have e_lt : ∀ t k, (a4 (at2 t k)).toNat < 16384 := fun t k => by
    obtain ⟨p, q⟩ := IntOp.andi_eq_one.1 (g1 (at2 t k))
    exact nat_of_int 16384 (by omega) (IntOp.cmpi_sge.1 p) (IntOp.cmpi_slt.1 q)
  have s_le : ∀ i, (a1 i).toNat ≤ 128 := fun i => by
    obtain ⟨p, q⟩ := IntOp.andi_eq_one.1 (g2 i)
    have q' : (a1 i).toInt ≤ 128 := IntOp.cmpi_sle.1 q
    have := nat_of_int 129 (by omega) (IntOp.cmpi_sge.1 p) (by omega)
    omega
  have l_lt : ∀ i, (a0 i).toNat < 4096 := fun i => by
    obtain ⟨p, q⟩ := IntOp.andi_eq_one.1 (g3 i)
    exact nat_of_int 4096 (by omega) (IntOp.cmpi_sge.1 p) (IntOp.cmpi_slt.1 q)
  have hE : ∀ b t k, broadcastInDim S4x16384x128 ![0, 1, 2] Facts.bcast_S1x16384x128_S4x16384x128_0_1_2
      (broadcastInDim S1x16384x128 ![1, 2] Facts.bcast_S16384x128_S1x16384x128_1_2 a4) (at3 b t k) = a4 (at2 t k) := fun b t k =>
    congrArg a4 (funext fun a => match a with | ⟨0, _⟩ => rfl | ⟨1, _⟩ => rfl)
  have hS : ∀ (b : Fin 4) t k, broadcastInDim S4x16384x128 ![0, 1, 2] Facts.bcast_S4x16384x1_S4x16384x128_0_1_2 (broadcastInDim S4x16384x1 ![0, 1] Facts.bcast_S4x16384_S4x16384x1_0_1
      (transpose S4x16384 [1, 0] (extractStridedSlice S16384x4 ![0, 0] a1 Facts.slices_S16384x8_S16384x4_0_0) Facts.transposes_S16384x4_S4x16384_1_0)) (at3 b t k)
      = a1 (at8 t ⟨b.val, by omega⟩) := fun b t k =>
    congrArg a1 (funext fun a => match a with | ⟨0, _⟩ => Fin.ext (Nat.zero_add _) | ⟨1, _⟩ => Fin.ext (Nat.zero_add _))
  have hT : ∀ (b : Fin 4) t k, broadcastInDim S4x16384x128 ![0, 1, 2] Facts.bcast_S4x16384x1_S4x16384x128_0_1_2 (broadcastInDim S4x16384x1 ![0, 1] Facts.bcast_S4x16384_S4x16384x1_0_1
      (transpose S4x16384 [1, 0] (extractStridedSlice S16384x4 ![0, 1] a1 Facts.slices_S16384x8_S16384x4_0_1) Facts.transposes_S16384x4_S4x16384_1_0)) (at3 b t k)
      = a1 (at8 t ⟨b.val + 1, by omega⟩) := fun b t k =>
    congrArg a1 (funext fun a => match a with | ⟨0, _⟩ => Fin.ext (Nat.zero_add _) | ⟨1, _⟩ => Fin.ext (Nat.add_comm _ _))
  refine ⟨e_lt, s_le, l_lt, fun b t k hb => ?_, fun b t k => ?_⟩
  · have w : (if IntOp.andi (IntOp.cmpi .sle (IntOp.muli 4096#32 (BitVec.ofNat 32 b.val)) (a4 (at2 t k)))
      (IntOp.cmpi .slt (a4 (at2 t k)) (IntOp.addi (IntOp.muli 4096#32 (BitVec.ofNat 32 b.val)) 4096#32)) = 1#1 then
        IntOp.cmpi .eq (a0 (at3 b t k)) (IntOp.subi (a4 (at2 t k)) (IntOp.muli 4096#32 (BitVec.ofNat 32 b.val))) else 1#1) = 1#1 := by
      rw [← hE b t k]
      exact g4 (at3 b t k)
    rw [if_pos ((inside_iff b _ (e_lt t k)).2 hb)] at w
    rw [IntOp.cmpi_eq.1 w, sub_nat b _ hb]
  · have w : IntOp.cmpi .eq (IntOp.andi (IntOp.cmpi .sle (a1 (at8 t ⟨b.val, by omega⟩)) (BitVec.ofNat 32 k.val)) (IntOp.cmpi .slt (BitVec.ofNat 32 k.val) (a1 (at8 t ⟨b.val + 1, by omega⟩))))
      (IntOp.andi (IntOp.cmpi .sle (IntOp.muli 4096#32 (BitVec.ofNat 32 b.val)) (a4 (at2 t k)))
      (IntOp.cmpi .slt (a4 (at2 t k)) (IntOp.addi (IntOp.muli 4096#32 (BitVec.ofNat 32 b.val)) 4096#32))) = 1#1 := by
      rw [← hE b t k, ← hS b t k, ← hT b t k]
      exact g5 (at3 b t k)
    rw [← inside_iff b _ (e_lt t k), ← IntOp.cmpi_eq.1 w, IntOp.andi_eq_one, IntOp.cmpi_sle, IntOp.cmpi_slt]
    have k' := k.isLt
    have s1 := s_le (at8 t ⟨b.val, by omega⟩)
    have s2 := s_le (at8 t ⟨b.val + 1, by omega⟩)
    have e3 : (BitVec.ofNat 32 k.val).toNat = k.val := by rw [BitVec.toNat_ofNat]; omega
    rw [int_eq (w := a1 (at8 t ⟨b.val, by omega⟩)) (by omega), int_eq (w := a1 (at8 t ⟨b.val + 1, by omega⟩)) (by omega), int_eq (w := BitVec.ofNat 32 k.val) (by omega), e3]
    omega

end Cert.Pre_lists.Read
-- ==== Proof.Host.lean ====
/- What the region finds in the arrays that the host lines wrote, and the facts of the lists there. -/
module

public import proofs.«01_k».proof.Proof.Launched
public import proofs.«01_k».proof.Proof.Pre

@[expose] public section

noncomputable section

namespace Cert.KernelIdeal.Run

open Cert.KernelIdeal Cert.KernelIdeal.Gen Cert.KernelIdeal.W Cert.KernelIdeal.D
open Idealize.ShloMosaic
open Idealize.ShloMosaic.TcCoe Idealize.ShloMosaic.Tactic Idealize.ShloMosaic.StableHlo
open Idealize.SL.Sem
open Cert.Pre_lists.Read (at2 at3 at8)

variable {F : FTy → Type} [FloatOps F]
variable (m : (ℓ : Loc nD τ sig) → Buf (Elt F) ℓ)

/-- The call's arguments, as arrays. -/
def a0 (c : Dev nD) : S4x16384x128.Idx → BitVec 32 := m ((c : Thread nD τ).loc main_arg0)
def a1 (c : Dev nD) : S16384x8.Idx → BitVec 32 := m ((c : Thread nD τ).loc main_arg1)
def a2 (c : Dev nD) : S16384x2048.Idx → F .f32 := m ((c : Thread nD τ).loc main_arg2)
def a3 (c : Dev nD) : S16384x2048.Idx → F .f32 := m ((c : Thread nD τ).loc main_arg3)
def a4 (c : Dev nD) : S16384x128.Idx → BitVec 32 := m ((c : Thread nD τ).loc main_arg4)
def a5 (c : Dev nD) : S16384x128.Idx → F .f32 := m ((c : Thread nD τ).loc main_arg5)

theorem V_v1 (c : Dev nD) : V m c main_v1 = shapeCast S16384x16x128 (truncf .bf16 (a3 m c) bitsLt_bf16_f32) shapeCasts_S16384x2048_S16384x16x128 := by
  unfold V hostOps0
  after_results
  all_goals rfl
theorem V_v2 (c : Dev nD) : V m c main_v2 = shapeCast S16384x16x128 (a2 m c) shapeCasts_S16384x2048_S16384x16x128 := by
  unfold V hostOps0
  after_results
  all_goals rfl
theorem xe_eq (c : Dev nD) : xe m c = shapeCast S8388608 (a0 m c) shapeCasts_S4x16384x128_S8388608 := by
  show V m c main_v3 = _
  unfold V hostOps0
  after_results
  all_goals rfl
theorem xs_eq (c : Dev nD) : xs m c = shapeCast S131072 (a1 m c) shapeCasts_S16384x8_S131072 := by
  show V m c main_v4 = _
  unfold V hostOps0
  after_results
  all_goals rfl

theorem wE_read (c : Dev nD) (b : Fin 4) (t : Fin 16384) (k : Fin 128) (q : ℕ) (hq : q = (b.val * 16384 + t.val) * 128 + k.val) :
    wE (xe m c) q = a0 m c (at3 b t k) := by
  rw [xe_eq]
  refine shapeCast_apply _ _ _ _ ?_
  rw [Shape.rowMajor_val_three, Shape.rowMajor_val_one]
  have := b.isLt; have := t.isLt; have := k.isLt
  show (b.val * 16384 + t.val) * 128 + k.val = q % 8388608
  omega
theorem wS_read (c : Dev nD) (t : Fin 16384) (k : Fin 8) (q : ℕ) (hq : q = t.val * 8 + k.val) : wS (xs m c) q = a1 m c (at8 t k) := by
  rw [xs_eq]
  refine shapeCast_apply _ _ _ _ ?_
  rw [Shape.rowMajor_val_two, Shape.rowMajor_val_one]
  have := t.isLt; have := k.isLt
  show t.val * 8 + k.val = q % 131072
  omega

/-- Token `t` of step `n`'s block of tokens. -/
def tokOf (n t : ℕ) : Fin 16384 := Fin.ofNat 16384 (128 * (n / 4) + t)
theorem tokOf_val (n t : ℕ) (hn : n < 512) (ht : t < 128) : (tokOf n t).val = 128 * (n / 4) + t := Nat.mod_eq_of_lt (by omega)

theorem st0_read (c : Dev nD) (n t : ℕ) (b : Fin 8) (hn : n < 512) (ht : t < 128) :
    st0 (SL (xs m c) n) n b.val t = (a1 m c (at8 (tokOf n t) b)).toNat := by
  unfold st0 rdS SL
  congr 1
  have := b.isLt
  refine wS_read m c (tokOf n t) b _ ?_
  rw [tokOf_val n t hn ht]
  show n % 512 / 4 * 1024 + (n % 2 * 1024 + b.val + 8 * t) % 2048 % 1024 = _
  omega
theorem st1_read (c : Dev nD) (n t : ℕ) (b b' : Fin 8) (hb : b'.val = b.val + 1) (hn : n < 512) (ht : t < 128) :
    st1 (SL (xs m c) n) n b.val t = (a1 m c (at8 (tokOf n t) b')).toNat := by
  unfold st1 rdS SL
  congr 1
  have := b.isLt; have := b'.isLt
  refine wS_read m c (tokOf n t) b' _ ?_
  rw [tokOf_val n t hn ht]
  show n % 512 / 4 * 1024 + (n % 2 * 1024 + b.val + 8 * t + 1) % 2048 % 1024 = _
  omega

/-- The list word of step `n` at token `t`, place `k`. -/
theorem EL_read (c : Dev nD) (n t : ℕ) (k : Fin 128) (b : Fin 4) (hb : b.val = n % 4) (hn : n < 512) (ht : t < 128) (q r : ℕ) (hqr : 8 * q + r = k.val) :
    idw (EL (xe m c) n) n t q r = a0 m c (at3 b (tokOf n t) k) := by
  unfold idw rdE EL
  have := k.isLt
  refine wE_read m c b (tokOf n t) k _ ?_
  rw [tokOf_val n t hn ht]
  show (n % 512 % 4 * 16384 + n % 512 / 4 * 128) * 128 + (n % 2 * 16384 + 128 * t + 8 * q + r) % 32768 % 16384 = _
  omega

variable (h : ∀ c, Cert.Pre_lists.Read.Known (a0 m c) (a1 m c) (a4 m c))
include h

theorem inR_iff (c : Dev nD) (n : ℕ) (hn : n < 512) (y : S128x128x128.Idx) :
    inR m c n y ↔ (a4 m c (at2 (tokOf n (y 0).val) (y 1 : Fin 128))).toNat / 4096 = n % 4 := by
  have hk := (h c).mem ⟨n % 4, by omega⟩ (tokOf n (y 0).val) (y 1 : Fin 128)
  have y0 : (y 0).val < 128 := (y 0).isLt
  have e0 := st0_read m c n (y 0).val ⟨n % 4, by omega⟩ hn y0
  have e1 := st1_read m c n (y 0).val ⟨n % 4, by omega⟩ ⟨n % 4 + 1, by omega⟩ rfl hn y0
  unfold inR
  rw [e0, e1]
  exact hk

theorem preOK : PreOK m where
  lists c := by
    refine ⟨fun q => ?_, fun q => ?_⟩
    · rw [xe_eq]; exact (h c).l_lt _
    · rw [xs_eq]; exact (h c).s_le _
  sep c k b b' hk hb hb' y := by
    rw [inR_iff m h c _ (by omega), inR_iff m h c _ (by omega)]
    have e : ∀ b, b < 4 → (4 * k + b) / 4 = k := fun b _ => by omega
    have e' : ∀ b, b < 4 → tokOf (4 * k + b) (y 0).val = tokOf (4 * k) (y 0).val := fun b hb => by
      unfold tokOf; rw [e b hb]; congr 2; omega
    rw [e' b (by omega), e' b' hb']
    omega
  cov c k hk y := by
    refine ⟨(a4 m c (at2 (tokOf (4 * k) (y 0).val) (y 1 : Fin 128))).toNat / 4096, ?_, ?_⟩
    · have := (h c).e_lt (tokOf (4 * k) (y 0).val) (y 1 : Fin 128)
      omega
    · have hl := (h c).e_lt (tokOf (4 * k) (y 0).val) (y 1 : Fin 128)
      rw [inR_iff m h c _ (by omega)]
      generalize hz : (a4 m c (at2 (tokOf (4 * k) (y 0).val) (y 1 : Fin 128))).toNat / 4096 = z
      have : tokOf (4 * k + z) (y 0).val = tokOf (4 * k) (y 0).val := by unfold tokOf; congr 2; omega
      rw [this, hz]
      omega

end Cert.KernelIdeal.Run
-- ==== Proof.Fold.lean ====
/- What a chunk's folds and the reduction of the stage leave, as sums over the extended reals. -/
module

public import proofs.«01_k».proof.Proof.Host
public import Idealize.ShloMosaic.Lib.Pointwise

@[expose] public section

namespace Cert.KernelIdeal.V

open Idealize.ShloMosaic Cert.KernelIdeal Cert.KernelIdeal.Gen Cert.KernelIdeal.W Cert.KernelIdeal.D Cert.KernelIdeal.Run

/-- The first fold of eight vectors: rows `r` and `r + 4` are joined. -/
theorem parts_read (h : S16x128.Idx → Ideal .f32) (u : ℕ → S1x16x128.Idx → Ideal .bf16) (r : ℕ) (hr : r < 4) (s : Fin 8) (l : Fin 128) :
    parts h u r (ix2 s l) = if s.val < 4 then k0_pay8 h (u r) (ix2 s l) + k0_pay8 h (u r) (ix2 (Fin.ofNat 8 (s.val + 4)) l)
      else k0_pay8 h (u (r + 4)) (ix2 s l) + k0_pay8 h (u (r + 4)) (ix2 (Fin.ofNat 8 (s.val + 4)) l) := by
  have key : ∀ f g : S8x128.Idx → Ideal .f32, k0_pay21 iota8 f g (ix2 s l) = if s.val < 4 then f (ix2 s l) + f (ix2 (Fin.ofNat 8 (s.val + 4)) l)
      else g (ix2 s l) + g (ix2 (Fin.ofNat 8 (s.val + 4)) l) := by
    intro f g
    unfold k0_pay21 k0_pay20 iota8
    pointwise
    fin_cases s <;> rfl
  match r, hr with
  | 0, _ => exact key _ _
  | 1, _ => exact key _ _
  | 2, _ => exact key _ _
  | 3, _ => exact key _ _

/-- Lane `l` of row `s` of what is stored: the sum of the eight rows of vector `s` at that lane. -/
theorem flush_read (h : S16x128.Idx → Ideal .f32) (u : ℕ → S1x16x128.Idx → Ideal .bf16) (s : Fin 8) (l : Fin 128) :
    flush (parts h u) (ix3 0 s l) = ∑ j : Fin 8, k0_pay8 h (u s.val) (ix2 j l) := by
  have e : ∀ r, r < 4 → ∀ s : Fin 8, _ := fun r hr s => parts_read h u r hr s l
  unfold flush k0_pay18 k0_pay16 k0_pay17 iota8
  pointwise
  simp only [e 0 (by decide), e 1 (by decide), e 2 (by decide), e 3 (by decide)]
  clear e
  generalize hw : (fun (r : ℕ) (j : Fin 8) => k0_pay8 h (u r) (ix2 j l)) = w
  have hw' : ∀ r j, k0_pay8 h (u r) (ix2 j l) = w r j := fun r j => by rw [← hw]
  simp only [hw']
  clear hw hw'
  rw [Fin.sum_univ_eight]
  fin_cases s
  · show (w 0 0 + w 0 4) + (w 0 2 + w 0 6) + ((w 0 1 + w 0 5) + (w 0 3 + w 0 7)) = _
    abel
  · show (w 1 1 + w 1 5) + (w 1 3 + w 1 7) + ((w 1 0 + w 1 4) + (w 1 2 + w 1 6)) = _
    abel
  · show (w 2 2 + w 2 6) + (w 2 0 + w 2 4) + ((w 2 3 + w 2 7) + (w 2 1 + w 2 5)) = _
    abel
  · show (w 3 3 + w 3 7) + (w 3 1 + w 3 5) + ((w 3 2 + w 3 6) + (w 3 0 + w 3 4)) = _
    abel
  · show (w 4 4 + w 4 0) + (w 4 6 + w 4 2) + ((w 4 5 + w 4 1) + (w 4 7 + w 4 3)) = _
    abel
  · show (w 5 5 + w 5 1) + (w 5 7 + w 5 3) + ((w 5 4 + w 5 0) + (w 5 6 + w 5 2)) = _
    abel
  · show (w 6 6 + w 6 2) + (w 6 4 + w 6 0) + ((w 6 7 + w 6 3) + (w 6 5 + w 6 1)) = _
    abel
  · show (w 7 7 + w 7 3) + (w 7 5 + w 7 1) + ((w 7 6 + w 7 2) + (w 7 4 + w 7 0)) = _
    abel

/-- One row's product with one row of the table, folded to eight rows. -/
theorem prod_read (h : S16x128.Idx → Ideal .f32) (u : S1x16x128.Idx → Ideal .bf16) (s : Fin 8) (l : Fin 128) :
    k0_pay8 h u (ix2 s l) = h (ix2 (Fin.castAdd 8 s) l) * u (ix3 0 (Fin.castAdd 8 s) l)
      + h (ix2 (Fin.natAdd 8 s) l) * u (ix3 0 (Fin.natAdd 8 s) l) := by
  unfold k0_pay8
  pointwise
  rfl

theorem prod_sum (h : S16x128.Idx → Ideal .f32) (u : S1x16x128.Idx → Ideal .bf16) (l : Fin 128) :
    ∑ s : Fin 8, k0_pay8 h u (ix2 s l) = ∑ j : Fin 16, h (ix2 j l) * u (ix3 0 j l) := by
  simp only [prod_read]
  rw [Finset.sum_add_distrib]
  exact (Fin.sum_univ_add (a := 8) (b := 8) fun j : Fin 16 => h (ix2 j l) * u (ix3 0 j l)).symm

/-- What a step leaves at a place: the sum over the sixteen rows of one lane's products. -/
theorem sval_read (n : ℕ) (E : S32768.Idx → BitVec 32) (H : S128x16x128.Idx → Ideal .f32) (U : S4096x16x128.Idx → Ideal .bf16)
    (t k l : Fin 128) : sval n E H U (ix3 t k l)
      = ∑ j : Fin 16, H (ix3 t j l) * U (ix3 (Fin.ofNat 4096 (idw E n t.val (k.val / 8) (k.val % 8)).toNat) j l) := by
  have hk : (fun a => match a with | ⟨0, _⟩ => (0 : Fin 1) | ⟨1, _⟩ => (Fin.ofNat 8 k.val : Fin 8) | ⟨2, _⟩ => (l : Fin 128) : S1x8x128.Idx)
      = ix3 0 (Fin.ofNat 8 k.val) l := by funext a; match a with | ⟨0, _⟩ => rfl | ⟨1, _⟩ => rfl | ⟨2, _⟩ => rfl
  show flush (parts (k0_pay42 (hrow H t.val)) fun r => urow U (idw E n t.val (k.val / 8) r).toNat) (fun a => match a with
    | ⟨0, _⟩ => (0 : Fin 1) | ⟨1, _⟩ => (Fin.ofNat 8 k.val : Fin 8) | ⟨2, _⟩ => (l : Fin 128)) = _
  rw [hk, flush_read, prod_sum]
  refine Finset.sum_congr rfl fun j _ => ?_
  have e1 : k0_pay42 (hrow H t.val) (ix2 j l) = H (ix3 t j l) := by
    unfold k0_pay42
    pointwise
    show H _ = H _
    congr 1
    funext a
    match a with
    | ⟨0, _⟩ => exact Fin.ext (Nat.mod_eq_of_lt t.isLt)
    | ⟨1, _⟩ => rfl
    | ⟨2, _⟩ => rfl
  have e2 : ∀ q, urow U q (ix3 0 j l) = U (ix3 (Fin.ofNat 4096 q) j l) := by
    intro q
    show U _ = U _
    congr 1
    funext a
    match a with
    | ⟨0, _⟩ => rfl
    | ⟨1, _⟩ => rfl
    | ⟨2, _⟩ => rfl
  rw [e1, e2]
  rfl

/-- The reduction of the stage: the sum over the lanes. -/
theorem sums_read (G : S128x128x128.Idx → Ideal .f32) (t k : Fin 128) : sums G (ix2 t k) = ∑ l : Fin 128, G (ix3 t k l) := by
  have hr : ∀ l : Fin 128, srow G t.val (ix3 0 k l) = G (ix3 t k l) := by
    intro l
    show G _ = G _
    congr 1
    funext a
    match a with
    | ⟨0, _⟩ => exact Fin.ext (Nat.mod_eq_of_lt t.isLt)
    | ⟨1, _⟩ => rfl
    | ⟨2, _⟩ => rfl
  show k0_pay3 (F := Ideal) (srow G t.val) _ = _
  unfold k0_pay3
  pointwise
  exact Finset.sum_congr rfl fun l _ => hr l

/-- The exact GELU, weighted, as the kernel writes it. -/
noncomputable def gel (g a : EReal) : EReal :=
  g * (Ideal.ofBits .f32 0x3F000000#32 * a * (1 + Ideal.erf (a * Ideal.ofBits .f32 0x3F3504F3#32)))

/-- What the last step writes: the weighted activation in the half that the expert belongs to, zero in the other. -/
theorem outv_read (g a : S128x128.Idx → Ideal .f32) (e : S128x128.Idx → BitVec 32) (p : Fin 2) (t k : Fin 128) :
    outv g a e (ix3 p t k) = if (e (ix2 t k)).toNat / 8192 = p.val then gel (g (ix2 t k)) (a (ix2 t k)) else 0 := by
  have hi : (fun q => match q with | ⟨0, _⟩ => (0 : Fin 1) | ⟨1, _⟩ => (t : Fin 128) | ⟨2, _⟩ => (k : Fin 128) : S1x128x128.Idx)
      = ix3 0 t k := by funext a; match a with | ⟨0, _⟩ => rfl | ⟨1, _⟩ => rfl | ⟨2, _⟩ => rfl
  have hs : ∀ w : BitVec 32, IntOp.shrui .vector w 13#32 = w >>> 13 := fun w => rfl
  have hw : ∀ (w : BitVec 32) (q : ℕ), q < 2 → (w >>> 13 = BitVec.ofNat 32 q ↔ w.toNat / 8192 = q) := by
    intro w q hq
    rw [← BitVec.toNat_inj, BitVec.toNat_ushiftRight, Nat.shiftRight_eq_div_pow, BitVec.toNat_ofNat, Nat.mod_eq_of_lt (by omega)]
  show (if p.val = 0 then k0_pay6 (F := Ideal) g a e (fun q => match q with | ⟨0, _⟩ => (0 : Fin 1) | ⟨1, _⟩ => (t : Fin 128) | ⟨2, _⟩ => (k : Fin 128))
    else k0_pay7 (F := Ideal) g a e (fun q => match q with | ⟨0, _⟩ => (0 : Fin 1) | ⟨1, _⟩ => (t : Fin 128) | ⟨2, _⟩ => (k : Fin 128))) = _
  rw [hi]
  have sel : ∀ (w : BitVec 32) (q : ℕ) (x y : EReal), q < 2 → Scalar.select (IntOp.cmpi CmpIPredicate.eq (IntOp.shrui ArithUnit.vector w 13#32) (BitVec.ofNat 32 q)) x y
      = if w.toNat / 8192 = q then x else y := by
    intro w q x y hq
    rw [hs]
    by_cases h : w.toNat / 8192 = q
    · rw [if_pos h, (hw w q hq).mpr h]; simp [IntOp.cmpi, Scalar.select]
    · rw [if_neg h]
      have h' : ¬ w >>> 13 = BitVec.ofNat 32 q := fun e => h ((hw w q hq).mp e)
      have hb : (w >>> 13 == BitVec.ofNat 32 q) = false := beq_eq_false_iff_ne.mpr h'
      unfold IntOp.cmpi Scalar.select
      simp only [hb]
      rfl
  fin_cases p
  · rw [if_pos rfl]
    unfold k0_pay6 k0_pay5 k0_pay4
    pointwise
    exact sel _ 0 _ _ (by decide)
  · rw [if_neg (by decide)]
    unfold k0_pay7 k0_pay5 k0_pay4
    pointwise
    exact sel _ 1 _ _ (by decide)

end Cert.KernelIdeal.V
-- ==== Proof.Value.lean ====
/- What the result array holds at the end, over the extended reals. -/
module

public import proofs.«01_k».proof.Proof.Fold
public import Idealize.ShloMosaic.Lib.Pipeline.ValueKit

@[expose] public section

set_option maxRecDepth 16384

noncomputable section

namespace Cert.KernelIdeal.V

open Idealize.ShloMosaic Idealize.ShloMosaic.TcCoe Cert.KernelIdeal Cert.KernelIdeal.Gen Cert.KernelIdeal.W Cert.KernelIdeal.D Cert.KernelIdeal.Run

variable (m : (ℓ : Loc nD τ sig) → Buf (Elt Ideal) ℓ)

theorem idx0 : ∀ t : Fin cfg0.N, win0_0.index t = ![t.val / 4, 0, 0] ∧ win0_1.index t = ![t.val % 4, 0, 0] ∧ win0_2.index t = ![t.val / 4, 0]
    ∧ win0_3.index t = ![t.val / 4, 0] ∧ win0_4.index t = ![0, t.val / 4, 0] := by decide +kernel

theorem lt_N (t : Fin cfg0.N) : t.val < 512 := Nat.lt_of_lt_of_eq t.isLt N_0

theorem hb_read (c : Dev nD) (t : Fin cfg0.N) (y : Fin 128) (j : Fin 16) (l : Fin 128) (T : Fin 16384) (hT : T.val = 128 * (t.val / 4) + y.val)
    (d : Fin 2048) (hd : d.val = 128 * j.val + l.val) : hb m c t (ix3 y j l) = a2 m c (ix2 T d) := by
  unfold hb iblk
  blk_simp
  rw [V_v2]
  pointwise
  blk_ext [(idx0 t).1]

theorem ub_read (c : Dev nD) (t : Fin cfg0.N) (r : Fin 4096) (j : Fin 16) (l : Fin 128) (e : Fin 16384) (he : e.val = 4096 * (t.val % 4) + r.val)
    (d : Fin 2048) (hd : d.val = 128 * j.val + l.val) : ub m c t (ix3 r j l) = a3 m c (ix2 e d) := by
  unfold ub iblk
  blk_simp
  rw [V_v1]
  pointwise
  blk_ext [(idx0 t).2.1]

theorem eb_read (c : Dev nD) (t : Fin cfg0.N) (y k : Fin 128) (T : Fin 16384) (hT : T.val = 128 * (t.val / 4) + y.val) :
    eb m c t (ix2 y k) = a4 m c (ix2 T k) := by
  unfold eb iblk
  blk_simp
  rw [show V m c main_arg4 = a4 m c from V_main_arg4 m c]
  blk_ext [(idx0 t).2.2.1]

theorem gb_read (c : Dev nD) (t : Fin cfg0.N) (y k : Fin 128) (T : Fin 16384) (hT : T.val = 128 * (t.val / 4) + y.val) :
    gb m c t (ix2 y k) = a5 m c (ix2 T k) := by
  unfold gb iblk
  blk_simp
  rw [show V m c main_arg5 = a5 m c from V_main_arg5 m c]
  blk_ext [(idx0 t).2.2.2.1]

/-- The activation of token `T` at place `k`, of expert `e` there: the product of the token's row with the expert's row. -/
def dotp (A B : S16384x2048.Idx → EReal) (T e : Fin 16384) : EReal := ∑ d : Fin 2048, A (ix2 T d) * B (ix2 e d)

/-- The expert of token `T` at place `k`. -/
def expert (E : S16384x128.Idx → BitVec 32) (T : Fin 16384) (k : Fin 128) : Fin 16384 := Fin.ofNat 16384 (E (ix2 T k)).toNat

/-- What the call returns. -/
def acts (A B : S16384x2048.Idx → EReal) (E : S16384x128.Idx → BitVec 32) (G : S16384x128.Idx → EReal) (y : S2x16384x128.Idx) : EReal :=
  if (E (ix2 (y 1 : Fin 16384) (y 2 : Fin 128))).toNat / 8192 = (y 0).val then
    gel (G (ix2 (y 1 : Fin 16384) (y 2 : Fin 128))) (dotp A B (y 1 : Fin 16384) (expert E (y 1 : Fin 16384) (y 2 : Fin 128))) else 0

theorem at2_ix (t : Fin 16384) (k : Fin 128) : Cert.Pre_lists.Read.at2 t k = ix2 t k := by
  funext a; match a with | ⟨0, _⟩ => rfl | ⟨1, _⟩ => rfl

theorem lanes_sum (f : Fin 2048 → EReal) : ∑ l : Fin 128, ∑ j : Fin 16, f ⟨128 * j.val + l.val, by omega⟩ = ∑ d : Fin 2048, f d := by
  rw [Finset.sum_comm, ← Fintype.sum_prod_type' (f := fun (j : Fin 16) (l : Fin 128) => f ⟨128 * j.val + l.val, by omega⟩)]
  have e := Fintype.sum_equiv (finProdFinEquiv (m := 16) (n := 128)) (fun p => f ⟨128 * p.1.val + p.2.val, by omega⟩)
    (fun d : Fin (16 * 128) => f ⟨d.val, d.isLt⟩) (fun p => congrArg f (Fin.ext (Nat.add_comm _ _)))
  exact e

section Known
variable (h : ∀ c, Cert.Pre_lists.Read.Known (a0 m c) (a1 m c) (a4 m c))
include h

/-- What a step leaves at a place of its own: one lane of the product with the expert's row. -/
theorem val_read (c : Dev nD) (n : ℕ) (hn : n < 512) (t k l : Fin 128) (hI : inR m c n (ix3 t k l)) (T : Fin 16384)
    (hT : T.val = 128 * (n / 4) + t.val) : val m c n (ix3 t k l)
      = ∑ j : Fin 16, (a2 m c (ix2 T ⟨128 * j.val + l.val, by omega⟩) : EReal)
        * a3 m c (ix2 (expert (a4 m c) T k) ⟨128 * j.val + l.val, by omega⟩) := by
  have hTe : tokOf n t.val = T := Fin.ext ((tokOf_val n t.val hn t.isLt).trans hT.symm)
  have hb : (a4 m c (ix2 T k)).toNat / 4096 = n % 4 := by
    have := (inR_iff m h c n hn _).mp hI
    rw [← at2_ix, ← hTe]
    exact this
  have hlt : (a4 m c (ix2 T k)).toNat < 16384 := by rw [← at2_ix]; exact (h c).e_lt T k
  have hpt : (pt n).val = n := Nat.mod_eq_of_lt hn
  have hl : (idw (EL (xe m c) n) n t.val (k.val / 8) (k.val % 8)).toNat = (a4 m c (ix2 T k)).toNat % 4096 := by
    rw [EL_read m c n t.val k ⟨n % 4, by omega⟩ rfl hn t.isLt _ _ (by omega), hTe, ← at2_ix]
    refine (h c).l_eq _ _ _ ?_
    rw [at2_ix]
    exact hb
  unfold val
  rw [sval_read]
  refine Finset.sum_congr rfl fun j _ => ?_
  rw [hb_read m c (pt n) t j l T (by rw [hpt]; exact hT) ⟨128 * j.val + l.val, by omega⟩ rfl, hl,
    ub_read m c (pt n) _ j l (expert (a4 m c) T k) ?_ ⟨128 * j.val + l.val, by omega⟩ rfl]
  rw [hpt]
  show (a4 m c (ix2 T k)).toNat % 16384 = 4096 * (n % 4) + (a4 m c (ix2 T k)).toNat % 4096 % 4096
  omega

theorem tot_read (c : Dev nD) (q : ℕ) (hq : q < 128) (t k l : Fin 128) (T : Fin 16384) (hT : T.val = 128 * q + t.val) :
    tot m c q (ix3 t k l) = ∑ j : Fin 16, (a2 m c (ix2 T ⟨128 * j.val + l.val, by omega⟩) : EReal)
        * a3 m c (ix2 (expert (a4 m c) T k) ⟨128 * j.val + l.val, by omega⟩) := by
  have v : ∀ n, n / 4 = q → inR m c n (ix3 t k l) → _ := fun n hn hI =>
    val_read m h c n (by omega) t k l hI T (by omega)
  unfold tot
  split_ifs with h0 h1 h2
  · exact v (4 * q) (by omega) h0
  · exact v (4 * q + 1) (by omega) h1
  · exact v (4 * q + 2) (by omega) h2
  · refine v (4 * q + 3) (by omega) ?_
    obtain ⟨b, hb, hI⟩ := (preOK m h).cov c q hq (ix3 t k l)
    have hb4 : b = 0 ∨ b = 1 ∨ b = 2 ∨ b = 3 := by omega
    rcases hb4 with rfl | rfl | rfl | rfl
    · rw [Nat.add_zero] at hI
      exact absurd hI h0
    · exact absurd hI h1
    · exact absurd hI h2
    · exact hI

theorem sums_tot (c : Dev nD) (q : ℕ) (hq : q < 128) (t k : Fin 128) (T : Fin 16384) (hT : T.val = 128 * q + t.val) :
    sums (tot m c q) (ix2 t k) = dotp (a2 m c) (a3 m c) T (expert (a4 m c) T k) := by
  rw [sums_read]
  refine (Finset.sum_congr rfl fun l _ => tot_read m h c q hq t k l T hT).trans ?_
  exact lanes_sum fun d => (a2 m c (ix2 T d) : EReal) * a3 m c (ix2 (expert (a4 m c) T k) d)

theorem at_block (c : Dev nD) (t : Fin cfg0.N) (hm : t.val % 4 = 3) (p : Fin 2) (y k : Fin 128) (hb : 128 * (t.val / 4) + y.val < 16384) :
    out m c t (ix3 p y k) = acts (a2 m c) (a3 m c) (a4 m c) (a5 m c) (ix3 p (⟨128 * (t.val / 4) + y.val, hb⟩ : Fin 16384) k) := by
  have hN := lt_N t
  unfold out
  rw [outv_read, eb_read m c t _ _ ⟨128 * (t.val / 4) + y.val, hb⟩ rfl, gb_read m c t _ _ ⟨128 * (t.val / 4) + y.val, hb⟩ rfl,
    sums_tot m h c (t.val / 4) (by omega) _ _ ⟨128 * (t.val / 4) + y.val, hb⟩ rfl]
  rfl

/-- The result array at the end. -/
theorem final_eq (c : Dev nD) : finalA m c 4 = acts (a2 m c) (a3 m c) (a4 m c) (a5 m c) := by
  refine (dats m 0 c).arrAt_eq_of_covers 4 _ (by decide +kernel) fun t hf y => ?_
  blk_simp
  have hN := lt_N t
  have hm : t.val % 4 = 3 := (flush0_4 t).mp hf
  have y1 : (y 1).val < 128 := (y 1).isLt
  have e : ((win0_4.blk t).view.emb y : S2x16384x128.Idx) = ix3 (y 0 : Fin 2) (⟨128 * (t.val / 4) + (y 1).val, by omega⟩ : Fin 16384) (y 2 : Fin 128) := by
    blk_ext [(idx0 t).2.2.2.2]
  rw [e]
  have key := at_block m h c t hm (y 0) (y 1) (y 2) (by omega)
  have ey : (y : S2x128x128.Idx) = ix3 (y 0 : Fin 2) (y 1 : Fin 128) (y 2 : Fin 128) := by
    funext a; match a with | ⟨0, _⟩ => rfl | ⟨1, _⟩ => rfl | ⟨2, _⟩ => rfl
  exact (congrArg (out m c t) ey).trans key

end Known

end Cert.KernelIdeal.V
-- ==== Proof.Ref.lean ====
/- The reference's composed term, read at an index. -/
module

public import proofs.«01_k».proof.Proof.Gen.ReferenceIdeal.Run
public import Idealize.ShloMosaic.Lib.Pointwise
public import Idealize.ShloMosaic.Lib.Tactic.CleanTypes
public import Idealize.ShloMosaic.Lib.Routing.Words

@[expose] public section

set_option maxRecDepth 16384

noncomputable section

namespace Cert.ReferenceIdeal.V

open Idealize.ShloMosaic Idealize.ShloMosaic.TcCoe Cert.ReferenceIdeal

variable (m : (ℓ : Loc nD τ sig) → Buf (Elt Ideal) ℓ)

/-- The gather of whole rows, read at a place: the row its index word names, read signed and clamped. -/
theorem gather_read (x : S16384x2048.Idx → Ideal .f32) (idx : IVec S16384x128x1 32) (T : Fin 16384) (k : Fin 128) (d : Fin 2048)
    (e : Fin 16384) (he : min (idx (ix3 T k 0)).toInt.toNat 16383 = e.val) :
    Host.gather gather_S16384x2048_S16384x128x1_S16384x128x2048_2_0_n_n_0_2_12048 x idx (ix3 T k d) = x (ix2 e d) := by
  set D := gather_S16384x2048_S16384x128x1_S16384x128x2048_2_0_n_n_0_2_12048 with hD
  unfold Host.gather
  congr 1
  funext a
  refine Fin.ext ?_
  show D.start (ix3 T k d) idx a + D.batchCoord (ix3 T k d) a + D.offCoord (ix3 T k d) a = _
  have h01 : a = 0 ∨ a = 1 := by
    match a with
    | ⟨0, _⟩ => exact Or.inl rfl
    | ⟨1, _⟩ => exact Or.inr rfl
  rcases h01 with rfl | rfl
  · have h0 : (0 : Fin 2) ∈ D.startIndexMap := List.mem_singleton.mpr rfl
    rw [GatherDims.batchCoord_eq_zero _ _ _ (fun h => by simp [hD, gather_S16384x2048_S16384x128x1_S16384x128x2048_2_0_n_n_0_2_12048] at h),
      GatherDims.offCoord_eq_zero _ _ _ (fun h => ((GatherDims.mem_sKept _ _).mp h).1 (List.mem_singleton.mpr rfl))]
    simp only [Nat.add_zero]
    unfold GatherDims.start
    rw [dif_pos h0]
    have hsi : D.siIdx (ix3 T k d) ⟨List.idxOf (0 : Fin 2) D.startIndexMap, List.idxOf_lt_length_iff.2 h0⟩ = ix3 T k 0 := by
      funext b; refine Fin.ext ?_
      match b with
      | ⟨0, _⟩ => rfl
      | ⟨1, _⟩ => rfl
      | ⟨2, _⟩ => rfl
    rw [hsi]
    exact he
  · have hs : D.start (ix3 T k d) idx 1 = 0 := by
      unfold GatherDims.start
      rw [dif_neg (fun h => by simp [hD, gather_S16384x2048_S16384x128x1_S16384x128x2048_2_0_n_n_0_2_12048] at h)]
    rw [GatherDims.batchCoord_eq_zero _ _ _ (fun h => by simp [hD, gather_S16384x2048_S16384x128x1_S16384x128x2048_2_0_n_n_0_2_12048] at h), hs]
    rw [Nat.add_zero, Nat.zero_add]
    rfl

/-- The index words' wrap and range check, at a row of the table. -/
theorem wrap_word (w : BitVec 32) (hw : w.toNat < 16384) :
    Scalar.select (IntOp.cmpi CmpIPredicate.slt w 0#32) (IntOp.addi w 16384#32) w = w := by
  have h : w.slt 0#32 = false := by
    rw [BitVec.slt_eq_decide, decide_eq_false_iff_not, BitVec.toInt_eq_toNat_of_lt (by omega)]
    show ¬ ((w.toNat : ℤ) < 0)
    omega
  unfold IntOp.cmpi Scalar.select
  simp only [h]
  rfl

theorem range_word (w : BitVec 32) (hw : w.toNat < 16384) :
    IntOp.andi (IntOp.cmpi CmpIPredicate.sge w 0#32) (IntOp.cmpi CmpIPredicate.sle w 16383#32) = 1#1 := by
  have e : w.toInt = w.toNat := BitVec.toInt_eq_toNat_of_lt (by omega)
  have h1 : (0#32 : BitVec 32).sle w = true := by
    rw [BitVec.sle_eq_decide, decide_eq_true_iff, e]
    show (0 : ℤ) ≤ w.toNat
    omega
  have h2 : w.sle 16383#32 = true := by
    rw [BitVec.sle_eq_decide, decide_eq_true_iff, e]
    show (w.toNat : ℤ) ≤ 16383
    omega
  unfold IntOp.cmpi
  simp only [h1, h2]
  rfl

/-- The half of the table that a row lies in, as the reference's division says it. -/
theorem half_word (w : BitVec 32) (hw : w.toNat < 16384) (p : ℕ) (hp : p < 2) (x y : EReal) :
    Scalar.select (IntOp.cmpi CmpIPredicate.eq
        (Scalar.select (IntOp.andi (IntOp.cmpi CmpIPredicate.ne (if w = 0 then (0 : BitVec 32) else if BitVec.msb w = true then -1 else 1)
            (if (8192#32 : BitVec 32) = 0 then (0 : BitVec 32) else if (8192#32 : BitVec 32).msb = true then -1 else 1))
            (IntOp.cmpi CmpIPredicate.ne (IntOp.remsi ArithUnit.host w 8192#32) 0#32))
          (IntOp.subi (IntOp.divsi ArithUnit.host w 8192#32) 1#32) (IntOp.divsi ArithUnit.host w 8192#32))
        (BitVec.ofNat 32 p)) x y = if w.toNat / 8192 = p then x else y := by
  have hd : IntOp.divsi ArithUnit.host w 8192#32 = BitVec.ofNat 32 (w.toNat / 8192) := by
    have := Routing.divsi_word ArithUnit.host (a := w.toNat) (b := 8192) (by omega) (by decide) (by decide)
    rwa [BitVec.ofNat_toNat, BitVec.setWidth_eq] at this
  have hs : Scalar.select (IntOp.andi (IntOp.cmpi CmpIPredicate.ne (if w = 0 then (0 : BitVec 32) else if BitVec.msb w = true then -1 else 1)
            (if (8192#32 : BitVec 32) = 0 then (0 : BitVec 32) else if (8192#32 : BitVec 32).msb = true then -1 else 1))
            (IntOp.cmpi CmpIPredicate.ne (IntOp.remsi ArithUnit.host w 8192#32) 0#32))
          (IntOp.subi (IntOp.divsi ArithUnit.host w 8192#32) 1#32) (IntOp.divsi ArithUnit.host w 8192#32) = IntOp.divsi ArithUnit.host w 8192#32 := by
    by_cases h0 : w = 0
    · subst h0; decide
    · have hm : w.msb = false := by rw [BitVec.msb_eq_false_iff_two_mul_lt]; omega
      rw [if_neg h0, hm]
      generalize IntOp.cmpi CmpIPredicate.ne (IntOp.remsi ArithUnit.host w 8192#32) 0#32 = b
      have : IntOp.andi (IntOp.cmpi CmpIPredicate.ne (if false = true then (-1 : BitVec 32) else 1)
          (if (8192#32 : BitVec 32) = 0 then (0 : BitVec 32) else if (8192#32 : BitVec 32).msb = true then -1 else 1)) b = 0#1 := by
        revert b; decide
      rw [this]
      rfl
  rw [hs, hd]
  have hi : BitVec.ofNat 32 (w.toNat / 8192) = BitVec.ofNat 32 p ↔ w.toNat / 8192 = p := by
    rw [← BitVec.toNat_inj, BitVec.toNat_ofNat, BitVec.toNat_ofNat, Nat.mod_eq_of_lt (by omega), Nat.mod_eq_of_lt (by omega)]
  unfold IntOp.cmpi Scalar.select
  by_cases h : w.toNat / 8192 = p
  · rw [if_pos h]
    have hb : (BitVec.ofNat 32 (w.toNat / 8192) == BitVec.ofNat 32 p) = true := beq_iff_eq.mpr (hi.mpr h)
    simp only [hb]
    rfl
  · rw [if_neg h]
    have hb : (BitVec.ofNat 32 (w.toNat / 8192) == BitVec.ofNat 32 p) = false := beq_eq_false_iff_ne.mpr fun e => h (hi.mp e)
    simp only [hb]
    rfl

theorem res_read (c : Dev nD) (p : Fin 2) (T : Fin 16384) (k : Fin 128) (A B : S16384x2048.Idx → EReal) (E : S16384x128.Idx → BitVec 32)
    (G : S16384x128.Idx → EReal) (hA : m ((c.tc : Thread nD τ).loc main_arg2) = A) (hB : m ((c.tc : Thread nD τ).loc main_arg3) = B)
    (hE : m ((c.tc : Thread nD τ).loc main_arg4) = E) (hG : m ((c.tc : Thread nD τ).loc main_arg5) = G)
    (hlt : (E (ix2 T k)).toNat < 16384) (e : Fin 16384) (he : e.val = (E (ix2 T k)).toNat) :
    Value.res_main_v18 m c (ix3 p T k) = if (E (ix2 T k)).toNat / 8192 = p.val then
      G (ix2 T k) * ((Ideal.ofBits .f32 0x3F000000#32 * ∑ d : Fin 2048, A (ix2 T d) * B (ix2 e d))
        * (1 + Ideal.erf ((∑ d : Fin 2048, A (ix2 T d) * B (ix2 e d)) * Ideal.ofBits .f32 0x3F3504F3#32))) else 0 := by
  unfold Value.res_main_v18
  rw [hA, hB, hE, hG]
  clean_types
  pointwise
  have hg : ∀ d : Fin 2048, Host.gather gather_S16384x2048_S16384x128x1_S16384x128x2048_2_0_n_n_0_2_12048 (B : S16384x2048.Idx → Ideal .f32)
      (broadcastInDim S16384x128x1 ![0, 1] Gen.bcast_S16384x128_S16384x128x1_0_1
        (select (cmpi CmpIPredicate.slt E (broadcastInDim S16384x128 ![] Gen.bcast_S_S16384x128 (constantI S_ 32 0#32)))
          (addi E (broadcastInDim S16384x128 ![] Gen.bcast_S_S16384x128 (constantI S_ 32 16384#32))) E)) (ix3 T k d) = B (ix2 e d) := by
    intro d
    refine gather_read _ _ T k d e ?_
    pointwise
    rw [wrap_word _ hlt, he, BitVec.toInt_eq_toNat_of_lt (by omega)]
    omega
  simp only [hg, wrap_word _ hlt, range_word _ hlt]
  have hf : Finset.fold IntOp.andi (1#1) (fun _ : Fin 1 => (1#1 : BitVec 1)) Finset.univ = 1#1 := by decide
  have hsel : ∀ x y : EReal, Scalar.select (1#1 : BitVec 1) x y = x := fun x y => rfl
  simp only [hf, hsel, neg_mul, Ideal.erfc_neg]
  have hz : (id (constant (F := Ideal) S_ FTy.f32 0#32) ix0 : Ideal .f32) = (0 : EReal) := Ideal.ofBits_zero_f32
  rw [hz]
  exact half_word (E (ix2 T k)) hlt p.val p.isLt _ _

end Cert.ReferenceIdeal.V
-- ==== Proof.Mixed.lean ====
/- The output projection: every row of the call's result is the layer norm of the token's row, scaled, plus the two
   halves' product with the weight. -/
module

public import proofs.«01_k».proof.Proof.Gen.Kernel3Ideal.Value
public import proofs.«01_k».proof.Proof.Gen.Reference3Ideal.Run
public import Idealize.ShloMosaic.Lib.Pipeline.ValueKit
public import Idealize.ShloMosaic.Lib.ValueIdx
public import Idealize.ShloMosaic.Lib.Tactic.CleanTypes
public import Idealize.ShloMosaic.Lib.Pointwise

@[expose] public section

set_option maxRecDepth 16384

noncomputable section

namespace Cert.Kernel3Ideal.V

open Idealize.ShloMosaic Idealize.ShloMosaic.TcCoe Cert.Kernel3Ideal Cert.Kernel3Ideal.Gen

/-- The mean of a row. -/
def mean (r : Fin 2048 → EReal) : EReal := Ideal.div (∑ j : Fin 2048, r j) (Ideal.ofBits .f32 0x45000000#32)

/-- A row's entry, less the mean and over the deviation. -/
def unit (r : Fin 2048 → EReal) (q : Fin 2048) : EReal :=
  (r q - mean r) * Ideal.rsqrt (mean (fun j => (r j - mean r) * (r j - mean r)) + Ideal.ofBits .f32 0x3727C5AC#32)

/-- A token's row before the norm: the row itself, scaled, and the two halves' products with the weight's two halves. -/
def row (a c : Fin 1024 → EReal) (x : Fin 2048 → EReal) (w1 w2 : Fin 1024 → Fin 2048 → EReal) (q : Fin 2048) : EReal :=
  Ideal.ofBits .f32 0x3F9837F0#32 * x q + (∑ d : Fin 1024, a d * w1 d q + ∑ d : Fin 1024, c d * w2 d q)

/-- What the call returns, of the two halves, the tokens, the weight, the scale and the offset. -/
def mixed (A C : S8x2048x1024.Idx → EReal) (X : S8x2048x2048.Idx → EReal) (W : S2048x2048.Idx → EReal) (G B : S2048.Idx → EReal)
    (y : S16384x2048.Idx) : EReal :=
  let b : Fin 8 := ⟨(y 0).val / 2048, by have : (y 0).val < 16384 := (y 0).isLt; omega⟩
  let s : Fin 2048 := ⟨(y 0).val % 2048, Nat.mod_lt _ (by decide)⟩
  unit (row (fun d => A (ix3 b s d)) (fun d => C (ix3 b s d)) (fun q => X (ix3 b s q))
    (fun d q => W (ix2 (⟨d.val, by omega⟩ : Fin 2048) q)) (fun d q => W (ix2 (⟨1024 + d.val, by omega⟩ : Fin 2048) q))) (y 1 : Fin 2048)
    * G (ix1 (y 1 : Fin 2048)) + B (ix1 (y 1 : Fin 2048))

variable (m : (ℓ : Loc nD τ sig) → Buf (Elt Ideal) ℓ)

/-- The arguments as launched. -/
abbrev a0 (c : Dev nD) : FVec Ideal S8x2048x1024 .bf16 := m ((c.tc : Thread nD τ).loc main_arg0)
abbrev a1 (c : Dev nD) : FVec Ideal S8x2048x1024 .bf16 := m ((c.tc : Thread nD τ).loc main_arg1)
abbrev a2 (c : Dev nD) : FVec Ideal S8x2048x2048 .f32 := m ((c.tc : Thread nD τ).loc main_arg2)
abbrev a3 (c : Dev nD) : FVec Ideal S2048x2048 .f32 := m ((c.tc : Thread nD τ).loc main_arg3)
abbrev a4 (c : Dev nD) : FVec Ideal S2048 .f32 := m ((c.tc : Thread nD τ).loc main_arg4)
abbrev a5 (c : Dev nD) : FVec Ideal S2048 .f32 := m ((c.tc : Thread nD τ).loc main_arg5)

theorem idx0 : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![t.val, 0] := by decide +kernel
theorem lt_N (t : Fin cfg0.N) : t.val < 64 := Nat.lt_of_lt_of_eq t.isLt N_0

theorem V_v0 (c : Dev nD) : V m c main_v0 = shapeCast S16384x1024 (a0 m c) shapeCasts_S8x2048x1024_S16384x1024 := by
  unfold V hostOps0
  after_results
  all_goals rfl
theorem V_v1 (c : Dev nD) : V m c main_v1 = shapeCast S16384x1024 (a1 m c) shapeCasts_S8x2048x1024_S16384x1024 := by
  unfold V hostOps0
  after_results
  all_goals rfl
theorem V_v2 (c : Dev nD) : V m c main_v2 = shapeCast S16384x2048 (a2 m c) shapeCasts_S8x2048x2048_S16384x2048 := by
  unfold V hostOps0
  after_results
  all_goals rfl
theorem V_v4 (c : Dev nD) : V m c main_v4 = truncf .bf16 (extractStridedSlice S1024x2048 ![0, 0] (a3 m c) slices_S2048x2048_S1024x2048_0_0) bitsLt_bf16_f32 := by
  unfold V hostOps0
  after_results
  all_goals rfl
theorem V_v6 (c : Dev nD) : V m c main_v6 = truncf .bf16 (extractStridedSlice S1024x2048 ![1024, 0] (a3 m c) slices_S2048x2048_S1024x2048_1024_0) bitsLt_bf16_f32 := by
  unfold V hostOps0
  after_results
  all_goals rfl
theorem V_v7 (c : Dev nD) : V m c main_v7 = shapeCast S1x2048 (a4 m c) shapeCasts_S2048_S1x2048 := by
  unfold V hostOps0
  after_results
  all_goals rfl
theorem V_v8 (c : Dev nD) : V m c main_v8 = shapeCast S1x2048 (a5 m c) shapeCasts_S2048_S1x2048 := by
  unfold V hostOps0
  after_results
  all_goals rfl

section Blocks
variable (c : Dev nD) (t : Fin cfg0.N)

section Rows
variable (p : Fin 256) (T : Fin 16384) (hT : T.val = 256 * t.val + p.val)
  (b : Fin 8) (s : Fin 2048) (hb : b.val = T.val / 2048) (hs : s.val = T.val % 2048)

include hT hb hs in
theorem read0 (d : Fin 1024) : (iblk m c 0 t : S256x1024.Idx → EReal) (ix2 p d) = a0 m c (ix3 b s d) := by
  unfold iblk
  blk_simp
  rw [V_v0]
  pointwise
  blk_ext [(idx0 t).1]

include hT hb hs in
theorem read1 (d : Fin 1024) : (iblk m c 1 t : S256x1024.Idx → EReal) (ix2 p d) = a1 m c (ix3 b s d) := by
  unfold iblk
  blk_simp
  rw [V_v1]
  pointwise
  blk_ext [(idx0 t).2.1]

include hT hb hs in
theorem read2 (q : Fin 2048) : (iblk m c 2 t : S256x2048.Idx → EReal) (ix2 p q) = a2 m c (ix3 b s q) := by
  unfold iblk
  blk_simp
  rw [V_v2]
  pointwise
  blk_ext [(idx0 t).2.2.1]

end Rows

theorem read3 (d : Fin 1024) (q : Fin 2048) : (iblk m c 3 t : S1024x2048.Idx → EReal) (ix2 d q) = a3 m c (ix2 (⟨d.val, by omega⟩ : Fin 2048) q) := by
  unfold iblk
  blk_simp
  rw [V_v4]
  pointwise
  blk_ext [(idx0 t).2.2.2.1]

theorem read4 (d : Fin 1024) (q : Fin 2048) : (iblk m c 4 t : S1024x2048.Idx → EReal) (ix2 d q) = a3 m c (ix2 (⟨1024 + d.val, by omega⟩ : Fin 2048) q) := by
  unfold iblk
  blk_simp
  rw [V_v6]
  pointwise
  blk_ext [(idx0 t).2.2.2.2.1]

theorem read5 (q : Fin 2048) : (iblk m c 5 t : S1x2048.Idx → EReal) (ix2 0 q) = a4 m c (ix1 q) := by
  unfold iblk
  blk_simp
  rw [V_v7]
  pointwise
  blk_ext [(idx0 t).2.2.2.2.2.1]

theorem read6 (q : Fin 2048) : (iblk m c 6 t : S1x2048.Idx → EReal) (ix2 0 q) = a5 m c (ix1 q) := by
  unfold iblk
  blk_simp
  rw [V_v8]
  pointwise
  blk_ext [(idx0 t).2.2.2.2.2.2.1]
end Blocks

/-- The normed row of a block, before the scale and the offset. -/
theorem unit_read (a c : S256x1024.Idx → EReal) (w1 w2 : S1024x2048.Idx → EReal) (x : S256x2048.Idx → EReal) (p : Fin 256) (q : Fin 2048) :
    k0_pay3 (F := Ideal) a w1 c w2 x (ix2 p q)
      = unit (row (fun d => a (ix2 p d)) (fun d => c (ix2 p d)) (fun q => x (ix2 p q)) (fun d q => w1 (ix2 d q)) (fun d q => w2 (ix2 d q))) q := by
  unfold k0_pay3
  pointwise
  rfl

theorem scaled_read (b : S1x2048.Idx → EReal) (x : S256x2048.Idx → EReal) (g : S1x2048.Idx → EReal) (p : Fin 256) (q : Fin 2048) :
    k0_pay1 (F := Ideal) (k0_pay2 (F := Ideal) b) x (k0_pay4 (F := Ideal) g) (ix2 p q) = x (ix2 p q) * g (ix2 0 q) + b (ix2 0 q) := by
  unfold k0_pay1 k0_pay2 k0_pay4
  pointwise

theorem at_block (c : Dev nD) (t : Fin cfg0.N) (p : Fin 256) (q : Fin 2048) (hb : 256 * t.val + p.val < 16384) :
    out0_7 (F := Ideal) (iblk m c 0 t) (iblk m c 1 t) (iblk m c 2 t) (iblk m c 3 t) (iblk m c 4 t) (iblk m c 5 t) (iblk m c 6 t) (ix2 p q)
      = mixed (a0 m c) (a1 m c) (a2 m c) (a3 m c) (a4 m c) (a5 m c) (ix2 (⟨256 * t.val + p.val, hb⟩ : Fin 16384) q) := by
  unfold out0_7
  have z : (![0, 0] : Fin 2 → ℕ) = fun _ => 0 := by funext a; fin_cases a <;> rfl
  rw [View.canon_unit_zero z, View.ld_unit_zero z, View.ld_unit_zero z, View.ld_unit_zero z, View.ld_unit_zero z, View.ld_unit_zero z,
    View.ld_unit_zero z, View.ld_unit_zero z, scaled_read, unit_read, read5 m c t q, read6 m c t q]
  unfold mixed
  have r0 := fun d => read0 m c t p ⟨256 * t.val + p.val, hb⟩ rfl ⟨(256 * t.val + p.val) / 2048, by omega⟩ ⟨(256 * t.val + p.val) % 2048, by omega⟩ rfl rfl d
  have r1 := fun d => read1 m c t p ⟨256 * t.val + p.val, hb⟩ rfl ⟨(256 * t.val + p.val) / 2048, by omega⟩ ⟨(256 * t.val + p.val) % 2048, by omega⟩ rfl rfl d
  have r2 := fun d => read2 m c t p ⟨256 * t.val + p.val, hb⟩ rfl ⟨(256 * t.val + p.val) / 2048, by omega⟩ ⟨(256 * t.val + p.val) % 2048, by omega⟩ rfl rfl d
  have key : ∀ {a a' c c' : Fin 1024 → EReal} {x x' : Fin 2048 → EReal} {w1 w1' w2 w2' : Fin 1024 → Fin 2048 → EReal}, a = a' → c = c' → x = x' →
      w1 = w1' → w2 = w2' → row a c x w1 w2 = row a' c' x' w1' w2' := by
    rintro _ _ _ _ _ _ _ _ _ _ rfl rfl rfl rfl rfl; rfl
  exact congrArg₂ (· + ·) (congrArg₂ (· * ·) (congrArg (fun r => unit r q) (key (funext r0) (funext r1) (funext r2)
    (funext fun d => funext (read3 m c t d)) (funext fun d => funext (read4 m c t d)))) rfl) rfl

/-- The result array at the end. -/
theorem final_eq (c : Dev nD) : (dats m 0 c).arrAt 7 cfg0.N = mixed (a0 m c) (a1 m c) (a2 m c) (a3 m c) (a4 m c) (a5 m c) := by
  refine (dats m 0 c).arrAt_eq_of_covers 7 _ (by decide +kernel) fun t hf y => ?_
  blk_simp
  rw [after0_7]
  have hN := lt_N t
  have y0 : (y 0).val < 256 := (y 0).isLt
  have e : ((win0_7.blk t).view.emb y : S16384x2048.Idx) = ix2 (⟨256 * t.val + (y 0).val, by omega⟩ : Fin 16384) (y 1 : Fin 2048) := by
    blk_ext [(idx0 t).2.2.2.2.2.2.2]
  rw [e]
  have key := at_block m c t (y 0) (y 1) (by omega)
  have ey : (y : S256x2048.Idx) = ix2 (y 0 : Fin 256) (y 1 : Fin 2048) := by
    funext a; match a with | ⟨0, _⟩ => rfl | ⟨1, _⟩ => rfl
  exact (congrArg (out0_7 (F := Ideal) (iblk m c 0 t) (iblk m c 1 t) (iblk m c 2 t) (iblk m c 3 t) (iblk m c 4 t) (iblk m c 5 t) (iblk m c 6 t)) ey).trans key

end Cert.Kernel3Ideal.V

namespace Cert.Reference3Ideal.V

open Idealize.ShloMosaic Idealize.ShloMosaic.TcCoe Cert.Reference3Ideal Cert.Reference3Ideal.Gen

/-- The reference's result is the same function of the arguments. -/
theorem res_eq (m : (ℓ : Loc nD τ sig) → Buf (Elt Ideal) ℓ) (c : Dev nD)
    (A C : S8x2048x1024.Idx → EReal) (X : S8x2048x2048.Idx → EReal) (W : S2048x2048.Idx → EReal) (G B : S2048.Idx → EReal)
    (h0 : m ((c.tc : Thread nD τ).loc main_arg0) = A) (h1 : m ((c.tc : Thread nD τ).loc main_arg1) = C)
    (h2 : m ((c.tc : Thread nD τ).loc main_arg2) = X) (h3 : m ((c.tc : Thread nD τ).loc main_arg3) = W)
    (h4 : m ((c.tc : Thread nD τ).loc main_arg4) = G) (h5 : m ((c.tc : Thread nD τ).loc main_arg5) = B) :
    Cert.Reference3Ideal.Value.res_main_v30 m c = Cert.Kernel3Ideal.V.mixed A C X W G B := by
  subst h0 h1 h2 h3 h4 h5
  have key : ∀ (T : Fin 16384) (q : Fin 2048), Cert.Reference3Ideal.Value.res_main_v30 m c (ix2 T q)
      = Cert.Kernel3Ideal.V.mixed (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (ix2 T q) := by
    intro T q
    unfold Cert.Reference3Ideal.Value.res_main_v30
    clean_types
    pointwise
    rfl
  funext y
  have e : y = ix2 (y 0 : Fin 16384) (y 1 : Fin 2048) := by
    funext a; match a with | ⟨0, _⟩ => rfl | ⟨1, _⟩ => rfl
  exact (congrArg (Cert.Reference3Ideal.Value.res_main_v30 m c) e).trans ((key (y 0) (y 1)).trans (congrArg _ e.symm))

end Cert.Reference3Ideal.V

end
-- ==== Proof.Query.lean ====
/- The query projection: every entry of the call's result is a row of the tokens times a column of the weight. -/
module

public import proofs.«01_k».proof.Proof.Gen.Kernel4Ideal.Value
public import proofs.«01_k».proof.Proof.Gen.Reference4Ideal.Run
public import Idealize.ShloMosaic.Lib.Pipeline.ValueKit
public import Idealize.ShloMosaic.Lib.ValueIdx
public import Idealize.ShloMosaic.Lib.Pointwise

@[expose] public section

set_option maxRecDepth 16384

noncomputable section

namespace Cert.Kernel4Ideal.V

open Idealize.ShloMosaic Idealize.ShloMosaic.TcCoe Cert.Kernel4Ideal Cert.Kernel4Ideal.Gen

/-- The product of the tokens with the query weight. -/
def query (A : S16384x2048.Idx → EReal) (B : S2048x2048.Idx → EReal) (y : S16384x2048.Idx) : EReal :=
  ∑ d : Fin 2048, A (ix2 (y 0 : Fin 16384) d) * B (ix2 d (y 1 : Fin 2048))

variable (m : (ℓ : Loc nD τ sig) → Buf (Elt Ideal) ℓ)

/-- The tokens and the weight as launched. -/
abbrev tok (c : Dev nD) : FVec Ideal S16384x2048 .f32 := m ((c.tc : Thread nD τ).loc main_arg0)
abbrev wgt (c : Dev nD) : FVec Ideal S2048x2048 .f32 := m ((c.tc : Thread nD τ).loc main_arg1)

theorem idx0 : ∀ t : Fin cfg0.N, win0_0.index t = ![t.val, 0] ∧ win0_1.index t = ![0, 0] ∧ win0_2.index t = ![t.val, 0] := by decide +kernel
theorem lt_N (t : Fin cfg0.N) : t.val < 64 := Nat.lt_of_lt_of_eq t.isLt N_0

theorem V_v0 (c : Dev nD) : V m c main_v0 = truncf .bf16 (wgt m c) bitsLt_bf16_f32 := by
  unfold V hostOps0
  after_results
  all_goals rfl

theorem tok_read (c : Dev nD) (t : Fin cfg0.N) (p : Fin 256) (d : Fin 2048) (T : Fin 16384) (hT : T.val = 256 * t.val + p.val) :
    (iblk m c 0 t : S256x2048.Idx → EReal) (ix2 p d) = tok m c (ix2 T d) := by
  unfold iblk
  blk_simp
  rw [show V m c main_arg0 = tok m c from V_main_arg0 m c]
  blk_ext [(idx0 t).1]

theorem wgt_read (c : Dev nD) (t : Fin cfg0.N) (d q : Fin 2048) :
    (iblk m c 1 t : S2048x2048.Idx → EReal) (ix2 d q) = wgt m c (ix2 d q) := by
  unfold iblk
  blk_simp
  rw [V_v0]
  pointwise
  blk_ext [(idx0 t).2.1]

/-- One block of the body's result. -/
theorem pay_read (x : S256x2048.Idx → EReal) (w : S2048x2048.Idx → EReal) (p : Fin 256) (q : Fin 2048) :
    k0_pay1 (F := Ideal) x w (ix2 p q) = ∑ d : Fin 2048, x (ix2 p d) * w (ix2 d q) := by
  unfold k0_pay1
  pointwise

theorem at_block (c : Dev nD) (t : Fin cfg0.N) (p : Fin 256) (q : Fin 2048) (hb : 256 * t.val + p.val < 16384) :
    out0_2 (F := Ideal) (iblk m c 0 t) (iblk m c 1 t) (ix2 p q) = query (tok m c) (wgt m c) (ix2 (⟨256 * t.val + p.val, hb⟩ : Fin 16384) q) := by
  unfold out0_2
  rw [View.canon_unit_zero (by funext a; fin_cases a <;> rfl), View.ld_unit_zero (by funext a; fin_cases a <;> rfl), View.ld_unit_zero (by funext a; fin_cases a <;> rfl), pay_read]
  refine Finset.sum_congr rfl fun d _ => ?_
  rw [tok_read m c t p d ⟨256 * t.val + p.val, hb⟩ rfl, wgt_read m c t d q]
  rfl

/-- The result array at the end. -/
theorem final_eq (c : Dev nD) : (dats m 0 c).arrAt 2 cfg0.N = query (tok m c) (wgt m c) := by
  refine (dats m 0 c).arrAt_eq_of_covers 2 _ (by decide +kernel) fun t hf y => ?_
  blk_simp
  rw [after0_2]
  have hN := lt_N t
  have y0 : (y 0).val < 256 := (y 0).isLt
  have e : ((win0_2.blk t).view.emb y : S16384x2048.Idx) = ix2 (⟨256 * t.val + (y 0).val, by omega⟩ : Fin 16384) (y 1 : Fin 2048) := by
    blk_ext [(idx0 t).2.2]
  rw [e]
  have key := at_block m c t (y 0) (y 1) (by omega)
  have ey : (y : S256x2048.Idx) = ix2 (y 0 : Fin 256) (y 1 : Fin 2048) := by
    funext a; match a with | ⟨0, _⟩ => rfl | ⟨1, _⟩ => rfl
  exact (congrArg (out0_2 (F := Ideal) (iblk m c 0 t) (iblk m c 1 t)) ey).trans key

end Cert.Kernel4Ideal.V

namespace Cert.Reference4Ideal.V

open Idealize.ShloMosaic Idealize.ShloMosaic.TcCoe Cert.Reference4Ideal Cert.Reference4Ideal.Gen

/-- The reference's result is the same product. -/
theorem res_eq (A : S16384x2048.Idx → EReal) (B : S2048x2048.Idx → EReal) :
    truncf (F := Ideal) .bf16 (Host.dotGeneral (F := Ideal) (φ₁ := .f32) (φ₂ := .f32) dot_S16384x2048_S2048x2048_S16384x2048_1_0_0_1_n_n none A B) bitsLt_bf16_f32
      = Cert.Kernel4Ideal.V.query A B := by
  funext y
  unfold Cert.Kernel4Ideal.V.query
  pointwise

end Cert.Reference4Ideal.V

end
-- ==== Proof.Projections.lean ====
/- The output and query projections: the frames, and the equations with the references. -/
module

public import proofs.«01_k».proof.Defs
public import proofs.«01_k».proof.Proof.Mixed
public import proofs.«01_k».proof.Proof.Query
public import proofs.«01_k».proof.Proof.Gen.Kernel3
public import proofs.«01_k».proof.Proof.Gen.Kernel3.Frame
public import proofs.«01_k».proof.Proof.Gen.Kernel4
public import proofs.«01_k».proof.Proof.Gen.Kernel4.Frame
public import Idealize.ShloMosaic.Adequacy
public import Idealize.ShloMosaic.Init

@[expose] public section

noncomputable section

namespace Cert.Proof

open Idealize.ShloMosaic Idealize.SL.Sem

/-! ## The output projection -/

theorem frame_kernel3 : Cert.quiescent_Kernel3 := fun m ρ _ => Cert.Kernel3.Gen.frame m ρ
theorem frame_ideal3 : Cert.quiescent_Kernel3Ideal := fun m ρ _ => Cert.Kernel3Ideal.Gen.frame m ρ
theorem frame_reference3 : Cert.quiescent_Reference3Ideal := fun m ρ _ =>
  (θ_run (Cert.Reference3Ideal.defs (F := Ideal)) _ _).mono (fun r hr => ⟨fun c => (hr c).2, sem_eq_zero_of_no_sems (by decide) r.2⟩)
    (Cert.Reference3Ideal.Value.run (F := Ideal) m ρ)

theorem algebraic3 : Cert.algebraic_Kernel3Ideal_Reference3Ideal := fun m ρ m' ρ' _ hag => by
  open Cert.Kernel3Ideal.V in
  refine ⟨fun c => mixed (a0 m c) (a1 m c) (a2 m c) (a3 m c) (a4 m c) (a5 m c), ?_, ?_⟩
  · exact (θ_run (Cert.Kernel3Ideal.defs (F := Ideal)) _ _).mono (fun r hr c => ⟨(hr c).1.trans (final_eq m c), (hr c).2⟩)
      (Cert.Kernel3Ideal.Value.run_blocks (F := Ideal) m ρ)
  · exact (θ_run (Cert.Reference3Ideal.defs (F := Ideal)) _ _).mono (fun r hr c => ⟨(hr c).1.trans (Cert.Reference3Ideal.V.res_eq m' c _ _ _ _ _ _
      (hag c).1 (hag c).2.1 (hag c).2.2.1 (hag c).2.2.2.1 (hag c).2.2.2.2.1 (hag c).2.2.2.2.2), (hr c).2⟩) (Cert.Reference3Ideal.Value.run (F := Ideal) m' ρ')

/-! ## The query projection -/

theorem frame_kernel4 : Cert.quiescent_Kernel4 := fun m ρ _ => Cert.Kernel4.Gen.frame m ρ
theorem frame_ideal4 : Cert.quiescent_Kernel4Ideal := fun m ρ _ => Cert.Kernel4Ideal.Gen.frame m ρ
theorem frame_reference4 : Cert.quiescent_Reference4Ideal := fun m ρ _ =>
  (θ_run (Cert.Reference4Ideal.defs (F := Ideal)) _ _).mono (fun r hr => ⟨fun c => (hr c).2, sem_eq_zero_of_no_sems (by decide) r.2⟩)
    (Cert.Reference4Ideal.Value.run (F := Ideal) m ρ)

theorem query_res (m' : (ℓ : Loc Cert.Reference4Ideal.nD Cert.Reference4Ideal.τ Cert.Reference4Ideal.sig) → Buf (Elt Ideal) ℓ) (c : Dev Cert.Reference4Ideal.nD)
    (A : Cert.Reference4Ideal.S16384x2048.Idx → EReal) (B : Cert.Reference4Ideal.S2048x2048.Idx → EReal)
    (hA : m' ((c.tc : Thread Cert.Reference4Ideal.nD Cert.Reference4Ideal.τ).loc Cert.Reference4Ideal.main_arg0) = A)
    (hB : m' ((c.tc : Thread Cert.Reference4Ideal.nD Cert.Reference4Ideal.τ).loc Cert.Reference4Ideal.main_arg1) = B)
    (X : Cert.Reference4Ideal.S16384x2048.Idx → EReal)
    (hX : X = truncf (F := Ideal) .bf16 (Host.dotGeneral (F := Ideal) (φ₁ := .f32) (φ₂ := .f32) Cert.Reference4Ideal.dot_S16384x2048_S2048x2048_S16384x2048_1_0_0_1_n_n none
      (m' ((c.tc : Thread Cert.Reference4Ideal.nD Cert.Reference4Ideal.τ).loc Cert.Reference4Ideal.main_arg0))
      (m' ((c.tc : Thread Cert.Reference4Ideal.nD Cert.Reference4Ideal.τ).loc Cert.Reference4Ideal.main_arg1))) Cert.Reference4Ideal.Facts₀.bitsLt_bf16_f32) :
    X = Cert.Kernel4Ideal.V.query A B := by
  rw [hX, hA, hB]
  exact Cert.Reference4Ideal.V.res_eq A B

theorem algebraic4 : Cert.algebraic_Kernel4Ideal_Reference4Ideal := fun m ρ m' ρ' _ hag => by
  open Cert.Kernel4Ideal.V in
  refine ⟨fun c => query (tok m c) (wgt m c), ?_, ?_⟩
  · exact (θ_run (Cert.Kernel4Ideal.defs (F := Ideal)) _ _).mono (fun r hr c => ⟨(hr c).1.trans (final_eq m c), (hr c).2⟩)
      (Cert.Kernel4Ideal.Value.run_blocks (F := Ideal) m ρ)
  · exact (θ_run (Cert.Reference4Ideal.defs (F := Ideal)) _ _).mono (fun r hr c => ⟨query_res m' c _ _ (hag c).1 (hag c).2 _ (hr c).1, (hr c).2⟩)
      (Cert.Reference4Ideal.Value.run (F := Ideal) m' ρ')

end Cert.Proof

end
-- ==== Proof.Inproj.lean ====
/- The in-projection: one point's step, the invariant over a block's five points, and the launch. -/
module

public import proofs.«01_k».proof.Proof.Gen.Kernel2Ideal.Frame
public import proofs.«01_k».proof.Proof.Gen.Kernel2Ideal.Skeleton
public import Idealize.ShloMosaic.Lib.Pipeline.KitQuiescent
public import Idealize.ShloMosaic.Lib.Pipeline.ValueKit
public import Idealize.ShloMosaic.Lib.ValueIdx

@[expose] public section

set_option maxRecDepth 16384

noncomputable section

namespace Cert.Kernel2Ideal.Run

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem z2 : (![0, 0] : Fin 2 → ℕ) = fun _ => 0 := by funext a; fin_cases a <;> rfl

section Whole
variable {κ : Kind} {sp : Space} {S : Shape} {e : EltTy} (v : View sig κ sp S e) (f : v.ty.Contents (Elt F)) {off : Fin S.rank → ℕ} (h : off = fun _ => 0)
  (inb : ∀ a, off a + S.size a ≤ S.size a)
include h
/-- A store over the whole of a buffer, and a load of it. -/
theorem stored (w : S.Idx → Elt F e) : v.read (Elt F) (v.writes (Elt F) f [⟨Rect.unit off S.size inb, w⟩]) = w := by
  rw [View.read_writes_eq_canon _ _ _ (fun y => ⟨_, List.mem_singleton_self _, View.mem_set_unit_zero h inb y⟩), View.canon_unit_zero h]
theorem loaded : v.readAt (Elt F) (Rect.unit off S.size inb).toLoadRect f = v.read (Elt F) f :=
  View.ld_unit_zero h inb (v.read (Elt F) f)
end Whole

/-! ## One point -/

section Point
variable (c : Dev nD) (i : grid0.Coords) (arg2 : Memref sig .tc .vmem S512x2048 .f32) (harg2 : arg2.IsWhole) (arg3 : Memref sig .tc .vmem S2048x1024 .bf16) (harg3 : arg3.IsWhole)
  (arg4 : Memref sig .tc .vmem S2048x128 .bf16) (harg4 : arg4.IsWhole) (arg5 : Memref sig .tc .vmem S512x1024 .f32) (harg5 : arg5.IsWhole)
  (arg6 : Memref sig .tc .vmem S512x128 .f32) (harg6 : arg6.IsWhole) (arg7 : Memref sig .tc .vmem S512x2048 .bf16) (harg7 : arg7.IsWhole)
  (x : Vec F S512x2048 .f32) (w : Vec F S2048x1024 .bf16) (wa : Vec F S2048x128 .bf16)

set_option maxHeartbeats 1000000 in
/-- A block's first point: the tokens go to the scratch, the two products to the stages. -/
theorem first_run (h : k0_cond1 i = 1#1) (K : PUnit → sProp 𝕄) :
    iprop(owns (c : Thread nD τ) arg2 fullShare x ∗ owns (c : Thread nD τ) arg3 fullShare w ∗ owns (c : Thread nD τ) arg4 fullShare wa
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x ∗ owns (c : Thread nD τ) arg3 fullShare w ∗ owns (c : Thread nD τ) arg4 fullShare wa
            ∗ owns (c : Thread nD τ) arg5 fullShare (k0_pay4 (k0_pay2 x) w) ∗ owns (c : Thread nD τ) arg6 fullShare (k0_pay3 x wa) ∗ owns (c : Thread nD τ) arg7 fullShare (k0_pay2 x)) -∗ K ⟨⟩))
      ⊢ wp frame (wpE (defs₀ (F := F)) Variants.none c none) Set.univ (cc0__inproj_kernel i arg2 harg2 arg3 harg3 arg4 harg4 arg5 harg5 arg6 harg6 arg7 harg7) K := by
  simp only [cc0__inproj_kernel_eq_skeleton]; unfold cc0__inproj_kernel_skel
  unfold owns
  iintro ⟨⟨%f2, %h2, H2⟩, ⟨%f3, %h3, H3⟩, ⟨%f4, %h4, H4⟩, ⟨%d5, %f5, -, H5⟩, ⟨%d6, %f6, -, H6⟩, ⟨%d7, %f7, -, H7⟩, Hk⟩
  subst h2 h3 h4
  rw [dif_pos h]
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact (stored _ _ z2 _ _).trans (congr (congrArg k0_pay4 ((View.readCov_unit_zero arg7.view z2 _ _).trans (congrArg k0_pay2 (loaded arg2.view f2 z2 _)))) (loaded arg3.view f3 z2 _))
  isplitl [H6]
  · iexists _; isplitr
    swap; · iexact H6
    ipureintro
    exact (stored _ _ z2 _ _).trans (congr (congrArg k0_pay3 (loaded arg2.view f2 z2 _)) (loaded arg4.view f4 z2 _))
  iexists _; isplitr
  swap; · iexact H7
  ipureintro
  exact (stored _ _ z2 _ _).trans (congrArg k0_pay2 (loaded arg2.view f2 z2 _))

set_option maxHeartbeats 1000000 in
/-- Any other: the scratch still holds the tokens. -/
theorem rest_run (s : Vec F S512x2048 .bf16) (h : ¬ k0_cond1 i = 1#1) (K : PUnit → sProp 𝕄) :
    iprop(owns (c : Thread nD τ) arg3 fullShare w ∗ (∃ d, owns (c : Thread nD τ) arg5 fullShare d) ∗ owns (c : Thread nD τ) arg7 fullShare s
        ∗ (iprop(owns (c : Thread nD τ) arg3 fullShare w ∗ owns (c : Thread nD τ) arg5 fullShare (k0_pay4 s w) ∗ owns (c : Thread nD τ) arg7 fullShare s) -∗ K ⟨⟩))
      ⊢ wp frame (wpE (defs₀ (F := F)) Variants.none c none) Set.univ (cc0__inproj_kernel i arg2 harg2 arg3 harg3 arg4 harg4 arg5 harg5 arg6 harg6 arg7 harg7) K := by
  simp only [cc0__inproj_kernel_eq_skeleton]; unfold cc0__inproj_kernel_skel
  unfold owns
  iintro ⟨⟨%f3, %h3, H3⟩, ⟨%d5, %f5, -, H5⟩, ⟨%f7, %h7, H7⟩, Hk⟩
  subst h3 h7
  rw [dif_neg h]
  sl_exec
  sl_step
  iapply Hk
  isplitl [H3]
  · iexists f3; isplitr; · ipureintro; rfl
    iexact H3
  isplitl [H5]
  · iexists _; isplitr
    swap; · iexact H5
    ipureintro
    exact (stored _ _ z2 _ _).trans (congr (congrArg k0_pay4 (loaded arg7.view f7 z2 _)) (loaded arg3.view f3 z2 _))
  iexists f7; isplitr; · ipureintro; rfl
  iexact H7

end Point

/-! ## The schedule -/

theorem idx0 : ∀ t : Fin cfg0.N, win0_0.index t = ![t.val / 5, 0] ∧ win0_1.index t = ![0, t.val % 5] ∧ win0_2.index t = ![0, 0]
    ∧ win0_3.index t = ![t.val / 5, t.val % 5] ∧ win0_4.index t = ![t.val / 5, 0] := by decide +kernel
theorem lt_N (t : Fin cfg0.N) : t.val < 160 := Nat.lt_of_lt_of_eq t.isLt N_0

theorem cond_iff : ∀ t : Fin cfg0.N, k0_cond1 (grid0.coords t) = 1#1 ↔ t.val % 5 = 0 := by decide +kernel

section Launch
variable (m : (ℓ : Loc nD τ sig) → Buf (Elt F) ℓ) (ρ : Dev nD → PrngReg)

theorem read0 (c : Dev nD) (t : Fin cfg0.N) (p : Fin 512) (d : Fin 2048) (T : Fin 16384) (hT : T.val = 512 * (t.val / 5) + p.val) :
    (iblk m c 0 t : S512x2048.Idx → F .f32) (ix2 p d) = (V m c main_v0 : S16384x2048.Idx → F .f32) (ix2 T d) := by
  unfold iblk
  blk_simp
  blk_ext [(idx0 t).1]
theorem read1 (c : Dev nD) (t : Fin cfg0.N) (d : Fin 2048) (q : Fin 1024) (Q : Fin 5120) (hQ : Q.val = 1024 * (t.val % 5) + q.val) :
    (iblk m c 1 t : S2048x1024.Idx → F .bf16) (ix2 d q) = (V m c main_v4 : S2048x5120.Idx → F .bf16) (ix2 d Q) := by
  unfold iblk
  blk_simp
  blk_ext [(idx0 t).2.1]
theorem read2 (c : Dev nD) (t : Fin cfg0.N) (d : Fin 2048) (q : Fin 128) :
    (iblk m c 2 t : S2048x128.Idx → F .bf16) (ix2 d q) = (V m c main_v7 : S2048x128.Idx → F .bf16) (ix2 d q) := by
  unfold iblk
  blk_simp
  blk_ext [(idx0 t).2.2.1]

/-- The token block and the gate's weight do not change over a block's points. -/
theorem same0 (c : Dev nD) (t u : Fin cfg0.N) (h : t.val / 5 = u.val / 5) : iblk m c 0 t = iblk m c 0 u := by
  have ht := lt_N t
  refine funext fun (y : S512x2048.Idx) => ?_
  have y0 : (y 0).val < 512 := (y 0).isLt
  have ey : y = ix2 (y 0 : Fin 512) (y 1 : Fin 2048) := by
    funext a; match a with | ⟨0, _⟩ => rfl | ⟨1, _⟩ => rfl
  rw [ey]
  exact (read0 m c t (y 0) (y 1) ⟨512 * (t.val / 5) + (y 0).val, by omega⟩ rfl).trans
    (read0 m c u (y 0) (y 1) ⟨512 * (t.val / 5) + (y 0).val, by omega⟩ (by rw [← h])).symm
theorem same2 (c : Dev nD) (t u : Fin cfg0.N) : iblk m c 2 t = iblk m c 2 u := by
  refine funext fun (y : S2048x128.Idx) => ?_
  have ey : y = ix2 (y 0 : Fin 2048) (y 1 : Fin 128) := by
    funext a; match a with | ⟨0, _⟩ => rfl | ⟨1, _⟩ => rfl
  rw [ey]
  exact (read2 m c t (y 0) (y 1)).trans (read2 m c u (y 0) (y 1)).symm

/-- A point's tokens in bf16, and its two products. -/
def xb (c : Dev nD) (t : Fin cfg0.N) : Vec F S512x2048 .bf16 := k0_pay2 (F := F) (iblk m c 0 t)
def outM (c : Dev nD) (t : Fin cfg0.N) : Vec F S512x1024 .f32 := k0_pay4 (F := F) (xb m c t) (iblk m c 1 t)
def outA (c : Dev nD) (t : Fin cfg0.N) : Vec F S512x128 .f32 := k0_pay3 (F := F) (iblk m c 0 t) (iblk m c 2 t)
theorem xb_same (c : Dev nD) (t u : Fin cfg0.N) (h : t.val / 5 = u.val / 5) : xb m c t = xb m c u := by
  unfold xb
  rw [same0 m c t u h]
theorem outA_same (c : Dev nD) (t u : Fin cfg0.N) (h : t.val / 5 = u.val / 5) : outA m c t = outA m c u := by
  unfold outA
  rw [same0 m c t u h, same2 m c t u]

/-- The scratch before point `n`: after a block's first point, the block's tokens. -/
def Held (c : Dev nD) (n : ℕ) (X : Vec F S512x2048 .bf16) : Prop := ∀ u : Fin cfg0.N, u.val = n → n % 5 ≠ 0 → X = xb m c u
abbrev mX : Memref sig .tc .vmem S512x2048 .bf16 := Memref.whole cc0_scratch0
def Φ (c : Dev nD) (n : ℕ) : sProp 𝕄 :=
  iprop((∃ X, owns (c : Thread nD τ) mX fullShare X ∗ ⌜Held m c n X⌝) ∗ ∃ r, prngReg c r)

theorem held_next (c : Dev nD) (t : Fin cfg0.N) : Held m c (t.val + 1) (xb m c t) := fun u hu h => xb_same m c t u (by omega)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outM m c t
    | ⟨4, _⟩ => outA m c t
  Φ t := Φ m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outM m c t := by dsimp only [dats]
theorem after0_4 (c : Dev nD) (t : Fin cfg0.N) : (dats m 0 c).after 4 t = outA m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

theorem idle4 (t : Fin cfg0.N) (h : t.val % 5 ≠ 0) : cfg0.idle 4 (cfg0.grid.coords t) = true := by
  show (!(k0_cond1 (grid0.coords t) == 1#1)) = true
  have : ¬ k0_cond1 (grid0.coords t) = 1#1 := fun e => h ((cond_iff t).mp e)
  simp [this]
theorem busy4 (t : Fin cfg0.N) (h : t.val % 5 = 0) : cfg0.idle 4 (cfg0.grid.coords t) = false := by
  show (!(k0_cond1 (grid0.coords t) == 1#1)) = false
  have : k0_cond1 (grid0.coords t) = 1#1 := (cond_iff t).mpr h
  simp [this]
theorem flush4 (t : Fin cfg0.N) (h : t.val % 5 ≠ 4) : (cfg0.win 4).flush t = false := by
  rw [Bool.eq_false_iff]; exact fun e => h ((flush0_4 t).mp e)

/-- After a block's first point the gate's stage holds the gate's product. -/
theorem before0_4 (c : Dev nD) (d) : ∀ n, (h : n < cfg0.N) → n % 5 ≠ 0 → (dats m 0 c).before 4 ⟨n, h⟩ d = outA m c ⟨n, h⟩
  | 0, _, h0 => absurd rfl h0
  | n + 1, h, h0 => by
    have hn : n < cfg0.N := Nat.lt_of_succ_lt h
    rw [(dats m 0 c).before_of_pos 4 ⟨n + 1, h⟩ (Nat.succ_ne_zero n) ((cfg0.win 4).fetch_out rfl _) d]
    have e : (⟨(⟨n + 1, h⟩ : Fin cfg0.N).val - 1, Nat.lt_of_le_of_lt (Nat.sub_le _ _) h⟩ : Fin cfg0.N) = ⟨n, hn⟩ := rfl
    rw [e, flush4 ⟨n, hn⟩ (show n % 5 ≠ 4 by omega), if_neg Bool.false_ne_true, outA_same m c ⟨n + 1, h⟩ ⟨n, hn⟩ (show (n + 1) / 5 = n / 5 by omega)]
    unfold Dat.left
    by_cases h5 : n % 5 = 0
    · rw [busy4 ⟨n, hn⟩ h5]
      dsimp only
      unfold Dat.kept
      rw [after0_4]
      rfl
    · rw [idle4 ⟨n, hn⟩ h5]
      dsimp only
      exact before0_4 c d n hn h5

theorem prog_eq (t : Fin cfg0.N) : (defs₀ (F := F)) .tc cfg0.body (cfg0.bodyArgs t (cfg0.slots t)) = bodyAt0 t := by unfold defs₀; rw [Defs.onTc_tc]

set_option maxHeartbeats 4000000 in
set_option backward.isDefEq.respectTransparency.types false in
theorem body_obligation (c : Dev nD) : BodyObligation (dats (F := F) m 0 c) (defs₀ (F := F)) Variants.none () Set.univ := fun t => by
  have ht : t.val < 160 := lt_N t
  rw [bigSep_W0, bigSep_W0]
  dsimp only
  simp only [before0_0, before0_1, before0_2, after0_0, after0_1, after0_2, after0_3, after0_4]
  rw [show (dats m 0 c).Φ t.castSucc = Φ m c t.val from rfl, show (dats m 0 c).Φ t.succ = Φ m c (t.val + 1) from rfl,
    show (dats m 0 c).owesAt () t.succ = (dats m 0 c).owesAt () t.castSucc from rfl]
  unfold Φ
  iintro ⟨⟨⟨%X, HX, %hX⟩, HP⟩, Ho, ⟨%d0, H0⟩, ⟨%d1, H1⟩, ⟨%d2, H2⟩, ⟨%d3, H3⟩, ⟨%d4, H4⟩⟩
  sl_rw [prog_eq t]
  by_cases h5 : t.val % 5 = 0
  · rw [show idle0 4 (grid0.coords t) = false from busy4 t h5]
    dsimp only
    iapply (first_run c (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3)) (st0_4 t) (hstage0_4 ((cfg0.slots t 4).cast nbuf0_4))
      mX (Memref.isWhole_whole _) (iblk m c 0 t) (iblk m c 1 t) (iblk m c 2 t) ((cond_iff t).mpr h5) _)
    isplitl [H0]; · iexact H0
    isplitl [H1]; · iexact H1
    isplitl [H2]; · iexact H2
    isplitl [H3]; · iexists _; iexact H3
    isplitl [H4]; · iexists _; iexact H4
    isplitl [HX]; · iexists _; iexact HX
    iintro ⟨H0, H1, H2, H3, H4, HX⟩
    isplitl [HX HP]
    · isplitl [HX]
      · iexists _
        isplitl [HX]; · iexact HX
        ipureintro
        exact held_next m c t
      iexact HP
    isplitl [Ho]; · iexact Ho
    isplitl [H0]; · iexact H0
    isplitl [H1]; · iexact H1
    isplitl [H2]; · iexact H2
    isplitl [H3]; · iexact H3
    iexact H4
  · have eX : X = xb m c t := hX t rfl h5
    subst eX
    rw [show idle0 4 (grid0.coords t) = true from idle4 t h5]
    dsimp only
    iapply (rest_run c (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3)) (st0_4 t) (hstage0_4 ((cfg0.slots t 4).cast nbuf0_4))
      mX (Memref.isWhole_whole _) (iblk m c 1 t) (xb m c t) (fun e => h5 ((cond_iff t).mp e)) _)
    isplitl [H1]; · iexact H1
    isplitl [H3]; · iexists _; iexact H3
    isplitl [HX]; · iexact HX
    iintro ⟨H1, H3, HX⟩
    isplitl [HX HP]
    · isplitl [HX]
      · iexists _
        isplitl [HX]; · iexact HX
        ipureintro
        exact held_next m c t
      iexact HP
    isplitl [Ho]; · iexact Ho
    isplitl [H0]; · iexact H0
    isplitl [H1]; · iexact H1
    isplitl [H2]; · iexact H2
    isplitl [H3]; · iexact H3
    by_cases h4 : t.val % 5 = 4
    · rw [show (win0 4).flush t = true from (flush0_4 t).mpr h4, ← before0_4 m c d4 t.val t.isLt h5]
      dsimp only
      iexact H4
    · rw [show (win0 4).flush t = false from flush4 t h4]
      dsimp only
      iexists d4
      iexact H4

set_option backward.isDefEq.respectTransparency.types false in
set_option maxHeartbeats 800000 in
/-- From any memory with no semaphore raised, every weakly fair execution of the call ends, with its arrays as the proof
    data says, every other unscoped buffer as the region finds it, and every semaphore at zero. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by
      unfold Pipeline.ΦA
      rw [scopedRest0_eq, show (dats m 0 c).Φ 0 = Φ m c 0 from rfl]
      unfold Φ owns
      rw [show mX.view.set = Finset.univ from View.set_whole _]
      iintro ⟨⟨%f, H⟩, HP⟩
      isplitl [H]
      · iexists _
        isplitl [H]
        · iexists f; isplitr; · ipureintro; rfl
          iexact H
        ipureintro
        exact fun _ _ h => absurd rfl h
      iexact HP)
    (hout := fun c => by
      unfold Pipeline.ΦA
      rw [scopedRest0_eq, show (dats m 0 c).Φ (Fin.last cfg0.N) = Φ m c 160 from congrArg (Φ m c) N_0]
      unfold Φ owns
      rw [show mX.view.set = Finset.univ from View.set_whole _]
      iintro ⟨⟨%X, ⟨%f, -, H⟩, -⟩, HP⟩
      isplitl [H]
      · iexists f; iexact H
      iexact HP)

/-- The frame, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Launch
end Cert.Kernel2Ideal.Run

end
-- ==== Proof.InprojValue.lean ====
/- The in-projection: every entry of the call's results is a row of the tokens times a column of the weight, or zero in
   the gate's padding. -/
module

public import proofs.«01_k».proof.Proof.Inproj
public import proofs.«01_k».proof.Proof.Gen.Reference2Ideal.Run
public import Idealize.ShloMosaic.Lib.Tactic.CleanTypes
public import Idealize.ShloMosaic.Lib.Pointwise

@[expose] public section

set_option maxRecDepth 16384

noncomputable section

namespace Cert.Kernel2Ideal.V

open Idealize.ShloMosaic Idealize.ShloMosaic.TcCoe Cert.Kernel2Ideal Cert.Kernel2Ideal.Gen Cert.Kernel2Ideal.Run

/-- A token's product with a column of the weight. -/
def prod (X : S8x2048x2048.Idx → EReal) (W : S2048x5136.Idx → EReal) (T : Fin 16384) (C : Fin 5136) : EReal :=
  ∑ d : Fin 2048, X (ix3 (⟨T.val / 2048, by omega⟩ : Fin 8) (⟨T.val % 2048, Nat.mod_lt _ (by decide)⟩ : Fin 2048) d) * W (ix2 d C)
/-- The columns but the gate's. -/
def others (q : Fin 5120) : Fin 5136 := if h : q.val < 3072 then ⟨q.val, by omega⟩ else ⟨q.val + 16, by omega⟩
/-- The call's two results. -/
def main (X : S8x2048x2048.Idx → EReal) (W : S2048x5136.Idx → EReal) (y : S16384x5120.Idx) : EReal :=
  prod X W (y 0 : Fin 16384) (others (y 1 : Fin 5120))
def gate (X : S8x2048x2048.Idx → EReal) (W : S2048x5136.Idx → EReal) (y : S16384x128.Idx) : EReal :=
  if h : (y 1).val < 16 then prod X W (y 0 : Fin 16384) ⟨3072 + (y 1).val, by omega⟩ else 0

variable (m : (ℓ : Loc nD τ sig) → Buf (Elt Ideal) ℓ)

abbrev a0 (c : Dev nD) : FVec Ideal S8x2048x2048 .f32 := m ((c.tc : Thread nD τ).loc main_arg0)
abbrev a1 (c : Dev nD) : FVec Ideal S2048x5136 .f32 := m ((c.tc : Thread nD τ).loc main_arg1)

theorem V_v0 (c : Dev nD) : V m c main_v0 = shapeCast S16384x2048 (a0 m c) shapeCasts_S8x2048x2048_S16384x2048 := by
  unfold V hostOps0 hostOps0_1 hostOps0_2
  simp only [List.flatten_cons, List.flatten_nil, List.append_nil, List.cons_append, List.nil_append]
  after_results
  all_goals rfl
theorem V_v4 (c : Dev nD) : V m c main_v4 = truncf .bf16 (concatenate S2048x5120 1 [⟨S2048x3072, extractStridedSlice S2048x3072 ![0, 0] (a1 m c) slices_S2048x5136_S2048x3072_0_0⟩,
    ⟨S2048x2048, extractStridedSlice S2048x2048 ![0, 3088] (a1 m c) slices_S2048x5136_S2048x2048_0_3088⟩] concatenates_S2048x3072_S2048x2048_S2048x5120_d1) bitsLt_bf16_f32 := by
  unfold V hostOps0 hostOps0_1 hostOps0_2
  simp only [List.flatten_cons, List.flatten_nil, List.append_nil, List.cons_append, List.nil_append]
  after_results
  all_goals rfl
theorem V_v7 (c : Dev nD) : V m c main_v7 = truncf .bf16 (pad S2048x128 ![0, 0] ![0, 112] ![0, 0] (extractStridedSlice S2048x16 ![0, 3072] (a1 m c) slices_S2048x5136_S2048x16_0_3072)
    (sitofp (F := Ideal) .f32 (constantI S_ 32 0#32)) pads_S2048x16_S2048x128_000_01120 h_S_) bitsLt_bf16_f32 := by
  unfold V hostOps0 hostOps0_1 hostOps0_2
  simp only [List.flatten_cons, List.flatten_nil, List.append_nil, List.cons_append, List.nil_append, StableHlo.TRef.binary, StableHlo.TRef.unary, StableHlo.TRef.toBuf, StableHlo.TRef.ofBuf, cast_eq]
  after_results
  all_goals rfl

/-- The padding's value. -/
theorem fill_zero : (FloatOps.sitofp (F := Ideal) FTy.f32 (0#32) : EReal) = 0 := by
  show (((0#32 : BitVec 32).toInt : ℝ) : EReal) = 0
  simp

theorem x_read (c : Dev nD) (t : Fin cfg0.N) (p : Fin 512) (d : Fin 2048) (T : Fin 16384) (hT : T.val = 512 * (t.val / 5) + p.val) :
    (iblk m c 0 t : S512x2048.Idx → EReal) (ix2 p d) = a0 m c (ix3 (⟨T.val / 2048, by omega⟩ : Fin 8) (⟨T.val % 2048, Nat.mod_lt _ (by decide)⟩ : Fin 2048) d) := by
  rw [read0 m c t p d T hT, V_v0]
  pointwise
theorem w_read (c : Dev nD) (t : Fin cfg0.N) (d : Fin 2048) (q : Fin 1024) (Q : Fin 5120) (hQ : Q.val = 1024 * (t.val % 5) + q.val) :
    (iblk m c 1 t : S2048x1024.Idx → EReal) (ix2 d q) = a1 m c (ix2 d (others Q)) := by
  rw [read1 m c t d q Q hQ, V_v4]
  unfold others
  pointwise
  by_cases h : Q.val < 3072
  · rw [dif_pos h, dif_pos h]
  · rw [dif_neg h, dif_neg h]
    exact congrArg (fun C : Fin 5136 => a1 m c (ix2 d C)) (Fin.ext (by show 3088 + (Q.val - 3072) = Q.val + 16; omega))
theorem wa_read (c : Dev nD) (t : Fin cfg0.N) (d : Fin 2048) (q : Fin 128) :
    (iblk m c 2 t : S2048x128.Idx → EReal) (ix2 d q) = if h : q.val < 16 then a1 m c (ix2 d (⟨3072 + q.val, by omega⟩ : Fin 5136)) else 0 := by
  rw [read2 m c t d q, V_v7]
  pointwise
  rw [fill_zero]

theorem pay4_read (x : S512x2048.Idx → EReal) (w : S2048x1024.Idx → EReal) (p : Fin 512) (q : Fin 1024) :
    k0_pay4 (F := Ideal) (k0_pay2 (F := Ideal) x) w (ix2 p q) = ∑ d : Fin 2048, x (ix2 p d) * w (ix2 d q) := by
  unfold k0_pay4 k0_pay2 k0_pay1
  pointwise
theorem pay3_read (x : S512x2048.Idx → EReal) (w : S2048x128.Idx → EReal) (p : Fin 512) (q : Fin 128) :
    k0_pay3 (F := Ideal) x w (ix2 p q) = ∑ d : Fin 2048, x (ix2 p d) * w (ix2 d q) := by
  unfold k0_pay3 k0_pay1
  pointwise

theorem main_at (c : Dev nD) (t : Fin cfg0.N) (p : Fin 512) (q : Fin 1024) (T : Fin 16384) (Q : Fin 5120)
    (hT : T.val = 512 * (t.val / 5) + p.val) (hQ : Q.val = 1024 * (t.val % 5) + q.val) :
    (outM m c t : S512x1024.Idx → EReal) (ix2 p q) = main (a0 m c) (a1 m c) (ix2 T Q) := by
  unfold outM xb
  rw [pay4_read]
  show _ = prod (a0 m c) (a1 m c) T (others Q)
  unfold prod
  refine Finset.sum_congr rfl fun d _ => ?_
  rw [x_read m c t p d T hT, w_read m c t d q Q hQ]

theorem gate_at (c : Dev nD) (t : Fin cfg0.N) (p : Fin 512) (q : Fin 128) (T : Fin 16384)
    (hT : T.val = 512 * (t.val / 5) + p.val) :
    (outA m c t : S512x128.Idx → EReal) (ix2 p q) = gate (a0 m c) (a1 m c) (ix2 T q) := by
  unfold outA
  rw [pay3_read]
  show _ = if h : q.val < 16 then prod (a0 m c) (a1 m c) T ⟨3072 + q.val, by omega⟩ else 0
  unfold prod
  by_cases h : q.val < 16
  · rw [dif_pos h]
    refine Finset.sum_congr rfl fun d _ => ?_
    rw [x_read m c t p d T hT, wa_read m c t d q, dif_pos h]
  · rw [dif_neg h]
    refine Finset.sum_eq_zero fun d _ => ?_
    rw [wa_read m c t d q, dif_neg h, mul_zero]

/-- The two result arrays at the end. -/
theorem final_main (c : Dev nD) : (dats m 0 c).arrAt 3 cfg0.N = main (a0 m c) (a1 m c) := by
  refine (dats m 0 c).arrAt_eq_of_covers 3 _ (by decide +kernel) fun t hf y => ?_
  blk_simp
  rw [after0_3]
  have hN := lt_N t
  have y0 : (y 0).val < 512 := (y 0).isLt
  have y1 : (y 1).val < 1024 := (y 1).isLt
  have e : ((win0_3.blk t).view.emb y : S16384x5120.Idx)
      = ix2 (⟨512 * (t.val / 5) + (y 0).val, by omega⟩ : Fin 16384) (⟨1024 * (t.val % 5) + (y 1).val, by omega⟩ : Fin 5120) := by
    blk_ext [(idx0 t).2.2.2.1]
  rw [e]
  have ey : (y : S512x1024.Idx) = ix2 (y 0 : Fin 512) (y 1 : Fin 1024) := by
    funext a; match a with | ⟨0, _⟩ => rfl | ⟨1, _⟩ => rfl
  exact (congrArg (outM m c t : S512x1024.Idx → EReal) ey).trans (main_at m c t (y 0) (y 1) _ _ rfl rfl)

theorem final_gate (c : Dev nD) : (dats m 0 c).arrAt 4 cfg0.N = gate (a0 m c) (a1 m c) := by
  refine (dats m 0 c).arrAt_eq_of_covers 4 _ (by decide +kernel) fun t hf y => ?_
  blk_simp
  rw [after0_4]
  have hN := lt_N t
  have y0 : (y 0).val < 512 := (y 0).isLt
  have e : ((win0_4.blk t).view.emb y : S16384x128.Idx) = ix2 (⟨512 * (t.val / 5) + (y 0).val, by omega⟩ : Fin 16384) (y 1 : Fin 128) := by
    blk_ext [(idx0 t).2.2.2.2]
  rw [e]
  have ey : (y : S512x128.Idx) = ix2 (y 0 : Fin 512) (y 1 : Fin 128) := by
    funext a; match a with | ⟨0, _⟩ => rfl | ⟨1, _⟩ => rfl
  exact (congrArg (outA m c t : S512x128.Idx → EReal) ey).trans (gate_at m c t (y 0) (y 1) _ rfl)

end Cert.Kernel2Ideal.V

namespace Cert.Reference2Ideal.V

open Idealize.ShloMosaic Idealize.ShloMosaic.TcCoe Cert.Reference2Ideal Cert.Reference2Ideal.Gen

theorem res_main (X : S8x2048x2048.Idx → EReal) (W : S2048x5136.Idx → EReal) :
    shapeCast S16384x5120 (concatenate S8x2048x5120 2 [⟨S8x2048x3072, extractStridedSlice S8x2048x3072 ![0, 0, 0] (Host.dotGeneral (F := Ideal) (φ₁ := .f32) (φ₂ := .f32) dot_S8x2048x2048_S2048x5136_S8x2048x5136_2_0_01_1_n_n none X W) slices_S8x2048x5136_S8x2048x3072_0_0_0⟩,
      ⟨S8x2048x2048, extractStridedSlice S8x2048x2048 ![0, 0, 3088] (Host.dotGeneral (F := Ideal) (φ₁ := .f32) (φ₂ := .f32) dot_S8x2048x2048_S2048x5136_S8x2048x5136_2_0_01_1_n_n none X W) slices_S8x2048x5136_S8x2048x2048_0_0_3088⟩]
      concatenates_S8x2048x3072_S8x2048x2048_S8x2048x5120_d2) shapeCasts_S8x2048x5120_S16384x5120 = Cert.Kernel2Ideal.V.main X W := by
  funext y
  have y1 : (y 1).val < 5120 := (y 1).isLt
  unfold Cert.Kernel2Ideal.V.main Cert.Kernel2Ideal.V.prod Cert.Kernel2Ideal.V.others
  pointwise
  by_cases h : (y 1).val < 3072
  · rw [dif_pos h, dif_pos h]
  · rw [dif_neg h, dif_neg h]
    have e : (3088 + ((y 1).val - 3072)) = (y 1).val + 16 := by omega
    simp only [e]

theorem res_gate (X : S8x2048x2048.Idx → EReal) (W : S2048x5136.Idx → EReal) :
    shapeCast S16384x128 (pad S8x2048x128 ![0, 0, 0] ![0, 0, 112] ![0, 0, 0] (extractStridedSlice S8x2048x16 ![0, 0, 3072] (Host.dotGeneral (F := Ideal) (φ₁ := .f32) (φ₂ := .f32) dot_S8x2048x2048_S2048x5136_S8x2048x5136_2_0_01_1_n_n none X W) slices_S8x2048x5136_S8x2048x16_0_0_3072)
      (sitofp (F := Ideal) .f32 (constantI S_ 32 0#32)) pads_S8x2048x16_S8x2048x128_000_000_01120 h_S_) shapeCasts_S8x2048x128_S16384x128 = Cert.Kernel2Ideal.V.gate X W := by
  funext y
  have y0 : (y 0).val < 16384 := (y 0).isLt
  unfold Cert.Kernel2Ideal.V.gate Cert.Kernel2Ideal.V.prod
  pointwise
  have key : ∀ (P : Prop) [Decidable P] (u : P → EReal) (u' : (y 1).val < 16 → EReal) (z : EReal), (P ↔ (y 1).val < 16) → z = 0 →
      (∀ g h, u g = u' h) → (if g : P then u g else z) = if h : (y 1).val < 16 then u' h else 0 := by
    intro P _ u u' z hP hz hu
    by_cases h : (y 1).val < 16
    · rw [dif_pos (hP.2 h), dif_pos h, hu]
    · rw [dif_neg (fun g => h (hP.1 g)), dif_neg h, hz]
  exact key _ _ _ _ ⟨fun g => g.2.2, fun h => ⟨by omega, by omega, h⟩⟩ Cert.Kernel2Ideal.V.fill_zero fun g h => rfl

end Cert.Reference2Ideal.V

end
-- ==== Proof.InprojClaims.lean ====
/- The in-projection: the frames, and the equation with the reference. -/
module

public import proofs.«01_k».proof.Defs
public import proofs.«01_k».proof.Proof.InprojValue
public import proofs.«01_k».proof.Proof.Gen.Kernel2
public import Idealize.ShloMosaic.Adequacy
public import Idealize.ShloMosaic.Init

@[expose] public section

noncomputable section

namespace Cert.Proof

open Idealize.ShloMosaic Idealize.SL.Sem

/-! The word program and the idealized one are the same program, read at words. -/
set_option maxHeartbeats 1000000 in
theorem defs0_eq2 : Cert.Kernel2.defs₀ (F := Bits) = Cert.Kernel2Ideal.defs₀ (F := Bits) := by
  refine congrArg Defs.onTc ?_
  funext l a
  match l, a with
  | 0, (t, s) => rfl
  | ⟨_ + 1, h⟩, _ => exact absurd h (Nat.not_lt.2 (Nat.le_add_left _ _))
set_option maxHeartbeats 1000000 in
theorem defs_eq2 : Cert.Kernel2.defs (F := Bits) = Cert.Kernel2Ideal.defs (F := Bits) := congrArg (Pipeline.defs Cert.Kernel2Ideal.pcfgs) defs0_eq2

set_option maxHeartbeats 1000000 in
theorem frame_kernel2 : Cert.quiescent_Kernel2 := fun m ρ _ => by
  rw [defs_eq2]
  exact Cert.Kernel2Ideal.Run.frame (F := Bits) m ρ
theorem frame_ideal2 : Cert.quiescent_Kernel2Ideal := fun m ρ _ => Cert.Kernel2Ideal.Run.frame (F := Ideal) m ρ
theorem frame_reference2 : Cert.quiescent_Reference2Ideal := fun m ρ _ =>
  (θ_run (Cert.Reference2Ideal.defs (F := Ideal)) _ _).mono (fun r hr => ⟨fun c => (hr c).2.2, sem_eq_zero_of_no_sems (by decide) r.2⟩)
    (Cert.Reference2Ideal.Value.run (F := Ideal) m ρ)

section Reference
open Cert.Reference2Ideal Cert.Reference2Ideal.Gen

variable (m' : (ℓ : Loc nD τ sig) → Buf (Elt Ideal) ℓ) (c : Dev nD) (X : S8x2048x2048.Idx → EReal) (W : S2048x5136.Idx → EReal)
  (hX : m' ((c.tc : Thread nD τ).loc main_arg0) = X) (hW : m' ((c.tc : Thread nD τ).loc main_arg1) = W)

include hX hW

/-- The reference's two results, at arrays equal to the kernel's. -/
theorem inproj_main (R : S16384x5120.Idx → EReal)
    (hR : R = shapeCast S16384x5120 (concatenate S8x2048x5120 2 [⟨S8x2048x3072, extractStridedSlice S8x2048x3072 ![0, 0, 0] (Host.dotGeneral (F := Ideal) (φ₁ := .f32) (φ₂ := .f32) dot_S8x2048x2048_S2048x5136_S8x2048x5136_2_0_01_1_n_n none (m' ((c.tc : Thread nD τ).loc main_arg0)) (m' ((c.tc : Thread nD τ).loc main_arg1))) slices_S8x2048x5136_S8x2048x3072_0_0_0⟩,
      ⟨S8x2048x2048, extractStridedSlice S8x2048x2048 ![0, 0, 3088] (Host.dotGeneral (F := Ideal) (φ₁ := .f32) (φ₂ := .f32) dot_S8x2048x2048_S2048x5136_S8x2048x5136_2_0_01_1_n_n none (m' ((c.tc : Thread nD τ).loc main_arg0)) (m' ((c.tc : Thread nD τ).loc main_arg1))) slices_S8x2048x5136_S8x2048x2048_0_0_3088⟩]
      concatenates_S8x2048x3072_S8x2048x2048_S8x2048x5120_d2) shapeCasts_S8x2048x5120_S16384x5120) :
    R = Cert.Kernel2Ideal.V.main X W := by
  rw [hR, hX, hW]
  exact Cert.Reference2Ideal.V.res_main X W
theorem inproj_gate (R : S16384x128.Idx → EReal)
    (hR : R = shapeCast S16384x128 (pad S8x2048x128 ![0, 0, 0] ![0, 0, 112] ![0, 0, 0] (extractStridedSlice S8x2048x16 ![0, 0, 3072] (Host.dotGeneral (F := Ideal) (φ₁ := .f32) (φ₂ := .f32) dot_S8x2048x2048_S2048x5136_S8x2048x5136_2_0_01_1_n_n none (m' ((c.tc : Thread nD τ).loc main_arg0)) (m' ((c.tc : Thread nD τ).loc main_arg1))) slices_S8x2048x5136_S8x2048x16_0_0_3072)
      (sitofp (F := Ideal) .f32 (constantI S_ 32 0#32)) pads_S8x2048x16_S8x2048x128_000_000_01120 h_S_) shapeCasts_S8x2048x128_S16384x128) :
    R = Cert.Kernel2Ideal.V.gate X W := by
  rw [hR, hX, hW]
  exact Cert.Reference2Ideal.V.res_gate X W
end Reference

theorem algebraic2 : Cert.algebraic_Kernel2Ideal_Reference2Ideal := fun m ρ m' ρ' _ hag => by
  open Cert.Kernel2Ideal.V in
  refine ⟨fun c => main (a0 m c) (a1 m c), fun c => gate (a0 m c) (a1 m c), ?_, ?_⟩
  · exact (θ_run (Cert.Kernel2Ideal.defs (F := Ideal)) _ _).mono
      (fun r hr c => ⟨((hr.1.1 c).1 3).trans (final_main m c), ((hr.1.1 c).1 4).trans (final_gate m c), hr.2.1 c⟩)
      (θ_run_and (Cert.Kernel2Ideal.Run.run_main (F := Ideal) m ρ) (Cert.Kernel2Ideal.Run.frame (F := Ideal) m ρ))
  · exact (θ_run (Cert.Reference2Ideal.defs (F := Ideal)) _ _).mono (fun r hr c =>
      ⟨inproj_main m' c _ _ (hag c).1 (hag c).2 _ (hr c).1, inproj_gate m' c _ _ (hag c).1 (hag c).2 _ (hr c).2.1, (hr c).2.2⟩)
      (Cert.Reference2Ideal.Value.run (F := Ideal) m' ρ')

end Cert.Proof

end
-- ==== Proof.Norm.lean ====
/- The second layer norm: every row of the call's result is the layer norm of the token's row, scaled, plus the sum of the
   two planes' rows. -/
module

public import proofs.«01_k».proof.Defs
public import proofs.«01_k».proof.Proof.Mixed
public import proofs.«01_k».proof.Proof.Gen.Kernel5
public import proofs.«01_k».proof.Proof.Gen.Kernel5.Frame
public import proofs.«01_k».proof.Proof.Gen.Kernel5Ideal.Value
public import proofs.«01_k».proof.Proof.Gen.Reference5Ideal.Run
public import Idealize.ShloMosaic.Adequacy
public import Idealize.ShloMosaic.Init

@[expose] public section

set_option maxRecDepth 16384

noncomputable section

namespace Cert.Kernel5Ideal.V

open Idealize.ShloMosaic Idealize.ShloMosaic.TcCoe Cert.Kernel5Ideal Cert.Kernel5Ideal.Gen
open Cert.Kernel3Ideal.V (unit)

/-- A token's row before the norm. -/
def before (h f0 f1 : Fin 2048 → EReal) (q : Fin 2048) : EReal := Ideal.ofBits .f32 0x3F9837F0#32 * h q + (f0 q + f1 q)

/-- What the call returns, of the tokens, the two planes, the scale and the offset. -/
def normed (H : S16384x2048.Idx → EReal) (P : S2x16384x2048.Idx → EReal) (G B : S2048.Idx → EReal) (y : S16384x2048.Idx) : EReal :=
  unit (before (fun q => H (ix2 (y 0 : Fin 16384) q)) (fun q => P (ix3 (0 : Fin 2) (y 0 : Fin 16384) q)) (fun q => P (ix3 (1 : Fin 2) (y 0 : Fin 16384) q)))
    (y 1 : Fin 2048) * G (ix1 (y 1 : Fin 2048)) + B (ix1 (y 1 : Fin 2048))

variable (m : (ℓ : Loc nD τ sig) → Buf (Elt Ideal) ℓ)

abbrev a0 (c : Dev nD) : FVec Ideal S16384x2048 .f32 := m ((c.tc : Thread nD τ).loc main_arg0)
abbrev a1 (c : Dev nD) : FVec Ideal S2x16384x2048 .f32 := m ((c.tc : Thread nD τ).loc main_arg1)
abbrev a2 (c : Dev nD) : FVec Ideal S2048 .f32 := m ((c.tc : Thread nD τ).loc main_arg2)
abbrev a3 (c : Dev nD) : FVec Ideal S2048 .f32 := m ((c.tc : Thread nD τ).loc main_arg3)

theorem idx0 : ∀ t : Fin cfg0.N, win0_0.index t = ![t.val, 0] ∧ win0_1.index t = ![0, t.val, 0] ∧ win0_2.index t = ![0, 0]
    ∧ win0_3.index t = ![0, 0] ∧ win0_4.index t = ![t.val, 0] := by decide +kernel
theorem lt_N (t : Fin cfg0.N) : t.val < 32 := Nat.lt_of_lt_of_eq t.isLt N_0

theorem V_a0 (c : Dev nD) : V m c main_arg0 = a0 m c := by
  unfold V hostOps0
  after_results
  all_goals rfl
theorem V_a1 (c : Dev nD) : V m c main_arg1 = a1 m c := by
  unfold V hostOps0
  after_results
  all_goals rfl
theorem V_v0 (c : Dev nD) : V m c main_v0 = shapeCast S1x2048 (a2 m c) shapeCasts_S2048_S1x2048 := by
  unfold V hostOps0
  after_results
  all_goals rfl
theorem V_v1 (c : Dev nD) : V m c main_v1 = shapeCast S1x2048 (a3 m c) shapeCasts_S2048_S1x2048 := by
  unfold V hostOps0
  after_results
  all_goals rfl

section Blocks
variable (c : Dev nD) (t : Fin cfg0.N)

theorem read0 (p : Fin 512) (T : Fin 16384) (hT : T.val = 512 * t.val + p.val) (q : Fin 2048) :
    (iblk m c 0 t : S512x2048.Idx → EReal) (ix2 p q) = a0 m c (ix2 T q) := by
  unfold iblk
  blk_simp
  rw [V_a0]
  refine congrArg (a0 m c) ?_
  blk_ext [(idx0 t).1]

theorem read1 (k : Fin 2) (p : Fin 512) (T : Fin 16384) (hT : T.val = 512 * t.val + p.val) (q : Fin 2048) :
    (iblk m c 1 t : S2x512x2048.Idx → EReal) (ix3 k p q) = a1 m c (ix3 k T q) := by
  unfold iblk
  blk_simp
  rw [V_a1]
  refine congrArg (a1 m c) ?_
  blk_ext [(idx0 t).2.1]

theorem read2 (q : Fin 2048) : (iblk m c 2 t : S1x2048.Idx → EReal) (ix2 0 q) = a2 m c (ix1 q) := by
  unfold iblk
  blk_simp
  rw [V_v0]
  pointwise
  blk_ext [(idx0 t).2.2.1]

theorem read3 (q : Fin 2048) : (iblk m c 3 t : S1x2048.Idx → EReal) (ix2 0 q) = a3 m c (ix1 q) := by
  unfold iblk
  blk_simp
  rw [V_v1]
  pointwise
  blk_ext [(idx0 t).2.2.2.1]
end Blocks

theorem pay_read (h : S512x2048.Idx → EReal) (f : S2x512x2048.Idx → EReal) (g b : S1x2048.Idx → EReal) (p : Fin 512) (q : Fin 2048) :
    k0_pay1 (F := Ideal) h f g b (ix2 p q)
      = unit (before (fun q => h (ix2 p q)) (fun q => f (ix3 0 p q)) (fun q => f (ix3 1 p q))) q * g (ix2 0 q) + b (ix2 0 q) := by
  unfold k0_pay1
  pointwise
  simp only [Fin.sum_univ_two]
  rfl

theorem at_block (c : Dev nD) (t : Fin cfg0.N) (p : Fin 512) (q : Fin 2048) (T : Fin 16384) (hT : T.val = 512 * t.val + p.val) :
    out0_4 (F := Ideal) (iblk m c 0 t) (iblk m c 1 t) (iblk m c 2 t) (iblk m c 3 t) (ix2 p q)
      = normed (a0 m c) (a1 m c) (a2 m c) (a3 m c) (ix2 T q) := by
  unfold out0_4
  have z : (![0, 0] : Fin 2 → ℕ) = fun _ => 0 := by funext a; fin_cases a <;> rfl
  have z3 : (![0, 0, 0] : Fin 3 → ℕ) = fun _ => 0 := by funext a; fin_cases a <;> rfl
  rw [View.canon_unit_zero z, View.ld_unit_zero z, View.ld_unit_zero z3, View.ld_unit_zero z, View.ld_unit_zero z, pay_read,
    read2 m c t q, read3 m c t q]
  have key : ∀ {h h' f f' g g' : Fin 2048 → EReal}, h = h' → f = f' → g = g' → before h f g = before h' f' g' := by
    rintro _ _ _ _ _ _ rfl rfl rfl; rfl
  exact congrArg₂ (· + ·) (congrArg₂ (· * ·) (congrArg (fun r => unit r q) (key (funext fun d => read0 m c t p T hT d)
    (funext fun d => read1 m c t 0 p T hT d) (funext fun d => read1 m c t 1 p T hT d))) rfl) rfl

/-- The result array at the end. -/
theorem final_eq (c : Dev nD) : (dats m 0 c).arrAt 4 cfg0.N = normed (a0 m c) (a1 m c) (a2 m c) (a3 m c) := by
  refine (dats m 0 c).arrAt_eq_of_covers 4 _ (by decide +kernel) fun t hf y => ?_
  blk_simp
  rw [after0_4]
  have hN := lt_N t
  have y0 : (y 0).val < 512 := (y 0).isLt
  have e : ((win0_4.blk t).view.emb y : S16384x2048.Idx) = ix2 (⟨512 * t.val + (y 0).val, by omega⟩ : Fin 16384) (y 1 : Fin 2048) := by
    blk_ext [(idx0 t).2.2.2.2]
  rw [e]
  have key := at_block m c t (y 0) (y 1) ⟨512 * t.val + (y 0).val, by omega⟩ rfl
  have ey : (y : S512x2048.Idx) = ix2 (y 0 : Fin 512) (y 1 : Fin 2048) := by
    funext a; match a with | ⟨0, _⟩ => rfl | ⟨1, _⟩ => rfl
  exact (congrArg (out0_4 (F := Ideal) (iblk m c 0 t) (iblk m c 1 t) (iblk m c 2 t) (iblk m c 3 t)) ey).trans key

end Cert.Kernel5Ideal.V

namespace Cert.Reference5Ideal.V

open Idealize.ShloMosaic Idealize.ShloMosaic.TcCoe Idealize.SL.Sem Cert.Reference5Ideal Cert.Reference5Ideal.Gen

/-- The reference's run ends with the same function of the arguments. -/
theorem run_normed (m : (ℓ : Loc nD τ sig) → Buf (Elt Ideal) ℓ) (ρ : Dev nD → PrngReg)
    (H : Dev nD → S16384x2048.Idx → EReal) (P : Dev nD → S2x16384x2048.Idx → EReal) (G B : Dev nD → S2048.Idx → EReal)
    (h0 : ∀ c : Dev nD, m ((c.tc : Thread nD τ).loc main_arg0) = H c) (h1 : ∀ c : Dev nD, m ((c.tc : Thread nD τ).loc main_arg1) = P c)
    (h2 : ∀ c : Dev nD, m ((c.tc : Thread nD τ).loc main_arg2) = G c) (h3 : ∀ c : Dev nD, m ((c.tc : Thread nD τ).loc main_arg3) = B c) :
    θ_run defs (onTc (τ := τ) (main (F := Ideal))) ⟨m, fun _ => 0, ρ⟩ fun r => ∀ c : Dev nD,
      r.2.mem ((c.tc : Thread nD τ).loc main_v27) = Cert.Kernel5Ideal.V.normed (H c) (P c) (G c) (B c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run (defs (F := Ideal)) _ _).mono (fun r hr c => ⟨(hr c).1.trans ?_, (hr c).2⟩) (Cert.Reference5Ideal.Value.run (F := Ideal) m ρ)
  rw [h0, h1, h2, h3]
  clean_types
  funext y
  obtain ⟨T, q, rfl⟩ : ∃ (T : Fin 16384) (q : Fin 2048), y = ix2 T q := ⟨y 0, y 1, by
    funext a; match a with | ⟨0, _⟩ => rfl | ⟨1, _⟩ => rfl⟩
  pointwise
  simp only [Fin.sum_univ_two]
  rfl

end Cert.Reference5Ideal.V

namespace Cert.Proof

open Idealize.ShloMosaic Idealize.SL.Sem

theorem frame_kernel5 : Cert.quiescent_Kernel5 := fun m ρ _ => Cert.Kernel5.Gen.frame m ρ
theorem frame_ideal5 : Cert.quiescent_Kernel5Ideal := fun m ρ _ => Cert.Kernel5Ideal.Gen.frame m ρ
theorem frame_reference5 : Cert.quiescent_Reference5Ideal := fun m ρ _ =>
  (θ_run (Cert.Reference5Ideal.defs (F := Ideal)) _ _).mono (fun r hr => ⟨fun c => (hr c).2, sem_eq_zero_of_no_sems (by decide) r.2⟩)
    (Cert.Reference5Ideal.Value.run (F := Ideal) m ρ)

theorem algebraic5 : Cert.algebraic_Kernel5Ideal_Reference5Ideal := fun m ρ m' ρ' _ hag => by
  open Cert.Kernel5Ideal.V in
  refine ⟨fun c => normed (a0 m c) (a1 m c) (a2 m c) (a3 m c), ?_, ?_⟩
  · exact (θ_run (Cert.Kernel5Ideal.defs (F := Ideal)) _ _).mono (fun r hr c => ⟨(hr c).1.trans (final_eq m c), (hr c).2⟩)
      (Cert.Kernel5Ideal.Value.run_blocks (F := Ideal) m ρ)
  · exact Cert.Reference5Ideal.V.run_normed m' ρ' _ _ _ _ (fun c => (hag c).1) (fun c => (hag c).2.1) (fun c => (hag c).2.2.1) (fun c => (hag c).2.2.2)

end Cert.Proof

end
-- ==== Proof.ConvTrip.lean ====
/- The convolution's strips: what one trip of the strip loop writes. -/
module

public import proofs.«01_k».proof.Proof.Gen.Kernel6Ideal.Loops
public import Idealize.ShloMosaic.Lib.Pipeline.ValueKit.Tiles
public import Idealize.ShloMosaic.Lib.Pointwise

@[expose] public section

set_option maxRecDepth 16384

noncomputable section

namespace Cert.Kernel6Ideal.V

open Idealize.ShloMosaic Idealize.ShloMosaic.TcCoe Cert.Kernel6Ideal Cert.Kernel6Ideal.Gen

/-- An entry of a matrix by its row and column numbers; zero outside the matrix. -/
def entry {R C : ℕ} (X : (⟨2, ![R, C]⟩ : Shape).Idx → EReal) (r c : ℕ) : EReal :=
  if h : r < R ∧ c < C then X (ix2 (⟨r, h.1⟩ : Fin R) (⟨c, h.2⟩ : Fin C)) else 0

/-- A loaded block's entry is the loaded matrix's, the block's offset further. -/
theorem block_entry {sig : RefSig} {κ : Kind} {sp : Space} {R C m n o d : ℕ} (v : View sig κ sp (⟨2, ![R, C]⟩ : Shape) .f32)
    (X : v.ty.Contents (Elt Ideal)) {off : Fin 2 → ℕ} (hoff : off = ![o, d]) (size : Fin 2 → ℕ) (hs : size = ![m, n])
    (inb : ∀ a, off a + size a ≤ (⟨2, ![R, C]⟩ : Shape).size a)
    (z : (⟨2, size⟩ : Shape).Idx) :
    v.readAt (Elt Ideal) (Rect.unit (s := (⟨2, ![R, C]⟩ : Shape)) off size inb).toLoadRect X z
      = entry (v.read (Elt Ideal) X) (o + (z 0).val) (d + (z 1).val) := by
  subst hoff hs
  have h0 : o + m ≤ R := inb 0
  have h1 : d + n ≤ C := inb 1
  have z0 : (z 0).val < m := (z 0).isLt
  have z1 : (z 1).val < n := (z 1).isLt
  rw [entry, dif_pos ⟨by omega, by omega⟩]
  show v.read (Elt Ideal) X _ = _
  congr 1
  funext a
  match a with
  | 0 => exact Fin.ext (show o + 1 * (z 0).val = _ by rw [one_mul]; rfl)
  | 1 => exact Fin.ext (show d + 1 * (z 1).val = _ by rw [one_mul]; rfl)

/-- An entry of the convolution over a gated block whose first thirty-two rows are the rows before it. -/
def strip (G : S288x1024.Idx → EReal) (W : S32x1024.Idx → EReal) (b : S1x1024.Idx → EReal) (r q : ℕ) : EReal :=
  entry b 0 q + ∑ j ∈ Finset.range 31, entry G (2 + j + r) q * entry W j q

theorem row_of {m n : ℕ} (r : Fin m) (q : Fin n) : (ix2 r q) 0 = r := rfl
theorem col_of {m n : ℕ} (r : Fin m) (q : Fin n) : (ix2 r q) 1 = q := rfl
theorem off1 : ∀ k : Fin k0_t1_loop.trips, k0_off1 k = ![0, 128 * k.val] := by decide +kernel
theorem off2 : ∀ k : Fin k0_t1_loop.trips, k0_off2 k = ![0, 128 * k.val] := by decide +kernel
theorem off3 : ∀ k : Fin k0_t1_loop.trips, k0_off3 k = ![2, 128 * k.val] := by decide +kernel
theorem off4 : ∀ k : Fin k0_t1_loop.trips, k0_off4 k = ![3, 128 * k.val] := by decide +kernel
theorem off5 : ∀ k : Fin k0_t1_loop.trips, k0_off5 k = ![4, 128 * k.val] := by decide +kernel
theorem off6 : ∀ k : Fin k0_t1_loop.trips, k0_off6 k = ![5, 128 * k.val] := by decide +kernel
theorem off7 : ∀ k : Fin k0_t1_loop.trips, k0_off7 k = ![6, 128 * k.val] := by decide +kernel
theorem off8 : ∀ k : Fin k0_t1_loop.trips, k0_off8 k = ![7, 128 * k.val] := by decide +kernel
theorem off9 : ∀ k : Fin k0_t1_loop.trips, k0_off9 k = ![8, 128 * k.val] := by decide +kernel
theorem off10 : ∀ k : Fin k0_t1_loop.trips, k0_off10 k = ![9, 128 * k.val] := by decide +kernel
theorem off11 : ∀ k : Fin k0_t1_loop.trips, k0_off11 k = ![10, 128 * k.val] := by decide +kernel
theorem off12 : ∀ k : Fin k0_t1_loop.trips, k0_off12 k = ![11, 128 * k.val] := by decide +kernel
theorem off13 : ∀ k : Fin k0_t1_loop.trips, k0_off13 k = ![12, 128 * k.val] := by decide +kernel
theorem off14 : ∀ k : Fin k0_t1_loop.trips, k0_off14 k = ![13, 128 * k.val] := by decide +kernel
theorem off15 : ∀ k : Fin k0_t1_loop.trips, k0_off15 k = ![14, 128 * k.val] := by decide +kernel
theorem off16 : ∀ k : Fin k0_t1_loop.trips, k0_off16 k = ![15, 128 * k.val] := by decide +kernel
theorem off17 : ∀ k : Fin k0_t1_loop.trips, k0_off17 k = ![16, 128 * k.val] := by decide +kernel
theorem off18 : ∀ k : Fin k0_t1_loop.trips, k0_off18 k = ![17, 128 * k.val] := by decide +kernel
theorem off19 : ∀ k : Fin k0_t1_loop.trips, k0_off19 k = ![18, 128 * k.val] := by decide +kernel
theorem off20 : ∀ k : Fin k0_t1_loop.trips, k0_off20 k = ![19, 128 * k.val] := by decide +kernel
theorem off21 : ∀ k : Fin k0_t1_loop.trips, k0_off21 k = ![20, 128 * k.val] := by decide +kernel
theorem off22 : ∀ k : Fin k0_t1_loop.trips, k0_off22 k = ![21, 128 * k.val] := by decide +kernel
theorem off23 : ∀ k : Fin k0_t1_loop.trips, k0_off23 k = ![22, 128 * k.val] := by decide +kernel
theorem off24 : ∀ k : Fin k0_t1_loop.trips, k0_off24 k = ![23, 128 * k.val] := by decide +kernel
theorem off25 : ∀ k : Fin k0_t1_loop.trips, k0_off25 k = ![24, 128 * k.val] := by decide +kernel
theorem off26 : ∀ k : Fin k0_t1_loop.trips, k0_off26 k = ![25, 128 * k.val] := by decide +kernel
theorem off27 : ∀ k : Fin k0_t1_loop.trips, k0_off27 k = ![26, 128 * k.val] := by decide +kernel
theorem off28 : ∀ k : Fin k0_t1_loop.trips, k0_off28 k = ![27, 128 * k.val] := by decide +kernel
theorem off29 : ∀ k : Fin k0_t1_loop.trips, k0_off29 k = ![28, 128 * k.val] := by decide +kernel
theorem off30 : ∀ k : Fin k0_t1_loop.trips, k0_off30 k = ![29, 128 * k.val] := by decide +kernel
theorem off31 : ∀ k : Fin k0_t1_loop.trips, k0_off31 k = ![30, 128 * k.val] := by decide +kernel
theorem off32 : ∀ k : Fin k0_t1_loop.trips, k0_off32 k = ![31, 128 * k.val] := by decide +kernel
theorem off33 : ∀ k : Fin k0_t1_loop.trips, k0_off33 k = ![32, 128 * k.val] := by decide +kernel
theorem off34 : ∀ k : Fin k0_t1_loop.trips, k0_off34 k = ![0, 128 * k.val] := by decide +kernel
theorem off35 : ∀ k : Fin k0_t1_loop.trips, k0_off35 k = ![66, 128 * k.val] := by decide +kernel
theorem off36 : ∀ k : Fin k0_t1_loop.trips, k0_off36 k = ![67, 128 * k.val] := by decide +kernel
theorem off37 : ∀ k : Fin k0_t1_loop.trips, k0_off37 k = ![68, 128 * k.val] := by decide +kernel
theorem off38 : ∀ k : Fin k0_t1_loop.trips, k0_off38 k = ![69, 128 * k.val] := by decide +kernel
theorem off39 : ∀ k : Fin k0_t1_loop.trips, k0_off39 k = ![70, 128 * k.val] := by decide +kernel
theorem off40 : ∀ k : Fin k0_t1_loop.trips, k0_off40 k = ![71, 128 * k.val] := by decide +kernel
theorem off41 : ∀ k : Fin k0_t1_loop.trips, k0_off41 k = ![72, 128 * k.val] := by decide +kernel
theorem off42 : ∀ k : Fin k0_t1_loop.trips, k0_off42 k = ![73, 128 * k.val] := by decide +kernel
theorem off43 : ∀ k : Fin k0_t1_loop.trips, k0_off43 k = ![74, 128 * k.val] := by decide +kernel
theorem off44 : ∀ k : Fin k0_t1_loop.trips, k0_off44 k = ![75, 128 * k.val] := by decide +kernel
theorem off45 : ∀ k : Fin k0_t1_loop.trips, k0_off45 k = ![76, 128 * k.val] := by decide +kernel
theorem off46 : ∀ k : Fin k0_t1_loop.trips, k0_off46 k = ![77, 128 * k.val] := by decide +kernel
theorem off47 : ∀ k : Fin k0_t1_loop.trips, k0_off47 k = ![78, 128 * k.val] := by decide +kernel
theorem off48 : ∀ k : Fin k0_t1_loop.trips, k0_off48 k = ![79, 128 * k.val] := by decide +kernel
theorem off49 : ∀ k : Fin k0_t1_loop.trips, k0_off49 k = ![80, 128 * k.val] := by decide +kernel
theorem off50 : ∀ k : Fin k0_t1_loop.trips, k0_off50 k = ![81, 128 * k.val] := by decide +kernel
theorem off51 : ∀ k : Fin k0_t1_loop.trips, k0_off51 k = ![82, 128 * k.val] := by decide +kernel
theorem off52 : ∀ k : Fin k0_t1_loop.trips, k0_off52 k = ![83, 128 * k.val] := by decide +kernel
theorem off53 : ∀ k : Fin k0_t1_loop.trips, k0_off53 k = ![84, 128 * k.val] := by decide +kernel
theorem off54 : ∀ k : Fin k0_t1_loop.trips, k0_off54 k = ![85, 128 * k.val] := by decide +kernel
theorem off55 : ∀ k : Fin k0_t1_loop.trips, k0_off55 k = ![86, 128 * k.val] := by decide +kernel
theorem off56 : ∀ k : Fin k0_t1_loop.trips, k0_off56 k = ![87, 128 * k.val] := by decide +kernel
theorem off57 : ∀ k : Fin k0_t1_loop.trips, k0_off57 k = ![88, 128 * k.val] := by decide +kernel
theorem off58 : ∀ k : Fin k0_t1_loop.trips, k0_off58 k = ![89, 128 * k.val] := by decide +kernel
theorem off59 : ∀ k : Fin k0_t1_loop.trips, k0_off59 k = ![90, 128 * k.val] := by decide +kernel
theorem off60 : ∀ k : Fin k0_t1_loop.trips, k0_off60 k = ![91, 128 * k.val] := by decide +kernel
theorem off61 : ∀ k : Fin k0_t1_loop.trips, k0_off61 k = ![92, 128 * k.val] := by decide +kernel
theorem off62 : ∀ k : Fin k0_t1_loop.trips, k0_off62 k = ![93, 128 * k.val] := by decide +kernel
theorem off63 : ∀ k : Fin k0_t1_loop.trips, k0_off63 k = ![94, 128 * k.val] := by decide +kernel
theorem off64 : ∀ k : Fin k0_t1_loop.trips, k0_off64 k = ![95, 128 * k.val] := by decide +kernel
theorem off65 : ∀ k : Fin k0_t1_loop.trips, k0_off65 k = ![96, 128 * k.val] := by decide +kernel
theorem off66 : ∀ k : Fin k0_t1_loop.trips, k0_off66 k = ![64, 128 * k.val] := by decide +kernel
theorem off67 : ∀ k : Fin k0_t1_loop.trips, k0_off67 k = ![130, 128 * k.val] := by decide +kernel
theorem off68 : ∀ k : Fin k0_t1_loop.trips, k0_off68 k = ![131, 128 * k.val] := by decide +kernel
theorem off69 : ∀ k : Fin k0_t1_loop.trips, k0_off69 k = ![132, 128 * k.val] := by decide +kernel
theorem off70 : ∀ k : Fin k0_t1_loop.trips, k0_off70 k = ![133, 128 * k.val] := by decide +kernel
theorem off71 : ∀ k : Fin k0_t1_loop.trips, k0_off71 k = ![134, 128 * k.val] := by decide +kernel
theorem off72 : ∀ k : Fin k0_t1_loop.trips, k0_off72 k = ![135, 128 * k.val] := by decide +kernel
theorem off73 : ∀ k : Fin k0_t1_loop.trips, k0_off73 k = ![136, 128 * k.val] := by decide +kernel
theorem off74 : ∀ k : Fin k0_t1_loop.trips, k0_off74 k = ![137, 128 * k.val] := by decide +kernel
theorem off75 : ∀ k : Fin k0_t1_loop.trips, k0_off75 k = ![138, 128 * k.val] := by decide +kernel
theorem off76 : ∀ k : Fin k0_t1_loop.trips, k0_off76 k = ![139, 128 * k.val] := by decide +kernel
theorem off77 : ∀ k : Fin k0_t1_loop.trips, k0_off77 k = ![140, 128 * k.val] := by decide +kernel
theorem off78 : ∀ k : Fin k0_t1_loop.trips, k0_off78 k = ![141, 128 * k.val] := by decide +kernel
theorem off79 : ∀ k : Fin k0_t1_loop.trips, k0_off79 k = ![142, 128 * k.val] := by decide +kernel
theorem off80 : ∀ k : Fin k0_t1_loop.trips, k0_off80 k = ![143, 128 * k.val] := by decide +kernel
theorem off81 : ∀ k : Fin k0_t1_loop.trips, k0_off81 k = ![144, 128 * k.val] := by decide +kernel
theorem off82 : ∀ k : Fin k0_t1_loop.trips, k0_off82 k = ![145, 128 * k.val] := by decide +kernel
theorem off83 : ∀ k : Fin k0_t1_loop.trips, k0_off83 k = ![146, 128 * k.val] := by decide +kernel
theorem off84 : ∀ k : Fin k0_t1_loop.trips, k0_off84 k = ![147, 128 * k.val] := by decide +kernel
theorem off85 : ∀ k : Fin k0_t1_loop.trips, k0_off85 k = ![148, 128 * k.val] := by decide +kernel
theorem off86 : ∀ k : Fin k0_t1_loop.trips, k0_off86 k = ![149, 128 * k.val] := by decide +kernel
theorem off87 : ∀ k : Fin k0_t1_loop.trips, k0_off87 k = ![150, 128 * k.val] := by decide +kernel
theorem off88 : ∀ k : Fin k0_t1_loop.trips, k0_off88 k = ![151, 128 * k.val] := by decide +kernel
theorem off89 : ∀ k : Fin k0_t1_loop.trips, k0_off89 k = ![152, 128 * k.val] := by decide +kernel
theorem off90 : ∀ k : Fin k0_t1_loop.trips, k0_off90 k = ![153, 128 * k.val] := by decide +kernel
theorem off91 : ∀ k : Fin k0_t1_loop.trips, k0_off91 k = ![154, 128 * k.val] := by decide +kernel
theorem off92 : ∀ k : Fin k0_t1_loop.trips, k0_off92 k = ![155, 128 * k.val] := by decide +kernel
theorem off93 : ∀ k : Fin k0_t1_loop.trips, k0_off93 k = ![156, 128 * k.val] := by decide +kernel
theorem off94 : ∀ k : Fin k0_t1_loop.trips, k0_off94 k = ![157, 128 * k.val] := by decide +kernel
theorem off95 : ∀ k : Fin k0_t1_loop.trips, k0_off95 k = ![158, 128 * k.val] := by decide +kernel
theorem off96 : ∀ k : Fin k0_t1_loop.trips, k0_off96 k = ![159, 128 * k.val] := by decide +kernel
theorem off97 : ∀ k : Fin k0_t1_loop.trips, k0_off97 k = ![160, 128 * k.val] := by decide +kernel
theorem off98 : ∀ k : Fin k0_t1_loop.trips, k0_off98 k = ![128, 128 * k.val] := by decide +kernel
theorem off99 : ∀ k : Fin k0_t1_loop.trips, k0_off99 k = ![194, 128 * k.val] := by decide +kernel
theorem off100 : ∀ k : Fin k0_t1_loop.trips, k0_off100 k = ![195, 128 * k.val] := by decide +kernel
theorem off101 : ∀ k : Fin k0_t1_loop.trips, k0_off101 k = ![196, 128 * k.val] := by decide +kernel
theorem off102 : ∀ k : Fin k0_t1_loop.trips, k0_off102 k = ![197, 128 * k.val] := by decide +kernel
theorem off103 : ∀ k : Fin k0_t1_loop.trips, k0_off103 k = ![198, 128 * k.val] := by decide +kernel
theorem off104 : ∀ k : Fin k0_t1_loop.trips, k0_off104 k = ![199, 128 * k.val] := by decide +kernel
theorem off105 : ∀ k : Fin k0_t1_loop.trips, k0_off105 k = ![200, 128 * k.val] := by decide +kernel
theorem off106 : ∀ k : Fin k0_t1_loop.trips, k0_off106 k = ![201, 128 * k.val] := by decide +kernel
theorem off107 : ∀ k : Fin k0_t1_loop.trips, k0_off107 k = ![202, 128 * k.val] := by decide +kernel
theorem off108 : ∀ k : Fin k0_t1_loop.trips, k0_off108 k = ![203, 128 * k.val] := by decide +kernel
theorem off109 : ∀ k : Fin k0_t1_loop.trips, k0_off109 k = ![204, 128 * k.val] := by decide +kernel
theorem off110 : ∀ k : Fin k0_t1_loop.trips, k0_off110 k = ![205, 128 * k.val] := by decide +kernel
theorem off111 : ∀ k : Fin k0_t1_loop.trips, k0_off111 k = ![206, 128 * k.val] := by decide +kernel
theorem off112 : ∀ k : Fin k0_t1_loop.trips, k0_off112 k = ![207, 128 * k.val] := by decide +kernel
theorem off113 : ∀ k : Fin k0_t1_loop.trips, k0_off113 k = ![208, 128 * k.val] := by decide +kernel
theorem off114 : ∀ k : Fin k0_t1_loop.trips, k0_off114 k = ![209, 128 * k.val] := by decide +kernel
theorem off115 : ∀ k : Fin k0_t1_loop.trips, k0_off115 k = ![210, 128 * k.val] := by decide +kernel
theorem off116 : ∀ k : Fin k0_t1_loop.trips, k0_off116 k = ![211, 128 * k.val] := by decide +kernel
theorem off117 : ∀ k : Fin k0_t1_loop.trips, k0_off117 k = ![212, 128 * k.val] := by decide +kernel
theorem off118 : ∀ k : Fin k0_t1_loop.trips, k0_off118 k = ![213, 128 * k.val] := by decide +kernel
theorem off119 : ∀ k : Fin k0_t1_loop.trips, k0_off119 k = ![214, 128 * k.val] := by decide +kernel
theorem off120 : ∀ k : Fin k0_t1_loop.trips, k0_off120 k = ![215, 128 * k.val] := by decide +kernel
theorem off121 : ∀ k : Fin k0_t1_loop.trips, k0_off121 k = ![216, 128 * k.val] := by decide +kernel
theorem off122 : ∀ k : Fin k0_t1_loop.trips, k0_off122 k = ![217, 128 * k.val] := by decide +kernel
theorem off123 : ∀ k : Fin k0_t1_loop.trips, k0_off123 k = ![218, 128 * k.val] := by decide +kernel
theorem off124 : ∀ k : Fin k0_t1_loop.trips, k0_off124 k = ![219, 128 * k.val] := by decide +kernel
theorem off125 : ∀ k : Fin k0_t1_loop.trips, k0_off125 k = ![220, 128 * k.val] := by decide +kernel
theorem off126 : ∀ k : Fin k0_t1_loop.trips, k0_off126 k = ![221, 128 * k.val] := by decide +kernel
theorem off127 : ∀ k : Fin k0_t1_loop.trips, k0_off127 k = ![222, 128 * k.val] := by decide +kernel
theorem off128 : ∀ k : Fin k0_t1_loop.trips, k0_off128 k = ![223, 128 * k.val] := by decide +kernel
theorem off129 : ∀ k : Fin k0_t1_loop.trips, k0_off129 k = ![224, 128 * k.val] := by decide +kernel
theorem off130 : ∀ k : Fin k0_t1_loop.trips, k0_off130 k = ![192, 128 * k.val] := by decide +kernel

/-- The four strips one trip writes hold the convolution's entries. -/
theorem trip_at (𝒱 : Variants) (c : Dev nD) (bd : Option 𝒱.V) (i : grid0.Coords) (arg2 : Memref sig .tc .vmem S1x256x1024 .f32) (harg2 : arg2.IsWhole) (arg3 : Memref sig .tc .vmem S1x256x1024 .f32) (harg3 : arg3.IsWhole) (arg4 : Memref sig .tc .vmem S32x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x256x1024 .bf16) (harg8 : arg8.IsWhole) (arg9 : Memref sig .tc .vmem S288x1024 .f32) (harg9 : arg9.IsWhole) (arg10 : Memref sig .tc .vmem S256x1024 .f32) (harg10 : arg10.IsWhole) (X_arg4 : BufTy.Contents (Elt Ideal) arg4.view.ty) (X_arg5 : BufTy.Contents (Elt Ideal) arg5.view.ty) (X_arg9 : BufTy.Contents (Elt Ideal) arg9.view.ty) (k : Fin k0_t1_loop.trips) (y : S256x1024.Idx) :
    View.AllAt (Val := Elt Ideal) (tripL_k0_t1 (F := Ideal) 𝒱 c bd i arg2 harg2 arg3 harg3 arg4 harg4 arg5 harg5 arg6 harg6 arg7 harg7 arg8 harg8 arg9 harg9 arg10 harg10 X_arg4 X_arg5 X_arg9 k) y
      (strip (arg9.view.read (Elt Ideal) X_arg9) (arg4.view.read (Elt Ideal) X_arg4) (arg5.view.read (Elt Ideal) X_arg5) (y 0).val (y 1).val) := by
  unfold tripL_k0_t1 trip_k0_t1
  refine View.allAt_cons_unit _ _ _ _ _ (fun x hx => ?_) (View.allAt_cons_unit _ _ _ _ _ (fun x hx => ?_) (View.allAt_cons_unit _ _ _ _ _ (fun x hx => ?_)
    (View.allAt_cons_unit _ _ _ _ _ (fun x hx => ?_) (View.allAt_nil _ _))))
  · simp only [trip_k0_t1.sl.cst_29, trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24]
    have h0 : (y 0).val = 192 + (x 0).val := by have := hx 0; rw [off130 k] at this; exact this
    have h1 : (y 1).val = 128 * k.val + (x 1).val := by have := hx 1; rw [off130 k] at this; exact this
    rw [h0, h1]
    obtain ⟨r, q, rfl⟩ : ∃ (r : Fin 64) (q : Fin 128), x = ix2 r q := ⟨x 0, x 1, (ix2_eta x).symm⟩
    simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay28]
    pointwise
    simp only [block_entry _ _ (off1 k) _ rfl, block_entry _ _ (off2 k) _ rfl, block_entry _ _ (off99 k) _ rfl, block_entry _ _ (off100 k) _ rfl, block_entry _ _ (off101 k) _ rfl, block_entry _ _ (off102 k) _ rfl, block_entry _ _ (off103 k) _ rfl, block_entry _ _ (off104 k) _ rfl, block_entry _ _ (off105 k) _ rfl, block_entry _ _ (off106 k) _ rfl, block_entry _ _ (off107 k) _ rfl, block_entry _ _ (off108 k) _ rfl, block_entry _ _ (off109 k) _ rfl, block_entry _ _ (off110 k) _ rfl, block_entry _ _ (off111 k) _ rfl, block_entry _ _ (off112 k) _ rfl, block_entry _ _ (off113 k) _ rfl, block_entry _ _ (off114 k) _ rfl, block_entry _ _ (off115 k) _ rfl, block_entry _ _ (off116 k) _ rfl, block_entry _ _ (off117 k) _ rfl, block_entry _ _ (off118 k) _ rfl, block_entry _ _ (off119 k) _ rfl, block_entry _ _ (off120 k) _ rfl, block_entry _ _ (off121 k) _ rfl, block_entry _ _ (off122 k) _ rfl, block_entry _ _ (off123 k) _ rfl, block_entry _ _ (off124 k) _ rfl, block_entry _ _ (off125 k) _ rfl, block_entry _ _ (off126 k) _ rfl, block_entry _ _ (off127 k) _ rfl, block_entry _ _ (off128 k) _ rfl, block_entry _ _ (off129 k) _ rfl]
    simp only [strip, Finset.sum_range_succ, Finset.sum_range_zero, zero_add, ← add_assoc, row_of, col_of, Nat.reduceAdd, Fin.isValue,
      Fin.coe_ofNat_eq_mod, Nat.reduceMod, add_zero, Ideal.ofBits_zero]
  · simp only [trip_k0_t1.sl.cst_29, trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24]
    have h0 : (y 0).val = 128 + (x 0).val := by have := hx 0; rw [off98 k] at this; exact this
    have h1 : (y 1).val = 128 * k.val + (x 1).val := by have := hx 1; rw [off98 k] at this; exact this
    rw [h0, h1]
    obtain ⟨r, q, rfl⟩ : ∃ (r : Fin 64) (q : Fin 128), x = ix2 r q := ⟨x 0, x 1, (ix2_eta x).symm⟩
    simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay28]
    pointwise
    simp only [block_entry _ _ (off1 k) _ rfl, block_entry _ _ (off2 k) _ rfl, block_entry _ _ (off67 k) _ rfl, block_entry _ _ (off68 k) _ rfl, block_entry _ _ (off69 k) _ rfl, block_entry _ _ (off70 k) _ rfl, block_entry _ _ (off71 k) _ rfl, block_entry _ _ (off72 k) _ rfl, block_entry _ _ (off73 k) _ rfl, block_entry _ _ (off74 k) _ rfl, block_entry _ _ (off75 k) _ rfl, block_entry _ _ (off76 k) _ rfl, block_entry _ _ (off77 k) _ rfl, block_entry _ _ (off78 k) _ rfl, block_entry _ _ (off79 k) _ rfl, block_entry _ _ (off80 k) _ rfl, block_entry _ _ (off81 k) _ rfl, block_entry _ _ (off82 k) _ rfl, block_entry _ _ (off83 k) _ rfl, block_entry _ _ (off84 k) _ rfl, block_entry _ _ (off85 k) _ rfl, block_entry _ _ (off86 k) _ rfl, block_entry _ _ (off87 k) _ rfl, block_entry _ _ (off88 k) _ rfl, block_entry _ _ (off89 k) _ rfl, block_entry _ _ (off90 k) _ rfl, block_entry _ _ (off91 k) _ rfl, block_entry _ _ (off92 k) _ rfl, block_entry _ _ (off93 k) _ rfl, block_entry _ _ (off94 k) _ rfl, block_entry _ _ (off95 k) _ rfl, block_entry _ _ (off96 k) _ rfl, block_entry _ _ (off97 k) _ rfl]
    simp only [strip, Finset.sum_range_succ, Finset.sum_range_zero, zero_add, ← add_assoc, row_of, col_of, Nat.reduceAdd, Fin.isValue,
      Fin.coe_ofNat_eq_mod, Nat.reduceMod, add_zero, Ideal.ofBits_zero]
  · simp only [trip_k0_t1.sl.cst_29, trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24]
    have h0 : (y 0).val = 64 + (x 0).val := by have := hx 0; rw [off66 k] at this; exact this
    have h1 : (y 1).val = 128 * k.val + (x 1).val := by have := hx 1; rw [off66 k] at this; exact this
    rw [h0, h1]
    obtain ⟨r, q, rfl⟩ : ∃ (r : Fin 64) (q : Fin 128), x = ix2 r q := ⟨x 0, x 1, (ix2_eta x).symm⟩
    simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay28]
    pointwise
    simp only [block_entry _ _ (off1 k) _ rfl, block_entry _ _ (off2 k) _ rfl, block_entry _ _ (off35 k) _ rfl, block_entry _ _ (off36 k) _ rfl, block_entry _ _ (off37 k) _ rfl, block_entry _ _ (off38 k) _ rfl, block_entry _ _ (off39 k) _ rfl, block_entry _ _ (off40 k) _ rfl, block_entry _ _ (off41 k) _ rfl, block_entry _ _ (off42 k) _ rfl, block_entry _ _ (off43 k) _ rfl, block_entry _ _ (off44 k) _ rfl, block_entry _ _ (off45 k) _ rfl, block_entry _ _ (off46 k) _ rfl, block_entry _ _ (off47 k) _ rfl, block_entry _ _ (off48 k) _ rfl, block_entry _ _ (off49 k) _ rfl, block_entry _ _ (off50 k) _ rfl, block_entry _ _ (off51 k) _ rfl, block_entry _ _ (off52 k) _ rfl, block_entry _ _ (off53 k) _ rfl, block_entry _ _ (off54 k) _ rfl, block_entry _ _ (off55 k) _ rfl, block_entry _ _ (off56 k) _ rfl, block_entry _ _ (off57 k) _ rfl, block_entry _ _ (off58 k) _ rfl, block_entry _ _ (off59 k) _ rfl, block_entry _ _ (off60 k) _ rfl, block_entry _ _ (off61 k) _ rfl, block_entry _ _ (off62 k) _ rfl, block_entry _ _ (off63 k) _ rfl, block_entry _ _ (off64 k) _ rfl, block_entry _ _ (off65 k) _ rfl]
    simp only [strip, Finset.sum_range_succ, Finset.sum_range_zero, zero_add, ← add_assoc, row_of, col_of, Nat.reduceAdd, Fin.isValue,
      Fin.coe_ofNat_eq_mod, Nat.reduceMod, add_zero, Ideal.ofBits_zero]
  · simp only [trip_k0_t1.sl.cst_29, trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24]
    have h0 : (y 0).val = 0 + (x 0).val := by have := hx 0; rw [off34 k] at this; exact this
    have h1 : (y 1).val = 128 * k.val + (x 1).val := by have := hx 1; rw [off34 k] at this; exact this
    rw [h0, h1]
    obtain ⟨r, q, rfl⟩ : ∃ (r : Fin 64) (q : Fin 128), x = ix2 r q := ⟨x 0, x 1, (ix2_eta x).symm⟩
    simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay28]
    pointwise
    simp only [block_entry _ _ (off1 k) _ rfl, block_entry _ _ (off2 k) _ rfl, block_entry _ _ (off3 k) _ rfl, block_entry _ _ (off4 k) _ rfl, block_entry _ _ (off5 k) _ rfl, block_entry _ _ (off6 k) _ rfl, block_entry _ _ (off7 k) _ rfl, block_entry _ _ (off8 k) _ rfl, block_entry _ _ (off9 k) _ rfl, block_entry _ _ (off10 k) _ rfl, block_entry _ _ (off11 k) _ rfl, block_entry _ _ (off12 k) _ rfl, block_entry _ _ (off13 k) _ rfl, block_entry _ _ (off14 k) _ rfl, block_entry _ _ (off15 k) _ rfl, block_entry _ _ (off16 k) _ rfl, block_entry _ _ (off17 k) _ rfl, block_entry _ _ (off18 k) _ rfl, block_entry _ _ (off19 k) _ rfl, block_entry _ _ (off20 k) _ rfl, block_entry _ _ (off21 k) _ rfl, block_entry _ _ (off22 k) _ rfl, block_entry _ _ (off23 k) _ rfl, block_entry _ _ (off24 k) _ rfl, block_entry _ _ (off25 k) _ rfl, block_entry _ _ (off26 k) _ rfl, block_entry _ _ (off27 k) _ rfl, block_entry _ _ (off28 k) _ rfl, block_entry _ _ (off29 k) _ rfl, block_entry _ _ (off30 k) _ rfl, block_entry _ _ (off31 k) _ rfl, block_entry _ _ (off32 k) _ rfl, block_entry _ _ (off33 k) _ rfl]
    simp only [strip, Finset.sum_range_succ, Finset.sum_range_zero, zero_add, ← add_assoc, row_of, col_of, Nat.reduceAdd, Fin.isValue,
      Fin.coe_ofNat_eq_mod, Nat.reduceMod, add_zero, Ideal.ofBits_zero]

/-- Every strip written by the trips so far holds the convolution's entries. -/
theorem trips_at (𝒱 : Variants) (c : Dev nD) (bd : Option 𝒱.V) (i : grid0.Coords) (arg2 : Memref sig .tc .vmem S1x256x1024 .f32) (harg2 : arg2.IsWhole) (arg3 : Memref sig .tc .vmem S1x256x1024 .f32) (harg3 : arg3.IsWhole) (arg4 : Memref sig .tc .vmem S32x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x256x1024 .bf16) (harg8 : arg8.IsWhole) (arg9 : Memref sig .tc .vmem S288x1024 .f32) (harg9 : arg9.IsWhole) (arg10 : Memref sig .tc .vmem S256x1024 .f32) (harg10 : arg10.IsWhole) (X_arg4 : BufTy.Contents (Elt Ideal) arg4.view.ty) (X_arg5 : BufTy.Contents (Elt Ideal) arg5.view.ty) (X_arg9 : BufTy.Contents (Elt Ideal) arg9.view.ty) (n : ℕ) (y : S256x1024.Idx) :
    View.AllAt (Val := Elt Ideal) (pb_k0_t1 (F := Ideal) 𝒱 c bd i arg2 harg2 arg3 harg3 arg4 harg4 arg5 harg5 arg6 harg6 arg7 harg7 arg8 harg8 arg9 harg9 arg10 harg10 X_arg4 X_arg5 X_arg9 n) y
      (strip (arg9.view.read (Elt Ideal) X_arg9) (arg4.view.read (Elt Ideal) X_arg4) (arg5.view.read (Elt Ideal) X_arg5) (y 0).val (y 1).val) := by
  induction n with
  | zero => exact View.allAt_nil _ _
  | succ n ih =>
    rw [pb_k0_t1.eq_2]
    unfold pb_k0_t1Step
    by_cases h : n < k0_t1_loop.trips
    · rw [dif_pos h]
      intro p hp
      rcases List.mem_append.mp hp with hp | hp
      · exact trip_at 𝒱 c bd i arg2 harg2 arg3 harg3 arg4 harg4 arg5 harg5 arg6 harg6 arg7 harg7 arg8 harg8 arg9 harg9 arg10 harg10 X_arg4 X_arg5 X_arg9 ⟨n, h⟩ y p hp
      · exact ih p hp
    · rw [dif_neg h]; exact ih

end Cert.Kernel6Ideal.V
-- ==== Proof.ConvBlock.lean ====
/- The convolution: one grid point's scratch and block, as functions of the blocks the point is given. -/
module

public import proofs.«01_k».proof.Proof.ConvTrip
public import proofs.«01_k».proof.Proof.Gen.Kernel6Ideal.Frame

@[expose] public section

set_option maxRecDepth 16384

noncomputable section

namespace Cert.Kernel6Ideal.V

open Idealize.ShloMosaic Idealize.ShloMosaic.TcCoe Idealize.ShloMosaic.Tactic Cert.Kernel6Ideal Cert.Kernel6Ideal.Gen

theorem zero2 : (![0, 0] : Fin 2 → ℕ) = fun _ => 0 := by funext a; fin_cases a <;> rfl
theorem zero3 : (![0, 0, 0] : Fin 3 → ℕ) = fun _ => 0 := by funext a; fin_cases a <;> rfl

/-- The mean of a row. -/
def mean (r : Fin 1024 → EReal) : EReal := Ideal.div (∑ j : Fin 1024, r j) (Ideal.ofBits .f32 0x44800000#32)

/-- A row's entry, less the mean and over the deviation. -/
def unit (r : Fin 1024 → EReal) (q : Fin 1024) : EReal :=
  (r q - mean r) * Ideal.rsqrt (mean (fun j => (r j - mean r) * (r j - mean r)) + Ideal.ofBits .f32 0x3727C5AC#32)

/-- The gate applied to its own argument. -/
def silu (z : EReal) : EReal := z * Ideal.logistic z

/-- A whole buffer's load is its contents. -/
theorem load2 {m n : ℕ} (M : Memref sig .tc .vmem (⟨2, ![m, n]⟩ : Shape) .f32) (h : M.IsWhole) (x : Vec Ideal (⟨2, ![m, n]⟩ : Shape) .f32)
    (inb : ∀ a, (![0, 0] : Fin 2 → ℕ) a + (⟨2, ![m, n]⟩ : Shape).size a ≤ (⟨2, ![m, n]⟩ : Shape).size a) :
    M.view.readAt (Elt Ideal) (Rect.unit (s := (⟨2, ![m, n]⟩ : Shape)) ![0, 0] (⟨2, ![m, n]⟩ : Shape).size inb).toLoadRect (h.unread (Val := Elt Ideal) x) = x := by
  rw [View.readAt_eq_ld, h.read_unread, View.ld_unit_zero zero2]
theorem load3 {l m n : ℕ} (M : Memref sig .tc .vmem (⟨3, ![l, m, n]⟩ : Shape) .f32) (h : M.IsWhole) (x : Vec Ideal (⟨3, ![l, m, n]⟩ : Shape) .f32)
    (inb : ∀ a, (![0, 0, 0] : Fin 3 → ℕ) a + (⟨3, ![l, m, n]⟩ : Shape).size a ≤ (⟨3, ![l, m, n]⟩ : Shape).size a) :
    M.view.readAt (Elt Ideal) (Rect.unit (s := (⟨3, ![l, m, n]⟩ : Shape)) ![0, 0, 0] (⟨3, ![l, m, n]⟩ : Shape).size inb).toLoadRect (h.unread (Val := Elt Ideal) x) = x := by
  rw [View.readAt_eq_ld, h.read_unread, View.ld_unit_zero zero3]

theorem gate_read (x0 x1 : S1x256x1024.Idx → EReal) (r : Fin 256) (q : Fin 1024) :
    k0_pay27 (F := Ideal) x0 x1 (ix2 r q) = x0 (ix3 0 r q) * Ideal.logistic (x1 (ix3 0 r q)) := by
  unfold k0_pay27
  pointwise

/-- A sequence's first block leaves in the scratch thirty-two rows of zeros, then the gated block. -/
theorem filled_A (c : Dev nD) (arg2 : Memref sig .tc .vmem S1x256x1024 .f32) (harg2 : arg2.IsWhole) (arg3 : Memref sig .tc .vmem S1x256x1024 .f32)
    (harg3 : arg3.IsWhole) (x0 x1 : Vec Ideal S1x256x1024 .f32) (y : S288x1024.Idx) (g : EReal) (low : (y 0).val < 32 → g = 0)
    (high : ∀ r : Fin 256, (y 0).val = 32 + r.val → g = x0 (ix3 0 r (y 1 : Fin 1024)) * Ideal.logistic (x1 (ix3 0 r (y 1 : Fin 1024)))) :
    View.canon (Val := Elt Ideal) (kernelRun0_A.sl.HS0_2 c arg2 harg2 arg3 harg3 x0 x1) y = g := by
  refine View.canon_eq_of_allAt (Val := Elt Ideal) (kernelRun0_A.sl.HS0_2 (F := Ideal) c arg2 harg2 arg3 harg3 x0 x1) y g (View.cover_of_tiledBy (kernelRun0_A.sl.HS0_2 (F := Ideal) c arg2 harg2 arg3 harg3 x0 x1) ![32, 1024] (by sl_kernel_rfl) y) ?_
  unfold kernelRun0_A.sl.HS0_2
  refine View.allAt_cons_unit _ _ _ _ _ (fun x hx => ?_) (View.allAt_cons_unit _ _ _ _ _ (fun x hx => ?_) (View.allAt_nil _ _))
  · obtain ⟨r, q, rfl⟩ : ∃ (r : Fin 256) (q : Fin 1024), x = ix2 r q := ⟨x 0, x 1, (ix2_eta x).symm⟩
    have e : (y 1 : Fin 1024) = q := Fin.ext ((hx 1).trans (Nat.zero_add _))
    rw [high r (hx 0), e, load3, load3]
    exact gate_read x0 x1 r q
  · have h0 : (y 0).val < 32 := by have := hx 0; have h : (x 0).val < 32 := (x 0).isLt; change (y 0).val = 0 + (x 0).val at this; omega
    rw [low h0]
    obtain ⟨r, q, rfl⟩ : ∃ (r : Fin 32) (q : Fin 1024), x = ix2 r q := ⟨x 0, x 1, (ix2_eta x).symm⟩
    unfold k0_pay25
    pointwise

/-- A later block's scratch: the last thirty-two rows of what the block before left, then the gated block. -/
theorem filled_B (c : Dev nD) (arg2 : Memref sig .tc .vmem S1x256x1024 .f32) (harg2 : arg2.IsWhole) (arg3 : Memref sig .tc .vmem S1x256x1024 .f32)
    (harg3 : arg3.IsWhole) (arg9 : Memref sig .tc .vmem S288x1024 .f32) (harg9 : arg9.IsWhole) (x0 x1 : Vec Ideal S1x256x1024 .f32)
    (xs : Vec Ideal S288x1024 .f32) (y : S288x1024.Idx) (g : EReal)
    (low : ∀ r : Fin 288, 256 ≤ r.val → r.val = 256 + (y 0).val → g = xs (ix2 r (y 1 : Fin 1024)))
    (high : ∀ r : Fin 256, (y 0).val = 32 + r.val → g = x0 (ix3 0 r (y 1 : Fin 1024)) * Ideal.logistic (x1 (ix3 0 r (y 1 : Fin 1024)))) :
    View.canon (Val := Elt Ideal) (kernelRun0_B.sl.HS0_2 c arg2 harg2 arg3 harg3 arg9 harg9 x0 x1 xs) y = g := by
  refine View.canon_eq_of_allAt (Val := Elt Ideal) (kernelRun0_B.sl.HS0_2 (F := Ideal) c arg2 harg2 arg3 harg3 arg9 harg9 x0 x1 xs) y g (View.cover_of_tiledBy (kernelRun0_B.sl.HS0_2 (F := Ideal) c arg2 harg2 arg3 harg3 arg9 harg9 x0 x1 xs) ![32, 1024] (by sl_kernel_rfl) y) ?_
  unfold kernelRun0_B.sl.HS0_2
  refine View.allAt_cons_unit _ _ _ _ _ (fun x hx => ?_) (View.allAt_cons_unit _ _ _ _ _ (fun x hx => ?_) (View.allAt_nil _ _))
  · obtain ⟨r, q, rfl⟩ : ∃ (r : Fin 256) (q : Fin 1024), x = ix2 r q := ⟨x 0, x 1, (ix2_eta x).symm⟩
    have e : (y 1 : Fin 1024) = q := Fin.ext ((hx 1).trans (Nat.zero_add _))
    rw [high r (hx 0), e, load3, load3]
    exact gate_read x0 x1 r q
  · obtain ⟨r, q, rfl⟩ : ∃ (r : Fin 32) (q : Fin 1024), x = ix2 r q := ⟨x 0, x 1, (ix2_eta x).symm⟩
    have e0 : (y 0).val = r.val := (hx 0).trans (Nat.zero_add _)
    have e : (y 1 : Fin 1024) = q := Fin.ext ((hx 1).trans (Nat.zero_add _))
    rw [low ⟨256 + r.val, by omega⟩ (Nat.le_add_right _ _) (by rw [e0]), e]
    unfold k0_pay26
    pointwise
    rw [View.readAt_eq_ld, harg9.read_unread]
    refine congrArg xs ?_
    funext a
    match a with
    | ⟨0, _⟩ => exact Fin.ext (show 256 + 1 * r.val = 256 + r.val by omega)
    | ⟨1, _⟩ => exact Fin.ext (show 0 + 1 * q.val = q.val by omega)

/-- After all the trips the strips hold the whole convolved block. -/
theorem strips_read (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S32x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x256x1024 .bf16) (harg8 : arg8.IsWhole) (arg9 : Memref sig .tc .vmem S288x1024 .f32) (harg9 : arg9.IsWhole) (arg10 : Memref sig .tc .vmem S256x1024 .f32) (harg10 : arg10.IsWhole) (X4 : BufTy.Contents (Elt Ideal) arg4.view.ty) (X5 : BufTy.Contents (Elt Ideal) arg5.view.ty)
    (X9 : BufTy.Contents (Elt Ideal) arg9.view.ty) :
    arg10.view.readCov (pb_k0_t1 (F := Ideal) Variants.none c none i arg2 harg2 arg3 harg3 arg4 harg4 arg5 harg5 arg6 harg6 arg7 harg7 arg8 harg8 arg9 harg9 arg10 harg10 X4 X5 X9 (Scf.trips k0_t1_loop.lb k0_t1_loop.ub k0_t1_loop.st))
        (Rect.unit (s := S256x1024) ![0, 0] S256x1024.size inb_S256x1024_S256x1024_0_0).toLoadRect
      = fun y => strip (arg9.view.read (Elt Ideal) X9) (arg4.view.read (Elt Ideal) X4) (arg5.view.read (Elt Ideal) X5) (y 0).val (y 1).val := by
  have cover : ∀ y : S256x1024.Idx, ∃ p ∈ pb_k0_t1 (F := Ideal) Variants.none c none i arg2 harg2 arg3 harg3 arg4 harg4 arg5 harg5 arg6 harg6 arg7 harg7 arg8 harg8 arg9 harg9 arg10 harg10 X4 X5 X9 (Scf.trips k0_t1_loop.lb k0_t1_loop.ub k0_t1_loop.st), y ∈ p.1.set := fun y =>
    View.cover_of_tiledL (pb_k0_t1 (F := Ideal) Variants.none c none i arg2 harg2 arg3 harg3 arg4 harg4 arg5 harg5 arg6 harg6 arg7 harg7 arg8 harg8 arg9 harg9 arg10 harg10 X4 X5 X9 (Scf.trips k0_t1_loop.lb k0_t1_loop.ub k0_t1_loop.st)) S64x128.size (by sl_kernel_rfl) y
  rw [View.readCov_eq_canon_ld _ _ _ cover, View.ld_unit_zero zero2]
  funext y
  exact View.canon_eq_of_allAt (Val := Elt Ideal) _ y _ (cover y) (trips_at Variants.none c none i arg2 harg2 arg3 harg3 arg4 harg4 arg5 harg5 arg6 harg6 arg7 harg7 arg8 harg8 arg9 harg9 arg10 harg10 X4 X5 X9 _ y)

theorem pay_read (acc : S256x1024.Idx → EReal) (g b : S1x1024.Idx → EReal) (p : Fin 256) (q : Fin 1024) :
    k0_pay1 (F := Ideal) (k0_pay29 g) (k0_pay30 b) (k0_pay31 acc) (k0_pay32 acc) (ix3 0 p q)
      = silu (unit (fun d => acc (ix2 p d)) q * g (ix2 0 q) + b (ix2 0 q)) := by
  unfold k0_pay1 k0_pay29 k0_pay30 k0_pay32 k0_pay31
  pointwise
  rfl

theorem out_A (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S32x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x256x1024 .bf16) (harg8 : arg8.IsWhole) (arg9 : Memref sig .tc .vmem S288x1024 .f32) (harg9 : arg9.IsWhole) (arg10 : Memref sig .tc .vmem S256x1024 .f32) (harg10 : arg10.IsWhole) (hc0 : cond0_0 i) (hc1 : ¬cond0_1 i) (x0 x1 : Vec Ideal S1x256x1024 .f32) (x2 : Vec Ideal S32x1024 .f32) (x3 x4 x5 : Vec Ideal S1x1024 .f32) (p : Fin 256) (q : Fin 1024) :
    out0_A_6 (F := Ideal) c i arg2 harg2 arg3 harg3 arg4 harg4 arg5 harg5 arg6 harg6 arg7 harg7 arg8 harg8 arg9 harg9 arg10 harg10 hc0 hc1 x0 x1 x2 x3 x4 x5 (ix3 0 p q)
      = silu (unit (fun d => strip (View.canon (Val := Elt Ideal) (kernelRun0_A.sl.HS0_2 c arg2 harg2 arg3 harg3 x0 x1)) x2 x3 p.val d.val) q * x4 (ix2 0 q) + x5 (ix2 0 q)) := by
  unfold out0_A_6 kernelRun0_A
  dsimp only
  rw [View.read_writes_junk_eq_canon, View.canon_unit_zero zero3]
  unfold kernelRun0_A.sl.r kernelRun0_A.sl.r_1 kernelRun0_A.sl.r_2 kernelRun0_A.sl.r_3
  rw [strips_read, load2, load2, pay_read, View.read_writes_junk_eq_canon, harg4.read_unread, harg5.read_unread]
  rfl

theorem out_B (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S32x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x256x1024 .bf16) (harg8 : arg8.IsWhole) (arg9 : Memref sig .tc .vmem S288x1024 .f32) (harg9 : arg9.IsWhole) (arg10 : Memref sig .tc .vmem S256x1024 .f32) (harg10 : arg10.IsWhole) (hc0 : ¬cond0_0 i) (hc1 : cond0_1 i) (x0 x1 : Vec Ideal S1x256x1024 .f32) (x2 : Vec Ideal S32x1024 .f32) (x3 x4 x5 : Vec Ideal S1x1024 .f32) (xs : Vec Ideal S288x1024 .f32) (p : Fin 256) (q : Fin 1024) :
    out0_B_6 (F := Ideal) c i arg2 harg2 arg3 harg3 arg4 harg4 arg5 harg5 arg6 harg6 arg7 harg7 arg8 harg8 arg9 harg9 arg10 harg10 hc0 hc1 x0 x1 x2 x3 x4 x5 xs (ix3 0 p q)
      = silu (unit (fun d => strip (View.canon (Val := Elt Ideal) (kernelRun0_B.sl.HS0_2 c arg2 harg2 arg3 harg3 arg9 harg9 x0 x1 xs)) x2 x3 p.val d.val) q * x4 (ix2 0 q) + x5 (ix2 0 q)) := by
  unfold out0_B_6 kernelRun0_B
  dsimp only
  rw [View.read_writes_junk_eq_canon, View.canon_unit_zero zero3]
  unfold kernelRun0_B.sl.r kernelRun0_B.sl.r_1 kernelRun0_B.sl.r_2 kernelRun0_B.sl.r_3
  rw [strips_read, load2, load2, pay_read, View.read_writes_junk_eq_canon, harg4.read_unread, harg5.read_unread]
  rfl

theorem left_A (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S32x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x256x1024 .bf16) (harg8 : arg8.IsWhole) (arg9 : Memref sig .tc .vmem S288x1024 .f32) (harg9 : arg9.IsWhole) (arg10 : Memref sig .tc .vmem S256x1024 .f32) (harg10 : arg10.IsWhole) (hc0 : cond0_0 i) (hc1 : ¬cond0_1 i) (x0 x1 : Vec Ideal S1x256x1024 .f32) (x2 : Vec Ideal S32x1024 .f32) (x3 x4 x5 : Vec Ideal S1x1024 .f32) :
    sout0_A_0 (F := Ideal) c i arg2 harg2 arg3 harg3 arg4 harg4 arg5 harg5 arg6 harg6 arg7 harg7 arg8 harg8 arg9 harg9 arg10 harg10 hc0 hc1 x0 x1 x2 x3 x4 x5 = View.canon (Val := Elt Ideal) (kernelRun0_A.sl.HS0_2 c arg2 harg2 arg3 harg3 x0 x1) := by
  unfold sout0_A_0 kernelRun0_A
  dsimp only
  rw [View.read_writes_junk_eq_canon]

theorem left_B (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S32x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x256x1024 .bf16) (harg8 : arg8.IsWhole) (arg9 : Memref sig .tc .vmem S288x1024 .f32) (harg9 : arg9.IsWhole) (arg10 : Memref sig .tc .vmem S256x1024 .f32) (harg10 : arg10.IsWhole) (hc0 : ¬cond0_0 i) (hc1 : cond0_1 i) (x0 x1 : Vec Ideal S1x256x1024 .f32) (x2 : Vec Ideal S32x1024 .f32) (x3 x4 x5 : Vec Ideal S1x1024 .f32) (xs : Vec Ideal S288x1024 .f32) :
    sout0_B_0 (F := Ideal) c i arg2 harg2 arg3 harg3 arg4 harg4 arg5 harg5 arg6 harg6 arg7 harg7 arg8 harg8 arg9 harg9 arg10 harg10 hc0 hc1 x0 x1 x2 x3 x4 x5 xs
      = View.canon (Val := Elt Ideal) (kernelRun0_B.sl.HS0_2 c arg2 harg2 arg3 harg3 arg9 harg9 x0 x1 xs) := by
  unfold sout0_B_0 kernelRun0_B
  dsimp only
  rw [View.read_writes_junk_eq_canon]

end Cert.Kernel6Ideal.V
-- ==== Proof.ConvSpec.lean ====
/- What the convolution call returns, as a function of its arguments. -/
module

public import proofs.«01_k».proof.Defs
public import proofs.«01_k».proof.Proof.ConvBlock

@[expose] public section

set_option maxRecDepth 16384

noncomputable section

namespace Cert.Kernel6Ideal.V

open Idealize.ShloMosaic Idealize.ShloMosaic.TcCoe Cert.Kernel6Ideal

/-- A sequence's gated value thirty-two rows earlier: zero before its first row and past its last. -/
def gated (X : S8x2048x5120.Idx → EReal) (B : Fin 8) (s : ℕ) (q : Fin 1024) : EReal :=
  if h : 32 ≤ s ∧ s < 2080 then
    X (ix3 B (⟨s - 32, by omega⟩ : Fin 2048) (⟨3072 + q.val, by omega⟩ : Fin 5120))
      * Ideal.logistic (X (ix3 B (⟨s - 32, by omega⟩ : Fin 2048) (⟨4096 + q.val, by omega⟩ : Fin 5120)))
  else 0

/-- A convolved entry: the offset and the weighted sum of the gated values at the row and at the thirty before it. -/
def mixed (X : S8x2048x5120.Idx → EReal) (W : S31x1024.Idx → EReal) (b : S1024.Idx → EReal) (B : Fin 8) (l : ℕ) (q : Fin 1024) : EReal :=
  b (ix1 q) + ∑ j ∈ Finset.range 31, gated X B (2 + j + l) q * entry W j q.val

/-- What the call returns, of the projected tokens, the weights, the offset, the scale and the norm's offset. -/
def conv (X : S8x2048x5120.Idx → EReal) (W : S31x1024.Idx → EReal) (b G C : S1024.Idx → EReal) (y : S8x2048x1024.Idx) : EReal :=
  silu (unit (mixed X W b (y 0 : Fin 8) (y 1).val) (y 2 : Fin 1024) * G (ix1 (y 2 : Fin 1024)) + C (ix1 (y 2 : Fin 1024)))

end Cert.Kernel6Ideal.V

end
-- ==== Proof.ConvReference.lean ====
/- The convolution's reference: every entry of its result is the same function of the arguments. -/
module

public import proofs.«01_k».proof.Defs
public import proofs.«01_k».proof.Proof.ConvSpec
public import proofs.«01_k».proof.Proof.Gen.Reference6Ideal.Run
public import Idealize.ShloMosaic.Lib.Pipeline.ValueKit
public import Idealize.ShloMosaic.Adequacy
public import Idealize.ShloMosaic.Init

@[expose] public section

set_option maxRecDepth 16384

noncomputable section

namespace Cert.Reference6Ideal.V

open Idealize.ShloMosaic Idealize.ShloMosaic.TcCoe Idealize.SL.Sem Idealize.ShloMosaic.StableHlo Cert.Reference6Ideal Cert.Reference6Ideal.Gen Cert.Reference6Ideal.Value
open Cert.Kernel6Ideal.V (entry gated mixed conv mean unit silu)

section Values
variable (V0 : Valuation τ sig (Elt Ideal)) (B : Fin 8)

abbrev b0 : S8x2048x5120.Idx → EReal := V0 (Proc.devRef .tc main_arg0)
abbrev b1 : S31x1024.Idx → EReal := V0 (Proc.devRef .tc main_arg1)
abbrev b2 : S1024.Idx → EReal := V0 (Proc.devRef .tc main_arg2)
abbrev b3 : S1024.Idx → EReal := V0 (Proc.devRef .tc main_arg3)
abbrev b4 : S1024.Idx → EReal := V0 (Proc.devRef .tc main_arg4)

/-- The product at its own type. -/
abbrev mul (a b : EReal) : EReal := a * b

theorem sitofp_zero : (FloatOps.sitofp FTy.f32 (0#32) : Ideal .f32) = (0 : EReal) := by
  change (((0#32).toInt : ℝ) : EReal) = 0
  simp

/-- The padded rows. -/
theorem padded (s : Fin 2078) (q : Fin 1024) : (res_main_v10 V0 : S8x2078x1024.Idx → EReal) (ix3 B s q) = gated (b0 V0) B (2 + s.val) q := by
  unfold res_main_v10 res_main_v0
  pointwise
  unfold gated
  by_cases h : 30 ≤ s.val ∧ s.val - 30 < 2048
  · rw [dif_pos h, dif_pos (by omega)]
    have e1 : (⟨s.val - 30, h.2⟩ : Fin 2048) = ⟨2 + s.val - 32, by omega⟩ := Fin.ext (by dsimp only; omega)
    have e2 : (⟨3072 + (1024 + q.val), by omega⟩ : Fin 5120) = ⟨4096 + q.val, by omega⟩ := Fin.ext (by dsimp only; omega)
    exact congrArg₂ (fun (a : Fin 2048) (b : Fin 5120) => b0 V0 (ix3 B a (⟨3072 + q.val, by omega⟩ : Fin 5120)) * Ideal.logistic (b0 V0 (ix3 B a b))) e1 e2
  · rw [dif_neg h, dif_neg (by omega)]
    exact sitofp_zero

/-- A product of the sum: a padded row and its weight. -/
theorem term (j : ℕ) (hj : j < 31) (l : Fin 2048) (q : Fin 1024) (s : Fin 2078) (hs : s.val = j + l.val) (k : Fin 31) (hk : k.val = j) :
    mul (res_main_v10 V0 (ix3 B s q)) (b1 V0 (ix2 k q)) = gated (b0 V0) B (2 + j + l.val) q * entry (b1 V0) j q.val := by
  subst hk
  unfold entry
  rw [dif_pos ⟨hj, q.isLt⟩]
  refine congrArg₂ (fun a b : EReal => a * b) ((padded V0 B s q).trans ?_) rfl
  exact congrArg (fun s => gated (b0 V0) B s q) (by omega)

theorem part0 (l : Fin 2048) (q : Fin 1024) : (res_main_v86 V0 : S8x2048x1024.Idx → EReal) (ix3 B l q)
    = ∑ j ∈ Finset.range 11, gated (b0 V0) B (2 + j + l.val) q * entry (b1 V0) j q.val := by
  unfold res_main_v86
  pointwise
  iterate 10
    rw [Finset.sum_range_succ]
    refine congrArg₂ (fun a b : EReal => a + b) ?_ (term V0 B _ (by decide) l q _ (by dsimp only) _ rfl)
  rw [Finset.sum_range_one]
  exact term V0 B 0 (by decide) l q _ (by dsimp only; omega) _ rfl

theorem part1 (l : Fin 2048) (q : Fin 1024) : (res_main_v163 V0 : S8x2048x1024.Idx → EReal) (ix3 B l q)
    = ∑ j ∈ Finset.range 22, gated (b0 V0) B (2 + j + l.val) q * entry (b1 V0) j q.val := by
  unfold res_main_v163
  pointwise
  iterate 11
    rw [Finset.sum_range_succ]
    refine congrArg₂ (fun a b : EReal => a + b) ?_ (term V0 B _ (by decide) l q _ (by dsimp only) _ rfl)
  exact part0 V0 B l q

theorem mixed_at (l : Fin 2048) (q : Fin 1024) : (res_main_v229 V0 : S8x2048x1024.Idx → EReal) (ix3 B l q)
    = mixed (b0 V0) (b1 V0) (b2 V0) B l.val q := by
  unfold res_main_v229 mixed
  pointwise
  rw [add_comm (b2 V0 (ix1 q))]
  refine congrArg₂ (fun a b : EReal => a + b) ?_ rfl
  iterate 9
    rw [Finset.sum_range_succ]
    refine congrArg₂ (fun a b : EReal => a + b) ?_ (term V0 B _ (by decide) l q _ (by dsimp only) _ rfl)
  exact part1 V0 B l q

theorem mean_at (l : Fin 2048) : (res_main_v233 V0 : S8x2048x1.Idx → EReal) (ix3 B l 0)
    = mean (mixed (b0 V0) (b1 V0) (b2 V0) B l.val) := by
  unfold res_main_v233 mean
  pointwise
  simp only [mixed_at V0 B]

theorem scaled_at (l : Fin 2048) (q : Fin 1024) : (res_main_v253 V0 : S8x2048x1024.Idx → EReal) (ix3 B l q)
    = unit (mixed (b0 V0) (b1 V0) (b2 V0) B l.val) q * b3 V0 (ix1 q) + b4 V0 (ix1 q) := by
  unfold res_main_v253 res_main_v235 unit
  pointwise
  simp only [mixed_at V0 B, mean_at V0 B]
  rfl

end Values

/-- The reference's run ends with the same function of the arguments. -/
theorem run_rows (m : (ℓ : Loc nD τ sig) → Buf (Elt Ideal) ℓ) (ρ : Dev nD → PrngReg)
    (X : Dev nD → S8x2048x5120.Idx → EReal) (W : Dev nD → S31x1024.Idx → EReal) (b G C : Dev nD → S1024.Idx → EReal)
    (h0 : ∀ c : Dev nD, m ((c.tc : Thread nD τ).loc main_arg0) = X c) (h1 : ∀ c : Dev nD, m ((c.tc : Thread nD τ).loc main_arg1) = W c)
    (h2 : ∀ c : Dev nD, m ((c.tc : Thread nD τ).loc main_arg2) = b c) (h3 : ∀ c : Dev nD, m ((c.tc : Thread nD τ).loc main_arg3) = G c)
    (h4 : ∀ c : Dev nD, m ((c.tc : Thread nD τ).loc main_arg4) = C c) :
    θ_run defs (onTc (τ := τ) (main (F := Ideal))) ⟨m, fun _ => 0, ρ⟩ fun r => ∀ c : Dev nD,
      r.2.mem ((c.tc : Thread nD τ).loc main_v255) = conv (X c) (W c) (b c) (G c) (C c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run (defs (F := Ideal)) _ _).mono (fun r hr c => ⟨(hr c).1.trans ?_, (hr c).2⟩) (Cert.Reference6Ideal.Value.run (F := Ideal) m ρ)
  have e0 : b0 (launchContents m c) = X c := h0 c
  have e1 : b1 (launchContents m c) = W c := h1 c
  have e2 : b2 (launchContents m c) = b c := h2 c
  have e3 : b3 (launchContents m c) = G c := h3 c
  have e4 : b4 (launchContents m c) = C c := h4 c
  funext y
  obtain ⟨B, l, q, rfl⟩ : ∃ (B : Fin 8) (l : Fin 2048) (q : Fin 1024), y = ix3 B l q := ⟨y 0, y 1, y 2, by
    funext a; match a with | ⟨0, _⟩ => rfl | ⟨1, _⟩ => rfl | ⟨2, _⟩ => rfl⟩
  pointwise
  rw [scaled_at (launchContents m c) B l q, e0, e1, e2, e3, e4]
  rfl

end Cert.Reference6Ideal.V

end
-- ==== Proof.Conv.lean ====
/- The convolution: every row of the call's result is the gated row and the thirty before it, weighted and summed, normed,
   scaled and gated by itself. -/
module

public import proofs.«01_k».proof.Defs
public import proofs.«01_k».proof.Proof.ConvSpec
public import proofs.«01_k».proof.Proof.ConvReference
public import Idealize.ShloMosaic.Lib.Pipeline.ValueKit
public import proofs.«01_k».proof.Proof.Gen.Kernel6
public import proofs.«01_k».proof.Proof.Gen.Kernel6.Frame
public import proofs.«01_k».proof.Proof.Gen.Reference6Ideal.Run
public import Idealize.ShloMosaic.Adequacy
public import Idealize.ShloMosaic.Init

@[expose] public section

set_option maxRecDepth 16384

noncomputable section

namespace Cert.Kernel6Ideal.V

open Idealize.ShloMosaic Idealize.ShloMosaic.TcCoe Cert.Kernel6Ideal Cert.Kernel6Ideal.Gen

variable (m : (ℓ : Loc nD τ sig) → Buf (Elt Ideal) ℓ)

abbrev a0 (c : Dev nD) : FVec Ideal S8x2048x5120 .f32 := m ((c.tc : Thread nD τ).loc main_arg0)
abbrev a1 (c : Dev nD) : FVec Ideal S31x1024 .f32 := m ((c.tc : Thread nD τ).loc main_arg1)
abbrev a2 (c : Dev nD) : FVec Ideal S1024 .f32 := m ((c.tc : Thread nD τ).loc main_arg2)
abbrev a3 (c : Dev nD) : FVec Ideal S1024 .f32 := m ((c.tc : Thread nD τ).loc main_arg3)
abbrev a4 (c : Dev nD) : FVec Ideal S1024 .f32 := m ((c.tc : Thread nD τ).loc main_arg4)

theorem idx0 : ∀ t : Fin cfg0.N, win0_0.index t = ![t.val / 8, t.val % 8, 3] ∧ win0_1.index t = ![t.val / 8, t.val % 8, 4]
    ∧ win0_2.index t = ![0, 0] ∧ win0_3.index t = ![0, 0] ∧ win0_4.index t = ![0, 0] ∧ win0_5.index t = ![0, 0]
    ∧ win0_6.index t = ![t.val / 8, t.val % 8, 0] := by decide +kernel
theorem lt_N (t : Fin cfg0.N) : t.val < 64 := Nat.lt_of_lt_of_eq t.isLt N_0

theorem V_v0 (c : Dev nD) : V m c main_v0 = pad S32x1024 ![0, 0] ![1, 0] ![0, 0] (a1 m c) (sitofp (F := Ideal) .f32 (constantI S_ 32 0#32)) pads_S31x1024_S32x1024_010_000 h_S_ := by
  unfold V hostOps0 hostOps0_1 hostOps0_2
  simp only [List.flatten_cons, List.flatten_nil, List.append_nil, List.cons_append, List.nil_append, StableHlo.TRef.binary, StableHlo.TRef.unary,
    StableHlo.TRef.toBuf, StableHlo.TRef.ofBuf, cast_eq]
  after_results
  all_goals rfl
theorem V_v1 (c : Dev nD) : V m c main_v1 = shapeCast S1x1024 (a2 m c) shapeCasts_S1024_S1x1024 := by
  unfold V hostOps0 hostOps0_1 hostOps0_2
  simp only [List.flatten_cons, List.flatten_nil, List.append_nil, List.cons_append, List.nil_append, StableHlo.TRef.binary, StableHlo.TRef.unary,
    StableHlo.TRef.toBuf, StableHlo.TRef.ofBuf, cast_eq]
  after_results
  all_goals rfl
theorem V_v2 (c : Dev nD) : V m c main_v2 = shapeCast S1x1024 (a3 m c) shapeCasts_S1024_S1x1024 := by
  unfold V hostOps0 hostOps0_1 hostOps0_2
  simp only [List.flatten_cons, List.flatten_nil, List.append_nil, List.cons_append, List.nil_append, StableHlo.TRef.binary, StableHlo.TRef.unary,
    StableHlo.TRef.toBuf, StableHlo.TRef.ofBuf, cast_eq]
  after_results
  all_goals rfl
theorem V_v3 (c : Dev nD) : V m c main_v3 = shapeCast S1x1024 (a4 m c) shapeCasts_S1024_S1x1024 := by
  unfold V hostOps0 hostOps0_1 hostOps0_2
  simp only [List.flatten_cons, List.flatten_nil, List.append_nil, List.cons_append, List.nil_append, StableHlo.TRef.binary, StableHlo.TRef.unary,
    StableHlo.TRef.toBuf, StableHlo.TRef.ofBuf, cast_eq]
  after_results
  all_goals rfl

section Blocks
variable (c : Dev nD) (t : Fin cfg0.N)

theorem read0 (r : Fin 256) (q : Fin 1024) (B : Fin 8) (hB : B.val = t.val / 8) (l : Fin 2048) (hl : l.val = 256 * (t.val % 8) + r.val)
    (Q : Fin 5120) (hQ : Q.val = 3072 + q.val) : (iblk m c 0 t : S1x256x1024.Idx → EReal) (ix3 0 r q) = a0 m c (ix3 B l Q) := by
  unfold iblk
  blk_simp
  rw [V_main_arg0]
  refine congrArg (a0 m c) ?_
  blk_ext [(idx0 t).1]

theorem read1 (r : Fin 256) (q : Fin 1024) (B : Fin 8) (hB : B.val = t.val / 8) (l : Fin 2048) (hl : l.val = 256 * (t.val % 8) + r.val)
    (Q : Fin 5120) (hQ : Q.val = 4096 + q.val) : (iblk m c 1 t : S1x256x1024.Idx → EReal) (ix3 0 r q) = a0 m c (ix3 B l Q) := by
  unfold iblk
  blk_simp
  rw [V_main_arg0]
  refine congrArg (a0 m c) ?_
  blk_ext [(idx0 t).2.1]

theorem read2 (j : Fin 32) (k : Fin 31) (hk : j.val = k.val) (q : Fin 1024) :
    (iblk m c 2 t : S32x1024.Idx → EReal) (ix2 j q) = a1 m c (ix2 k q) := by
  unfold iblk
  blk_simp
  rw [V_v0]
  have e : ((win0_2.blk t).view.emb (ix2 j q) : S32x1024.Idx) = ix2 j q := by blk_ext [(idx0 t).2.2.1]
  refine (congrArg _ e).trans ?_
  pointwise
  rw [dif_pos (by omega)]
  exact congrArg (fun k : Fin 31 => a1 m c (ix2 k q)) (Fin.ext hk)

theorem read3 (q : Fin 1024) : (iblk m c 3 t : S1x1024.Idx → EReal) (ix2 0 q) = a2 m c (ix1 q) := by
  unfold iblk
  blk_simp
  rw [V_v1]
  pointwise
  blk_ext [(idx0 t).2.2.2.1]

theorem read4 (q : Fin 1024) : (iblk m c 4 t : S1x1024.Idx → EReal) (ix2 0 q) = a3 m c (ix1 q) := by
  unfold iblk
  blk_simp
  rw [V_v2]
  pointwise
  blk_ext [(idx0 t).2.2.2.2.1]

theorem read5 (q : Fin 1024) : (iblk m c 5 t : S1x1024.Idx → EReal) (ix2 0 q) = a4 m c (ix1 q) := by
  unfold iblk
  blk_simp
  rw [V_v3]
  pointwise
  blk_ext [(idx0 t).2.2.2.2.2.1]
end Blocks

/-- The scratch a point fills at its sequence's first block: nothing, then the block's gated rows. -/
theorem first_at (c : Dev nD) (t : Fin cfg0.N) (h0 : t.val % 8 = 0) (p : Fin 288) (q : Fin 1024) (B : Fin 8) (hB : B.val = t.val / 8) :
    View.canon (Val := Elt Ideal) (kernelRun0_A.sl.HS0_2 c (ms0_0 t) (hs0_0 t) (ms0_1 t) (hs0_1 t) (iblk m c 0 t) (iblk m c 1 t)) (ix2 p q)
      = gated (a0 m c) B (256 * (t.val % 8) + p.val) q := by
  have hN := lt_N t
  refine filled_A c _ _ _ _ _ _ (ix2 p q) _ (fun h => ?_) (fun r hr => ?_)
  · have h : p.val < 32 := h
    exact dif_neg (by omega)
  · have hr : p.val = 32 + r.val := hr
    unfold gated
    rw [dif_pos (by omega)]
    exact (congrArg₂ (fun a b : EReal => a * Ideal.logistic b)
      (read0 m c t r q B hB ⟨256 * (t.val % 8) + p.val - 32, by omega⟩ (by dsimp only; omega) ⟨3072 + q.val, by omega⟩ rfl)
      (read1 m c t r q B hB ⟨256 * (t.val % 8) + p.val - 32, by omega⟩ (by dsimp only; omega) ⟨4096 + q.val, by omega⟩ rfl)).symm

/-- The scratch a later point fills: the last rows the point before left, then the block's gated rows. -/
theorem later_at (c : Dev nD) (t : Fin cfg0.N) (h0 : ¬t.val % 8 = 0) (p : Fin 288) (q : Fin 1024) (B : Fin 8) (hB : B.val = t.val / 8)
    (arg9 : Memref sig .tc .vmem S288x1024 .f32) (harg9 : arg9.IsWhole) (xs : Vec Ideal S288x1024 .f32)
    (before : ∀ (p : Fin 288) (q : Fin 1024), xs (ix2 p q) = gated (a0 m c) B (256 * (t.val % 8 - 1) + p.val) q) :
    View.canon (Val := Elt Ideal) (kernelRun0_B.sl.HS0_2 c (ms0_0 t) (hs0_0 t) (ms0_1 t) (hs0_1 t) arg9 harg9 (iblk m c 0 t) (iblk m c 1 t) xs) (ix2 p q)
      = gated (a0 m c) B (256 * (t.val % 8) + p.val) q := by
  have hN := lt_N t
  refine filled_B c _ _ _ _ _ _ _ _ xs (ix2 p q) _ (fun r h1 h2 => ?_) (fun r hr => ?_)
  · have h2 : r.val = 256 + p.val := h2
    refine Eq.trans ?_ (before r q).symm
    exact congrArg (fun s => gated (a0 m c) B s q) (by omega)
  · have hr : p.val = 32 + r.val := hr
    unfold gated
    rw [dif_pos (by omega)]
    exact (congrArg₂ (fun a b : EReal => a * Ideal.logistic b)
      (read0 m c t r q B hB ⟨256 * (t.val % 8) + p.val - 32, by omega⟩ (by dsimp only; omega) ⟨3072 + q.val, by omega⟩ rfl)
      (read1 m c t r q B hB ⟨256 * (t.val % 8) + p.val - 32, by omega⟩ (by dsimp only; omega) ⟨4096 + q.val, by omega⟩ rfl)).symm

/-- What every point leaves in the scratch. -/
theorem left_at (c : Dev nD) : ∀ (n : ℕ) (hn : n < cfg0.N) (p : Fin 288) (q : Fin 1024) (B : Fin 8), B.val = n / 8 →
    (outsAt0 m c n hn).2 (ix2 p q) = gated (a0 m c) B (256 * (n % 8) + p.val) q := by
  intro n
  induction n using Nat.strong_induction_on with
  | _ n ih =>
    intro hn p q B hB
    by_cases h0 : n % 8 = 0
    · rw [outsAt0_A m c ⟨n, hn⟩ h0 (by dsimp only; omega)]
      dsimp only
      rw [left_A]
      exact first_at m c ⟨n, hn⟩ h0 p q B hB
    · rw [outsAt0_B m c ⟨n, hn⟩ h0 (by dsimp only; omega)]
      dsimp only
      rw [left_B]
      refine later_at m c ⟨n, hn⟩ h0 p q B hB _ _ _ fun p q => ?_
      refine (ih (n - 1) (by omega) _ p q B (by omega)).trans ?_
      exact congrArg (fun s => gated (a0 m c) B s q) (by dsimp only; omega)

/-- A row's weighted sum over the filled scratch is the convolved entry. -/
theorem strip_eq (c : Dev nD) (t : Fin cfg0.N) (S : S288x1024.Idx → EReal) (p : Fin 256) (d : Fin 1024) (B : Fin 8) (l : ℕ)
    (hl : l = 256 * (t.val % 8) + p.val)
    (hS : ∀ (p : Fin 288) (q : Fin 1024), S (ix2 p q) = gated (a0 m c) B (256 * (t.val % 8) + p.val) q) :
    strip S (iblk m c 2 t) (iblk m c 3 t) p.val d.val = mixed (a0 m c) (a1 m c) (a2 m c) B l d := by
  unfold strip mixed
  refine congrArg₂ (· + ·) ?_ (Finset.sum_congr rfl fun j hj => ?_)
  · unfold entry
    rw [dif_pos ⟨by decide, d.isLt⟩]
    exact read3 m c t d
  · have hj := Finset.mem_range.mp hj
    unfold entry
    rw [dif_pos ⟨by omega, d.isLt⟩, dif_pos ⟨by omega, d.isLt⟩, dif_pos ⟨hj, d.isLt⟩]
    refine congrArg₂ (· * ·) ((hS ⟨2 + j + p.val, by omega⟩ d).trans ?_) (read2 m c t ⟨j, by omega⟩ ⟨j, hj⟩ rfl d)
    exact congrArg (fun s => gated (a0 m c) B s d) (by dsimp only; omega)

/-- The block every point stores. -/
theorem at_block (c : Dev nD) (t : Fin cfg0.N) (p : Fin 256) (q : Fin 1024) (B : Fin 8) (hB : B.val = t.val / 8)
    (l : Fin 2048) (hl : l.val = 256 * (t.val % 8) + p.val) :
    (outsAt0 m c t.val t.isLt).1 (ix3 0 p q) = conv (a0 m c) (a1 m c) (a2 m c) (a3 m c) (a4 m c) (ix3 B l q) := by
  have hN := lt_N t
  by_cases h0 : t.val % 8 = 0
  · rw [outsAt0_A m c t h0 (by omega)]
    dsimp only
    rw [out_A, read4 m c t q, read5 m c t q]
    refine congrArg (fun f : Fin 1024 → EReal => silu (unit f q * a3 m c (ix1 q) + a4 m c (ix1 q))) (funext fun d => ?_)
    exact strip_eq m c t _ p d B l.val hl fun p q => first_at m c t h0 p q B hB
  · rw [outsAt0_B m c t h0 (by omega)]
    dsimp only
    rw [out_B, read4 m c t q, read5 m c t q]
    refine congrArg (fun f : Fin 1024 → EReal => silu (unit f q * a3 m c (ix1 q) + a4 m c (ix1 q))) (funext fun d => ?_)
    refine strip_eq m c t _ p d B l.val hl fun p q => later_at m c t h0 p q B hB _ _ _ fun p q => ?_
    refine (left_at m c (t.val - 1) _ p q B (by omega)).trans ?_
    exact congrArg (fun s => gated (a0 m c) B s q) (by omega)

theorem final_eq (c : Dev nD) : (dats m 0 c).arrAt 6 cfg0.N = conv (a0 m c) (a1 m c) (a2 m c) (a3 m c) (a4 m c) := by
  refine (dats m 0 c).arrAt_eq_of_covers 6 _ (by decide +kernel) fun t hf y => ?_
  blk_simp
  rw [after0_6]
  have hN := lt_N t
  have y1 : (y 1).val < 256 := (y 1).isLt
  have e : ((win0_6.blk t).view.emb y : S8x2048x1024.Idx)
      = ix3 (⟨t.val / 8, by omega⟩ : Fin 8) (⟨256 * (t.val % 8) + (y 1).val, by omega⟩ : Fin 2048) (y 2 : Fin 1024) := by
    blk_ext [(idx0 t).2.2.2.2.2.2]
  rw [e]
  have key := at_block m c t (y 1) (y 2) ⟨t.val / 8, by omega⟩ rfl ⟨256 * (t.val % 8) + (y 1).val, by omega⟩ rfl
  have ey : (y : S1x256x1024.Idx) = ix3 (0 : Fin 1) (y 1 : Fin 256) (y 2 : Fin 1024) := by
    funext a; match a with | ⟨0, _⟩ => exact Fin.ext (Nat.lt_one_iff.mp (y 0).isLt) | ⟨1, _⟩ => rfl | ⟨2, _⟩ => rfl
  exact (congrArg (outsAt0 m c t.val t.isLt).1 ey).trans key

end Cert.Kernel6Ideal.V

namespace Cert.Proof

open Idealize.ShloMosaic Idealize.SL.Sem

theorem frame_kernel6 : Cert.quiescent_Kernel6 := fun m ρ _ => Cert.Kernel6.Gen.frame m ρ
theorem frame_ideal6 : Cert.quiescent_Kernel6Ideal := fun m ρ _ => Cert.Kernel6Ideal.Gen.frame m ρ
theorem frame_reference6 : Cert.quiescent_Reference6Ideal := fun m ρ _ =>
  (θ_run (Cert.Reference6Ideal.defs (F := Ideal)) _ _).mono (fun r hr => ⟨fun c => (hr c).2, sem_eq_zero_of_no_sems (by decide) r.2⟩)
    (Cert.Reference6Ideal.Value.run (F := Ideal) m ρ)

theorem algebraic6 : Cert.algebraic_Kernel6Ideal_Reference6Ideal := fun m ρ m' ρ' _ hag => by
  open Cert.Kernel6Ideal.V in
  refine ⟨fun c => conv (a0 m c) (a1 m c) (a2 m c) (a3 m c) (a4 m c), ?_, ?_⟩
  · exact (θ_run (Cert.Kernel6Ideal.defs (F := Ideal)) _ _).mono (fun r hr c => ⟨((hr.1 c).1 6).trans (final_eq m c), hr.2 c⟩)
      (θ_run_and (Cert.Kernel6Ideal.Gen.run_main (F := Ideal) m ρ) (Cert.Kernel6Ideal.Gen.unchanged (F := Ideal) m ρ))
  · exact Cert.Reference6Ideal.V.run_rows m' ρ' _ _ _ _ _ (fun c => (hag c).1) (fun c => (hag c).2.1) (fun c => (hag c).2.2.1)
      (fun c => (hag c).2.2.2.1) (fun c => (hag c).2.2.2.2)

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_lists
public import proofs.«01_k».proof.Proof.Gen.Kernel2
public import proofs.«01_k».proof.Proof.Gen.Kernel2Ideal
public import proofs.«01_k».proof.Proof.Gen.Kernel2Ideal.Launch
public import proofs.«01_k».proof.Proof.Gen.Kernel2Ideal.Points
public import proofs.«01_k».proof.Proof.Gen.Kernel2Ideal.Skeleton
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Value
public import proofs.«01_k».proof.Proof.Ref
public import proofs.«01_k».proof.Proof.Projections
public import proofs.«01_k».proof.Proof.InprojClaims
public import proofs.«01_k».proof.Proof.Norm
public import proofs.«01_k».proof.Proof.Conv
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Launch
public import proofs.«01_k».proof.Proof.Gen.Kernel6Ideal.Points
public import proofs.«01_k».proof.Proof.Gen.Kernel6Ideal.Skeleton
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel5
public import proofs.«01_k».proof.Proof.Gen.Kernel5.Frame
public import proofs.«01_k».proof.Proof.Gen.Kernel5Ideal.Value
public import proofs.«01_k».proof.Proof.Gen.Reference5Ideal.Run
public import Idealize.ShloMosaic.Adequacy
public import Idealize.ShloMosaic.Init

@[expose] public section

noncomputable section

namespace Cert.Proof

open Idealize.ShloMosaic Idealize.SL.Sem
open Cert.KernelIdeal.Run

theorem known_ideal (m : (ℓ : Loc Cert.KernelIdeal.nD Cert.KernelIdeal.τ Cert.KernelIdeal.sig) → Buf (Elt Ideal) ℓ) (h : Cert.Pre_KernelIdeal m) :
    ∀ c, Cert.Pre_lists.Read.Known (a0 m c) (a1 m c) (a4 m c) := fun c => Cert.Pre_lists.Read.of_fn _ _ _ _ _ _ (h c)
theorem known_bits (m : (ℓ : Loc Cert.Kernel.nD Cert.Kernel.τ Cert.Kernel.sig) → Buf (Elt Bits) ℓ) (h : Cert.Pre_Kernel m) :
    ∀ c, Cert.Pre_lists.Read.Known (a0 (F := Bits) m c) (a1 (F := Bits) m c) (a4 (F := Bits) m c) := fun c => Cert.Pre_lists.Read.of_fn _ _ _ _ _ _ (h c)

/-! ## One text: the program as printed is the idealized one, read at bit patterns -/

set_option maxHeartbeats 1000000 in
theorem defs0_eq : Cert.Kernel.defs₀ (F := Bits) = Cert.KernelIdeal.defs₀ (F := Bits) := by
  refine congrArg Defs.onTc ?_
  funext l a
  match l, a with
  | 0, (t, s) => rfl
  | ⟨_ + 1, h⟩, _ => exact absurd h (Nat.not_lt.2 (Nat.le_add_left _ _))
set_option maxHeartbeats 1000000 in
theorem defs_eq : Cert.Kernel.defs (F := Bits) = Cert.KernelIdeal.defs (F := Bits) := congrArg (Pipeline.defs Cert.KernelIdeal.pcfgs) defs0_eq

set_option maxHeartbeats 1000000 in
theorem frame_kernel : Cert.quiescent_Kernel := fun m ρ h => by
  rw [defs_eq]
  exact (θ_run (Cert.KernelIdeal.defs (F := Bits)) _ _).mono (fun r hr => ⟨fun c => args_of (F := Bits) m c r hr.1, hr.2⟩)
    (run_main (F := Bits) m ρ (preOK (F := Bits) m (known_bits m h)))
theorem frame_ideal : Cert.quiescent_KernelIdeal := fun m ρ h =>
  (θ_run (Cert.KernelIdeal.defs (F := Ideal)) _ _).mono (fun r hr => ⟨fun c => args_of m c r hr.1, hr.2⟩)
    (run_main m ρ (preOK m (known_ideal m h)))

theorem frame_reference : Cert.quiescent_ReferenceIdeal := fun m ρ _ =>
  (θ_run (Cert.ReferenceIdeal.defs (F := Ideal)) _ _).mono (fun r hr => ⟨fun c => (hr c).2, sem_eq_zero_of_no_sems (by decide) r.2⟩)
    (Cert.ReferenceIdeal.Value.run (F := Ideal) m ρ)

/-- The reference's result is the function that the call's result is. -/
theorem ref_acts (m' : (ℓ : Loc Cert.ReferenceIdeal.nD Cert.ReferenceIdeal.τ Cert.ReferenceIdeal.sig) → Buf (Elt Ideal) ℓ) (c : Dev Cert.ReferenceIdeal.nD)
    (A B : (⟨2, ![16384, 2048]⟩ : Shape).Idx → EReal) (E : (⟨2, ![16384, 128]⟩ : Shape).Idx → BitVec 32) (G : (⟨2, ![16384, 128]⟩ : Shape).Idx → EReal)
    (hA : m' ((c.tc : Thread Cert.ReferenceIdeal.nD Cert.ReferenceIdeal.τ).loc Cert.ReferenceIdeal.main_arg2) = A)
    (hB : m' ((c.tc : Thread Cert.ReferenceIdeal.nD Cert.ReferenceIdeal.τ).loc Cert.ReferenceIdeal.main_arg3) = B)
    (hE : m' ((c.tc : Thread Cert.ReferenceIdeal.nD Cert.ReferenceIdeal.τ).loc Cert.ReferenceIdeal.main_arg4) = E)
    (hG : m' ((c.tc : Thread Cert.ReferenceIdeal.nD Cert.ReferenceIdeal.τ).loc Cert.ReferenceIdeal.main_arg5) = G)
    (hlt : ∀ t k, (E (ix2 t k)).toNat < 16384) :
    Cert.ReferenceIdeal.Value.res_main_v18 m' c = Cert.KernelIdeal.V.acts A B E G := by
  funext y
  have e : y = ix3 (y 0 : Fin 2) (y 1 : Fin 16384) (y 2 : Fin 128) := by
    funext a
    match a with
    | ⟨0, _⟩ => rfl
    | ⟨1, _⟩ => rfl
    | ⟨2, _⟩ => rfl
  refine (congrArg (Cert.ReferenceIdeal.Value.res_main_v18 m' c) e).trans ?_
  exact Cert.ReferenceIdeal.V.res_read m' c (y 0) (y 1) (y 2) A B E G hA hB hE hG (hlt _ _) (Cert.KernelIdeal.V.expert E (y 1) (y 2))
    (Nat.mod_eq_of_lt (hlt _ _))

theorem algebraic : Cert.algebraic_KernelIdeal_ReferenceIdeal := fun m ρ m' ρ' hpre hag => by
  have hK := known_ideal m hpre
  refine ⟨fun c => Cert.KernelIdeal.V.acts (a2 m c) (a3 m c) (a4 m c) (a5 m c), ?_, ?_⟩
  · exact (θ_run (Cert.KernelIdeal.defs (F := Ideal)) _ _).mono (fun r hr c =>
      ⟨((hr.1 c).1 4).trans (Cert.KernelIdeal.V.final_eq m hK c), args_of m c r hr.1⟩) (run_main m ρ (preOK m hK))
  · refine (θ_run (Cert.ReferenceIdeal.defs (F := Ideal)) _ _).mono (fun r hr c => ⟨(hr c).1.trans ?_, (hr c).2⟩)
      (Cert.ReferenceIdeal.Value.run (F := Ideal) m' ρ')
    exact ref_acts m' c _ _ _ _ (hag c).2.2.1 (hag c).2.2.2.1 (hag c).2.2.2.2.1 (hag c).2.2.2.2.2
      fun t k => Cert.KernelIdeal.V.at2_ix t k ▸ (hK c).e_lt t k

theorem claim : Cert.Claim :=
  ⟨inferInstance, inferInstance, inferInstance, inferInstance, inferInstance, inferInstance, inferInstance, inferInstance, inferInstance, inferInstance, inferInstance, inferInstance, inferInstance, inferInstance, inferInstance, inferInstance, inferInstance, inferInstance, inferInstance,
    frame_kernel, frame_ideal, frame_reference, frame_kernel2, frame_ideal2, frame_reference2, frame_kernel3, frame_ideal3, frame_reference3, frame_kernel4, frame_ideal4, frame_reference4,
    frame_kernel5, frame_ideal5, frame_reference5, frame_kernel6, frame_ideal6, frame_reference6,
    trivial, algebraic, trivial, algebraic2, trivial, algebraic3, trivial, algebraic4, trivial, algebraic5, trivial, algebraic6⟩

end Cert.Proof

end
